-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def preserves_Kernel_KernelIdeal : Prop :=
  IdealRules.bf16_pair.BufferStatement Cert.KernelIdeal.S196608x2x128 Cert.KernelIdeal.S196608x1x128
  ∧ IdealRules.bf16_pair.BufferStatement Cert.KernelIdeal.S2048x2x128 Cert.KernelIdeal.S2048x1x128
  ∧ IdealRules.named_const.Statement Cert.KernelIdeal.κ "neg_log2_e" .f32 0xBFB8AA3B#32 ((-((Real.log 2)⁻¹) : ℝ) : EReal)
  ∧ IdealRules.bf16_pair.PackStatement Cert.KernelIdeal.S512x512
  ∧ IdealRules.bf16_pair.Statement Cert.KernelIdeal.S512x2x128 Cert.KernelIdeal.S512x1x128
  ∧ IdealRules.bf16_pair.SelectZeroStatement Cert.KernelIdeal.S2048x128
  ∧ IdealRules.bf16_pair.Statement Cert.KernelIdeal.S1024x512 Cert.KernelIdeal.S512x512

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v12_0)) (v1 : (c : Dev Cert.Kernel2Ideal.nD) → Buf (Elt Ideal) ((c.tc : Thread Cert.Kernel2Ideal.nD Cert.Kernel2Ideal.τ).loc Cert.Kernel2Ideal.main_v12_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v12_0) = v0 c
          ∧ r.2.mem ((c.tc : Thread Cert.Kernel2Ideal.nD Cert.Kernel2Ideal.τ).loc Cert.Kernel2Ideal.main_v12_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v24) = v0 c
          ∧ r.2.mem ((c.tc : Thread Cert.Reference2Ideal.nD Cert.Reference2Ideal.τ).loc Cert.Reference2Ideal.main_v25) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  IdealRules.named_const.Statement Cert.Kernel3Ideal.κ "neg_log2_e" .f32 0xBFB8AA3B#32 ((-((Real.log 2)⁻¹) : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)) →
    ∃ (v0 : (c : Dev Cert.Kernel3Ideal.nD) → Buf (Elt Ideal) ((c.tc : Thread Cert.Kernel3Ideal.nD Cert.Kernel3Ideal.τ).loc Cert.Kernel3Ideal.main_v7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v319) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v44_0)) (v1 : (c : Dev Cert.Kernel4Ideal.nD) → Buf (Elt Ideal) ((c.tc : Thread Cert.Kernel4Ideal.nD Cert.Kernel4Ideal.τ).loc Cert.Kernel4Ideal.main_v44_1)) (v2 : (c : Dev Cert.Kernel4Ideal.nD) → Buf (Elt Ideal) ((c.tc : Thread Cert.Kernel4Ideal.nD Cert.Kernel4Ideal.τ).loc Cert.Kernel4Ideal.main_v44_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v44_0) = v0 c
          ∧ r.2.mem ((c.tc : Thread Cert.Kernel4Ideal.nD Cert.Kernel4Ideal.τ).loc Cert.Kernel4Ideal.main_v44_1) = v1 c
          ∧ r.2.mem ((c.tc : Thread Cert.Kernel4Ideal.nD Cert.Kernel4Ideal.τ).loc Cert.Kernel4Ideal.main_v44_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v79) = v0 c
          ∧ r.2.mem ((c.tc : Thread Cert.Reference4Ideal.nD Cert.Reference4Ideal.τ).loc Cert.Reference4Ideal.main_v81) = v1 c
          ∧ r.2.mem ((c.tc : Thread Cert.Reference4Ideal.nD Cert.Reference4Ideal.τ).loc Cert.Reference4Ideal.main_v83) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal) (hPre_in_range := hPre_in_range)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_in_range.lean ====
abbrev S96 : Shape := ⟨1, ![96]⟩
abbrev S1 : Shape := ⟨1, ![1]⟩
abbrev S196608x128 : Shape := ⟨2, ![196608, 128]⟩
abbrev S2x32x1024x256 : Shape := ⟨4, ![2, 32, 1024, 256]⟩
abbrev S2x32x256x1024 : Shape := ⟨4, ![2, 32, 256, 1024]⟩
abbrev S_ : Shape := ⟨0, ![]⟩

class Facts : Prop where
  bcast_S_S96 : S_.BroadcastsInDim S96 (![] : Fin 0 → Fin S96.rank)
  reducesTo_S96_S_d0 : S96.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S96 32) (main_arg1 : IVec S1 32) (main_arg2 : IVec S196608x128 32) (main_arg3 : FVec F S2x32x1024x256 .f32) (main_arg4 : FVec F S2x32x1024x256 .f32) (main_arg5 : FVec F S2x32x256x1024 .f32) : IVec S_ 1 :=
  let main_c : IVec S_ 32 := constantI S_ 32 0#32
  let main_v0 : IVec S96 32 := broadcastInDim S96 ![] bcast_S_S96 main_c
  let main_v1 : IVec S96 1 := cmpi .sge main_arg0 main_v0
  let main_c_0 : IVec S_ 32 := constantI S_ 32 32#32
  let main_v2 : IVec S96 32 := broadcastInDim S96 ![] bcast_S_S96 main_c_0
  let main_v3 : IVec S96 1 := cmpi .slt main_arg0 main_v2
  let main_v4 : IVec S96 1 := andi main_v1 main_v3
  let main_c_1 : IVec S_ 1 := constantI S_ 1 1#1
  let main_v5 : IVec S_ 1 := (fun x v => Host.reduce IntOp.andi x v reducesTo_S96_S_d0 h_S_) main_v4 main_c_1
  let main_c_2 : IVec S_ 32 := constantI S_ 32 96#32
  let main_v6 : IVec S1 32 := broadcastInDim S1 ![] bcast_S_S1 main_c_2
  let main_v7 : IVec S1 1 := cmpi .sle main_arg1 main_v6
  let main_c_3 : IVec S_ 1 := constantI S_ 1 1#1
  let main_v8 : IVec S_ 1 := (fun x v => Host.reduce IntOp.andi x v reducesTo_S1_S_d0 h_S_) main_v7 main_c_3
  let main_v9 : IVec S_ 1 := andi main_v5 main_v8
  main_v9
-- ==== Kernel.lean ====
abbrev S96 : Shape := ⟨1, ![96]⟩
abbrev S1 : Shape := ⟨1, ![1]⟩
abbrev S196608x128 : Shape := ⟨2, ![196608, 128]⟩
abbrev S2x32x1024x256 : Shape := ⟨4, ![2, 32, 1024, 256]⟩
abbrev S2x32x256x1024 : Shape := ⟨4, ![2, 32, 256, 1024]⟩
abbrev S1x1x1024x256 : Shape := ⟨4, ![1, 1, 1024, 256]⟩
abbrev S1x1x256x1024 : Shape := ⟨4, ![1, 1, 256, 1024]⟩
abbrev S2048x128 : Shape := ⟨2, ![2048, 128]⟩
abbrev S3x2048x128 : Shape := ⟨3, ![3, 2048, 128]⟩
abbrev S3 : Shape := ⟨1, ![3]⟩
abbrev S_ : Shape := ⟨0, ![]⟩
abbrev S1x2048x128 : Shape := ⟨3, ![1, 2048, 128]⟩
abbrev S1x512x128 : Shape := ⟨3, ![1, 512, 128]⟩
abbrev S512x128 : Shape := ⟨2, ![512, 128]⟩
abbrev S512x512 : Shape := ⟨2, ![512, 512]⟩
abbrev S512x1024 : Shape := ⟨2, ![512, 1024]⟩
abbrev S1024x256 : Shape := ⟨2, ![1024, 256]⟩
abbrev S512x256 : Shape := ⟨2, ![512, 256]⟩
abbrev S256x1024 : Shape := ⟨2, ![256, 1024]⟩
abbrev S49152x1024 : Shape := ⟨2, ![49152, 1024]⟩

abbrev nBuf : Space → Nat
  | .hbm => 6
  | .vmem => 13
  | .smem => 2
  | _ => 0

abbrev bufTy : (tb : Table) → Fin (tcTables nBuf tb) → BufTy
  | .hbm, ⟨0, _⟩ => ⟨S196608x128, .i32⟩
  | .hbm, ⟨1, _⟩ => ⟨S2x32x1024x256, .f32⟩
  | .hbm, ⟨2, _⟩ => ⟨S2x32x1024x256, .f32⟩
  | .hbm, ⟨3, _⟩ => ⟨S2x32x256x1024, .f32⟩
  | .hbm, ⟨4, _⟩ => ⟨S196608x128, .i32⟩
  | .hbm, ⟨5, _⟩ => ⟨S49152x1024, .f32⟩
  | .local _ .vmem, ⟨0, _⟩ => ⟨S1x1x1024x256, .f32⟩
  | .local _ .vmem, ⟨1, _⟩ => ⟨S1x1x1024x256, .f32⟩
  | .local _ .vmem, ⟨2, _⟩ => ⟨S1x1x1024x256, .f32⟩
  | .local _ .vmem, ⟨3, _⟩ => ⟨S1x1x1024x256, .f32⟩
  | .local _ .vmem, ⟨4, _⟩ => ⟨S1x1x256x1024, .f32⟩
  | .local _ .vmem, ⟨5, _⟩ => ⟨S1x1x256x1024, .f32⟩
  | .local _ .vmem, ⟨6, _⟩ => ⟨S2048x128, .i32⟩
  | .local _ .vmem, ⟨7, _⟩ => ⟨S2048x128, .i32⟩
  | .local _ .vmem, ⟨8, _⟩ => ⟨S3x2048x128, .i32⟩
  | .local _ .vmem, ⟨9, _⟩ => ⟨S2048x128, .i32⟩
  | .local _ .vmem, ⟨10, _⟩ => ⟨S2048x128, .i32⟩
  | .local _ .vmem, ⟨11, _⟩ => ⟨S512x1024, .f32⟩
  | .local _ .vmem, ⟨12, _⟩ => ⟨S512x1024, .f32⟩
  | .local _ .smem, ⟨0, _⟩ => ⟨S96, .i32⟩
  | .local _ .smem, ⟨1, _⟩ => ⟨S1, .i32⟩
  | _, _ => ⟨S196608x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_v1 : Ref sig .tc := ⟨.hbm, 5, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 11
abbrev cc1_sem0_1 : DmaSem sig := 12
abbrev cc1_sem1_0 : DmaSem sig := 13
abbrev cc1_sem1_1 : DmaSem sig := 14

abbrev nD : Nat := 1
abbrev τ : Topo := Topo.v7x

variable {F : FTy → Type} [BitOps F]

abbrev grid0 : Pipeline.Grid := ⟨1, ![96], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

def k0_mult1 : BitVec 32 :=
  let c0_i32_7 : BitVec 32 := 0#32
  c0_i32_7
def k0_mult2 : BitVec 32 :=
  let c2048_i32 : BitVec 32 := 2048#32
  c2048_i32
def k0_mult3 (i : grid0.Coords) : BitVec 32 :=
  let arg0 : BitVec 32 := BitVec.ofNat 32 (i 0).val
  let c2_i32_4 : BitVec 32 := 2#32
  let v14 : BitVec 32 := Scalar.addi arg0 c2_i32_4
  let c2048_i32 : BitVec 32 := 2048#32
  let v25 : BitVec 32 := Scalar.muli v14 c2048_i32
  v25
def k0_off2 (i : grid0.Coords) : Fin 1 → Nat :=
  let arg0 : BitVec 32 := BitVec.ofNat 32 (i 0).val
  let c2_i32_4 : BitVec 32 := 2#32
  let v14 : BitVec 32 := Scalar.addi arg0 c2_i32_4
  let c3_i32 : BitVec 32 := 3#32
  let c0_i32_5 : BitVec 32 := 0#32
  let v15 : BitVec 1 := Scalar.cmpi .eq c3_i32 c0_i32_5
  let c1_i32 : BitVec 32 := 1#32
  let v16 : BitVec 32 := Scalar.select v15 c1_i32 c3_i32
  let v17 : BitVec 32 := Scalar.remsi v14 v16
  let c0_i32_7 : BitVec 32 := 0#32
  let v19 : BitVec 1 := Scalar.cmpi .slt v17 c0_i32_7
  let c0_i32_8 : BitVec 32 := 0#32
  let v20 : BitVec 1 := Scalar.cmpi .slt v16 c0_i32_8
  let v21 : BitVec 1 := Scalar.xori v19 v20
  let c0_i32_6 : BitVec 32 := 0#32
  let v18 : BitVec 1 := Scalar.cmpi .ne v17 c0_i32_6
  let v22 : BitVec 1 := Scalar.andi v21 v18
  let v23 : BitVec 32 := Scalar.addi v17 v16
  let v24 : BitVec 32 := Scalar.select v22 v23 v17
  ![v24.toNat]
def k0_off3 (i : grid0.Coords) : Fin 3 → Nat :=
  let arg0 : BitVec 32 := BitVec.ofNat 32 (i 0).val
  let c2_i32_4 : BitVec 32 := 2#32
  let v14 : BitVec 32 := Scalar.addi arg0 c2_i32_4
  let c3_i32 : BitVec 32 := 3#32
  let c0_i32_5 : BitVec 32 := 0#32
  let v15 : BitVec 1 := Scalar.cmpi .eq c3_i32 c0_i32_5
  let c1_i32 : BitVec 32 := 1#32
  let v16 : BitVec 32 := Scalar.select v15 c1_i32 c3_i32
  let v17 : BitVec 32 := Scalar.remsi v14 v16
  let c0_i32_7 : BitVec 32 := 0#32
  let v19 : BitVec 1 := Scalar.cmpi .slt v17 c0_i32_7
  let c0_i32_8 : BitVec 32 := 0#32
  let v20 : BitVec 1 := Scalar.cmpi .slt v16 c0_i32_8
  let v21 : BitVec 1 := Scalar.xori v19 v20
  let c0_i32_6 : BitVec 32 := 0#32
  let v18 : BitVec 1 := Scalar.cmpi .ne v17 c0_i32_6
  let v22 : BitVec 1 := Scalar.andi v21 v18
  let v23 : BitVec 32 := Scalar.addi v17 v16
  let v24 : BitVec 32 := Scalar.select v22 v23 v17
  let c0_i32_9 : BitVec 32 := 0#32
  let c0_i32_10 : BitVec 32 := 0#32
  ![v24.toNat, 0, 0]
def k0_off4 (i : grid0.Coords) : Fin 2 → Nat :=
  let arg0 : BitVec 32 := BitVec.ofNat 32 (i 0).val
  let c2_i32_4 : BitVec 32 := 2#32
  let v14 : BitVec 32 := Scalar.addi arg0 c2_i32_4
  let c2048_i32 : BitVec 32 := 2048#32
  let v25 : BitVec 32 := Scalar.muli v14 c2048_i32
  let v26 : BitVec 32 := v25
  let c0_i32_11 : BitVec 32 := 0#32
  ![v26.toNat, 0]
def k0_cond4 (i : grid0.Coords) (v0 : BitVec 32) : BitVec 1 :=
  let arg0 : BitVec 32 := BitVec.ofNat 32 (i 0).val
  let c2_i32 : BitVec 32 := 2#32
  let v4 : BitVec 32 := Scalar.addi arg0 c2_i32
  let v5 : BitVec 1 := Scalar.cmpi .slt v4 v0
  let v6 : BitVec 32 := Scalar.extui v5
  let c0_i32_1 : BitVec 32 := 0#32
  let v7 : BitVec 1 := Scalar.cmpi .ne v6 c0_i32_1
  v7

def k0_chk1 (i : grid0.Coords) (v0 : BitVec 32) : Prop :=
  (∀ (k0_h4 : k0_cond4 i v0 = 1#1), ∀ a, (k0_off4 i) a + S2048x128.size a ≤ S196608x128.size a)
theorem k0_off4_inb : ∀ (i : grid0.Coords) (v0 : BitVec 32) (k0_hw1 : k0_chk1 i v0), ∀ (k0_h4 : k0_cond4 i v0 = 1#1), ∀ a, (k0_off4 i) a + S2048x128.size a ≤ S196608x128.size a := fun i v0 k0_hw1 k0_h4 => k0_hw1 k0_h4

def k0_mult4 (i : grid0.Coords) : BitVec 32 :=
  let arg0 : BitVec 32 := BitVec.ofNat 32 (i 0).val
  let c2048_i32 : BitVec 32 := 2048#32
  let v24 : BitVec 32 := Scalar.muli arg0 c2048_i32
  v24
def k0_off5 (i : grid0.Coords) : Fin 1 → Nat :=
  let arg0 : BitVec 32 := BitVec.ofNat 32 (i 0).val
  let c3_i32 : BitVec 32 := 3#32
  let c0_i32_4 : BitVec 32 := 0#32
  let v14 : BitVec 1 := Scalar.cmpi .eq c3_i32 c0_i32_4
  let c1_i32 : BitVec 32 := 1#32
  let v15 : BitVec 32 := Scalar.select v14 c1_i32 c3_i32
  let v16 : BitVec 32 := Scalar.remsi arg0 v15
  let c0_i32_6 : BitVec 32 := 0#32
  let v18 : BitVec 1 := Scalar.cmpi .slt v16 c0_i32_6
  let c0_i32_7 : BitVec 32 := 0#32
  let v19 : BitVec 1 := Scalar.cmpi .slt v15 c0_i32_7
  let v20 : BitVec 1 := Scalar.xori v18 v19
  let c0_i32_5 : BitVec 32 := 0#32
  let v17 : BitVec 1 := Scalar.cmpi .ne v16 c0_i32_5
  let v21 : BitVec 1 := Scalar.andi v20 v17
  let v22 : BitVec 32 := Scalar.addi v16 v15
  let v23 : BitVec 32 := Scalar.select v21 v22 v16
  ![v23.toNat]
def k0_off6 (i : grid0.Coords) : Fin 3 → Nat :=
  let arg0 : BitVec 32 := BitVec.ofNat 32 (i 0).val
  let c3_i32 : BitVec 32 := 3#32
  let c0_i32_4 : BitVec 32 := 0#32
  let v14 : BitVec 1 := Scalar.cmpi .eq c3_i32 c0_i32_4
  let c1_i32 : BitVec 32 := 1#32
  let v15 : BitVec 32 := Scalar.select v14 c1_i32 c3_i32
  let v16 : BitVec 32 := Scalar.remsi arg0 v15
  let c0_i32_6 : BitVec 32 := 0#32
  let v18 : BitVec 1 := Scalar.cmpi .slt v16 c0_i32_6
  let c0_i32_7 : BitVec 32 := 0#32
  let v19 : BitVec 1 := Scalar.cmpi .slt v15 c0_i32_7
  let v20 : BitVec 1 := Scalar.xori v18 v19
  let c0_i32_5 : BitVec 32 := 0#32
  let v17 : BitVec 1 := Scalar.cmpi .ne v16 c0_i32_5
  let v21 : BitVec 1 := Scalar.andi v20 v17
  let v22 : BitVec 32 := Scalar.addi v16 v15
  let v23 : BitVec 32 := Scalar.select v21 v22 v16
  let c0_i32_8 : BitVec 32 := 0#32
  let c0_i32_9 : BitVec 32 := 0#32
  ![v23.toNat, 0, 0]
def k0_off7 (i : grid0.Coords) : Fin 2 → Nat :=
  let arg0 : BitVec 32 := BitVec.ofNat 32 (i 0).val
  let c2048_i32 : BitVec 32 := 2048#32
  let v24 : BitVec 32 := Scalar.muli arg0 c2048_i32
  let v25 : BitVec 32 := v24
  let c0_i32_10 : BitVec 32 := 0#32
  ![v25.toNat, 0]
def k0_off8 (i : grid0.Coords) : Fin 3 → Nat :=
  let arg0 : BitVec 32 := BitVec.ofNat 32 (i 0).val
  let c3_i32_11 : BitVec 32 := 3#32
  let c0_i32_12 : BitVec 32 := 0#32
  let v31 : BitVec 1 := Scalar.cmpi .eq c3_i32_11 c0_i32_12
  let c1_i32_13 : BitVec 32 := 1#32
  let v32 : BitVec 32 := Scalar.select v31 c1_i32_13 c3_i32_11
  let v33 : BitVec 32 := Scalar.remsi arg0 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v41 : Index := Scalar.indexCast v40
  let c0_17 : Index := 0#32
  let c0_18 : Index := 0#32
  ![v41.toNat, 0, 0]
def k0_off9 (i : grid0.Coords) : Fin 3 → Nat :=
  let arg0 : BitVec 32 := BitVec.ofNat 32 (i 0).val
  let c3_i32_11 : BitVec 32 := 3#32
  let c0_i32_12 : BitVec 32 := 0#32
  let v31 : BitVec 1 := Scalar.cmpi .eq c3_i32_11 c0_i32_12
  let c1_i32_13 : BitVec 32 := 1#32
  let v32 : BitVec 32 := Scalar.select v31 c1_i32_13 c3_i32_11
  let v33 : BitVec 32 := Scalar.remsi arg0 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v44 : Index := Scalar.indexCast v40
  let c1 : Index := 1#32
  let c0_19 : Index := 0#32
  ![v44.toNat, 1, 0]
def k0_off10 (i : grid0.Coords) : Fin 3 → Nat :=
  let arg0 : BitVec 32 := BitVec.ofNat 32 (i 0).val
  let c3_i32_11 : BitVec 32 := 3#32
  let c0_i32_12 : BitVec 32 := 0#32
  let v31 : BitVec 1 := Scalar.cmpi .eq c3_i32_11 c0_i32_12
  let c1_i32_13 : BitVec 32 := 1#32
  let v32 : BitVec 32 := Scalar.select v31 c1_i32_13 c3_i32_11
  let v33 : BitVec 32 := Scalar.remsi arg0 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v47 : Index := Scalar.indexCast v40
  let c2 : Index := 2#32
  let c0_20 : Index := 0#32
  ![v47.toNat, 2, 0]
def k0_off11 (i : grid0.Coords) : Fin 3 → Nat :=
  let arg0 : BitVec 32 := BitVec.ofNat 32 (i 0).val
  let c3_i32_11 : BitVec 32 := 3#32
  let c0_i32_12 : BitVec 32 := 0#32
  let v31 : BitVec 1 := Scalar.cmpi .eq c3_i32_11 c0_i32_12
  let c1_i32_13 : BitVec 32 := 1#32
  let v32 : BitVec 32 := Scalar.select v31 c1_i32_13 c3_i32_11
  let v33 : BitVec 32 := Scalar.remsi arg0 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v50 : Index := Scalar.indexCast v40
  let c3 : Index := 3#32
  let c0_21 : Index := 0#32
  ![v50.toNat, 3, 0]
def k0_cond5 (i : grid0.Coords) (v0 : BitVec 32) : BitVec 1 :=
  let arg0 : BitVec 32 := BitVec.ofNat 32 (i 0).val
  let v8 : BitVec 1 := Scalar.cmpi .slt arg0 v0
  let v9 : BitVec 32 := Scalar.extui v8
  let c0_i32_2 : BitVec 32 := 0#32
  let v10 : BitVec 1 := Scalar.cmpi .ne v9 c0_i32_2
  v10

def k0_cond6 (i : grid0.Coords) (v0 : BitVec 32) : BitVec 1 :=
  let arg0 : BitVec 32 := BitVec.ofNat 32 (i 0).val
  let v11 : BitVec 1 := Scalar.cmpi .sge arg0 v0
  let v12 : BitVec 32 := Scalar.extui v11
  let c0_i32_3 : BitVec 32 := 0#32
  let v13 : BitVec 1 := Scalar.cmpi .ne v12 c0_i32_3
  v13

def cc0_transform_1 (k0_off1_inb : ∀ i : grid0.Coords, ∀ a, (k0_off1 i) a + S1.size a ≤ S96.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S96) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S96.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S96) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S96.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S96) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![96], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x128 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]
-- ==== KernelIdeal.lean ====
abbrev S96 : Shape := ⟨1, ![96]⟩
abbrev S1 : Shape := ⟨1, ![1]⟩
abbrev S196608x128 : Shape := ⟨2, ![196608, 128]⟩
abbrev S2x32x1024x256 : Shape := ⟨4, ![2, 32, 1024, 256]⟩
abbrev S2x32x256x1024 : Shape := ⟨4, ![2, 32, 256, 1024]⟩
abbrev S196608x2x128 : Shape := ⟨3, ![196608, 2, 128]⟩
abbrev S196608x1x128 : Shape := ⟨3, ![196608, 1, 128]⟩
abbrev S1x1x1024x256 : Shape := ⟨4, ![1, 1, 1024, 256]⟩
abbrev S1x1x256x1024 : Shape := ⟨4, ![1, 1, 256, 1024]⟩
abbrev S2048x128 : Shape := ⟨2, ![2048, 128]⟩
abbrev S2048x2x128 : Shape := ⟨3, ![2048, 2, 128]⟩
abbrev S2048x1x128 : Shape := ⟨3, ![2048, 1, 128]⟩
abbrev S3x2048x128 : Shape := ⟨3, ![3, 2048, 128]⟩
abbrev S3 : Shape := ⟨1, ![3]⟩
abbrev S_ : Shape := ⟨0, ![]⟩
abbrev S1x2048x128 : Shape := ⟨3, ![1, 2048, 128]⟩
abbrev S1x512x128 : Shape := ⟨3, ![1, 512, 128]⟩
abbrev S512x128 : Shape := ⟨2, ![512, 128]⟩
abbrev S512x512 : Shape := ⟨2, ![512, 512]⟩
abbrev S512x1024 : Shape := ⟨2, ![512, 1024]⟩
abbrev S1024x256 : Shape := ⟨2, ![1024, 256]⟩
abbrev S512x256 : Shape := ⟨2, ![512, 256]⟩
abbrev S256x1024 : Shape := ⟨2, ![256, 1024]⟩
abbrev S512x2x128 : Shape := ⟨3, ![512, 2, 128]⟩
abbrev S512x1x128 : Shape := ⟨3, ![512, 1, 128]⟩
abbrev S49152x1024 : Shape := ⟨2, ![49152, 1024]⟩
abbrev S1024x512 : Shape := ⟨2, ![1024, 512]⟩

abbrev nBuf : Space → Nat
  | .hbm => 6
  | .vmem => 13
  | .smem => 2
  | _ => 0

abbrev bufTy : (tb : Table) → Fin (tcTables nBuf tb) → BufTy
  | .hbm, ⟨0, _⟩ => ⟨S196608x128, .i32⟩
  | .hbm, ⟨1, _⟩ => ⟨S2x32x1024x256, .f32⟩
  | .hbm, ⟨2, _⟩ => ⟨S2x32x1024x256, .f32⟩
  | .hbm, ⟨3, _⟩ => ⟨S2x32x256x1024, .f32⟩
  | .hbm, ⟨4, _⟩ => ⟨S196608x2x128, .bf16⟩
  | .hbm, ⟨5, _⟩ => ⟨S49152x1024, .f32⟩
  | .local _ .vmem, ⟨0, _⟩ => ⟨S1x1x1024x256, .f32⟩
  | .local _ .vmem, ⟨1, _⟩ => ⟨S1x1x1024x256, .f32⟩
  | .local _ .vmem, ⟨2, _⟩ => ⟨S1x1x1024x256, .f32⟩
  | .local _ .vmem, ⟨3, _⟩ => ⟨S1x1x1024x256, .f32⟩
  | .local _ .vmem, ⟨4, _⟩ => ⟨S1x1x256x1024, .f32⟩
  | .local _ .vmem, ⟨5, _⟩ => ⟨S1x1x256x1024, .f32⟩
  | .local _ .vmem, ⟨6, _⟩ => ⟨S2048x2x128, .bf16⟩
  | .local _ .vmem, ⟨7, _⟩ => ⟨S2048x2x128, .bf16⟩
  | .local _ .vmem, ⟨8, _⟩ => ⟨S3x2048x128, .i32⟩
  | .local _ .vmem, ⟨9, _⟩ => ⟨S2048x2x128, .bf16⟩
  | .local _ .vmem, ⟨10, _⟩ => ⟨S2048x2x128, .bf16⟩
  | .local _ .vmem, ⟨11, _⟩ => ⟨S512x1024, .f32⟩
  | .local _ .vmem, ⟨12, _⟩ => ⟨S512x1024, .f32⟩
  | .local _ .smem, ⟨0, _⟩ => ⟨S96, .i32⟩
  | .local _ .smem, ⟨1, _⟩ => ⟨S1, .i32⟩
  | _, _ => ⟨S196608x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_v1 : Ref sig .tc := ⟨.hbm, 5, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 11
abbrev cc1_sem0_1 : DmaSem sig := 12
abbrev cc1_sem1_0 : DmaSem sig := 13
abbrev cc1_sem1_1 : DmaSem sig := 14

abbrev nD : Nat := 1
abbrev τ : Topo := Topo.v7x

variable {F : FTy → Type} [FloatOps F] [Named F]

def κ : String → Option EReal := fun
  | "neg_log2_e" => some ((-((Real.log 2)⁻¹) : ℝ) : EReal)
  | _ => none

abbrev grid0 : Pipeline.Grid := ⟨1, ![96], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

def k0_mult1 : BitVec 32 :=
  let c0_i32_7 : BitVec 32 := 0#32
  c0_i32_7
def k0_mult2 : BitVec 32 :=
  let c2048_i32 : BitVec 32 := 2048#32
  c2048_i32
def k0_mult3 (i : grid0.Coords) : BitVec 32 :=
  let arg0 : BitVec 32 := BitVec.ofNat 32 (i 0).val
  let c2_i32_4 : BitVec 32 := 2#32
  let v14 : BitVec 32 := Scalar.addi arg0 c2_i32_4
  let c2048_i32 : BitVec 32 := 2048#32
  let v25 : BitVec 32 := Scalar.muli v14 c2048_i32
  v25
def k0_off2 (i : grid0.Coords) : Fin 1 → Nat :=
  let arg0 : BitVec 32 := BitVec.ofNat 32 (i 0).val
  let c2_i32_4 : BitVec 32 := 2#32
  let v14 : BitVec 32 := Scalar.addi arg0 c2_i32_4
  let c3_i32 : BitVec 32 := 3#32
  let c0_i32_5 : BitVec 32 := 0#32
  let v15 : BitVec 1 := Scalar.cmpi .eq c3_i32 c0_i32_5
  let c1_i32 : BitVec 32 := 1#32
  let v16 : BitVec 32 := Scalar.select v15 c1_i32 c3_i32
  let v17 : BitVec 32 := Scalar.remsi v14 v16
  let c0_i32_7 : BitVec 32 := 0#32
  let v19 : BitVec 1 := Scalar.cmpi .slt v17 c0_i32_7
  let c0_i32_8 : BitVec 32 := 0#32
  let v20 : BitVec 1 := Scalar.cmpi .slt v16 c0_i32_8
  let v21 : BitVec 1 := Scalar.xori v19 v20
  let c0_i32_6 : BitVec 32 := 0#32
  let v18 : BitVec 1 := Scalar.cmpi .ne v17 c0_i32_6
  let v22 : BitVec 1 := Scalar.andi v21 v18
  let v23 : BitVec 32 := Scalar.addi v17 v16
  let v24 : BitVec 32 := Scalar.select v22 v23 v17
  ![v24.toNat]
def k0_off3 (i : grid0.Coords) : Fin 3 → Nat :=
  let arg0 : BitVec 32 := BitVec.ofNat 32 (i 0).val
  let c2_i32_4 : BitVec 32 := 2#32
  let v14 : BitVec 32 := Scalar.addi arg0 c2_i32_4
  let c3_i32 : BitVec 32 := 3#32
  let c0_i32_5 : BitVec 32 := 0#32
  let v15 : BitVec 1 := Scalar.cmpi .eq c3_i32 c0_i32_5
  let c1_i32 : BitVec 32 := 1#32
  let v16 : BitVec 32 := Scalar.select v15 c1_i32 c3_i32
  let v17 : BitVec 32 := Scalar.remsi v14 v16
  let c0_i32_7 : BitVec 32 := 0#32
  let v19 : BitVec 1 := Scalar.cmpi .slt v17 c0_i32_7
  let c0_i32_8 : BitVec 32 := 0#32
  let v20 : BitVec 1 := Scalar.cmpi .slt v16 c0_i32_8
  let v21 : BitVec 1 := Scalar.xori v19 v20
  let c0_i32_6 : BitVec 32 := 0#32
  let v18 : BitVec 1 := Scalar.cmpi .ne v17 c0_i32_6
  let v22 : BitVec 1 := Scalar.andi v21 v18
  let v23 : BitVec 32 := Scalar.addi v17 v16
  let v24 : BitVec 32 := Scalar.select v22 v23 v17
  let c0_i32_9 : BitVec 32 := 0#32
  let c0_i32_10 : BitVec 32 := 0#32
  ![v24.toNat, 0, 0]
def k0_off4 (i : grid0.Coords) : Fin 2 → Nat :=
  let arg0 : BitVec 32 := BitVec.ofNat 32 (i 0).val
  let c2_i32_4 : BitVec 32 := 2#32
  let v14 : BitVec 32 := Scalar.addi arg0 c2_i32_4
  let c2048_i32 : BitVec 32 := 2048#32
  let v25 : BitVec 32 := Scalar.muli v14 c2048_i32
  let v26 : BitVec 32 := v25
  let c0_i32_11 : BitVec 32 := 0#32
  ![v26.toNat, 0]
def k0_cond4 (i : grid0.Coords) (v0 : BitVec 32) : BitVec 1 :=
  let arg0 : BitVec 32 := BitVec.ofNat 32 (i 0).val
  let c2_i32 : BitVec 32 := 2#32
  let v4 : BitVec 32 := Scalar.addi arg0 c2_i32
  let v5 : BitVec 1 := Scalar.cmpi .slt v4 v0
  let v6 : BitVec 32 := Scalar.extui v5
  let c0_i32_1 : BitVec 32 := 0#32
  let v7 : BitVec 1 := Scalar.cmpi .ne v6 c0_i32_1
  v7

def k0_chk1 (i : grid0.Coords) (v0 : BitVec 32) : Prop :=
  (∀ (k0_h4 : k0_cond4 i v0 = 1#1), ∀ a, (k0_off4 i) a + S2048x128.size a ≤ S196608x128.size a)
theorem k0_off4_inb : ∀ (i : grid0.Coords) (v0 : BitVec 32) (k0_hw1 : k0_chk1 i v0), ∀ (k0_h4 : k0_cond4 i v0 = 1#1), ∀ a, (k0_off4 i) a + S2048x128.size a ≤ S196608x128.size a := fun i v0 k0_hw1 k0_h4 => k0_hw1 k0_h4

def k0_mult4 (i : grid0.Coords) : BitVec 32 :=
  let arg0 : BitVec 32 := BitVec.ofNat 32 (i 0).val
  let c2048_i32 : BitVec 32 := 2048#32
  let v24 : BitVec 32 := Scalar.muli arg0 c2048_i32
  v24
def k0_off5 (i : grid0.Coords) : Fin 1 → Nat :=
  let arg0 : BitVec 32 := BitVec.ofNat 32 (i 0).val
  let c3_i32 : BitVec 32 := 3#32
  let c0_i32_4 : BitVec 32 := 0#32
  let v14 : BitVec 1 := Scalar.cmpi .eq c3_i32 c0_i32_4
  let c1_i32 : BitVec 32 := 1#32
  let v15 : BitVec 32 := Scalar.select v14 c1_i32 c3_i32
  let v16 : BitVec 32 := Scalar.remsi arg0 v15
  let c0_i32_6 : BitVec 32 := 0#32
  let v18 : BitVec 1 := Scalar.cmpi .slt v16 c0_i32_6
  let c0_i32_7 : BitVec 32 := 0#32
  let v19 : BitVec 1 := Scalar.cmpi .slt v15 c0_i32_7
  let v20 : BitVec 1 := Scalar.xori v18 v19
  let c0_i32_5 : BitVec 32 := 0#32
  let v17 : BitVec 1 := Scalar.cmpi .ne v16 c0_i32_5
  let v21 : BitVec 1 := Scalar.andi v20 v17
  let v22 : BitVec 32 := Scalar.addi v16 v15
  let v23 : BitVec 32 := Scalar.select v21 v22 v16
  ![v23.toNat]
def k0_off6 (i : grid0.Coords) : Fin 3 → Nat :=
  let arg0 : BitVec 32 := BitVec.ofNat 32 (i 0).val
  let c3_i32 : BitVec 32 := 3#32
  let c0_i32_4 : BitVec 32 := 0#32
  let v14 : BitVec 1 := Scalar.cmpi .eq c3_i32 c0_i32_4
  let c1_i32 : BitVec 32 := 1#32
  let v15 : BitVec 32 := Scalar.select v14 c1_i32 c3_i32
  let v16 : BitVec 32 := Scalar.remsi arg0 v15
  let c0_i32_6 : BitVec 32 := 0#32
  let v18 : BitVec 1 := Scalar.cmpi .slt v16 c0_i32_6
  let c0_i32_7 : BitVec 32 := 0#32
  let v19 : BitVec 1 := Scalar.cmpi .slt v15 c0_i32_7
  let v20 : BitVec 1 := Scalar.xori v18 v19
  let c0_i32_5 : BitVec 32 := 0#32
  let v17 : BitVec 1 := Scalar.cmpi .ne v16 c0_i32_5
  let v21 : BitVec 1 := Scalar.andi v20 v17
  let v22 : BitVec 32 := Scalar.addi v16 v15
  let v23 : BitVec 32 := Scalar.select v21 v22 v16
  let c0_i32_8 : BitVec 32 := 0#32
  let c0_i32_9 : BitVec 32 := 0#32
  ![v23.toNat, 0, 0]
def k0_off7 (i : grid0.Coords) : Fin 2 → Nat :=
  let arg0 : BitVec 32 := BitVec.ofNat 32 (i 0).val
  let c2048_i32 : BitVec 32 := 2048#32
  let v24 : BitVec 32 := Scalar.muli arg0 c2048_i32
  let v25 : BitVec 32 := v24
  let c0_i32_10 : BitVec 32 := 0#32
  ![v25.toNat, 0]
def k0_off8 (i : grid0.Coords) : Fin 3 → Nat :=
  let arg0 : BitVec 32 := BitVec.ofNat 32 (i 0).val
  let c3_i32_11 : BitVec 32 := 3#32
  let c0_i32_12 : BitVec 32 := 0#32
  let v31 : BitVec 1 := Scalar.cmpi .eq c3_i32_11 c0_i32_12
  let c1_i32_13 : BitVec 32 := 1#32
  let v32 : BitVec 32 := Scalar.select v31 c1_i32_13 c3_i32_11
  let v33 : BitVec 32 := Scalar.remsi arg0 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v41 : Index := Scalar.indexCast v40
  let c0_17 : Index := 0#32
  let c0_18 : Index := 0#32
  ![v41.toNat, 0, 0]
def k0_off9 (i : grid0.Coords) : Fin 3 → Nat :=
  let arg0 : BitVec 32 := BitVec.ofNat 32 (i 0).val
  let c3_i32_11 : BitVec 32 := 3#32
  let c0_i32_12 : BitVec 32 := 0#32
  let v31 : BitVec 1 := Scalar.cmpi .eq c3_i32_11 c0_i32_12
  let c1_i32_13 : BitVec 32 := 1#32
  let v32 : BitVec 32 := Scalar.select v31 c1_i32_13 c3_i32_11
  let v33 : BitVec 32 := Scalar.remsi arg0 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v44 : Index := Scalar.indexCast v40
  let c1 : Index := 1#32
  let c0_19 : Index := 0#32
  ![v44.toNat, 1, 0]
def k0_off10 (i : grid0.Coords) : Fin 3 → Nat :=
  let arg0 : BitVec 32 := BitVec.ofNat 32 (i 0).val
  let c3_i32_11 : BitVec 32 := 3#32
  let c0_i32_12 : BitVec 32 := 0#32
  let v31 : BitVec 1 := Scalar.cmpi .eq c3_i32_11 c0_i32_12
  let c1_i32_13 : BitVec 32 := 1#32
  let v32 : BitVec 32 := Scalar.select v31 c1_i32_13 c3_i32_11
  let v33 : BitVec 32 := Scalar.remsi arg0 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v47 : Index := Scalar.indexCast v40
  let c2 : Index := 2#32
  let c0_20 : Index := 0#32
  ![v47.toNat, 2, 0]
def k0_off11 (i : grid0.Coords) : Fin 3 → Nat :=
  let arg0 : BitVec 32 := BitVec.ofNat 32 (i 0).val
  let c3_i32_11 : BitVec 32 := 3#32
  let c0_i32_12 : BitVec 32 := 0#32
  let v31 : BitVec 1 := Scalar.cmpi .eq c3_i32_11 c0_i32_12
  let c1_i32_13 : BitVec 32 := 1#32
  let v32 : BitVec 32 := Scalar.select v31 c1_i32_13 c3_i32_11
  let v33 : BitVec 32 := Scalar.remsi arg0 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v50 : Index := Scalar.indexCast v40
  let c3 : Index := 3#32
  let c0_21 : Index := 0#32
  ![v50.toNat, 3, 0]
def k0_cond5 (i : grid0.Coords) (v0 : BitVec 32) : BitVec 1 :=
  let arg0 : BitVec 32 := BitVec.ofNat 32 (i 0).val
  let v8 : BitVec 1 := Scalar.cmpi .slt arg0 v0
  let v9 : BitVec 32 := Scalar.extui v8
  let c0_i32_2 : BitVec 32 := 0#32
  let v10 : BitVec 1 := Scalar.cmpi .ne v9 c0_i32_2
  v10

def k0_cond6 (i : grid0.Coords) (v0 : BitVec 32) : BitVec 1 :=
  let arg0 : BitVec 32 := BitVec.ofNat 32 (i 0).val
  let v11 : BitVec 1 := Scalar.cmpi .sge arg0 v0
  let v12 : BitVec 32 := Scalar.extui v11
  let c0_i32_3 : BitVec 32 := 0#32
  let v13 : BitVec 1 := Scalar.cmpi .ne v12 c0_i32_3
  v13

def cc0_transform_1 (k0_off1_inb : ∀ i : grid0.Coords, ∀ a, (k0_off1 i) a + S1.size a ≤ S96.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S96) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S96.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S96) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S96.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S96) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  ![arg0.toNat, 0, c0_i32.toNat]

abbrev stage0_0 : Fin 2 → Memref sig .tc .vmem S1x1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x2x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![96], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  ![arg0.toNat, 0, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x2x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]
-- ==== ReferenceIdeal.lean ====
abbrev S96 : Shape := ⟨1, ![96]⟩
abbrev S1 : Shape := ⟨1, ![1]⟩
abbrev S196608x128 : Shape := ⟨2, ![196608, 128]⟩
abbrev S2x32x1024x256 : Shape := ⟨4, ![2, 32, 1024, 256]⟩
abbrev S2x32x256x1024 : Shape := ⟨4, ![2, 32, 256, 1024]⟩
abbrev S49152x512 : Shape := ⟨2, ![49152, 512]⟩
abbrev S_ : Shape := ⟨0, ![]⟩
abbrev S49152x1024 : Shape := ⟨2, ![49152, 1024]⟩
abbrev S96x512 : Shape := ⟨2, ![96, 512]⟩
abbrev S49152 : Shape := ⟨1, ![49152]⟩
abbrev S49152x1 : Shape := ⟨2, ![49152, 1]⟩
abbrev S1x32 : Shape := ⟨2, ![1, 32]⟩
abbrev S49152x32 : Shape := ⟨2, ![49152, 32]⟩
abbrev S1x32x1024x256 : Shape := ⟨4, ![1, 32, 1024, 256]⟩
abbrev S32x1024x256 : Shape := ⟨3, ![32, 1024, 256]⟩
abbrev S49152x32x256 : Shape := ⟨3, ![49152, 32, 256]⟩
abbrev S49152x32x1 : Shape := ⟨3, ![49152, 32, 1]⟩
abbrev S1x32x256x1024 : Shape := ⟨4, ![1, 32, 256, 1024]⟩
abbrev S32x256x1024 : Shape := ⟨3, ![32, 256, 1024]⟩

abbrev nBuf : Space → Nat
  | .hbm => 54
  | .vmem => 0
  | .smem => 0
  | _ => 0

abbrev bufTy : (tb : Table) → Fin (tcTables nBuf tb) → BufTy
  | .hbm, ⟨0, _⟩ => ⟨S96, .i32⟩
  | .hbm, ⟨1, _⟩ => ⟨S1, .i32⟩
  | .hbm, ⟨2, _⟩ => ⟨S196608x128, .i32⟩
  | .hbm, ⟨3, _⟩ => ⟨S2x32x1024x256, .f32⟩
  | .hbm, ⟨4, _⟩ => ⟨S2x32x1024x256, .f32⟩
  | .hbm, ⟨5, _⟩ => ⟨S2x32x256x1024, .f32⟩
  | .hbm, ⟨6, _⟩ => ⟨S49152x512, .i32⟩
  | .hbm, ⟨7, _⟩ => ⟨S_, .i32⟩
  | .hbm, ⟨8, _⟩ => ⟨S49152x512, .i32⟩
  | .hbm, ⟨9, _⟩ => ⟨S49152x512, .i32⟩
  | .hbm, ⟨10, _⟩ => ⟨S49152x512, .f32⟩
  | .hbm, ⟨11, _⟩ => ⟨S_, .i32⟩
  | .hbm, ⟨12, _⟩ => ⟨S49152x512, .i32⟩
  | .hbm, ⟨13, _⟩ => ⟨S49152x512, .i32⟩
  | .hbm, ⟨14, _⟩ => ⟨S49152x512, .f32⟩
  | .hbm, ⟨15, _⟩ => ⟨S49152x1024, .f32⟩
  | .hbm, ⟨16, _⟩ => ⟨S96, .i32⟩
  | .hbm, ⟨17, _⟩ => ⟨S_, .i32⟩
  | .hbm, ⟨18, _⟩ => ⟨S96, .i32⟩
  | .hbm, ⟨19, _⟩ => ⟨S96, .i1⟩
  | .hbm, ⟨20, _⟩ => ⟨S_, .i32⟩
  | .hbm, ⟨21, _⟩ => ⟨S_, .i32⟩
  | .hbm, ⟨22, _⟩ => ⟨S96, .i32⟩
  | .hbm, ⟨23, _⟩ => ⟨S96, .i32⟩
  | .hbm, ⟨24, _⟩ => ⟨S96x512, .i32⟩
  | .hbm, ⟨25, _⟩ => ⟨S49152, .i32⟩
  | .hbm, ⟨26, _⟩ => ⟨S49152x1, .i32⟩
  | .hbm, ⟨27, _⟩ => ⟨S1x32, .i32⟩
  | .hbm, ⟨28, _⟩ => ⟨S49152x32, .i32⟩
  | .hbm, ⟨29, _⟩ => ⟨S49152x32, .i32⟩
  | .hbm, ⟨30, _⟩ => ⟨S49152x32, .i1⟩
  | .hbm, ⟨31, _⟩ => ⟨S49152x32, .f32⟩
  | .hbm, ⟨32, _⟩ => ⟨S1x32x1024x256, .f32⟩
  | .hbm, ⟨33, _⟩ => ⟨S32x1024x256, .f32⟩
  | .hbm, ⟨34, _⟩ => ⟨S49152x32x256, .f32⟩
  | .hbm, ⟨35, _⟩ => ⟨S1x32x1024x256, .f32⟩
  | .hbm, ⟨36, _⟩ => ⟨S32x1024x256, .f32⟩
  | .hbm, ⟨37, _⟩ => ⟨S49152x32x256, .f32⟩
  | .hbm, ⟨38, _⟩ => ⟨S49152x32x256, .f32⟩
  | .hbm, ⟨39, _⟩ => ⟨S49152x32x256, .f32⟩
  | .hbm, ⟨40, _⟩ => ⟨S_, .f32⟩
  | .hbm, ⟨41, _⟩ => ⟨S49152x32x256, .f32⟩
  | .hbm, ⟨42, _⟩ => ⟨S49152x32x256, .f32⟩
  | .hbm, ⟨43, _⟩ => ⟨S_, .f32⟩
  | .hbm, ⟨44, _⟩ => ⟨S49152x32x256, .f32⟩
  | .hbm, ⟨45, _⟩ => ⟨S49152x32x256, .f32⟩
  | .hbm, ⟨46, _⟩ => ⟨S49152x32x256, .f32⟩
  | .hbm, ⟨47, _⟩ => ⟨S49152x32x256, .f32⟩
  | .hbm, ⟨48, _⟩ => ⟨S49152x32x1, .f32⟩
  | .hbm, ⟨49, _⟩ => ⟨S49152x32x256, .f32⟩
  | .hbm, ⟨50, _⟩ => ⟨S49152x32x256, .f32⟩
  | .hbm, ⟨51, _⟩ => ⟨S1x32x256x1024, .f32⟩
  | .hbm, ⟨52, _⟩ => ⟨S32x256x1024, .f32⟩
  | .hbm, ⟨53, _⟩ => ⟨S49152x1024, .f32⟩
  | _, _ => ⟨S96, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_call0_v0 : Ref sig .tc := ⟨.hbm, 21, rfl⟩
abbrev main_call0_v1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_call2_v0 : Ref sig .tc := ⟨.hbm, 38, rfl⟩
abbrev main_call2_v1 : Ref sig .tc := ⟨.hbm, 39, rfl⟩
abbrev main_call2_cst : Ref sig .tc := ⟨.hbm, 40, rfl⟩
abbrev main_call2_v2 : Ref sig .tc := ⟨.hbm, 41, rfl⟩
abbrev main_call2_v3 : Ref sig .tc := ⟨.hbm, 42, rfl⟩
abbrev main_call2_cst_0 : Ref sig .tc := ⟨.hbm, 43, rfl⟩
abbrev main_call2_v4 : Ref sig .tc := ⟨.hbm, 44, rfl⟩
abbrev main_call2_v5 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩

abbrev nD : Nat := 1
abbrev τ : Topo := Topo.v7x

variable {F : FTy → Type} [FloatOps F]
-- ==== Kernel2.lean ====
abbrev S8x2048x1024 : Shape := ⟨3, ![8, 2048, 1024]⟩
abbrev S1024 : Shape := ⟨1, ![1024]⟩
abbrev S1024x6688 : Shape := ⟨2, ![1024, 6688]⟩
abbrev S16384x1024 : Shape := ⟨2, ![16384, 1024]⟩
abbrev S1x1024 : Shape := ⟨2, ![1, 1024]⟩
abbrev S1024x32 : Shape := ⟨2, ![1024, 32]⟩
abbrev S1024x1024 : Shape := ⟨2, ![1024, 1024]⟩
abbrev S_ : Shape := ⟨0, ![]⟩
abbrev S1024x64 : Shape := ⟨2, ![1024, 64]⟩
abbrev S1024x16 : Shape := ⟨2, ![1024, 16]⟩
abbrev S1024x1280 : Shape := ⟨2, ![1024, 1280]⟩
abbrev S1024x5632 : Shape := ⟨2, ![1024, 5632]⟩
abbrev S16384x5632 : Shape := ⟨2, ![16384, 5632]⟩
abbrev S16384x1280 : Shape := ⟨2, ![16384, 1280]⟩
abbrev S1024x2816 : Shape := ⟨2, ![1024, 2816]⟩
abbrev S1024x1 : Shape := ⟨2, ![1024, 1]⟩
abbrev S1024x1536 : Shape := ⟨2, ![1024, 1536]⟩

abbrev nBuf : Space → Nat
  | .hbm => 19
  | .vmem => 11
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x6688, .f32⟩
  | .hbm, ⟨3, _⟩ => ⟨S16384x1024, .f32⟩
  | .hbm, ⟨4, _⟩ => ⟨S1x1024, .f32⟩
  | .hbm, ⟨5, _⟩ => ⟨S1024x32, .f32⟩
  | .hbm, ⟨6, _⟩ => ⟨S1024x1024, .f32⟩
  | .hbm, ⟨7, _⟩ => ⟨S_, .f32⟩
  | .hbm, ⟨8, _⟩ => ⟨S1024x64, .f32⟩
  | .hbm, ⟨9, _⟩ => ⟨S_, .f32⟩
  | .hbm, ⟨10, _⟩ => ⟨S1024x32, .f32⟩
  | .hbm, ⟨11, _⟩ => ⟨S1024x16, .f32⟩
  | .hbm, ⟨12, _⟩ => ⟨S1024x16, .f32⟩
  | .hbm, ⟨13, _⟩ => ⟨S1024x1280, .f32⟩
  | .hbm, ⟨14, _⟩ => ⟨S1024x5632, .f32⟩
  | .hbm, ⟨15, _⟩ => ⟨S1024x5632, .bf16⟩
  | .hbm, ⟨16, _⟩ => ⟨S1024x1280, .bf16⟩
  | .hbm, ⟨17, _⟩ => ⟨S16384x5632, .bf16⟩
  | .hbm, ⟨18, _⟩ => ⟨S16384x1280, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S1024x1280, .bf16⟩
  | .local _ .vmem, ⟨6, _⟩ => ⟨S1024x2816, .bf16⟩
  | .local _ .vmem, ⟨7, _⟩ => ⟨S1024x2816, .bf16⟩
  | .local _ .vmem, ⟨8, _⟩ => ⟨S1024x1280, .bf16⟩
  | .local _ .vmem, ⟨9, _⟩ => ⟨S1024x1280, .bf16⟩
  | .local _ .vmem, ⟨10, _⟩ => ⟨S1024x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12_0 : Ref sig .tc := ⟨.hbm, 17, rfl⟩
abbrev main_v12_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 3], ![false, false]⟩

def k0_cond2 (i : grid0.Coords) : BitVec 1 :=
  let arg1 : BitVec 32 := BitVec.ofNat 32 (i 1).val
  let c2_i32 : BitVec 32 := 2#32
  let v3 : BitVec 1 := Scalar.cmpi .slt arg1 c2_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c2_i32_2 : BitVec 32 := 2#32
  let v6 : BitVec 1 := Scalar.cmpi .eq arg1 c2_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1024x1280 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1280 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S8x2048x1024 : Shape := ⟨3, ![8, 2048, 1024]⟩
abbrev S1024 : Shape := ⟨1, ![1024]⟩
abbrev S1024x6688 : Shape := ⟨2, ![1024, 6688]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x6688 : Shape := ⟨3, ![8, 2048, 6688]⟩
abbrev S16384x6688 : Shape := ⟨2, ![16384, 6688]⟩
abbrev S16384x5632 : Shape := ⟨2, ![16384, 5632]⟩
abbrev S16384x32 : Shape := ⟨2, ![16384, 32]⟩
abbrev S16384x1024 : Shape := ⟨2, ![16384, 1024]⟩
abbrev S16384x16 : Shape := ⟨2, ![16384, 16]⟩
abbrev S16384x128 : Shape := ⟨2, ![16384, 128]⟩
abbrev S16384x1280 : Shape := ⟨2, ![16384, 1280]⟩

abbrev nBuf : Space → Nat
  | .hbm => 36
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x6688, .f32⟩
  | .hbm, ⟨3, _⟩ => ⟨S8x2048x1024, .f32⟩
  | .hbm, ⟨4, _⟩ => ⟨S_, .f32⟩
  | .hbm, ⟨5, _⟩ => ⟨S8x2048, .f32⟩
  | .hbm, ⟨6, _⟩ => ⟨S8x2048x1, .f32⟩
  | .hbm, ⟨7, _⟩ => ⟨S_, .f32⟩
  | .hbm, ⟨8, _⟩ => ⟨S8x2048x1, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S8x2048x1, .f32⟩
  | .hbm, ⟨14, _⟩ => ⟨S8x2048x1024, .f32⟩
  | .hbm, ⟨15, _⟩ => ⟨S8x2048x1024, .f32⟩
  | .hbm, ⟨16, _⟩ => ⟨S1x1x1024, .f32⟩
  | .hbm, ⟨17, _⟩ => ⟨S8x2048x1024, .f32⟩
  | .hbm, ⟨18, _⟩ => ⟨S8x2048x1024, .f32⟩
  | .hbm, ⟨19, _⟩ => ⟨S8x2048x6688, .f32⟩
  | .hbm, ⟨20, _⟩ => ⟨S16384x6688, .f32⟩
  | .hbm, ⟨21, _⟩ => ⟨S16384x5632, .f32⟩
  | .hbm, ⟨22, _⟩ => ⟨S16384x32, .f32⟩
  | .hbm, ⟨23, _⟩ => ⟨S16384x1024, .f32⟩
  | .hbm, ⟨24, _⟩ => ⟨S16384x16, .f32⟩
  | .hbm, ⟨25, _⟩ => ⟨S16384x16, .f32⟩
  | .hbm, ⟨26, _⟩ => ⟨S16384x32, .f32⟩
  | .hbm, ⟨27, _⟩ => ⟨S_, .i32⟩
  | .hbm, ⟨28, _⟩ => ⟨S_, .f32⟩
  | .hbm, ⟨29, _⟩ => ⟨S16384x128, .f32⟩
  | .hbm, ⟨30, _⟩ => ⟨S_, .i32⟩
  | .hbm, ⟨31, _⟩ => ⟨S_, .f32⟩
  | .hbm, ⟨32, _⟩ => ⟨S16384x128, .f32⟩
  | .hbm, ⟨33, _⟩ => ⟨S16384x1280, .f32⟩
  | .hbm, ⟨34, _⟩ => ⟨S16384x5632, .bf16⟩
  | .hbm, ⟨35, _⟩ => ⟨S16384x1280, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_c : Ref sig .tc := ⟨.hbm, 27, rfl⟩
abbrev main_call0_v0 : Ref sig .tc := ⟨.hbm, 28, rfl⟩
abbrev main_v21 : Ref sig .tc := ⟨.hbm, 29, rfl⟩
abbrev main_c_2 : Ref sig .tc := ⟨.hbm, 30, rfl⟩
abbrev main_call1_v0 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== Kernel3.lean ====
abbrev S16384x5632 : Shape := ⟨2, ![16384, 5632]⟩
abbrev S16384x1280 : Shape := ⟨2, ![16384, 1280]⟩
abbrev S16384x512 : Shape := ⟨2, ![16384, 512]⟩
abbrev S8x2048x1024 : Shape := ⟨3, ![8, 2048, 1024]⟩
abbrev S3x512 : Shape := ⟨2, ![3, 512]⟩
abbrev S512x1024 : Shape := ⟨2, ![512, 1024]⟩
abbrev S31x512 : Shape := ⟨2, ![31, 512]⟩
abbrev S512 : Shape := ⟨1, ![512]⟩
abbrev S1024x1024 : Shape := ⟨2, ![1024, 1024]⟩
abbrev S16384x1024 : Shape := ⟨2, ![16384, 1024]⟩
abbrev S1x512 : Shape := ⟨2, ![1, 512]⟩
abbrev S512x3072 : Shape := ⟨2, ![512, 3072]⟩
abbrev S512x1536 : Shape := ⟨2, ![512, 1536]⟩
abbrev S16x1536 : Shape := ⟨2, ![16, 1536]⟩
abbrev S512x512 : Shape := ⟨2, ![512, 512]⟩
abbrev S32x512 : Shape := ⟨2, ![32, 512]⟩
abbrev S520x512 : Shape := ⟨2, ![520, 512]⟩
abbrev S544x512 : Shape := ⟨2, ![544, 512]⟩
abbrev S7x536x512 : Shape := ⟨3, ![7, 536, 512]⟩
abbrev S8x1536 : Shape := ⟨2, ![8, 1536]⟩
abbrev S8x512 : Shape := ⟨2, ![8, 512]⟩
abbrev S536x512 : Shape := ⟨2, ![536, 512]⟩
abbrev S1x536x512 : Shape := ⟨3, ![1, 536, 512]⟩
abbrev S1x64x512 : Shape := ⟨3, ![1, 64, 512]⟩
abbrev S64x512 : Shape := ⟨2, ![64, 512]⟩
abbrev S64 : Shape := ⟨1, ![64]⟩
abbrev S64x1 : Shape := ⟨2, ![64, 1]⟩

abbrev nBuf : Space → Nat
  | .hbm => 20
  | .vmem => 32
  | .smem => 0
  | _ => 0

abbrev bufTy : (tb : Table) → Fin (tcTables nBuf tb) → BufTy
  | .hbm, ⟨0, _⟩ => ⟨S16384x5632, .bf16⟩
  | .hbm, ⟨1, _⟩ => ⟨S16384x1280, .bf16⟩
  | .hbm, ⟨2, _⟩ => ⟨S16384x512, .bf16⟩
  | .hbm, ⟨3, _⟩ => ⟨S8x2048x1024, .f32⟩
  | .hbm, ⟨4, _⟩ => ⟨S3x512, .f32⟩
  | .hbm, ⟨5, _⟩ => ⟨S512x1024, .f32⟩
  | .hbm, ⟨6, _⟩ => ⟨S512x1024, .f32⟩
  | .hbm, ⟨7, _⟩ => ⟨S31x512, .f32⟩
  | .hbm, ⟨8, _⟩ => ⟨S512, .f32⟩
  | .hbm, ⟨9, _⟩ => ⟨S512, .f32⟩
  | .hbm, ⟨10, _⟩ => ⟨S512x1024, .f32⟩
  | .hbm, ⟨11, _⟩ => ⟨S1024x1024, .f32⟩
  | .hbm, ⟨12, _⟩ => ⟨S16384x1024, .f32⟩
  | .hbm, ⟨13, _⟩ => ⟨S512x1024, .bf16⟩
  | .hbm, ⟨14, _⟩ => ⟨S1x512, .f32⟩
  | .hbm, ⟨15, _⟩ => ⟨S1x512, .f32⟩
  | .hbm, ⟨16, _⟩ => ⟨S512x1024, .bf16⟩
  | .hbm, ⟨17, _⟩ => ⟨S512x1024, .bf16⟩
  | .hbm, ⟨18, _⟩ => ⟨S1024x1024, .bf16⟩
  | .hbm, ⟨19, _⟩ => ⟨S16384x1024, .f32⟩
  | .local _ .vmem, ⟨0, _⟩ => ⟨S512x3072, .bf16⟩
  | .local _ .vmem, ⟨1, _⟩ => ⟨S512x3072, .bf16⟩
  | .local _ .vmem, ⟨2, _⟩ => ⟨S512x1536, .bf16⟩
  | .local _ .vmem, ⟨3, _⟩ => ⟨S512x1536, .bf16⟩
  | .local _ .vmem, ⟨4, _⟩ => ⟨S16x1536, .bf16⟩
  | .local _ .vmem, ⟨5, _⟩ => ⟨S16x1536, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S32x512, .bf16⟩
  | .local _ .vmem, ⟨11, _⟩ => ⟨S32x512, .bf16⟩
  | .local _ .vmem, ⟨12, _⟩ => ⟨S32x512, .bf16⟩
  | .local _ .vmem, ⟨13, _⟩ => ⟨S32x512, .bf16⟩
  | .local _ .vmem, ⟨14, _⟩ => ⟨S512x512, .bf16⟩
  | .local _ .vmem, ⟨15, _⟩ => ⟨S512x512, .bf16⟩
  | .local _ .vmem, ⟨16, _⟩ => ⟨S512x1024, .f32⟩
  | .local _ .vmem, ⟨17, _⟩ => ⟨S512x1024, .f32⟩
  | .local _ .vmem, ⟨18, _⟩ => ⟨S3x512, .f32⟩
  | .local _ .vmem, ⟨19, _⟩ => ⟨S512x1024, .bf16⟩
  | .local _ .vmem, ⟨20, _⟩ => ⟨S31x512, .f32⟩
  | .local _ .vmem, ⟨21, _⟩ => ⟨S1x512, .f32⟩
  | .local _ .vmem, ⟨22, _⟩ => ⟨S1x512, .f32⟩
  | .local _ .vmem, ⟨23, _⟩ => ⟨S512x1024, .bf16⟩
  | .local _ .vmem, ⟨24, _⟩ => ⟨S512x1024, .bf16⟩
  | .local _ .vmem, ⟨25, _⟩ => ⟨S1024x1024, .bf16⟩
  | .local _ .vmem, ⟨26, _⟩ => ⟨S512x1024, .f32⟩
  | .local _ .vmem, ⟨27, _⟩ => ⟨S512x1024, .f32⟩
  | .local _ .vmem, ⟨28, _⟩ => ⟨S520x512, .f32⟩
  | .local _ .vmem, ⟨29, _⟩ => ⟨S544x512, .f32⟩
  | .local _ .vmem, ⟨30, _⟩ => ⟨S7x536x512, .f32⟩
  | .local _ .vmem, ⟨31, _⟩ => ⟨S512x512, .bf16⟩
  | _, _ => ⟨S16384x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg17_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_scratch3 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem17_0 : DmaSem sig := 26
abbrev cc0_sem17_1 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_6 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S3x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S31x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S512x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1024x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Kernel3Ideal.lean ====
variable {F : FTy → Type} [FloatOps F] [Named F]
def κ : String → Option EReal := fun
  | "neg_log2_e" => some ((-((Real.log 2)⁻¹) : ℝ) : EReal)
  | _ => none
-- ==== Reference3Ideal.lean ====
abbrev S16384x5632 : Shape := ⟨2, ![16384, 5632]⟩
abbrev S16384x1280 : Shape := ⟨2, ![16384, 1280]⟩
abbrev S16384x512 : Shape := ⟨2, ![16384, 512]⟩
abbrev S8x2048x1024 : Shape := ⟨3, ![8, 2048, 1024]⟩
abbrev S3x512 : Shape := ⟨2, ![3, 512]⟩
abbrev S512x1024 : Shape := ⟨2, ![512, 1024]⟩
abbrev S31x512 : Shape := ⟨2, ![31, 512]⟩
abbrev S512 : Shape := ⟨1, ![512]⟩
abbrev S1024x1024 : Shape := ⟨2, ![1024, 1024]⟩
abbrev S8x2048x5632 : Shape := ⟨3, ![8, 2048, 5632]⟩
abbrev S8x2048x1280 : Shape := ⟨3, ![8, 2048, 1280]⟩
abbrev S8x2048x3072 : Shape := ⟨3, ![8, 2048, 3072]⟩
abbrev S8x2048x1536 : Shape := ⟨3, ![8, 2048, 1536]⟩
abbrev S8x2048x512 : Shape := ⟨3, ![8, 2048, 512]⟩
abbrev S_ : Shape := ⟨0, ![]⟩
abbrev S8x2050x512 : Shape := ⟨3, ![8, 2050, 512]⟩
abbrev S1x512 : Shape := ⟨2, ![1, 512]⟩
abbrev S1x1x512 : Shape := ⟨3, ![1, 1, 512]⟩
abbrev S8x2078x512 : Shape := ⟨3, ![8, 2078, 512]⟩
abbrev S8x2048 : Shape := ⟨2, ![8, 2048]⟩
abbrev S8x2048x1 : Shape := ⟨3, ![8, 2048, 1]⟩
abbrev S16384x1024 : Shape := ⟨2, ![16384, 1024]⟩

abbrev nBuf : Space → Nat
  | .hbm => 359
  | .vmem => 0
  | .smem => 0
  | _ => 0

abbrev hbmTy0_0 (i : Nat) : BufTy := match i % 128 with
  | 0 => ⟨S16384x5632, .bf16⟩
  | 1 => ⟨S16384x1280, .bf16⟩
  | 2 => ⟨S16384x512, .bf16⟩
  | 3 => ⟨S8x2048x1024, .f32⟩
  | 4 => ⟨S3x512, .f32⟩
  | 5 => ⟨S512x1024, .f32⟩
  | 6 => ⟨S512x1024, .f32⟩
  | 7 => ⟨S31x512, .f32⟩
  | 8 => ⟨S512, .f32⟩
  | 9 => ⟨S512, .f32⟩
  | 10 => ⟨S512x1024, .f32⟩
  | 11 => ⟨S1024x1024, .f32⟩
  | 12 => ⟨S16384x5632, .f32⟩
  | 13 => ⟨S8x2048x5632, .f32⟩
  | 14 => ⟨S16384x1280, .f32⟩
  | 15 => ⟨S8x2048x1280, .f32⟩
  | 16 => ⟨S8x2048x1024, .f32⟩
  | 17 => ⟨S8x2048x3072, .f32⟩
  | 18 => ⟨S8x2048x1536, .f32⟩
  | 19 => ⟨S8x2048x1024, .f32⟩
  | 20 => ⟨S8x2048x1024, .f32⟩
  | 21 => ⟨S8x2048x1024, .f32⟩
  | 22 => ⟨S8x2048x512, .f32⟩
  | 23 => ⟨S8x2048x512, .f32⟩
  | 24 => ⟨S8x2048x512, .f32⟩
  | 25 => ⟨S8x2048x512, .f32⟩
  | 26 => ⟨S8x2048x512, .f32⟩
  | 27 => ⟨S8x2048x512, .f32⟩
  | 28 => ⟨S_, .i32⟩
  | 29 => ⟨S_, .f32⟩
  | 30 => ⟨S8x2050x512, .f32⟩
  | 31 => ⟨S1x512, .f32⟩
  | 32 => ⟨S512, .f32⟩
  | 33 => ⟨S8x2048x512, .f32⟩
  | 34 => ⟨S1x1x512, .f32⟩
  | 35 => ⟨S8x2048x512, .f32⟩
  | 36 => ⟨S8x2048x512, .f32⟩
  | 37 => ⟨S_, .f32⟩
  | 38 => ⟨S8x2048x512, .f32⟩
  | 39 => ⟨S8x2048x512, .f32⟩
  | 40 => ⟨S1x512, .f32⟩
  | 41 => ⟨S512, .f32⟩
  | 42 => ⟨S8x2048x512, .f32⟩
  | 43 => ⟨S1x1x512, .f32⟩
  | 44 => ⟨S8x2048x512, .f32⟩
  | 45 => ⟨S8x2048x512, .f32⟩
  | 46 => ⟨S8x2048x512, .f32⟩
  | 47 => ⟨S1x512, .f32⟩
  | 48 => ⟨S512, .f32⟩
  | 49 => ⟨S8x2048x512, .f32⟩
  | 50 => ⟨S1x1x512, .f32⟩
  | 51 => ⟨S8x2048x512, .f32⟩
  | 52 => ⟨S8x2048x512, .f32⟩
  | 53 => ⟨S8x2048x512, .f32⟩
  | 54 => ⟨S8x2048x512, .f32⟩
  | 55 => ⟨S8x2048x1024, .f32⟩
  | 56 => ⟨S16384x512, .f32⟩
  | 57 => ⟨S8x2048x512, .f32⟩
  | 58 => ⟨S8x2048x1024, .f32⟩
  | 59 => ⟨S8x2048x512, .f32⟩
  | 60 => ⟨S8x2048x512, .f32⟩
  | 61 => ⟨S_, .f32⟩
  | 62 => ⟨S8x2048x512, .f32⟩
  | 63 => ⟨S8x2048x512, .f32⟩
  | 64 => ⟨S_, .f32⟩
  | 65 => ⟨S8x2048x512, .f32⟩
  | 66 => ⟨S8x2048x512, .f32⟩
  | 67 => ⟨S8x2048x512, .f32⟩
  | 68 => ⟨S_, .i32⟩
  | 69 => ⟨S_, .f32⟩
  | 70 => ⟨S8x2078x512, .f32⟩
  | 71 => ⟨S1x512, .f32⟩
  | 72 => ⟨S512, .f32⟩
  | 73 => ⟨S8x2048x512, .f32⟩
  | 74 => ⟨S1x1x512, .f32⟩
  | 75 => ⟨S8x2048x512, .f32⟩
  | 76 => ⟨S8x2048x512, .f32⟩
  | 77 => ⟨S_, .f32⟩
  | 78 => ⟨S8x2048x512, .f32⟩
  | 79 => ⟨S8x2048x512, .f32⟩
  | 80 => ⟨S1x512, .f32⟩
  | 81 => ⟨S512, .f32⟩
  | 82 => ⟨S8x2048x512, .f32⟩
  | 83 => ⟨S1x1x512, .f32⟩
  | 84 => ⟨S8x2048x512, .f32⟩
  | 85 => ⟨S8x2048x512, .f32⟩
  | 86 => ⟨S8x2048x512, .f32⟩
  | 87 => ⟨S1x512, .f32⟩
  | 88 => ⟨S512, .f32⟩
  | 89 => ⟨S8x2048x512, .f32⟩
  | 90 => ⟨S1x1x512, .f32⟩
  | 91 => ⟨S8x2048x512, .f32⟩
  | 92 => ⟨S8x2048x512, .f32⟩
  | 93 => ⟨S8x2048x512, .f32⟩
  | 94 => ⟨S1x512, .f32⟩
  | 95 => ⟨S512, .f32⟩
  | 96 => ⟨S8x2048x512, .f32⟩
  | 97 => ⟨S1x1x512, .f32⟩
  | 98 => ⟨S8x2048x512, .f32⟩
  | 99 => ⟨S8x2048x512, .f32⟩
  | 100 => ⟨S8x2048x512, .f32⟩
  | 101 => ⟨S1x512, .f32⟩
  | 102 => ⟨S512, .f32⟩
  | 103 => ⟨S8x2048x512, .f32⟩
  | 104 => ⟨S1x1x512, .f32⟩
  | 105 => ⟨S8x2048x512, .f32⟩
  | 106 => ⟨S8x2048x512, .f32⟩
  | 107 => ⟨S8x2048x512, .f32⟩
  | 108 => ⟨S1x512, .f32⟩
  | 109 => ⟨S512, .f32⟩
  | 110 => ⟨S8x2048x512, .f32⟩
  | 111 => ⟨S1x1x512, .f32⟩
  | 112 => ⟨S8x2048x512, .f32⟩
  | 113 => ⟨S8x2048x512, .f32⟩
  | 114 => ⟨S8x2048x512, .f32⟩
  | 115 => ⟨S1x512, .f32⟩
  | 116 => ⟨S512, .f32⟩
  | 117 => ⟨S8x2048x512, .f32⟩
  | 118 => ⟨S1x1x512, .f32⟩
  | 119 => ⟨S8x2048x512, .f32⟩
  | 120 => ⟨S8x2048x512, .f32⟩
  | 121 => ⟨S8x2048x512, .f32⟩
  | 122 => ⟨S1x512, .f32⟩
  | 123 => ⟨S512, .f32⟩
  | 124 => ⟨S8x2048x512, .f32⟩
  | 125 => ⟨S1x1x512, .f32⟩
  | 126 => ⟨S8x2048x512, .f32⟩
  | 127 => ⟨S8x2048x512, .f32⟩
  | _ => ⟨S16384x5632, .bf16⟩

abbrev hbmTy0_1 (i : Nat) : BufTy := match i % 128 with
  | 0 => ⟨S8x2048x512, .f32⟩
  | 1 => ⟨S1x512, .f32⟩
  | 2 => ⟨S512, .f32⟩
  | 3 => ⟨S8x2048x512, .f32⟩
  | 4 => ⟨S1x1x512, .f32⟩
  | 5 => ⟨S8x2048x512, .f32⟩
  | 6 => ⟨S8x2048x512, .f32⟩
  | 7 => ⟨S8x2048x512, .f32⟩
  | 8 => ⟨S1x512, .f32⟩
  | 9 => ⟨S512, .f32⟩
  | 10 => ⟨S8x2048x512, .f32⟩
  | 11 => ⟨S1x1x512, .f32⟩
  | 12 => ⟨S8x2048x512, .f32⟩
  | 13 => ⟨S8x2048x512, .f32⟩
  | 14 => ⟨S8x2048x512, .f32⟩
  | 15 => ⟨S1x512, .f32⟩
  | 16 => ⟨S512, .f32⟩
  | 17 => ⟨S8x2048x512, .f32⟩
  | 18 => ⟨S1x1x512, .f32⟩
  | 19 => ⟨S8x2048x512, .f32⟩
  | 20 => ⟨S8x2048x512, .f32⟩
  | 21 => ⟨S8x2048x512, .f32⟩
  | 22 => ⟨S1x512, .f32⟩
  | 23 => ⟨S512, .f32⟩
  | 24 => ⟨S8x2048x512, .f32⟩
  | 25 => ⟨S1x1x512, .f32⟩
  | 26 => ⟨S8x2048x512, .f32⟩
  | 27 => ⟨S8x2048x512, .f32⟩
  | 28 => ⟨S8x2048x512, .f32⟩
  | 29 => ⟨S1x512, .f32⟩
  | 30 => ⟨S512, .f32⟩
  | 31 => ⟨S8x2048x512, .f32⟩
  | 32 => ⟨S1x1x512, .f32⟩
  | 33 => ⟨S8x2048x512, .f32⟩
  | 34 => ⟨S8x2048x512, .f32⟩
  | 35 => ⟨S8x2048x512, .f32⟩
  | 36 => ⟨S1x512, .f32⟩
  | 37 => ⟨S512, .f32⟩
  | 38 => ⟨S8x2048x512, .f32⟩
  | 39 => ⟨S1x1x512, .f32⟩
  | 40 => ⟨S8x2048x512, .f32⟩
  | 41 => ⟨S8x2048x512, .f32⟩
  | 42 => ⟨S8x2048x512, .f32⟩
  | 43 => ⟨S1x512, .f32⟩
  | 44 => ⟨S512, .f32⟩
  | 45 => ⟨S8x2048x512, .f32⟩
  | 46 => ⟨S1x1x512, .f32⟩
  | 47 => ⟨S8x2048x512, .f32⟩
  | 48 => ⟨S8x2048x512, .f32⟩
  | 49 => ⟨S8x2048x512, .f32⟩
  | 50 => ⟨S1x512, .f32⟩
  | 51 => ⟨S512, .f32⟩
  | 52 => ⟨S8x2048x512, .f32⟩
  | 53 => ⟨S1x1x512, .f32⟩
  | 54 => ⟨S8x2048x512, .f32⟩
  | 55 => ⟨S8x2048x512, .f32⟩
  | 56 => ⟨S8x2048x512, .f32⟩
  | 57 => ⟨S1x512, .f32⟩
  | 58 => ⟨S512, .f32⟩
  | 59 => ⟨S8x2048x512, .f32⟩
  | 60 => ⟨S1x1x512, .f32⟩
  | 61 => ⟨S8x2048x512, .f32⟩
  | 62 => ⟨S8x2048x512, .f32⟩
  | 63 => ⟨S8x2048x512, .f32⟩
  | 64 => ⟨S1x512, .f32⟩
  | 65 => ⟨S512, .f32⟩
  | 66 => ⟨S8x2048x512, .f32⟩
  | 67 => ⟨S1x1x512, .f32⟩
  | 68 => ⟨S8x2048x512, .f32⟩
  | 69 => ⟨S8x2048x512, .f32⟩
  | 70 => ⟨S8x2048x512, .f32⟩
  | 71 => ⟨S1x512, .f32⟩
  | 72 => ⟨S512, .f32⟩
  | 73 => ⟨S8x2048x512, .f32⟩
  | 74 => ⟨S1x1x512, .f32⟩
  | 75 => ⟨S8x2048x512, .f32⟩
  | 76 => ⟨S8x2048x512, .f32⟩
  | 77 => ⟨S8x2048x512, .f32⟩
  | 78 => ⟨S1x512, .f32⟩
  | 79 => ⟨S512, .f32⟩
  | 80 => ⟨S8x2048x512, .f32⟩
  | 81 => ⟨S1x1x512, .f32⟩
  | 82 => ⟨S8x2048x512, .f32⟩
  | 83 => ⟨S8x2048x512, .f32⟩
  | 84 => ⟨S8x2048x512, .f32⟩
  | 85 => ⟨S1x512, .f32⟩
  | 86 => ⟨S512, .f32⟩
  | 87 => ⟨S8x2048x512, .f32⟩
  | 88 => ⟨S1x1x512, .f32⟩
  | 89 => ⟨S8x2048x512, .f32⟩
  | 90 => ⟨S8x2048x512, .f32⟩
  | 91 => ⟨S8x2048x512, .f32⟩
  | 92 => ⟨S1x512, .f32⟩
  | 93 => ⟨S512, .f32⟩
  | 94 => ⟨S8x2048x512, .f32⟩
  | 95 => ⟨S1x1x512, .f32⟩
  | 96 => ⟨S8x2048x512, .f32⟩
  | 97 => ⟨S8x2048x512, .f32⟩
  | 98 => ⟨S8x2048x512, .f32⟩
  | 99 => ⟨S1x512, .f32⟩
  | 100 => ⟨S512, .f32⟩
  | 101 => ⟨S8x2048x512, .f32⟩
  | 102 => ⟨S1x1x512, .f32⟩
  | 103 => ⟨S8x2048x512, .f32⟩
  | 104 => ⟨S8x2048x512, .f32⟩
  | 105 => ⟨S8x2048x512, .f32⟩
  | 106 => ⟨S1x512, .f32⟩
  | 107 => ⟨S512, .f32⟩
  | 108 => ⟨S8x2048x512, .f32⟩
  | 109 => ⟨S1x1x512, .f32⟩
  | 110 => ⟨S8x2048x512, .f32⟩
  | 111 => ⟨S8x2048x512, .f32⟩
  | 112 => ⟨S8x2048x512, .f32⟩
  | 113 => ⟨S1x512, .f32⟩
  | 114 => ⟨S512, .f32⟩
  | 115 => ⟨S8x2048x512, .f32⟩
  | 116 => ⟨S1x1x512, .f32⟩
  | 117 => ⟨S8x2048x512, .f32⟩
  | 118 => ⟨S8x2048x512, .f32⟩
  | 119 => ⟨S8x2048x512, .f32⟩
  | 120 => ⟨S1x512, .f32⟩
  | 121 => ⟨S512, .f32⟩
  | 122 => ⟨S8x2048x512, .f32⟩
  | 123 => ⟨S1x1x512, .f32⟩
  | 124 => ⟨S8x2048x512, .f32⟩
  | 125 => ⟨S8x2048x512, .f32⟩
  | 126 => ⟨S8x2048x512, .f32⟩
  | 127 => ⟨S1x512, .f32⟩
  | _ => ⟨S16384x5632, .bf16⟩

abbrev hbmTy0_2 (i : Nat) : BufTy := match i % 128 with
  | 0 => ⟨S512, .f32⟩
  | 1 => ⟨S8x2048x512, .f32⟩
  | 2 => ⟨S1x1x512, .f32⟩
  | 3 => ⟨S8x2048x512, .f32⟩
  | 4 => ⟨S8x2048x512, .f32⟩
  | 5 => ⟨S8x2048x512, .f32⟩
  | 6 => ⟨S1x512, .f32⟩
  | 7 => ⟨S512, .f32⟩
  | 8 => ⟨S8x2048x512, .f32⟩
  | 9 => ⟨S1x1x512, .f32⟩
  | 10 => ⟨S8x2048x512, .f32⟩
  | 11 => ⟨S8x2048x512, .f32⟩
  | 12 => ⟨S8x2048x512, .f32⟩
  | 13 => ⟨S1x512, .f32⟩
  | 14 => ⟨S512, .f32⟩
  | 15 => ⟨S8x2048x512, .f32⟩
  | 16 => ⟨S1x1x512, .f32⟩
  | 17 => ⟨S8x2048x512, .f32⟩
  | 18 => ⟨S8x2048x512, .f32⟩
  | 19 => ⟨S8x2048x512, .f32⟩
  | 20 => ⟨S1x512, .f32⟩
  | 21 => ⟨S512, .f32⟩
  | 22 => ⟨S8x2048x512, .f32⟩
  | 23 => ⟨S1x1x512, .f32⟩
  | 24 => ⟨S8x2048x512, .f32⟩
  | 25 => ⟨S8x2048x512, .f32⟩
  | 26 => ⟨S8x2048x512, .f32⟩
  | 27 => ⟨S1x512, .f32⟩
  | 28 => ⟨S512, .f32⟩
  | 29 => ⟨S8x2048x512, .f32⟩
  | 30 => ⟨S1x1x512, .f32⟩
  | 31 => ⟨S8x2048x512, .f32⟩
  | 32 => ⟨S8x2048x512, .f32⟩
  | 33 => ⟨S8x2048x512, .f32⟩
  | 34 => ⟨S_, .f32⟩
  | 35 => ⟨S8x2048, .f32⟩
  | 36 => ⟨S8x2048x1, .f32⟩
  | 37 => ⟨S_, .f32⟩
  | 38 => ⟨S8x2048x1, .f32⟩
  | 39 => ⟨S8x2048x1, .f32⟩
  | 40 => ⟨S8x2048x512, .f32⟩
  | 41 => ⟨S8x2048x512, .f32⟩
  | 42 => ⟨S8x2048x512, .f32⟩
  | 43 => ⟨S_, .f32⟩
  | 44 => ⟨S8x2048, .f32⟩
  | 45 => ⟨S8x2048x1, .f32⟩
  | 46 => ⟨S_, .f32⟩
  | 47 => ⟨S8x2048x1, .f32⟩
  | 48 => ⟨S8x2048x1, .f32⟩
  | 49 => ⟨S_, .f32⟩
  | 50 => ⟨S8x2048x1, .f32⟩
  | 51 => ⟨S8x2048x1, .f32⟩
  | 52 => ⟨S8x2048x1, .f32⟩
  | 53 => ⟨S8x2048x512, .f32⟩
  | 54 => ⟨S8x2048x512, .f32⟩
  | 55 => ⟨S1x1x512, .f32⟩
  | 56 => ⟨S8x2048x512, .f32⟩
  | 57 => ⟨S8x2048x512, .f32⟩
  | 58 => ⟨S1x1x512, .f32⟩
  | 59 => ⟨S8x2048x512, .f32⟩
  | 60 => ⟨S8x2048x512, .f32⟩
  | 61 => ⟨S8x2048x512, .f32⟩
  | 62 => ⟨S8x2048x512, .f32⟩
  | 63 => ⟨S_, .f32⟩
  | 64 => ⟨S8x2048x512, .f32⟩
  | 65 => ⟨S8x2048x512, .f32⟩
  | 66 => ⟨S_, .f32⟩
  | 67 => ⟨S8x2048x512, .f32⟩
  | 68 => ⟨S8x2048x512, .f32⟩
  | 69 => ⟨S8x2048x512, .f32⟩
  | 70 => ⟨S8x2048x1024, .f32⟩
  | 71 => ⟨S8x2048x1024, .f32⟩
  | 72 => ⟨S8x2048x1024, .f32⟩
  | 73 => ⟨S_, .f32⟩
  | 74 => ⟨S8x2048x1024, .f32⟩
  | 75 => ⟨S8x2048x1024, .f32⟩
  | 76 => ⟨S_, .f32⟩
  | 77 => ⟨S8x2048x1024, .f32⟩
  | 78 => ⟨S8x2048x1024, .f32⟩
  | 79 => ⟨S8x2048x1024, .f32⟩
  | 80 => ⟨S8x2048x1024, .f32⟩
  | 81 => ⟨S8x2048x1024, .f32⟩
  | 82 => ⟨S_, .f32⟩
  | 83 => ⟨S8x2048x1024, .f32⟩
  | 84 => ⟨S8x2048x1024, .f32⟩
  | 85 => ⟨S_, .f32⟩
  | 86 => ⟨S8x2048x1024, .f32⟩
  | 87 => ⟨S8x2048x1024, .f32⟩
  | 88 => ⟨S8x2048x1024, .f32⟩
  | 89 => ⟨S8x2048x1024, .f32⟩
  | 90 => ⟨S8x2048x1024, .f32⟩
  | 91 => ⟨S8x2048x1024, .f32⟩
  | 92 => ⟨S_, .f32⟩
  | 93 => ⟨S8x2048x1024, .f32⟩
  | 94 => ⟨S8x2048x1024, .f32⟩
  | 95 => ⟨S_, .f32⟩
  | 96 => ⟨S8x2048x1024, .f32⟩
  | 97 => ⟨S8x2048x1024, .f32⟩
  | 98 => ⟨S8x2048x1024, .f32⟩
  | 99 => ⟨S8x2048x1024, .f32⟩
  | 100 => ⟨S8x2048x1024, .f32⟩
  | 101 => ⟨S8x2048x1024, .f32⟩
  | 102 => ⟨S16384x1024, .f32⟩
  | _ => ⟨S16384x5632, .bf16⟩

abbrev hbmTy (i : Nat) : BufTy := match i / 128 with
  | 0 => hbmTy0_0 i
  | 1 => hbmTy0_1 i
  | 2 => hbmTy0_2 i
  | _ => ⟨S16384x5632, .bf16⟩

abbrev bufTy : (tb : Table) → Fin (tcTables nBuf tb) → BufTy
  | .hbm, ⟨i, _⟩ => hbmTy i
  | _, _ => ⟨S16384x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_call0_v0 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_0 : Ref sig .tc := ⟨.hbm, 61, rfl⟩
abbrev main_v46 : Ref sig .tc := ⟨.hbm, 62, rfl⟩
abbrev main_v47 : Ref sig .tc := ⟨.hbm, 63, rfl⟩
abbrev main_cst_1 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_c_2 : Ref sig .tc := ⟨.hbm, 68, rfl⟩
abbrev main_call1_v0 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_3 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_v132 : Ref sig .tc := ⟨.hbm, 152, rfl⟩
abbrev main_v133 : Ref sig .tc := ⟨.hbm, 153, rfl⟩
abbrev main_v134 : Ref sig .tc := ⟨.hbm, 154, rfl⟩
abbrev main_v135 : Ref sig .tc := ⟨.hbm, 155, rfl⟩
abbrev main_v136 : Ref sig .tc := ⟨.hbm, 156, rfl⟩
abbrev main_v137 : Ref sig .tc := ⟨.hbm, 157, rfl⟩
abbrev main_v138 : Ref sig .tc := ⟨.hbm, 158, rfl⟩
abbrev main_v139 : Ref sig .tc := ⟨.hbm, 159, rfl⟩
abbrev main_v140 : Ref sig .tc := ⟨.hbm, 160, rfl⟩
abbrev main_v141 : Ref sig .tc := ⟨.hbm, 161, rfl⟩
abbrev main_v142 : Ref sig .tc := ⟨.hbm, 162, rfl⟩
abbrev main_v143 : Ref sig .tc := ⟨.hbm, 163, rfl⟩
abbrev main_v144 : Ref sig .tc := ⟨.hbm, 164, rfl⟩
abbrev main_v145 : Ref sig .tc := ⟨.hbm, 165, rfl⟩
abbrev main_v146 : Ref sig .tc := ⟨.hbm, 166, rfl⟩
abbrev main_v147 : Ref sig .tc := ⟨.hbm, 167, rfl⟩
abbrev main_v148 : Ref sig .tc := ⟨.hbm, 168, rfl⟩
abbrev main_v149 : Ref sig .tc := ⟨.hbm, 169, rfl⟩
abbrev main_v150 : Ref sig .tc := ⟨.hbm, 170, rfl⟩
abbrev main_v151 : Ref sig .tc := ⟨.hbm, 171, rfl⟩
abbrev main_v152 : Ref sig .tc := ⟨.hbm, 172, rfl⟩
abbrev main_v153 : Ref sig .tc := ⟨.hbm, 173, rfl⟩
abbrev main_v154 : Ref sig .tc := ⟨.hbm, 174, rfl⟩
abbrev main_v155 : Ref sig .tc := ⟨.hbm, 175, rfl⟩
abbrev main_v156 : Ref sig .tc := ⟨.hbm, 176, rfl⟩
abbrev main_v157 : Ref sig .tc := ⟨.hbm, 177, rfl⟩
abbrev main_v158 : Ref sig .tc := ⟨.hbm, 178, rfl⟩
abbrev main_v159 : Ref sig .tc := ⟨.hbm, 179, rfl⟩
abbrev main_v160 : Ref sig .tc := ⟨.hbm, 180, rfl⟩
abbrev main_v161 : Ref sig .tc := ⟨.hbm, 181, rfl⟩
abbrev main_v162 : Ref sig .tc := ⟨.hbm, 182, rfl⟩
abbrev main_v163 : Ref sig .tc := ⟨.hbm, 183, rfl⟩
abbrev main_v164 : Ref sig .tc := ⟨.hbm, 184, rfl⟩
abbrev main_v165 : Ref sig .tc := ⟨.hbm, 185, rfl⟩
abbrev main_v166 : Ref sig .tc := ⟨.hbm, 186, rfl⟩
abbrev main_v167 : Ref sig .tc := ⟨.hbm, 187, rfl⟩
abbrev main_v168 : Ref sig .tc := ⟨.hbm, 188, rfl⟩
abbrev main_v169 : Ref sig .tc := ⟨.hbm, 189, rfl⟩
abbrev main_v170 : Ref sig .tc := ⟨.hbm, 190, rfl⟩
abbrev main_v171 : Ref sig .tc := ⟨.hbm, 191, rfl⟩
abbrev main_v172 : Ref sig .tc := ⟨.hbm, 192, rfl⟩
abbrev main_v173 : Ref sig .tc := ⟨.hbm, 193, rfl⟩
abbrev main_v174 : Ref sig .tc := ⟨.hbm, 194, rfl⟩
abbrev main_v175 : Ref sig .tc := ⟨.hbm, 195, rfl⟩
abbrev main_v176 : Ref sig .tc := ⟨.hbm, 196, rfl⟩
abbrev main_v177 : Ref sig .tc := ⟨.hbm, 197, rfl⟩
abbrev main_v178 : Ref sig .tc := ⟨.hbm, 198, rfl⟩
abbrev main_v179 : Ref sig .tc := ⟨.hbm, 199, rfl⟩
abbrev main_v180 : Ref sig .tc := ⟨.hbm, 200, rfl⟩
abbrev main_v181 : Ref sig .tc := ⟨.hbm, 201, rfl⟩
abbrev main_v182 : Ref sig .tc := ⟨.hbm, 202, rfl⟩
abbrev main_v183 : Ref sig .tc := ⟨.hbm, 203, rfl⟩
abbrev main_v184 : Ref sig .tc := ⟨.hbm, 204, rfl⟩
abbrev main_v185 : Ref sig .tc := ⟨.hbm, 205, rfl⟩
abbrev main_v186 : Ref sig .tc := ⟨.hbm, 206, rfl⟩
abbrev main_v187 : Ref sig .tc := ⟨.hbm, 207, rfl⟩
abbrev main_v188 : Ref sig .tc := ⟨.hbm, 208, rfl⟩
abbrev main_v189 : Ref sig .tc := ⟨.hbm, 209, rfl⟩
abbrev main_v190 : Ref sig .tc := ⟨.hbm, 210, rfl⟩
abbrev main_v191 : Ref sig .tc := ⟨.hbm, 211, rfl⟩
abbrev main_v192 : Ref sig .tc := ⟨.hbm, 212, rfl⟩
abbrev main_v193 : Ref sig .tc := ⟨.hbm, 213, rfl⟩
abbrev main_v194 : Ref sig .tc := ⟨.hbm, 214, rfl⟩
abbrev main_v195 : Ref sig .tc := ⟨.hbm, 215, rfl⟩
abbrev main_v196 : Ref sig .tc := ⟨.hbm, 216, rfl⟩
abbrev main_v197 : Ref sig .tc := ⟨.hbm, 217, rfl⟩
abbrev main_v198 : Ref sig .tc := ⟨.hbm, 218, rfl⟩
abbrev main_v199 : Ref sig .tc := ⟨.hbm, 219, rfl⟩
abbrev main_v200 : Ref sig .tc := ⟨.hbm, 220, rfl⟩
abbrev main_v201 : Ref sig .tc := ⟨.hbm, 221, rfl⟩
abbrev main_v202 : Ref sig .tc := ⟨.hbm, 222, rfl⟩
abbrev main_v203 : Ref sig .tc := ⟨.hbm, 223, rfl⟩
abbrev main_v204 : Ref sig .tc := ⟨.hbm, 224, rfl⟩
abbrev main_v205 : Ref sig .tc := ⟨.hbm, 225, rfl⟩
abbrev main_v206 : Ref sig .tc := ⟨.hbm, 226, rfl⟩
abbrev main_v207 : Ref sig .tc := ⟨.hbm, 227, rfl⟩
abbrev main_v208 : Ref sig .tc := ⟨.hbm, 228, rfl⟩
abbrev main_v209 : Ref sig .tc := ⟨.hbm, 229, rfl⟩
abbrev main_v210 : Ref sig .tc := ⟨.hbm, 230, rfl⟩
abbrev main_v211 : Ref sig .tc := ⟨.hbm, 231, rfl⟩
abbrev main_v212 : Ref sig .tc := ⟨.hbm, 232, rfl⟩
abbrev main_v213 : Ref sig .tc := ⟨.hbm, 233, rfl⟩
abbrev main_v214 : Ref sig .tc := ⟨.hbm, 234, rfl⟩
abbrev main_v215 : Ref sig .tc := ⟨.hbm, 235, rfl⟩
abbrev main_v216 : Ref sig .tc := ⟨.hbm, 236, rfl⟩
abbrev main_v217 : Ref sig .tc := ⟨.hbm, 237, rfl⟩
abbrev main_v218 : Ref sig .tc := ⟨.hbm, 238, rfl⟩
abbrev main_v219 : Ref sig .tc := ⟨.hbm, 239, rfl⟩
abbrev main_v220 : Ref sig .tc := ⟨.hbm, 240, rfl⟩
abbrev main_v221 : Ref sig .tc := ⟨.hbm, 241, rfl⟩
abbrev main_v222 : Ref sig .tc := ⟨.hbm, 242, rfl⟩
abbrev main_v223 : Ref sig .tc := ⟨.hbm, 243, rfl⟩
abbrev main_v224 : Ref sig .tc := ⟨.hbm, 244, rfl⟩
abbrev main_v225 : Ref sig .tc := ⟨.hbm, 245, rfl⟩
abbrev main_v226 : Ref sig .tc := ⟨.hbm, 246, rfl⟩
abbrev main_v227 : Ref sig .tc := ⟨.hbm, 247, rfl⟩
abbrev main_v228 : Ref sig .tc := ⟨.hbm, 248, rfl⟩
abbrev main_v229 : Ref sig .tc := ⟨.hbm, 249, rfl⟩
abbrev main_v230 : Ref sig .tc := ⟨.hbm, 250, rfl⟩
abbrev main_v231 : Ref sig .tc := ⟨.hbm, 251, rfl⟩
abbrev main_v232 : Ref sig .tc := ⟨.hbm, 252, rfl⟩
abbrev main_v233 : Ref sig .tc := ⟨.hbm, 253, rfl⟩
abbrev main_v234 : Ref sig .tc := ⟨.hbm, 254, rfl⟩
abbrev main_v235 : Ref sig .tc := ⟨.hbm, 255, rfl⟩
abbrev main_v236 : Ref sig .tc := ⟨.hbm, 256, rfl⟩
abbrev main_v237 : Ref sig .tc := ⟨.hbm, 257, rfl⟩
abbrev main_v238 : Ref sig .tc := ⟨.hbm, 258, rfl⟩
abbrev main_v239 : Ref sig .tc := ⟨.hbm, 259, rfl⟩
abbrev main_v240 : Ref sig .tc := ⟨.hbm, 260, rfl⟩
abbrev main_v241 : Ref sig .tc := ⟨.hbm, 261, rfl⟩
abbrev main_v242 : Ref sig .tc := ⟨.hbm, 262, rfl⟩
abbrev main_v243 : Ref sig .tc := ⟨.hbm, 263, rfl⟩
abbrev main_v244 : Ref sig .tc := ⟨.hbm, 264, rfl⟩
abbrev main_v245 : Ref sig .tc := ⟨.hbm, 265, rfl⟩
abbrev main_v246 : Ref sig .tc := ⟨.hbm, 266, rfl⟩
abbrev main_v247 : Ref sig .tc := ⟨.hbm, 267, rfl⟩
abbrev main_v248 : Ref sig .tc := ⟨.hbm, 268, rfl⟩
abbrev main_v249 : Ref sig .tc := ⟨.hbm, 269, rfl⟩
abbrev main_v250 : Ref sig .tc := ⟨.hbm, 270, rfl⟩
abbrev main_v251 : Ref sig .tc := ⟨.hbm, 271, rfl⟩
abbrev main_v252 : Ref sig .tc := ⟨.hbm, 272, rfl⟩
abbrev main_v253 : Ref sig .tc := ⟨.hbm, 273, rfl⟩
abbrev main_v254 : Ref sig .tc := ⟨.hbm, 274, rfl⟩
abbrev main_v255 : Ref sig .tc := ⟨.hbm, 275, rfl⟩
abbrev main_v256 : Ref sig .tc := ⟨.hbm, 276, rfl⟩
abbrev main_v257 : Ref sig .tc := ⟨.hbm, 277, rfl⟩
abbrev main_v258 : Ref sig .tc := ⟨.hbm, 278, rfl⟩
abbrev main_v259 : Ref sig .tc := ⟨.hbm, 279, rfl⟩
abbrev main_v260 : Ref sig .tc := ⟨.hbm, 280, rfl⟩
abbrev main_v261 : Ref sig .tc := ⟨.hbm, 281, rfl⟩
abbrev main_v262 : Ref sig .tc := ⟨.hbm, 282, rfl⟩
abbrev main_v263 : Ref sig .tc := ⟨.hbm, 283, rfl⟩
abbrev main_v264 : Ref sig .tc := ⟨.hbm, 284, rfl⟩
abbrev main_v265 : Ref sig .tc := ⟨.hbm, 285, rfl⟩
abbrev main_v266 : Ref sig .tc := ⟨.hbm, 286, rfl⟩
abbrev main_v267 : Ref sig .tc := ⟨.hbm, 287, rfl⟩
abbrev main_v268 : Ref sig .tc := ⟨.hbm, 288, rfl⟩
abbrev main_v269 : Ref sig .tc := ⟨.hbm, 289, rfl⟩
abbrev main_cst_4 : Ref sig .tc := ⟨.hbm, 290, rfl⟩
abbrev main_v270 : Ref sig .tc := ⟨.hbm, 291, rfl⟩
abbrev main_v271 : Ref sig .tc := ⟨.hbm, 292, rfl⟩
abbrev main_cst_5 : Ref sig .tc := ⟨.hbm, 293, rfl⟩
abbrev main_v272 : Ref sig .tc := ⟨.hbm, 294, rfl⟩
abbrev main_v273 : Ref sig .tc := ⟨.hbm, 295, rfl⟩
abbrev main_v274 : Ref sig .tc := ⟨.hbm, 296, rfl⟩
abbrev main_v275 : Ref sig .tc := ⟨.hbm, 297, rfl⟩
abbrev main_v276 : Ref sig .tc := ⟨.hbm, 298, rfl⟩
abbrev main_cst_6 : Ref sig .tc := ⟨.hbm, 299, rfl⟩
abbrev main_v277 : Ref sig .tc := ⟨.hbm, 300, rfl⟩
abbrev main_v278 : Ref sig .tc := ⟨.hbm, 301, rfl⟩
abbrev main_cst_7 : Ref sig .tc := ⟨.hbm, 302, rfl⟩
abbrev main_v279 : Ref sig .tc := ⟨.hbm, 303, rfl⟩
abbrev main_v280 : Ref sig .tc := ⟨.hbm, 304, rfl⟩
abbrev main_cst_8 : Ref sig .tc := ⟨.hbm, 305, rfl⟩
abbrev main_v281 : Ref sig .tc := ⟨.hbm, 306, rfl⟩
abbrev main_v282 : Ref sig .tc := ⟨.hbm, 307, rfl⟩
abbrev main_v283 : Ref sig .tc := ⟨.hbm, 308, rfl⟩
abbrev main_v284 : Ref sig .tc := ⟨.hbm, 309, rfl⟩
abbrev main_v285 : Ref sig .tc := ⟨.hbm, 310, rfl⟩
abbrev main_v286 : Ref sig .tc := ⟨.hbm, 311, rfl⟩
abbrev main_v287 : Ref sig .tc := ⟨.hbm, 312, rfl⟩
abbrev main_v288 : Ref sig .tc := ⟨.hbm, 313, rfl⟩
abbrev main_v289 : Ref sig .tc := ⟨.hbm, 314, rfl⟩
abbrev main_v290 : Ref sig .tc := ⟨.hbm, 315, rfl⟩
abbrev main_v291 : Ref sig .tc := ⟨.hbm, 316, rfl⟩
abbrev main_call2_v0 : Ref sig .tc := ⟨.hbm, 317, rfl⟩
abbrev main_call2_v1 : Ref sig .tc := ⟨.hbm, 318, rfl⟩
abbrev main_call2_cst : Ref sig .tc := ⟨.hbm, 319, rfl⟩
abbrev main_call2_v2 : Ref sig .tc := ⟨.hbm, 320, rfl⟩
abbrev main_call2_v3 : Ref sig .tc := ⟨.hbm, 321, rfl⟩
abbrev main_call2_cst_0 : Ref sig .tc := ⟨.hbm, 322, rfl⟩
abbrev main_call2_v4 : Ref sig .tc := ⟨.hbm, 323, rfl⟩
abbrev main_call2_v5 : Ref sig .tc := ⟨.hbm, 324, rfl⟩
abbrev main_v292 : Ref sig .tc := ⟨.hbm, 325, rfl⟩
abbrev main_v293 : Ref sig .tc := ⟨.hbm, 326, rfl⟩
abbrev main_v294 : Ref sig .tc := ⟨.hbm, 327, rfl⟩
abbrev main_v295 : Ref sig .tc := ⟨.hbm, 328, rfl⟩
abbrev main_cst_9 : Ref sig .tc := ⟨.hbm, 329, rfl⟩
abbrev main_v296 : Ref sig .tc := ⟨.hbm, 330, rfl⟩
abbrev main_v297 : Ref sig .tc := ⟨.hbm, 331, rfl⟩
abbrev main_cst_10 : Ref sig .tc := ⟨.hbm, 332, rfl⟩
abbrev main_v298 : Ref sig .tc := ⟨.hbm, 333, rfl⟩
abbrev main_v299 : Ref sig .tc := ⟨.hbm, 334, rfl⟩
abbrev main_v300 : Ref sig .tc := ⟨.hbm, 335, rfl⟩
abbrev main_v301 : Ref sig .tc := ⟨.hbm, 336, rfl⟩
abbrev main_v302 : Ref sig .tc := ⟨.hbm, 337, rfl⟩
abbrev main_cst_11 : Ref sig .tc := ⟨.hbm, 338, rfl⟩
abbrev main_v303 : Ref sig .tc := ⟨.hbm, 339, rfl⟩
abbrev main_v304 : Ref sig .tc := ⟨.hbm, 340, rfl⟩
abbrev main_cst_12 : Ref sig .tc := ⟨.hbm, 341, rfl⟩
abbrev main_v305 : Ref sig .tc := ⟨.hbm, 342, rfl⟩
abbrev main_v306 : Ref sig .tc := ⟨.hbm, 343, rfl⟩
abbrev main_v307 : Ref sig .tc := ⟨.hbm, 344, rfl⟩
abbrev main_v308 : Ref sig .tc := ⟨.hbm, 345, rfl⟩
abbrev main_v309 : Ref sig .tc := ⟨.hbm, 346, rfl⟩
abbrev main_v310 : Ref sig .tc := ⟨.hbm, 347, rfl⟩
abbrev main_cst_13 : Ref sig .tc := ⟨.hbm, 348, rfl⟩
abbrev main_v311 : Ref sig .tc := ⟨.hbm, 349, rfl⟩
abbrev main_v312 : Ref sig .tc := ⟨.hbm, 350, rfl⟩
abbrev main_cst_14 : Ref sig .tc := ⟨.hbm, 351, rfl⟩
abbrev main_v313 : Ref sig .tc := ⟨.hbm, 352, rfl⟩
abbrev main_v314 : Ref sig .tc := ⟨.hbm, 353, rfl⟩
abbrev main_v315 : Ref sig .tc := ⟨.hbm, 354, rfl⟩
abbrev main_v316 : Ref sig .tc := ⟨.hbm, 355, rfl⟩
abbrev main_v317 : Ref sig .tc := ⟨.hbm, 356, rfl⟩
abbrev main_v318 : Ref sig .tc := ⟨.hbm, 357, rfl⟩
abbrev main_v319 : Ref sig .tc := ⟨.hbm, 358, rfl⟩

abbrev nD : Nat := 1
abbrev τ : Topo := Topo.v7x

variable {F : FTy → Type} [FloatOps F]
-- ==== Kernel4.lean ====
abbrev S16384x5632 : Shape := ⟨2, ![16384, 5632]⟩
abbrev S16384x32 : Shape := ⟨2, ![16384, 32]⟩
abbrev S8x2048x16 : Shape := ⟨3, ![8, 2048, 16]⟩
abbrev S768 : Shape := ⟨1, ![768]⟩
abbrev S768x768 : Shape := ⟨2, ![768, 768]⟩
abbrev S256 : Shape := ⟨1, ![256]⟩
abbrev S256x1024 : Shape := ⟨2, ![256, 1024]⟩
abbrev S16384x16 : Shape := ⟨2, ![16384, 16]⟩
abbrev S_ : Shape := ⟨0, ![]⟩
abbrev S16384x1088 : Shape := ⟨2, ![16384, 1088]⟩
abbrev S16384x96 : Shape := ⟨2, ![16384, 96]⟩
abbrev S16384x1280 : Shape := ⟨2, ![16384, 1280]⟩
abbrev S16384x64 : Shape := ⟨2, ![16384, 64]⟩
abbrev S16384x128 : Shape := ⟨2, ![16384, 128]⟩
abbrev S1x768 : Shape := ⟨2, ![1, 768]⟩
abbrev S1x256 : Shape := ⟨2, ![1, 256]⟩
abbrev S768x8x96 : Shape := ⟨3, ![768, 8, 96]⟩
abbrev S768x8x32 : Shape := ⟨3, ![768, 8, 32]⟩
abbrev S768x8x128 : Shape := ⟨3, ![768, 8, 128]⟩
abbrev S768x1024 : Shape := ⟨2, ![768, 1024]⟩
abbrev S256x8x128 : Shape := ⟨3, ![256, 8, 128]⟩
abbrev S256x8x64 : Shape := ⟨3, ![256, 8, 64]⟩
abbrev S8 : Shape := ⟨1, ![8]⟩
abbrev S1x8x1 : Shape := ⟨3, ![1, 8, 1]⟩
abbrev S256x2048 : Shape := ⟨2, ![256, 2048]⟩
abbrev S16384x1024 : Shape := ⟨2, ![16384, 1024]⟩
abbrev S512x768 : Shape := ⟨2, ![512, 768]⟩
abbrev S512x256 : Shape := ⟨2, ![512, 256]⟩
abbrev S512x128 : Shape := ⟨2, ![512, 128]⟩
abbrev S512x1024 : Shape := ⟨2, ![512, 1024]⟩
abbrev S512 : Shape := ⟨1, ![512]⟩
abbrev S512x1 : Shape := ⟨2, ![512, 1]⟩
abbrev S512x2048 : Shape := ⟨2, ![512, 2048]⟩

abbrev nBuf : Space → Nat
  | .hbm => 90
  | .vmem => 22
  | .smem => 0
  | _ => 0

abbrev bufTy : (tb : Table) → Fin (tcTables nBuf tb) → BufTy
  | .hbm, ⟨0, _⟩ => ⟨S16384x5632, .bf16⟩
  | .hbm, ⟨1, _⟩ => ⟨S16384x32, .bf16⟩
  | .hbm, ⟨2, _⟩ => ⟨S8x2048x16, .f32⟩
  | .hbm, ⟨3, _⟩ => ⟨S8x2048x16, .f32⟩
  | .hbm, ⟨4, _⟩ => ⟨S768, .f32⟩
  | .hbm, ⟨5, _⟩ => ⟨S768x768, .f32⟩
  | .hbm, ⟨6, _⟩ => ⟨S256, .f32⟩
  | .hbm, ⟨7, _⟩ => ⟨S256x1024, .f32⟩
  | .hbm, ⟨8, _⟩ => ⟨S16384x32, .f32⟩
  | .hbm, ⟨9, _⟩ => ⟨S16384x16, .f32⟩
  | .hbm, ⟨10, _⟩ => ⟨S16384x16, .f32⟩
  | .hbm, ⟨11, _⟩ => ⟨S_, .f32⟩
  | .hbm, ⟨12, _⟩ => ⟨S16384x1088, .f32⟩
  | .hbm, ⟨13, _⟩ => ⟨S_, .f32⟩
  | .hbm, ⟨14, _⟩ => ⟨S16384x96, .f32⟩
  | .hbm, ⟨15, _⟩ => ⟨S16384x16, .f32⟩
  | .hbm, ⟨16, _⟩ => ⟨S16384x16, .f32⟩
  | .hbm, ⟨17, _⟩ => ⟨S_, .f32⟩
  | .hbm, ⟨18, _⟩ => ⟨S16384x32, .f32⟩
  | .hbm, ⟨19, _⟩ => ⟨S16384x1280, .f32⟩
  | .hbm, ⟨20, _⟩ => ⟨S_, .f32⟩
  | .hbm, ⟨21, _⟩ => ⟨S16384x64, .f32⟩
  | .hbm, ⟨22, _⟩ => ⟨S_, .f32⟩
  | .hbm, ⟨23, _⟩ => ⟨S16384x32, .f32⟩
  | .hbm, ⟨24, _⟩ => ⟨S16384x128, .f32⟩
  | .hbm, ⟨25, _⟩ => ⟨S_, .f32⟩
  | .hbm, ⟨26, _⟩ => ⟨S16384x64, .f32⟩
  | .hbm, ⟨27, _⟩ => ⟨S16384x16, .f32⟩
  | .hbm, ⟨28, _⟩ => ⟨S_, .f32⟩
  | .hbm, ⟨29, _⟩ => ⟨S16384x32, .f32⟩
  | .hbm, ⟨30, _⟩ => ⟨S16384x128, .f32⟩
  | .hbm, ⟨31, _⟩ => ⟨S16384x1280, .bf16⟩
  | .hbm, ⟨32, _⟩ => ⟨S1x768, .f32⟩
  | .hbm, ⟨33, _⟩ => ⟨S1x256, .f32⟩
  | .hbm, ⟨34, _⟩ => ⟨S_, .f32⟩
  | .hbm, ⟨35, _⟩ => ⟨S768x768, .f32⟩
  | .hbm, ⟨36, _⟩ => ⟨S768x768, .f32⟩
  | .hbm, ⟨37, _⟩ => ⟨S768x8x96, .f32⟩
  | .hbm, ⟨38, _⟩ => ⟨S_, .f32⟩
  | .hbm, ⟨39, _⟩ => ⟨S768x8x32, .f32⟩
  | .hbm, ⟨40, _⟩ => ⟨S768x8x128, .f32⟩
  | .hbm, ⟨41, _⟩ => ⟨S768x1024, .f32⟩
  | .hbm, ⟨42, _⟩ => ⟨S768x1024, .bf16⟩
  | .hbm, ⟨43, _⟩ => ⟨S256x8x128, .f32⟩
  | .hbm, ⟨44, _⟩ => ⟨S256x8x64, .f32⟩
  | .hbm, ⟨45, _⟩ => ⟨S256x8x64, .f32⟩
  | .hbm, ⟨46, _⟩ => ⟨S_, .f32⟩
  | .hbm, ⟨47, _⟩ => ⟨S256x8x64, .f32⟩
  | .hbm, ⟨48, _⟩ => ⟨S_, .f32⟩
  | .hbm, ⟨49, _⟩ => ⟨S256x8x64, .f32⟩
  | .hbm, ⟨50, _⟩ => ⟨S256x8x128, .f32⟩
  | .hbm, ⟨51, _⟩ => ⟨S256x1024, .f32⟩
  | .hbm, ⟨52, _⟩ => ⟨S8, .i32⟩
  | .hbm, ⟨53, _⟩ => ⟨S_, .i32⟩
  | .hbm, ⟨54, _⟩ => ⟨S_, .i32⟩
  | .hbm, ⟨55, _⟩ => ⟨S_, .i32⟩
  | .hbm, ⟨56, _⟩ => ⟨S_, .i1⟩
  | .hbm, ⟨57, _⟩ => ⟨S_, .i32⟩
  | .hbm, ⟨58, _⟩ => ⟨S_, .i32⟩
  | .hbm, ⟨59, _⟩ => ⟨S8, .i32⟩
  | .hbm, ⟨60, _⟩ => ⟨S8, .i32⟩
  | .hbm, ⟨61, _⟩ => ⟨S_, .i32⟩
  | .hbm, ⟨62, _⟩ => ⟨S8, .i32⟩
  | .hbm, ⟨63, _⟩ => ⟨S8, .i1⟩
  | .hbm, ⟨64, _⟩ => ⟨S_, .i32⟩
  | .hbm, ⟨65, _⟩ => ⟨S8, .i32⟩
  | .hbm, ⟨66, _⟩ => ⟨S8, .i1⟩
  | .hbm, ⟨67, _⟩ => ⟨S_, .i32⟩
  | .hbm, ⟨68, _⟩ => ⟨S_, .i1⟩
  | .hbm, ⟨69, _⟩ => ⟨S8, .i1⟩
  | .hbm, ⟨70, _⟩ => ⟨S8, .i1⟩
  | .hbm, ⟨71, _⟩ => ⟨S8, .i1⟩
  | .hbm, ⟨72, _⟩ => ⟨S8, .i32⟩
  | .hbm, ⟨73, _⟩ => ⟨S8, .i32⟩
  | .hbm, ⟨74, _⟩ => ⟨S8, .i32⟩
  | .hbm, ⟨75, _⟩ => ⟨S_, .i32⟩
  | .hbm, ⟨76, _⟩ => ⟨S8, .i32⟩
  | .hbm, ⟨77, _⟩ => ⟨S8, .i1⟩
  | .hbm, ⟨78, _⟩ => ⟨S1x8x1, .i1⟩
  | .hbm, ⟨79, _⟩ => ⟨S256x8x64, .i1⟩
  | .hbm, ⟨80, _⟩ => ⟨S256x8x64, .f32⟩
  | .hbm, ⟨81, _⟩ => ⟨S256x8x64, .i1⟩
  | .hbm, ⟨82, _⟩ => ⟨S256x8x64, .f32⟩
  | .hbm, ⟨83, _⟩ => ⟨S256x8x128, .f32⟩
  | .hbm, ⟨84, _⟩ => ⟨S256x1024, .f32⟩
  | .hbm, ⟨85, _⟩ => ⟨S256x2048, .f32⟩
  | .hbm, ⟨86, _⟩ => ⟨S256x2048, .bf16⟩
  | .hbm, ⟨87, _⟩ => ⟨S16384x1024, .bf16⟩
  | .hbm, ⟨88, _⟩ => ⟨S16384x1024, .bf16⟩
  | .hbm, ⟨89, _⟩ => ⟨S16384x1024, .bf16⟩
  | .local _ .vmem, ⟨0, _⟩ => ⟨S512x768, .bf16⟩
  | .local _ .vmem, ⟨1, _⟩ => ⟨S512x768, .bf16⟩
  | .local _ .vmem, ⟨2, _⟩ => ⟨S512x256, .bf16⟩
  | .local _ .vmem, ⟨3, _⟩ => ⟨S512x256, .bf16⟩
  | .local _ .vmem, ⟨4, _⟩ => ⟨S512x128, .bf16⟩
  | .local _ .vmem, ⟨5, _⟩ => ⟨S512x128, .bf16⟩
  | .local _ .vmem, ⟨6, _⟩ => ⟨S512x128, .bf16⟩
  | .local _ .vmem, ⟨7, _⟩ => ⟨S512x128, .bf16⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S1x768, .f32⟩
  | .local _ .vmem, ⟨13, _⟩ => ⟨S1x256, .f32⟩
  | .local _ .vmem, ⟨14, _⟩ => ⟨S768x1024, .bf16⟩
  | .local _ .vmem, ⟨15, _⟩ => ⟨S256x2048, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | _, _ => ⟨S16384x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_cst_3 : Ref sig .tc := ⟨.hbm, 22, rfl⟩
abbrev main_v10 : Ref sig .tc := ⟨.hbm, 23, rfl⟩
abbrev main_v11 : Ref sig .tc := ⟨.hbm, 24, rfl⟩
abbrev main_cst_4 : Ref sig .tc := ⟨.hbm, 25, rfl⟩
abbrev main_v12 : Ref sig .tc := ⟨.hbm, 26, rfl⟩
abbrev main_v13 : Ref sig .tc := ⟨.hbm, 27, rfl⟩
abbrev main_cst_5 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_6 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_7 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_8 : Ref sig .tc := ⟨.hbm, 46, rfl⟩
abbrev main_v29 : Ref sig .tc := ⟨.hbm, 47, rfl⟩
abbrev main_cst_9 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c : Ref sig .tc := ⟨.hbm, 53, rfl⟩
abbrev main_call0_v0 : Ref sig .tc := ⟨.hbm, 54, rfl⟩
abbrev main_call0_c : Ref sig .tc := ⟨.hbm, 55, rfl⟩
abbrev main_call0_v1 : Ref sig .tc := ⟨.hbm, 56, rfl⟩
abbrev main_call0_c_0 : Ref sig .tc := ⟨.hbm, 57, rfl⟩
abbrev main_call0_v2 : Ref sig .tc := ⟨.hbm, 58, rfl⟩
abbrev main_call0_v3 : Ref sig .tc := ⟨.hbm, 59, rfl⟩
abbrev main_call0_v4 : Ref sig .tc := ⟨.hbm, 60, rfl⟩
abbrev main_call0_c_1 : Ref sig .tc := ⟨.hbm, 61, rfl⟩
abbrev main_call0_v5 : Ref sig .tc := ⟨.hbm, 62, rfl⟩
abbrev main_call0_v6 : Ref sig .tc := ⟨.hbm, 63, rfl⟩
abbrev main_call0_c_2 : Ref sig .tc := ⟨.hbm, 64, rfl⟩
abbrev main_call0_v7 : Ref sig .tc := ⟨.hbm, 65, rfl⟩
abbrev main_call0_v8 : Ref sig .tc := ⟨.hbm, 66, rfl⟩
abbrev main_call0_c_3 : Ref sig .tc := ⟨.hbm, 67, rfl⟩
abbrev main_call0_v9 : Ref sig .tc := ⟨.hbm, 68, rfl⟩
abbrev main_call0_v10 : Ref sig .tc := ⟨.hbm, 69, rfl⟩
abbrev main_call0_v11 : Ref sig .tc := ⟨.hbm, 70, rfl⟩
abbrev main_call0_v12 : Ref sig .tc := ⟨.hbm, 71, rfl⟩
abbrev main_call0_v13 : Ref sig .tc := ⟨.hbm, 72, rfl⟩
abbrev main_call0_v14 : Ref sig .tc := ⟨.hbm, 73, rfl⟩
abbrev main_v34 : Ref sig .tc := ⟨.hbm, 74, rfl⟩
abbrev main_c_10 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_call1_v0 : Ref sig .tc := ⟨.hbm, 79, rfl⟩
abbrev main_v38 : Ref sig .tc := ⟨.hbm, 80, rfl⟩
abbrev main_call2_v0 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44_0 : Ref sig .tc := ⟨.hbm, 87, rfl⟩
abbrev main_v44_1 : Ref sig .tc := ⟨.hbm, 88, rfl⟩
abbrev main_v44_2 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_1 (i : grid0.Coords) : Fin 2 → Nat :=
  let arg0 : BitVec 32 := BitVec.ofNat 32 (i 0).val
  let c21_i32 : BitVec 32 := 21#32
  let c0_i32 : BitVec 32 := 0#32
  ![arg0.toNat, c21_i32.toNat]

def cc0_transform_2 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_3 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S768x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference4Ideal.lean ====
abbrev S16384x5632 : Shape := ⟨2, ![16384, 5632]⟩
abbrev S16384x32 : Shape := ⟨2, ![16384, 32]⟩
abbrev S8x2048x16 : Shape := ⟨3, ![8, 2048, 16]⟩
abbrev S768 : Shape := ⟨1, ![768]⟩
abbrev S768x768 : Shape := ⟨2, ![768, 768]⟩
abbrev S256 : Shape := ⟨1, ![256]⟩
abbrev S256x1024 : Shape := ⟨2, ![256, 1024]⟩
abbrev S16384x16 : Shape := ⟨2, ![16384, 16]⟩
abbrev S16384x768 : Shape := ⟨2, ![16384, 768]⟩
abbrev S16384x256 : Shape := ⟨2, ![16384, 256]⟩
abbrev S_ : Shape := ⟨0, ![]⟩
abbrev S16384 : Shape := ⟨1, ![16384]⟩
abbrev S16384x1 : Shape := ⟨2, ![16384, 1]⟩
abbrev S1x768 : Shape := ⟨2, ![1, 768]⟩
abbrev S16384x8x96 : Shape := ⟨3, ![16384, 8, 96]⟩
abbrev S16384x8x32 : Shape := ⟨3, ![16384, 8, 32]⟩
abbrev S16384x1x16 : Shape := ⟨3, ![16384, 1, 16]⟩
abbrev S16384x8x16 : Shape := ⟨3, ![16384, 8, 16]⟩
abbrev S1x256 : Shape := ⟨2, ![1, 256]⟩
abbrev S16384x1024 : Shape := ⟨2, ![16384, 1024]⟩
abbrev S16384x8x128 : Shape := ⟨3, ![16384, 8, 128]⟩
abbrev S16384x8x64 : Shape := ⟨3, ![16384, 8, 64]⟩
abbrev S16384x1x32 : Shape := ⟨3, ![16384, 1, 32]⟩
abbrev S16384x4x2x64 : Shape := ⟨4, ![16384, 4, 2, 64]⟩
abbrev S16384x4x128 : Shape := ⟨3, ![16384, 4, 128]⟩
abbrev S16384x4x1x64 : Shape := ⟨4, ![16384, 4, 1, 64]⟩
abbrev S16384x4x64 : Shape := ⟨3, ![16384, 4, 64]⟩
abbrev S16384x4x256 : Shape := ⟨3, ![16384, 4, 256]⟩

abbrev nBuf : Space → Nat
  | .hbm => 101
  | .vmem => 0
  | .smem => 0
  | _ => 0

abbrev bufTy : (tb : Table) → Fin (tcTables nBuf tb) → BufTy
  | .hbm, ⟨0, _⟩ => ⟨S16384x5632, .bf16⟩
  | .hbm, ⟨1, _⟩ => ⟨S16384x32, .bf16⟩
  | .hbm, ⟨2, _⟩ => ⟨S8x2048x16, .f32⟩
  | .hbm, ⟨3, _⟩ => ⟨S8x2048x16, .f32⟩
  | .hbm, ⟨4, _⟩ => ⟨S768, .f32⟩
  | .hbm, ⟨5, _⟩ => ⟨S768x768, .f32⟩
  | .hbm, ⟨6, _⟩ => ⟨S256, .f32⟩
  | .hbm, ⟨7, _⟩ => ⟨S256x1024, .f32⟩
  | .hbm, ⟨8, _⟩ => ⟨S16384x16, .f32⟩
  | .hbm, ⟨9, _⟩ => ⟨S16384x16, .f32⟩
  | .hbm, ⟨10, _⟩ => ⟨S16384x5632, .f32⟩
  | .hbm, ⟨11, _⟩ => ⟨S16384x32, .f32⟩
  | .hbm, ⟨12, _⟩ => ⟨S16384x768, .f32⟩
  | .hbm, ⟨13, _⟩ => ⟨S16384x256, .f32⟩
  | .hbm, ⟨14, _⟩ => ⟨S16384x768, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S16384x1, .f32⟩
  | .hbm, ⟨25, _⟩ => ⟨S16384x768, .f32⟩
  | .hbm, ⟨26, _⟩ => ⟨S16384x768, .f32⟩
  | .hbm, ⟨27, _⟩ => ⟨S1x768, .f32⟩
  | .hbm, ⟨28, _⟩ => ⟨S16384x768, .f32⟩
  | .hbm, ⟨29, _⟩ => ⟨S16384x768, .f32⟩
  | .hbm, ⟨30, _⟩ => ⟨S16384x768, .f32⟩
  | .hbm, ⟨31, _⟩ => ⟨S16384x8x96, .f32⟩
  | .hbm, ⟨32, _⟩ => ⟨S_, .f32⟩
  | .hbm, ⟨33, _⟩ => ⟨S16384x8x96, .f32⟩
  | .hbm, ⟨34, _⟩ => ⟨S16384x8x96, .f32⟩
  | .hbm, ⟨35, _⟩ => ⟨S16384x8x32, .f32⟩
  | .hbm, ⟨36, _⟩ => ⟨S16384x1x16, .f32⟩
  | .hbm, ⟨37, _⟩ => ⟨S16384x1x16, .f32⟩
  | .hbm, ⟨38, _⟩ => ⟨S16384x8x16, .f32⟩
  | .hbm, ⟨39, _⟩ => ⟨S16384x8x16, .f32⟩
  | .hbm, ⟨40, _⟩ => ⟨S16384x8x16, .f32⟩
  | .hbm, ⟨41, _⟩ => ⟨S16384x8x16, .f32⟩
  | .hbm, ⟨42, _⟩ => ⟨S16384x8x16, .f32⟩
  | .hbm, ⟨43, _⟩ => ⟨S16384x8x16, .f32⟩
  | .hbm, ⟨44, _⟩ => ⟨S16384x8x16, .f32⟩
  | .hbm, ⟨45, _⟩ => ⟨S16384x8x16, .f32⟩
  | .hbm, ⟨46, _⟩ => ⟨S16384x8x16, .f32⟩
  | .hbm, ⟨47, _⟩ => ⟨S16384x8x16, .f32⟩
  | .hbm, ⟨48, _⟩ => ⟨S16384x8x16, .f32⟩
  | .hbm, ⟨49, _⟩ => ⟨S16384x8x16, .f32⟩
  | .hbm, ⟨50, _⟩ => ⟨S16384x8x32, .f32⟩
  | .hbm, ⟨51, _⟩ => ⟨S16384x256, .f32⟩
  | .hbm, ⟨52, _⟩ => ⟨S_, .f32⟩
  | .hbm, ⟨53, _⟩ => ⟨S16384, .f32⟩
  | .hbm, ⟨54, _⟩ => ⟨S16384x1, .f32⟩
  | .hbm, ⟨55, _⟩ => ⟨S_, .f32⟩
  | .hbm, ⟨56, _⟩ => ⟨S16384x1, .f32⟩
  | .hbm, ⟨57, _⟩ => ⟨S16384x1, .f32⟩
  | .hbm, ⟨58, _⟩ => ⟨S_, .f32⟩
  | .hbm, ⟨59, _⟩ => ⟨S16384x1, .f32⟩
  | .hbm, ⟨60, _⟩ => ⟨S16384x1, .f32⟩
  | .hbm, ⟨61, _⟩ => ⟨S16384x1, .f32⟩
  | .hbm, ⟨62, _⟩ => ⟨S16384x256, .f32⟩
  | .hbm, ⟨63, _⟩ => ⟨S16384x256, .f32⟩
  | .hbm, ⟨64, _⟩ => ⟨S1x256, .f32⟩
  | .hbm, ⟨65, _⟩ => ⟨S16384x256, .f32⟩
  | .hbm, ⟨66, _⟩ => ⟨S16384x256, .f32⟩
  | .hbm, ⟨67, _⟩ => ⟨S16384x1024, .f32⟩
  | .hbm, ⟨68, _⟩ => ⟨S16384x8x128, .f32⟩
  | .hbm, ⟨69, _⟩ => ⟨S16384x8x64, .f32⟩
  | .hbm, ⟨70, _⟩ => ⟨S16384x8x64, .f32⟩
  | .hbm, ⟨71, _⟩ => ⟨S16384x16, .f32⟩
  | .hbm, ⟨72, _⟩ => ⟨S16384x16, .f32⟩
  | .hbm, ⟨73, _⟩ => ⟨S16384x16, .f32⟩
  | .hbm, ⟨74, _⟩ => ⟨S16384x16, .f32⟩
  | .hbm, ⟨75, _⟩ => ⟨S16384x16, .f32⟩
  | .hbm, ⟨76, _⟩ => ⟨S16384x16, .f32⟩
  | .hbm, ⟨77, _⟩ => ⟨S16384x16, .f32⟩
  | .hbm, ⟨78, _⟩ => ⟨S16384x16, .f32⟩
  | .hbm, ⟨79, _⟩ => ⟨S16384x32, .f32⟩
  | .hbm, ⟨80, _⟩ => ⟨S16384x1x32, .f32⟩
  | .hbm, ⟨81, _⟩ => ⟨S16384x8x32, .f32⟩
  | .hbm, ⟨82, _⟩ => ⟨S_, .f32⟩
  | .hbm, ⟨83, _⟩ => ⟨S16384x8x32, .f32⟩
  | .hbm, ⟨84, _⟩ => ⟨S16384x8x64, .f32⟩
  | .hbm, ⟨85, _⟩ => ⟨S16384x8x128, .f32⟩
  | .hbm, ⟨86, _⟩ => ⟨S16384x8x128, .f32⟩
  | .hbm, ⟨87, _⟩ => ⟨S16384x4x2x64, .f32⟩
  | .hbm, ⟨88, _⟩ => ⟨S_, .f32⟩
  | .hbm, ⟨89, _⟩ => ⟨S16384x4x128, .f32⟩
  | .hbm, ⟨90, _⟩ => ⟨S16384x4x1x64, .f32⟩
  | .hbm, ⟨91, _⟩ => ⟨S16384x4x64, .f32⟩
  | .hbm, ⟨92, _⟩ => ⟨S16384x4x1x64, .f32⟩
  | .hbm, ⟨93, _⟩ => ⟨S16384x4x64, .f32⟩
  | .hbm, ⟨94, _⟩ => ⟨S16384x4x256, .f32⟩
  | .hbm, ⟨95, _⟩ => ⟨S16384x1024, .f32⟩
  | .hbm, ⟨96, _⟩ => ⟨S16384x1024, .bf16⟩
  | .hbm, ⟨97, _⟩ => ⟨S16384x1024, .f32⟩
  | .hbm, ⟨98, _⟩ => ⟨S16384x1024, .bf16⟩
  | .hbm, ⟨99, _⟩ => ⟨S16384x1024, .f32⟩
  | .hbm, ⟨100, _⟩ => ⟨S16384x1024, .bf16⟩
  | _, _ => ⟨S16384x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_3 : Ref sig .tc := ⟨.hbm, 52, rfl⟩
abbrev main_v40 : Ref sig .tc := ⟨.hbm, 53, rfl⟩
abbrev main_v41 : Ref sig .tc := ⟨.hbm, 54, rfl⟩
abbrev main_cst_4 : Ref sig .tc := ⟨.hbm, 55, rfl⟩
abbrev main_v42 : Ref sig .tc := ⟨.hbm, 56, rfl⟩
abbrev main_v43 : Ref sig .tc := ⟨.hbm, 57, rfl⟩
abbrev main_cst_5 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_cst_6 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_cst_7 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩

abbrev nD : Nat := 1
abbrev τ : Topo := Topo.v7x

variable {F : FTy → Type} [FloatOps F]
-- ==== Proof.Ring.lean ====
/-
  The ring of three slots through which the experts' kernel brings its sorted rows in.

  The kernel keeps three row tiles of the packed rows in flight: tile `u` goes to slot `u mod 3` and completes on
  semaphore `u mod 3`; at grid point `t` the kernel starts the transfer of tile `t + 2`, waits for that of tile `t` and
  reads it. This file names a slot, its cell and a tile of the rows, states what a slot holds while it is free and while
  a transfer into it is in flight, and puts the kernel's own chains of index arithmetic in closed form.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Ring
public import Idealize.ShloMosaic.Lib.Ring.Window
public import Idealize.ShloMosaic.Lib.Tactic

@[expose] public section

noncomputable section

namespace Cert.Proof.Experts

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The resources of the whole program: the pipeline library's, beside the counters the transfers take tokens from. -/
abbrev UU : Type := UR sig nD τ × Counters

local notation "𝕄" => MT nD τ sig Unit (Elt F) ℕ UU ℕ

/-- The contents of memref `M`'s buffer on core `c`. -/
abbrev Bf (F : FTy → Type) (c : Dev nD) {sp : Space} {S : Shape} {e : EltTy} (M : Memref sig .tc sp S e) : Type :=
  Buf (Elt F) (M.view.loc (c : Thread nD τ))

/-- Memref `M`'s buffer held whole on core `c` at contents `f`. -/
abbrev pt (c : Dev nD) {sp : Space} {S : Shape} {e : EltTy} (M : Memref sig .tc sp S e) (f : Bf F c M) : sProp 𝕄 :=
  M.view.loc (c : Thread nD τ) ↦{fullShare} f

/-- The packed rows, the ring buffer and the count of tiles as memrefs. -/
abbrev rowsM : Memref sig .tc .hbm S196608x128 .i32 := Memref.whole main_arg2
abbrev ringM : Memref sig .tc .vmem S3x2048x128 .i32 := Memref.whole cc0_scratch0
abbrev cntM : Memref sig .tc .smem S1 .i32 := Memref.whole main_arg1

/-- The slot of the ring buffer that begins at `o`. -/
abbrev slotAt (o : Fin 3 → ℕ) (h : ∀ a, o a + S1x2048x128.size a ≤ S3x2048x128.size a) : Memref sig .tc .vmem S2048x128 .i32 :=
  (ringM.slice (Rect.unit (s := S3x2048x128) o S1x2048x128.size h) (fun _ => rfl)).squeeze S2048x128 squeezes_S1x2048x128_S2048x128

/-- The semaphore of the three that stands at `o`. -/
abbrev cellAt (o : Fin 1 → ℕ) (h : ∀ a, o a + S1.size a ≤ S3.size a) : DmaSem sig :=
  ((cc0_scratch1.slice (Rect.unit (s := S3) o S1.size h)).squeeze S_ squeezes_S1_S_).sem

/-- The tile of the packed rows that begins at `o`. -/
abbrev tileAt (o : Fin 2 → ℕ) (h : ∀ a, o a + S2048x128.size a ≤ S196608x128.size a) : Memref sig .tc .hbm S2048x128 .i32 :=
  rowsM.slice (Rect.unit (s := S196608x128) o S2048x128.size h) (fun _ => rfl)

/-- Slot `k`'s part of the share of the packed rows. -/
abbrev tok (k : Fin 3) : PosShare TreeShare := Transfers.shareTok fullShare 3 k

/-- A free slot: its semaphore at zero, its elements at anything, its part of the rows at home. -/
def FreeAt (c : Dev nD) (X : Bf F c rowsM) (k : Fin 3) (o : Fin 3 → ℕ) (h : ∀ a, o a + S1x2048x128.size a ≤ S3x2048x128.size a)
    (oc : Fin 1 → ℕ) (hc : ∀ a, oc a + S1.size a ≤ S3.size a) : sProp 𝕄 :=
  iprop(semVal ((c : Thread nD τ), SemLoc.dma (cellAt oc hc)) 0
    ∗ (∃ f, (slotAt o h).view.loc (c : Thread nD τ) ↦[(slotAt o h).view.set]{fullShare} f)
    ∗ (rowsM.view.loc (c : Thread nD τ) ↦{tok k} X))

/-- A slot a transfer is on its way to: when the transfer completes, the slot holds the tile that begins at `ox` and the
    slot's part of that tile's elements comes home. -/
def FlyAt (c : Dev nD) (X : Bf F c rowsM) (k : Fin 3) (o : Fin 3 → ℕ) (h : ∀ a, o a + S1x2048x128.size a ≤ S3x2048x128.size a)
    (oc : Fin 1 → ℕ) (hc : ∀ a, oc a + S1.size a ≤ S3.size a)
    (ox : Fin 2 → ℕ) (hx : ∀ a, ox a + S2048x128.size a ≤ S196608x128.size a) : sProp 𝕄 :=
  iprop((∃ f, Transfers.Flight (countersEmb (U := UU)) (c : Thread nD τ) (SemLoc.dma (cellAt oc hc)) () (slotAt o h).view.dmaCredit
      iprop(((slotAt o h).view.loc (c : Thread nD τ) ↦[(slotAt o h).view.set]{fullShare}
          (slotAt o h).view.writes (Elt F) f [⟨Rect.whole S2048x128, ReadAs.same.apply ((tileAt ox hx).view.read (Elt F) X)⟩])
        ∗ (rowsM.view.loc (c : Thread nD τ) ↦[(tileAt ox hx).view.set]{tok k} X)))
    ∗ (rowsM.view.loc (c : Thread nD τ) ↦[Finset.univ \ (tileAt ox hx).view.set]{tok k} X))

/-- A free slot, its offsets replaced by equal ones. -/
theorem FreeAt_congr (c : Dev nD) (X : Bf F c rowsM) (k : Fin 3) {o o' : Fin 3 → ℕ} (h : ∀ a, o a + S1x2048x128.size a ≤ S3x2048x128.size a)
    (h' : ∀ a, o' a + S1x2048x128.size a ≤ S3x2048x128.size a) {oc oc' : Fin 1 → ℕ} (hc : ∀ a, oc a + S1.size a ≤ S3.size a)
    (hc' : ∀ a, oc' a + S1.size a ≤ S3.size a) (e : o = o') (ec : oc = oc') :
    (FreeAt c X k o h oc hc : sProp 𝕄) = FreeAt c X k o' h' oc' hc' := by subst e; subst ec; rfl

/-- A slot in flight, its offsets replaced by equal ones. -/
theorem FlyAt_congr (c : Dev nD) (X : Bf F c rowsM) (k : Fin 3) {o o' : Fin 3 → ℕ} (h : ∀ a, o a + S1x2048x128.size a ≤ S3x2048x128.size a)
    (h' : ∀ a, o' a + S1x2048x128.size a ≤ S3x2048x128.size a) {oc oc' : Fin 1 → ℕ} (hc : ∀ a, oc a + S1.size a ≤ S3.size a)
    (hc' : ∀ a, oc' a + S1.size a ≤ S3.size a) {ox ox' : Fin 2 → ℕ} (hx : ∀ a, ox a + S2048x128.size a ≤ S196608x128.size a)
    (hx' : ∀ a, ox' a + S2048x128.size a ≤ S196608x128.size a) (e : o = o') (ec : oc = oc') (ex : ox = ox') :
    (FlyAt c X k o h oc hc ox hx : sProp 𝕄) = FlyAt c X k o' h' oc' hc' ox' hx' := by subst e; subst ec; subst ex; rfl

/-! ## The offsets in closed form -/

/-- Where slot `k`, its semaphore and tile `u` begin. -/
abbrev oS (k : ℕ) : Fin 3 → ℕ := ![k, 0, 0]
abbrev oC (k : ℕ) : Fin 1 → ℕ := ![k]
abbrev oX (u : ℕ) : Fin 2 → ℕ := ![2048 * u, 0]

theorem oS_inb (k : Fin 3) : ∀ a, oS k.val a + S1x2048x128.size a ≤ S3x2048x128.size a := by revert k; decide
theorem oC_inb (k : Fin 3) : ∀ a, oC k.val a + S1.size a ≤ S3.size a := by revert k; decide
theorem oX_inb (u : Fin 96) : ∀ a, oX u.val a + S2048x128.size a ≤ S196608x128.size a := by revert u; decide

theorem off2_eq : ∀ i : grid0.Coords, k0_off2 i = oC (((i 0).val + 2) % 3) := by decide +kernel
theorem off3_eq : ∀ i : grid0.Coords, k0_off3 i = oS (((i 0).val + 2) % 3) := by decide +kernel
theorem off4_eq : ∀ i : grid0.Coords, k0_off4 i = oX ((i 0).val + 2) := by decide +kernel
theorem off5_eq : ∀ i : grid0.Coords, k0_off5 i = oC ((i 0).val % 3) := by decide +kernel
theorem off6_eq : ∀ i : grid0.Coords, k0_off6 i = oS ((i 0).val % 3) := by decide +kernel
theorem off7_eq : ∀ i : grid0.Coords, k0_off7 i = oX ((i 0).val) := by decide +kernel
theorem off8_eq : ∀ i : grid0.Coords, k0_off8 i = ![(i 0).val % 3, 0, 0] := by decide +kernel
theorem off9_eq : ∀ i : grid0.Coords, k0_off9 i = ![(i 0).val % 3, 1, 0] := by decide +kernel
theorem off10_eq : ∀ i : grid0.Coords, k0_off10 i = ![(i 0).val % 3, 2, 0] := by decide +kernel
theorem off11_eq : ∀ i : grid0.Coords, k0_off11 i = ![(i 0).val % 3, 3, 0] := by decide +kernel

instance closedOff6 (i : grid0.Coords) : ClosedOff (k0_off6 i) := ⟨![(i 0).val % 3, 0, 0], off6_eq i⟩
instance closedOff8 (i : grid0.Coords) : ClosedOff (k0_off8 i) := ⟨![(i 0).val % 3, 0, 0], off8_eq i⟩
instance closedOff9 (i : grid0.Coords) : ClosedOff (k0_off9 i) := ⟨![(i 0).val % 3, 1, 0], off9_eq i⟩
instance closedOff10 (i : grid0.Coords) : ClosedOff (k0_off10 i) := ⟨![(i 0).val % 3, 2, 0], off10_eq i⟩
instance closedOff11 (i : grid0.Coords) : ClosedOff (k0_off11 i) := ⟨![(i 0).val % 3, 3, 0], off11_eq i⟩

/-! ## The conditions -/

/-- The number of tiles in use, from the word the kernel reads. -/
def nT (w : BitVec 32) : ℕ := w.toInt.toNat

theorem cond1_iff : ∀ i : grid0.Coords, k0_cond1 i = 1#1 ↔ (i 0).val = 0 := by decide +kernel

/-- A comparison made of two words and widened, tested against zero, is the comparison. -/
theorem ne_extui (b : BitVec 1) : Scalar.cmpi .ne (Scalar.extui b : BitVec 32) 0#32 = 1#1 ↔ b = 1#1 := by
  revert b; decide

/-- A small number's word, read as a signed number, is the number. -/
theorem toInt_small (a : ℕ) (ha : a < 1000) : (BitVec.ofNat 32 a).toInt = a := by
  rw [BitVec.toInt_eq_toNat_of_lt (by rw [BitVec.toNat_ofNat]; omega), BitVec.toNat_ofNat, Nat.mod_eq_of_lt (by omega)]

theorem slt_iff (a : ℕ) (ha : a < 1000) (w : BitVec 32) : Scalar.cmpi .slt (BitVec.ofNat 32 a) w = 1#1 ↔ a < nT w := by
  have h := toInt_small a ha
  have : Scalar.cmpi .slt (BitVec.ofNat 32 a) w = BitVec.ofBool (BitVec.slt (BitVec.ofNat 32 a) w) := rfl
  rw [this, BitVec.slt, h]
  unfold nT
  by_cases hw : (a : ℤ) < w.toInt
  · simp [hw]
  · simp [hw] <;> omega

theorem sgt_iff (a : ℕ) (ha : a < 1000) (w : BitVec 32) : Scalar.cmpi .sgt w (BitVec.ofNat 32 a) = 1#1 ↔ a < nT w :=
  slt_iff a ha w

theorem sge_iff (a : ℕ) (ha : a < 1000) (w : BitVec 32) : Scalar.cmpi .sge (BitVec.ofNat 32 a) w = 1#1 ↔ nT w ≤ a := by
  have h := toInt_small a ha
  have : Scalar.cmpi .sge (BitVec.ofNat 32 a) w = BitVec.ofBool (BitVec.sle w (BitVec.ofNat 32 a)) := rfl
  rw [this, BitVec.sle, h]
  unfold nT
  by_cases hw : w.toInt ≤ (a : ℤ)
  · simp [hw]
  · simp [hw] <;> omega

theorem i0_lt (i : grid0.Coords) : (i 0).val < 96 := (i 0).isLt

theorem cond2_iff (w : BitVec 32) : Scalar.cmpi .ne (Scalar.extui (Scalar.cmpi .sgt w 0#32) : BitVec 32) 0#32 = 1#1 ↔ 0 < nT w :=
  (ne_extui _).trans (sgt_iff 0 (by omega) w)
theorem cond3_iff (w : BitVec 32) : Scalar.cmpi .ne (Scalar.extui (Scalar.cmpi .sgt w 1#32) : BitVec 32) 0#32 = 1#1 ↔ 1 < nT w :=
  (ne_extui _).trans (sgt_iff 1 (by omega) w)
theorem cond4_iff (i : grid0.Coords) (w : BitVec 32) : k0_cond4 i w = 1#1 ↔ (i 0).val + 2 < nT w := by
  have e : Scalar.addi (BitVec.ofNat 32 (i 0).val) 2#32 = BitVec.ofNat 32 ((i 0).val + 2) := by
    show BitVec.ofNat 32 (i 0).val + BitVec.ofNat 32 2 = _
    rw [← BitVec.ofNat_add]
  refine Iff.trans (ne_extui (Scalar.cmpi .slt (Scalar.addi (BitVec.ofNat 32 (i 0).val) 2#32) w)) ?_
  rw [e]
  exact slt_iff _ (by have := i0_lt i; omega) w
theorem cond5_iff (i : grid0.Coords) (w : BitVec 32) : k0_cond5 i w = 1#1 ↔ (i 0).val < nT w :=
  (ne_extui _).trans (slt_iff _ (by have := i0_lt i; omega) w)
theorem cond6_iff (i : grid0.Coords) (w : BitVec 32) : k0_cond6 i w = 1#1 ↔ nT w ≤ (i 0).val :=
  (ne_extui _).trans (sge_iff _ (by have := i0_lt i; omega) w)

/-- With at most 96 tiles in use, every tile the kernel starts the transfer of lies within the rows. -/
theorem chk1_of (i : grid0.Coords) (w : BitVec 32) (hw : nT w ≤ 96) : k0_chk1 i w := by
  intro h4
  have h := (cond4_iff i w).1 h4
  rw [off4_eq]
  exact oX_inb ⟨(i 0).val + 2, by omega⟩

end Cert.Proof.Experts

end
-- ==== Proof.Body.lean ====
/-
  One grid point of the experts' kernel, run.

  Seven cases, by where the point stands against the number of tiles in use: at the first point the kernel starts the
  first two transfers as well; at every point it starts the transfer of the tile two ahead while there is one; and
  it either waits for its own tile and computes, or, past the tiles in use, stores zeros.
-/
module

public import proofs.«01_k».proof.Proof.Ring
public import Idealize.ShloMosaic.Lib.Ring.Pair

@[expose] public section

noncomputable section

namespace Cert.Proof.Experts

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-- The word the kernel reads: the number of tiles in use. -/
abbrev rdN (c : Dev nD) (T : Bf F c cntM) : BitVec 32 :=
  cntM.view.readAt (Elt F) (Rect.unit (s := S1) ![0] S1.size inb_S1_S1_0).toLoadRect T (Shape.Idx.first (by decide))

/-- The four loads of the tile that has landed: every fourth row, from row 0, 1, 2 and 3 on. -/
abbrev ld8 (i : grid0.Coords) : LoadRect S3x2048x128 := ⟨k0_off8 i, S1x512x128.size, ![1, 4, 1], (k0_off8_inb i)⟩
abbrev ld9 (i : grid0.Coords) : LoadRect S3x2048x128 := ⟨k0_off9 i, S1x512x128.size, ![1, 4, 1], (k0_off9_inb i)⟩
abbrev ld10 (i : grid0.Coords) : LoadRect S3x2048x128 := ⟨k0_off10 i, S1x512x128.size, ![1, 4, 1], (k0_off10_inb i)⟩
abbrev ld11 (i : grid0.Coords) : LoadRect S3x2048x128 := ⟨k0_off11 i, S1x512x128.size, ![1, 4, 1], (k0_off11_inb i)⟩

/-- The ring buffer once the tile of point `i` has landed in its slot. -/
def landed (c : Dev nD) (i : grid0.Coords) (X : Bf F c rowsM) : Bf F c ringM :=
  (slotAt (k0_off6 i) (k0_off6_inb i)).view.writes (Elt F) (slotAt (k0_off6 i) (k0_off6_inb i)).view.junk
    [⟨Rect.whole S2048x128, ReadAs.same.apply ((tileAt (k0_off7 i) (k0_off7_inb i)).view.read (Elt F) X)⟩]

/-- The three weight blocks as the kernel loads them. -/
abbrev wld (c : Dev nD) (M : Memref sig .tc .vmem S1x1x1024x256 .f32) (f : Bf F c M) : Vec F S1x1x1024x256 .f32 :=
  M.view.readAt (Elt F) (Rect.unit (s := S1x1x1024x256) ![0, 0, 0, 0] S1x1x1024x256.size inb_S1x1x1024x256_S1x1x1024x256_0_0_0_0).toLoadRect f
abbrev dld (c : Dev nD) (M : Memref sig .tc .vmem S1x1x256x1024 .f32) (f : Bf F c M) : Vec F S1x1x256x1024 .f32 :=
  M.view.readAt (Elt F) (Rect.unit (s := S1x1x256x1024) ![0, 0, 0, 0] S1x1x256x1024.size inb_S1x1x256x1024_S1x1x256x1024_0_0_0_0).toLoadRect f

/-- The four loaded quarters of the tile, and what the four stores write. -/
abbrev q0 (c : Dev nD) (i : grid0.Coords) (X : Bf F c rowsM) := k0_pay4 (F := F) (ringM.view.readAt (Elt F) (ld8 i) (landed c i X))
abbrev q1 (c : Dev nD) (i : grid0.Coords) (X : Bf F c rowsM) := k0_pay5 (F := F) (ringM.view.readAt (Elt F) (ld9 i) (landed c i X))
abbrev q2 (c : Dev nD) (i : grid0.Coords) (X : Bf F c rowsM) := k0_pay6 (F := F) (ringM.view.readAt (Elt F) (ld10 i) (landed c i X))
abbrev q3 (c : Dev nD) (i : grid0.Coords) (X : Bf F c rowsM) := ringM.view.readAt (Elt F) (ld11 i) (landed c i X)

/-- The four stores of the result, in quarters of rows, over the block's former contents. -/
def outF (c : Dev nD) (i : grid0.Coords) (M4 : Memref sig .tc .vmem S1x1x1024x256 .f32) (M5 : Memref sig .tc .vmem S1x1x1024x256 .f32)
    (M6 : Memref sig .tc .vmem S1x1x256x1024 .f32) (M7 : Memref sig .tc .vmem S2048x2x128 .bf16) (X : Bf F c rowsM)
    (f4 : Bf F c M4) (f5 : Bf F c M5) (f6 : Bf F c M6) (f7 : Bf F c M7) : Bf F c M7 :=
  M7.view.writes (Elt F) f7
    [⟨⟨⟨![3, 0, 0], S512x2x128.size, ![4, 1, 1], inb_S2048x2x128_S512x2x128_3_0_0_s_4_1_1⟩, spos_4_1_1⟩,
        k0_pay3 (k0_pay8 (q0 c i X) (q1 c i X) (q2 c i X) (q3 c i X) (wld c M4 f4) (wld c M5 f5) (dld c M6 f6))
          (k0_pay9 (q0 c i X) (q1 c i X) (q2 c i X) (q3 c i X) (wld c M4 f4) (wld c M5 f5) (dld c M6 f6))⟩,
      ⟨⟨⟨![2, 0, 0], S512x2x128.size, ![4, 1, 1], inb_S2048x2x128_S512x2x128_2_0_0_s_4_1_1⟩, spos_4_1_1⟩,
        k0_pay2 (k0_pay8 (q0 c i X) (q1 c i X) (q2 c i X) (q3 c i X) (wld c M4 f4) (wld c M5 f5) (dld c M6 f6))
          (k0_pay9 (q0 c i X) (q1 c i X) (q2 c i X) (q3 c i X) (wld c M4 f4) (wld c M5 f5) (dld c M6 f6))⟩,
      ⟨⟨⟨![1, 0, 0], S512x2x128.size, ![4, 1, 1], inb_S2048x2x128_S512x2x128_1_0_0_s_4_1_1⟩, spos_4_1_1⟩,
        k0_pay1 (k0_pay8 (q0 c i X) (q1 c i X) (q2 c i X) (q3 c i X) (wld c M4 f4) (wld c M5 f5) (dld c M6 f6))
          (k0_pay9 (q0 c i X) (q1 c i X) (q2 c i X) (q3 c i X) (wld c M4 f4) (wld c M5 f5) (dld c M6 f6))⟩,
      ⟨⟨⟨![0, 0, 0], S512x2x128.size, ![4, 1, 1], inb_S2048x2x128_S512x2x128_0_0_0_s_4_1_1⟩, spos_4_1_1⟩,
        k0_pay10 (q0 c i X) (q1 c i X) (q2 c i X) (q3 c i X) (wld c M4 f4) (wld c M5 f5) (dld c M6 f6)⟩]

/-- What the result's block holds past the tiles in use: zeros. -/
def zeroF (c : Dev nD) (M7 : Memref sig .tc .vmem S2048x2x128 .bf16) (f7 : Bf F c M7) : Bf F c M7 :=
  M7.view.writes (Elt F) f7
    [⟨Rect.unit (s := S2048x2x128) ![0, 0, 0] S2048x2x128.size inb_S2048x2x128_S2048x2x128_0_0_0, constant S2048x2x128 .bf16 0x0000#16⟩]

/-- What a point holds beside the ring: the waits it has recorded, the count of tiles, and the four blocks. -/
abbrev Held (c : Dev nD) (T : Bf F c cntM) (M4 : Memref sig .tc .vmem S1x1x1024x256 .f32) (M5 : Memref sig .tc .vmem S1x1x1024x256 .f32)
    (M6 : Memref sig .tc .vmem S1x1x256x1024 .f32) (M7 : Memref sig .tc .vmem S2048x2x128 .bf16)
    (f4 : Bf F c M4) (f5 : Bf F c M5) (f6 : Bf F c M6) (f7 : Bf F c M7) : sProp 𝕄 :=
  iprop((∃ W, owes (c : Thread nD τ) 0 W) ∗ pt c cntM T ∗ pt c M4 f4 ∗ pt c M5 f5 ∗ pt c M6 f6 ∗ pt c M7 f7)

/-- The kernel's body at point `i` run to `Q`. -/
abbrev Run (c : Dev nD) (i : grid0.Coords)
    (M4 : Memref sig .tc .vmem S1x1x1024x256 .f32) (h4 : M4.IsWhole) (M5 : Memref sig .tc .vmem S1x1x1024x256 .f32) (h5 : M5.IsWhole)
    (M6 : Memref sig .tc .vmem S1x1x256x1024 .f32) (h6 : M6.IsWhole) (M7 : Memref sig .tc .vmem S2048x2x128 .bf16) (h7 : M7.IsWhole)
    (Q : PUnit → sProp 𝕄) : sProp 𝕄 :=
  wp frame (wpE (defs₀ (F := F)) Variants.none c none) Set.univ
    (cc0_moe_experts i (Memref.whole main_arg0) (Memref.isWhole_whole _) cntM (Memref.isWhole_whole _) rowsM (Memref.isWhole_whole _)
      M4 h4 M5 h5 M6 h6 M7 h7 ringM (Memref.isWhole_whole _) cc0_scratch1) Q

section Cases

variable (c : Dev nD) (i : grid0.Coords)
  (M4 : Memref sig .tc .vmem S1x1x1024x256 .f32) (h4 : M4.IsWhole) (M5 : Memref sig .tc .vmem S1x1x1024x256 .f32) (h5 : M5.IsWhole)
  (M6 : Memref sig .tc .vmem S1x1x256x1024 .f32) (h6 : M6.IsWhole) (M7 : Memref sig .tc .vmem S2048x2x128 .bf16) (h7 : M7.IsWhole)
  (X : Bf F c rowsM) (T : Bf F c cntM) (f4 : Bf F c M4) (f5 : Bf F c M5) (f6 : Bf F c M6) (f7 : Bf F c M7)

/-- The slot of this point's tile, free and in flight, in the kernel's own index arithmetic; and the slot of the tile two
    ahead. -/
abbrev freeNow (k : Fin 3) : sProp 𝕄 := FreeAt c X k (k0_off6 i) (k0_off6_inb i) (k0_off5 i) (k0_off5_inb i)
abbrev flyNow (k : Fin 3) : sProp 𝕄 := FlyAt c X k (k0_off6 i) (k0_off6_inb i) (k0_off5 i) (k0_off5_inb i) (k0_off7 i) (k0_off7_inb i)
abbrev freeNext (k : Fin 3) : sProp 𝕄 := FreeAt c X k (k0_off3 i) (k0_off3_inb i) (k0_off2 i) (k0_off2_inb i)
abbrev flyNext (k : Fin 3) (h : ∀ a, k0_off4 i a + S2048x128.size a ≤ S196608x128.size a) : sProp 𝕄 :=
  FlyAt c X k (k0_off3 i) (k0_off3_inb i) (k0_off2 i) (k0_off2_inb i) (k0_off4 i) h

set_option maxHeartbeats 4000000 in
/-- A point after the first, its tile and the tile two ahead both in use. -/
theorem run_both (k k' : Fin 3) (hn : nT (rdN c T) ≤ 96) (hi : (i 0).val ≠ 0) (hlt : (i 0).val + 2 < nT (rdN c T))
    (hx : ∀ a, k0_off4 i a + S2048x128.size a ≤ S196608x128.size a) (Q : PUnit → sProp 𝕄) :
    iprop((flyNow c i X k ∗ freeNext c i X k') ∗ Held c T M4 M5 M6 M7 f4 f5 f6 f7
        ∗ (((freeNow c i X k ∗ flyNext c i X k' hx) ∗ Held c T M4 M5 M6 M7 f4 f5 f6 (outF c i M4 M5 M6 M7 X f4 f5 f6 f7)) -∗ Q ⟨⟩))
      ⊢ Run c i M4 h4 M5 h5 M6 h6 M7 h7 Q := by
  have c1 : ¬ k0_cond1 i = 1#1 := fun h => hi ((cond1_iff i).1 h)
  have c4 := (cond4_iff i (rdN c T)).2 hlt
  have c5 := (cond5_iff i (rdN c T)).2 (by omega)
  have c6 : ¬ k0_cond6 i (rdN c T) = 1#1 := fun h => absurd ((cond6_iff i _).1 h) (by omega)
  have k1 := chk1_of i _ hn
  unfold freeNow flyNow freeNext flyNext FlyAt FreeAt
  iintro ⟨⟨⟨⟨%fs, Hfl⟩, Hr⟩, Hc, ⟨%fd, Hs⟩, Ht⟩, ⟨⟨%Ws, HO⟩, HT, H4, H5, H6, H7⟩, Hk⟩
  unfold Run
  rw [cc0_moe_experts_eq_skeleton]
  unfold cc0_moe_experts_skel
  sl_exec (disch := first | sl_exact c1 | sl_exact k1 | sl_exact c4 | sl_exact c5 | sl_exact c6)
  sl_step
  iapply Hk
  isplitr [HO HT H4 H5 H6 H7]
  · isplitl [Hfl Hfl_dst Hr]
    · isplitl [Hfl]; · iexact Hfl
      isplitl [Hfl_dst]; · iexists _; iexact Hfl_dst
      iexact Hr
    · isplitl [Hc]; · iexists fd; iexact Hc
      iexact Ht
  · isplitl [HO]; · iexists _; iexact HO
    isplitl [HT]; · iexact HT
    isplitl [H4]; · iexact H4
    isplitl [H5]; · iexact H5
    isplitl [H6]; · iexact H6
    iexact H7

set_option maxHeartbeats 4000000 in
/-- A point after the first, its tile the last or the last but one in use. -/
theorem run_last (k : Fin 3) (hn : nT (rdN c T) ≤ 96) (hi : (i 0).val ≠ 0) (hlt : (i 0).val < nT (rdN c T)) (hge : nT (rdN c T) ≤ (i 0).val + 2)
    (Q : PUnit → sProp 𝕄) :
    iprop(flyNow c i X k ∗ Held c T M4 M5 M6 M7 f4 f5 f6 f7
        ∗ ((freeNow c i X k ∗ Held c T M4 M5 M6 M7 f4 f5 f6 (outF c i M4 M5 M6 M7 X f4 f5 f6 f7)) -∗ Q ⟨⟩))
      ⊢ Run c i M4 h4 M5 h5 M6 h6 M7 h7 Q := by
  have c1 : ¬ k0_cond1 i = 1#1 := fun h => hi ((cond1_iff i).1 h)
  have c4 : ¬ k0_cond4 i (rdN c T) = 1#1 := fun h => absurd ((cond4_iff i (rdN c T)).1 h) (by omega)
  have c5 := (cond5_iff i (rdN c T)).2 (by omega)
  have c6 : ¬ k0_cond6 i (rdN c T) = 1#1 := fun h => absurd ((cond6_iff i _).1 h) (by omega)
  have k1 := chk1_of i _ hn
  unfold freeNow flyNow FlyAt FreeAt
  iintro ⟨⟨⟨%fs, Hfl⟩, Hr⟩, ⟨⟨%Ws, HO⟩, HT, H4, H5, H6, H7⟩, Hk⟩
  unfold Run
  rw [cc0_moe_experts_eq_skeleton]
  unfold cc0_moe_experts_skel
  sl_exec (disch := first | sl_exact c1 | sl_exact k1 | sl_exact c4 | sl_exact c5 | sl_exact c6)
  sl_step
  iapply Hk
  isplitr [HO HT H4 H5 H6 H7]
  · isplitl [Hfl]; · iexact Hfl
    isplitl [Hfl_dst]; · iexists _; iexact Hfl_dst
    iexact Hr
  · isplitl [HO]; · iexists _; iexact HO
    isplitl [HT]; · iexact HT
    isplitl [H4]; · iexact H4
    isplitl [H5]; · iexact H5
    isplitl [H6]; · iexact H6
    iexact H7

set_option maxHeartbeats 4000000 in
/-- A point past the tiles in use. -/
theorem run_past (hn : nT (rdN c T) ≤ 96) (hge : nT (rdN c T) ≤ (i 0).val) (Q : PUnit → sProp 𝕄) :
    iprop(Held c T M4 M5 M6 M7 f4 f5 f6 f7 ∗ (Held c T M4 M5 M6 M7 f4 f5 f6 (zeroF c M7 f7) -∗ Q ⟨⟩))
      ⊢ Run c i M4 h4 M5 h5 M6 h6 M7 h7 Q := by
  have c2 : ¬ Scalar.cmpi .ne (Scalar.extui (Scalar.cmpi .sgt (rdN c T) 0#32) : BitVec 32) 0#32 = 1#1 ∨ ¬ k0_cond1 i = 1#1 := by
    by_cases h : (i 0).val = 0
    · exact .inl fun h' => absurd ((cond2_iff _).1 h') (by omega)
    · exact .inr fun h' => h ((cond1_iff i).1 h')
  have c3 : ¬ Scalar.cmpi .ne (Scalar.extui (Scalar.cmpi .sgt (rdN c T) 1#32) : BitVec 32) 0#32 = 1#1 ∨ ¬ k0_cond1 i = 1#1 := by
    by_cases h : (i 0).val = 0
    · exact .inl fun h' => absurd ((cond3_iff _).1 h') (by omega)
    · exact .inr fun h' => h ((cond1_iff i).1 h')
  have c4 : ¬ k0_cond4 i (rdN c T) = 1#1 := fun h => absurd ((cond4_iff i (rdN c T)).1 h) (by omega)
  have c5 : ¬ k0_cond5 i (rdN c T) = 1#1 := fun h => absurd ((cond5_iff i (rdN c T)).1 h) (by omega)
  have c6 := (cond6_iff i (rdN c T)).2 hge
  have k1 := chk1_of i _ hn
  by_cases c1 : k0_cond1 i = 1#1
  · have c2' := c2.resolve_right (fun h => h c1)
    have c3' := c3.resolve_right (fun h => h c1)
    iintro ⟨⟨⟨%Ws, HO⟩, HT, H4, H5, H6, H7⟩, Hk⟩
    unfold Run
    rw [cc0_moe_experts_eq_skeleton]
    unfold cc0_moe_experts_skel
    sl_exec (disch := first | sl_exact c1 | sl_exact k1 | sl_exact c2' | sl_exact c3' | sl_exact c4 | sl_exact c5 | sl_exact c6)
    sl_step
    iapply Hk
    isplitl [HO]; · iexists _; iexact HO
    isplitl [HT]; · iexact HT
    isplitl [H4]; · iexact H4
    isplitl [H5]; · iexact H5
    isplitl [H6]; · iexact H6
    iexact H7
  · iintro ⟨⟨⟨%Ws, HO⟩, HT, H4, H5, H6, H7⟩, Hk⟩
    unfold Run
    rw [cc0_moe_experts_eq_skeleton]
    unfold cc0_moe_experts_skel
    sl_exec (disch := first | sl_exact c1 | sl_exact k1 | sl_exact c4 | sl_exact c5 | sl_exact c6)
    sl_step
    iapply Hk
    isplitl [HO]; · iexists _; iexact HO
    isplitl [HT]; · iexact HT
    isplitl [H4]; · iexact H4
    isplitl [H5]; · iexact H5
    isplitl [H6]; · iexact H6
    iexact H7

end Cases

end Cert.Proof.Experts

end
-- ==== Proof.First.lean ====
/-
  The first grid point of the experts' call: it starts the prefetched copies — one, two or three tiles in use — and then works as every
  other point does.
-/
module

public import proofs.«01_k».proof.Proof.Body

@[expose] public section

noncomputable section

namespace Cert.Proof.Experts

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

section Cases

variable (c : Dev nD) (i : grid0.Coords)
  (M4 : Memref sig .tc .vmem S1x1x1024x256 .f32) (h4 : M4.IsWhole) (M5 : Memref sig .tc .vmem S1x1x1024x256 .f32) (h5 : M5.IsWhole)
  (M6 : Memref sig .tc .vmem S1x1x256x1024 .f32) (h6 : M6.IsWhole) (M7 : Memref sig .tc .vmem S2048x2x128 .bf16) (h7 : M7.IsWhole)
  (X : Bf F c rowsM) (T : Bf F c cntM) (f4 : Bf F c M4) (f5 : Bf F c M5) (f6 : Bf F c M6) (f7 : Bf F c M7)

/-- At the first point the slot of the point's tile is slot 0 and its tile is tile 0. -/
theorem flyNow_first (hi : (i 0).val = 0) :
    (flyNow c i X 0 : sProp 𝕄) = FlyAt c X 0 (oS 0) (oS_inb 0) (oC 0) (oC_inb 0) (oX 0) (oX_inb 0) :=
  FlyAt_congr c X 0 _ _ _ _ _ _ ((off6_eq i).trans (by rw [hi])) ((off5_eq i).trans (by rw [hi])) ((off7_eq i).trans (by rw [hi]))

set_option maxHeartbeats 4000000 in
/-- The first point, one tile in use. -/
theorem run_first1 (hn : nT (rdN c T) ≤ 96) (hi : (i 0).val = 0) (hlt : nT (rdN c T) = 1) (Q : PUnit → sProp 𝕄) :
    iprop(FreeAt c X 0 (oS 0) (oS_inb 0) (oC 0) (oC_inb 0) ∗ Held c T M4 M5 M6 M7 f4 f5 f6 f7
        ∗ ((freeNow c i X 0 ∗ Held c T M4 M5 M6 M7 f4 f5 f6 (outF c i M4 M5 M6 M7 X f4 f5 f6 f7)) -∗ Q ⟨⟩))
      ⊢ Run c i M4 h4 M5 h5 M6 h6 M7 h7 Q := by
  have c1 : k0_cond1 i = 1#1 := (cond1_iff i).2 hi
  have c2 := (cond2_iff (rdN c T)).2 (by omega)
  have c3 : ¬ Scalar.cmpi .ne (Scalar.extui (Scalar.cmpi .sgt (rdN c T) 1#32) : BitVec 32) 0#32 = 1#1 := fun h => absurd ((cond3_iff _).1 h) (by omega)
  have c4 : ¬ k0_cond4 i (rdN c T) = 1#1 := fun h => absurd ((cond4_iff i (rdN c T)).1 h) (by omega)
  have c5 := (cond5_iff i (rdN c T)).2 (by omega)
  have c6 : ¬ k0_cond6 i (rdN c T) = 1#1 := fun h => absurd ((cond6_iff i _).1 h) (by omega)
  have k1 := chk1_of i _ hn
  unfold freeNow FreeAt
  iintro ⟨⟨Hc, ⟨%fd, Hs⟩, Ht⟩, ⟨⟨%Ws, HO⟩, HT, H4, H5, H6, H7⟩, Hk⟩
  unfold Run
  rw [cc0_moe_experts_eq_skeleton]
  unfold cc0_moe_experts_skel
  (set_option sl_exec.stopBefore "k0_cond5" in sl_exec (disch := first | sl_exact c1 | sl_exact k1 | sl_exact c2 | sl_exact c3 | sl_exact c4 | sl_exact c5 | sl_exact c6))
  ihave HF : flyNow c i X 0 $$ [Hc Ht]
  · rw [flyNow_first c i X hi]
    unfold FlyAt
    isplitl [Hc]
    · iexists fd; iexact Hc
    · iexact Ht
  unfold flyNow FlyAt
  icases HF with ⟨⟨%fs, Hfl⟩, Hr⟩
  sl_exec (disch := first | sl_exact c1 | sl_exact k1 | sl_exact c2 | sl_exact c3 | sl_exact c4 | sl_exact c5 | sl_exact c6)
  sl_step
  iapply Hk
  isplitr [HO HT H4 H5 H6 H7]
  · isplitl [Hfl]; · iexact Hfl
    isplitl [Hfl_dst]; · iexists _; iexact Hfl_dst
    iexact Hr
  · isplitl [HO]; · iexists _; iexact HO
    isplitl [HT]; · iexact HT
    isplitl [H4]; · iexact H4
    isplitl [H5]; · iexact H5
    isplitl [H6]; · iexact H6
    iexact H7

set_option maxHeartbeats 4000000 in
/-- The first point, two tiles in use. -/
theorem run_first2 (hn : nT (rdN c T) ≤ 96) (hi : (i 0).val = 0) (hlt : nT (rdN c T) = 2) (Q : PUnit → sProp 𝕄) :
    iprop((FreeAt c X 0 (oS 0) (oS_inb 0) (oC 0) (oC_inb 0) ∗ FreeAt c X 1 (oS 1) (oS_inb 1) (oC 1) (oC_inb 1))
        ∗ Held c T M4 M5 M6 M7 f4 f5 f6 f7
        ∗ (((freeNow c i X 0 ∗ FlyAt c X 1 (oS 1) (oS_inb 1) (oC 1) (oC_inb 1) (oX 1) (oX_inb 1))
            ∗ Held c T M4 M5 M6 M7 f4 f5 f6 (outF c i M4 M5 M6 M7 X f4 f5 f6 f7)) -∗ Q ⟨⟩))
      ⊢ Run c i M4 h4 M5 h5 M6 h6 M7 h7 Q := by
  have c1 : k0_cond1 i = 1#1 := (cond1_iff i).2 hi
  have c2 := (cond2_iff (rdN c T)).2 (by omega)
  have c3 := (cond3_iff (rdN c T)).2 (by omega)
  have c4 : ¬ k0_cond4 i (rdN c T) = 1#1 := fun h => absurd ((cond4_iff i (rdN c T)).1 h) (by omega)
  have c5 := (cond5_iff i (rdN c T)).2 (by omega)
  have c6 : ¬ k0_cond6 i (rdN c T) = 1#1 := fun h => absurd ((cond6_iff i _).1 h) (by omega)
  have k1 := chk1_of i _ hn
  unfold freeNow FreeAt
  iintro ⟨⟨⟨Hc, ⟨%fd, Hs⟩, Ht⟩, Hd, ⟨%fe, Hp⟩, Hu⟩, ⟨⟨%Ws, HO⟩, HT, H4, H5, H6, H7⟩, Hk⟩
  unfold Run
  rw [cc0_moe_experts_eq_skeleton]
  unfold cc0_moe_experts_skel
  (set_option sl_exec.stopBefore "k0_cond5" in sl_exec (disch := first | sl_exact c1 | sl_exact k1 | sl_exact c2 | sl_exact c3 | sl_exact c4 | sl_exact c5 | sl_exact c6))
  ihave HF : flyNow c i X 0 $$ [Hc Ht]
  · rw [flyNow_first c i X hi]
    unfold FlyAt
    isplitl [Hc]
    · iexists fd; iexact Hc
    · iexact Ht
  ihave HG : FlyAt c X 1 (oS 1) (oS_inb 1) (oC 1) (oC_inb 1) (oX 1) (oX_inb 1) $$ [Hd Hu]
  · unfold FlyAt
    isplitl [Hd]
    · iexists fe; iexact Hd
    · iexact Hu
  unfold flyNow FlyAt
  icases HF with ⟨⟨%fs, Hfl⟩, Hr⟩
  sl_exec (disch := first | sl_exact c1 | sl_exact k1 | sl_exact c2 | sl_exact c3 | sl_exact c4 | sl_exact c5 | sl_exact c6)
  sl_step
  iapply Hk
  isplitr [HO HT H4 H5 H6 H7]
  · isplitr [HG]
    · isplitl [Hfl]; · iexact Hfl
      isplitl [Hfl_dst]; · iexists _; iexact Hfl_dst
      iexact Hr
    · iexact HG
  · isplitl [HO]; · iexists _; iexact HO
    isplitl [HT]; · iexact HT
    isplitl [H4]; · iexact H4
    isplitl [H5]; · iexact H5
    isplitl [H6]; · iexact H6
    iexact H7

set_option maxHeartbeats 4000000 in
/-- The first point, three tiles or more in use. -/
theorem run_first3 (hn : nT (rdN c T) ≤ 96) (hi : (i 0).val = 0) (hlt : 2 < nT (rdN c T))
    (hx : ∀ a, k0_off4 i a + S2048x128.size a ≤ S196608x128.size a) (Q : PUnit → sProp 𝕄) :
    iprop((FreeAt c X 0 (oS 0) (oS_inb 0) (oC 0) (oC_inb 0) ∗ FreeAt c X 1 (oS 1) (oS_inb 1) (oC 1) (oC_inb 1) ∗ freeNext c i X 2)
        ∗ Held c T M4 M5 M6 M7 f4 f5 f6 f7
        ∗ (((freeNow c i X 0 ∗ FlyAt c X 1 (oS 1) (oS_inb 1) (oC 1) (oC_inb 1) (oX 1) (oX_inb 1) ∗ flyNext c i X 2 hx)
            ∗ Held c T M4 M5 M6 M7 f4 f5 f6 (outF c i M4 M5 M6 M7 X f4 f5 f6 f7)) -∗ Q ⟨⟩))
      ⊢ Run c i M4 h4 M5 h5 M6 h6 M7 h7 Q := by
  have c1 : k0_cond1 i = 1#1 := (cond1_iff i).2 hi
  have c2 := (cond2_iff (rdN c T)).2 (by omega)
  have c3 := (cond3_iff (rdN c T)).2 (by omega)
  have c4 := (cond4_iff i (rdN c T)).2 (by omega)
  have c5 := (cond5_iff i (rdN c T)).2 (by omega)
  have c6 : ¬ k0_cond6 i (rdN c T) = 1#1 := fun h => absurd ((cond6_iff i _).1 h) (by omega)
  have k1 := chk1_of i _ hn
  unfold freeNow freeNext FreeAt
  iintro ⟨⟨⟨Hc, ⟨%fd, Hs⟩, Ht⟩, ⟨Hd, ⟨%fe, Hp⟩, Hu⟩, He, ⟨%ff, Hq⟩, Hv⟩, ⟨⟨%Ws, HO⟩, HT, H4, H5, H6, H7⟩, Hk⟩
  unfold Run
  rw [cc0_moe_experts_eq_skeleton]
  unfold cc0_moe_experts_skel
  (set_option sl_exec.stopBefore "k0_cond5" in sl_exec (disch := first | sl_exact c1 | sl_exact k1 | sl_exact c2 | sl_exact c3 | sl_exact c4 | sl_exact c5 | sl_exact c6))
  ihave HF : flyNow c i X 0 $$ [Hc Ht]
  · rw [flyNow_first c i X hi]
    unfold FlyAt
    isplitl [Hc]
    · iexists fd; iexact Hc
    · iexact Ht
  ihave HG : FlyAt c X 1 (oS 1) (oS_inb 1) (oC 1) (oC_inb 1) (oX 1) (oX_inb 1) $$ [Hd Hu]
  · unfold FlyAt
    isplitl [Hd]
    · iexists fe; iexact Hd
    · iexact Hu
  ihave HN : flyNext c i X 2 hx $$ [He Hv]
  · unfold flyNext FlyAt
    isplitl [He]
    · iexists ff; iexact He
    · iexact Hv
  unfold flyNow FlyAt
  icases HF with ⟨⟨%fs, Hfl⟩, Hr⟩
  sl_exec (disch := first | sl_exact c1 | sl_exact k1 | sl_exact c2 | sl_exact c3 | sl_exact c4 | sl_exact c5 | sl_exact c6)
  sl_step
  iapply Hk
  isplitr [HO HT H4 H5 H6 H7]
  · isplitr [HG HN]
    · isplitl [Hfl]; · iexact Hfl
      isplitl [Hfl_dst]; · iexists _; iexact Hfl_dst
      iexact Hr
    · isplitl [HG]; · iexact HG
      iexact HN
  · isplitl [HO]; · iexists _; iexact HO
    isplitl [HT]; · iexact HT
    isplitl [H4]; · iexact H4
    isplitl [H5]; · iexact H5
    isplitl [H6]; · iexact H6
    iexact H7

end Cases

end Cert.Proof.Experts

end
-- ==== Proof.States.lean ====
/-
  The ring between the grid points, and a grid point run from one state of it to the next.

  Before point `t` the tiles `t` and `t + 1` are in flight, those of them that are in use; before the first point and
  after the last tile in use every slot is free. The seven cases of a point become one statement.
-/
module

public import proofs.«01_k».proof.Proof.First

@[expose] public section

noncomputable section

namespace Cert.Proof.Experts

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-- A slot of the ring: free, or the transfer of tile `u` in flight into it. -/
def slotSt (c : Dev nD) (X : Bf F c rowsM) (k : Fin 3) : Option ℕ → sProp 𝕄
  | none => FreeAt c X k (oS k) (oS_inb k) (oC k) (oC_inb k)
  | some u => if h : u < 96 then FlyAt c X k (oS k) (oS_inb k) (oC k) (oC_inb k) (oX u) (oX_inb ⟨u, h⟩) else iprop(emp)

/-- A slot into which the transfer of a tile of the rows is in flight. -/
theorem slotSt_some (c : Dev nD) (X : Bf F c rowsM) (k : Fin 3) (u : ℕ) (h : u < 96) :
    (slotSt c X k (some u) : sProp 𝕄) = FlyAt c X k (oS k) (oS_inb k) (oC k) (oC_inb k) (oX u) (oX_inb ⟨u, h⟩) := by
  unfold slotSt; exact dif_pos h

/-- The three slots. -/
abbrev ring (c : Dev nD) (X : Bf F c rowsM) (st : Fin 3 → Option ℕ) : sProp 𝕄 := Ring.AtW (σ := fun _ => Option ℕ) (slotSt c X) st

/-- What the slots hold before point `t`, `n` tiles in use. -/
def stAt (n t : ℕ) : Fin 3 → Option ℕ := if t = 0 then fun _ => none else Ring.inWin t (max t (min (t + 2) n)) 3

/-- A window that is empty holds nothing in any slot. -/
theorem inWin_self (t : ℕ) : Ring.inWin t t 3 = fun _ => none := by
  funext k
  rw [Ring.inWin_eq_none_iff (by omega)]
  intro x a b; omega

/-- Past the tiles in use every slot is free. -/
theorem stAt_past (n t : ℕ) (h : n ≤ t) : stAt n t = fun _ => none := by
  unfold stAt
  split
  · rfl
  · rw [show max t (min (t + 2) n) = t by omega, inWin_self]

theorem sl3_val (n : ℕ) : (Ring.sl 3 n).val = n % 3 := Ring.sl_val 3 n

section Point

variable (c : Dev nD) (i : grid0.Coords)
  (M4 : Memref sig .tc .vmem S1x1x1024x256 .f32) (h4 : M4.IsWhole) (M5 : Memref sig .tc .vmem S1x1x1024x256 .f32) (h5 : M5.IsWhole)
  (M6 : Memref sig .tc .vmem S1x1x256x1024 .f32) (h6 : M6.IsWhole) (M7 : Memref sig .tc .vmem S2048x2x128 .bf16) (h7 : M7.IsWhole)
  (X : Bf F c rowsM) (T : Bf F c cntM) (f4 : Bf F c M4) (f5 : Bf F c M5) (f6 : Bf F c M6) (f7 : Bf F c M7)

/-- The slot of this point's tile, and of the tile two ahead, are the ring's. -/
theorem freeNow_eq : (freeNow c i X (Ring.sl 3 (i 0).val) : sProp 𝕄) = slotSt c X (Ring.sl 3 (i 0).val) none :=
  FreeAt_congr c X _ _ _ _ _ ((off6_eq i).trans (congrArg oS (sl3_val _).symm)) ((off5_eq i).trans (congrArg oC (sl3_val _).symm))
theorem flyNow_eq : (flyNow c i X (Ring.sl 3 (i 0).val) : sProp 𝕄) = slotSt c X (Ring.sl 3 (i 0).val) (some (i 0).val) :=
  (FlyAt_congr c X _ _ _ _ _ _ _ ((off6_eq i).trans (congrArg oS (sl3_val _).symm)) ((off5_eq i).trans (congrArg oC (sl3_val _).symm)) (off7_eq i)).trans
    (slotSt_some c X _ _ (i0_lt i)).symm
theorem freeNext_eq : (freeNext c i X (Ring.sl 3 ((i 0).val + 2)) : sProp 𝕄) = slotSt c X (Ring.sl 3 ((i 0).val + 2)) none :=
  FreeAt_congr c X _ _ _ _ _ ((off3_eq i).trans (congrArg oS (sl3_val _).symm)) ((off2_eq i).trans (congrArg oC (sl3_val _).symm))
theorem flyNext_eq (hx : ∀ a, k0_off4 i a + S2048x128.size a ≤ S196608x128.size a) (hlt : (i 0).val + 2 < 96) :
    (flyNext c i X (Ring.sl 3 ((i 0).val + 2)) hx : sProp 𝕄) = slotSt c X (Ring.sl 3 ((i 0).val + 2)) (some ((i 0).val + 2)) :=
  (FlyAt_congr c X _ _ _ _ _ _ _ ((off3_eq i).trans (congrArg oS (sl3_val _).symm)) ((off2_eq i).trans (congrArg oC (sl3_val _).symm)) (off4_eq i)).trans
    (slotSt_some c X _ _ hlt).symm

open Classical in
/-- The result's block after the point. -/
def outB : Bf F c M7 := if (i 0).val < nT (rdN c T) then outF c i M4 M5 M6 M7 X f4 f5 f6 f7 else zeroF c M7 f7

/-- A grid point, from the ring before it to the ring after it. -/
theorem run_point (hn : nT (rdN c T) ≤ 96) (Q : PUnit → sProp 𝕄) :
    iprop(ring c X (stAt (nT (rdN c T)) (i 0).val) ∗ Held c T M4 M5 M6 M7 f4 f5 f6 f7
        ∗ ((ring c X (stAt (nT (rdN c T)) ((i 0).val + 1)) ∗ Held c T M4 M5 M6 M7 f4 f5 f6 (outB c i M4 M5 M6 M7 X T f4 f5 f6 f7)) -∗ Q ⟨⟩))
      ⊢ Run c i M4 h4 M5 h5 M6 h6 M7 h7 Q := by
  have hi := i0_lt i
  generalize hnn : nT (rdN c T) = n at *
  by_cases hp : n ≤ (i 0).val
  · rw [stAt_past n _ hp, stAt_past n _ (by omega)]
    have e : outB c i M4 M5 M6 M7 X T f4 f5 f6 f7 = zeroF c M7 f7 := if_neg (by omega)
    rw [e]
    iintro ⟨HR, HH, Hk⟩
    iapply (run_past c i M4 h4 M5 h5 M6 h6 M7 h7 T f4 f5 f6 f7 (by omega) (by omega) Q)
    isplitl [HH]; · iexact HH
    iintro HH
    iapply Hk
    isplitl [HR]; · iexact HR
    iexact HH
  have e : outB c i M4 M5 M6 M7 X T f4 f5 f6 f7 = outF c i M4 M5 M6 M7 X f4 f5 f6 f7 := if_pos (by omega)
  rw [e]
  by_cases h0 : (i 0).val = 0
  · have s0 : stAt n (i 0).val = fun _ => none := if_pos h0
    have s1 : stAt n ((i 0).val + 1) = Ring.inWin 1 (max 1 (min 3 n)) 3 := by unfold stAt; rw [if_neg (by omega), h0]
    have fn : (freeNow c i X 0 : sProp 𝕄) = slotSt c X 0 none := by
      have := freeNow_eq (F := F) c i X; rw [h0] at this; exact this
    have e0 : (FreeAt c X 0 (oS 0) (oS_inb 0) (oC 0) (oC_inb 0) : sProp 𝕄) = slotSt c X 0 none := rfl
    have e1 : (FreeAt c X 1 (oS 1) (oS_inb 1) (oC 1) (oC_inb 1) : sProp 𝕄) = slotSt c X 1 none := rfl
    have g1 : (FlyAt c X 1 (oS 1) (oS_inb 1) (oC 1) (oC_inb 1) (oX 1) (oX_inb 1) : sProp 𝕄) = slotSt c X 1 (some 1) := (slotSt_some c X 1 1 (by decide)).symm
    rw [s0, s1]
    unfold ring Ring.AtW
    rw [Ring.bigSep_fin3, Ring.bigSep_fin3]
    dsimp only
    by_cases n1 : n = 1
    · have w : Ring.inWin 1 (max 1 (min 3 n)) 3 = fun _ => none := by subst n1; exact inWin_self 1
      rw [w]
      iintro ⟨⟨H0, H1, H2⟩, HH, Hk⟩
      iapply (run_first1 c i M4 h4 M5 h5 M6 h6 M7 h7 X T f4 f5 f6 f7 (by omega) h0 (by omega) Q)
      rw [fn, e0]
      isplitl [H0]; · iexact H0
      isplitl [HH]; · iexact HH
      iintro ⟨H0, HH⟩
      iapply Hk
      isplitr [HH]
      · isplitl [H0]; · iexact H0
        isplitl [H1]; · iexact H1
        iexact H2
      · iexact HH
    by_cases n2 : n = 2
    · have w0 : Ring.inWin 1 (max 1 (min 3 n)) 3 0 = none := by subst n2; decide
      have w1 : Ring.inWin 1 (max 1 (min 3 n)) 3 1 = some 1 := by subst n2; decide
      have w2 : Ring.inWin 1 (max 1 (min 3 n)) 3 2 = none := by subst n2; decide
      rw [w0, w1, w2]
      iintro ⟨⟨H0, H1, H2⟩, HH, Hk⟩
      iapply (run_first2 c i M4 h4 M5 h5 M6 h6 M7 h7 X T f4 f5 f6 f7 (by omega) h0 (by omega) Q)
      rw [fn, e0, e1, g1]
      isplitl [H0 H1]
      · isplitl [H0]; · iexact H0
        iexact H1
      isplitl [HH]; · iexact HH
      iintro ⟨⟨H0, H1⟩, HH⟩
      iapply Hk
      isplitr [HH]
      · isplitl [H0]; · iexact H0
        isplitl [H1]; · iexact H1
        iexact H2
      · iexact HH
    · have w : max 1 (min 3 n) = 3 := by omega
      have w0 : Ring.inWin 1 3 3 0 = none := by decide
      have w1 : Ring.inWin 1 3 3 1 = some 1 := by decide
      have w2 : Ring.inWin 1 3 3 2 = some 2 := by decide
      have hx : ∀ a, k0_off4 i a + S2048x128.size a ≤ S196608x128.size a := by
        rw [off4_eq]; exact oX_inb ⟨(i 0).val + 2, by omega⟩
      have gn : (freeNext c i X 2 : sProp 𝕄) = slotSt c X 2 none := by
        have := freeNext_eq (F := F) c i X; rw [h0] at this; exact this
      have yn : (flyNext c i X 2 hx : sProp 𝕄) = slotSt c X 2 (some 2) := by
        have := flyNext_eq (F := F) c i X hx (by omega); rw [h0] at this; exact this
      rw [w, w0, w1, w2]
      iintro ⟨⟨H0, H1, H2⟩, HH, Hk⟩
      iapply (run_first3 c i M4 h4 M5 h5 M6 h6 M7 h7 X T f4 f5 f6 f7 (by omega) h0 (by omega) hx Q)
      rw [fn, gn, yn, e0, e1, g1]
      isplitl [H0 H1 H2]
      · isplitl [H0]; · iexact H0
        isplitl [H1]; · iexact H1
        iexact H2
      isplitl [HH]; · iexact HH
      iintro ⟨⟨H0, H1, H2⟩, HH⟩
      iapply Hk
      isplitr [HH]
      · isplitl [H0]; · iexact H0
        isplitl [H1]; · iexact H1
        iexact H2
      · iexact HH
  generalize ht : (i 0).val = t at *
  have s0 : stAt n t = Ring.inWin t (min (t + 2) n) 3 := by
    unfold stAt; rw [if_neg (by omega), show max t (min (t + 2) n) = min (t + 2) n by omega]
  have s1 : stAt n (t + 1) = Ring.inWin (t + 1) (min (t + 3) n) 3 := by
    unfold stAt; rw [if_neg (by omega), show max (t + 1) (min (t + 1 + 2) n) = min (t + 3) n by omega]
  have hlo : Ring.inWin t (min (t + 2) n) 3 (Ring.sl 3 t) = some t := Ring.inWin_lo (by omega) (by omega)
  have fn := freeNow_eq (F := F) c i X
  have yn := flyNow_eq (F := F) c i X
  rw [ht] at fn yn
  by_cases hb : t + 2 < n
  · have m0 : min (t + 2) n = t + 2 := by omega
    have m1 : min (t + 3) n = t + 2 + 1 := by omega
    rw [s0, s1, m0, m1]
    rw [m0] at hlo
    have hhi : Ring.inWin t (t + 2) 3 (Ring.sl 3 (t + 2)) = none := Ring.inWin_hi (by omega) (by omega)
    have hne : Ring.sl 3 (t + 2) ≠ Ring.sl 3 t := Ring.sl_ne_of_lt (by omega) (by omega)
    have hu : Ring.inWin (t + 1) (t + 2 + 1) 3
        = Function.update (Function.update (Ring.inWin t (t + 2) 3) (Ring.sl 3 t) none) (Ring.sl 3 (t + 2)) (some (t + 2)) := by
      rw [Ring.inWin_push (by omega) (by omega), Ring.inWin_pop (by omega) (by omega)]
    have hx : ∀ a, k0_off4 i a + S2048x128.size a ≤ S196608x128.size a := by
      rw [off4_eq]; exact oX_inb ⟨(i 0).val + 2, by omega⟩
    have gn := freeNext_eq (F := F) c i X
    have zn := flyNext_eq (F := F) c i X hx (by omega)
    rw [ht] at gn zn
    unfold ring
    rw [Ring.AtW_focus2 (slotSt c X) _ hne, hlo, hhi, hu]
    iintro ⟨⟨H0, H2, Hr⟩, HH, Hk⟩
    iapply (run_both c i M4 h4 M5 h5 M6 h6 M7 h7 X T f4 f5 f6 f7 (Ring.sl 3 t) (Ring.sl 3 (t + 2)) (by omega) (by omega) (by omega) hx Q)
    rw [fn, yn, gn, zn]
    isplitl [H0 H2]
    · isplitl [H0]; · iexact H0
      iexact H2
    isplitl [HH]; · iexact HH
    iintro ⟨⟨H0, H2⟩, HH⟩
    iapply Hk
    isplitr [HH]
    · iapply (Ring.AtW_update2 (slotSt c X) _ hne none (some (t + 2)))
      isplitl [H0]; · iexact H0
      isplitl [H2]; · iexact H2
      iexact Hr
    · iexact HH
  · have m0 : min (t + 3) n = min (t + 2) n := by omega
    have hu : Ring.inWin (t + 1) (min (t + 2) n) 3 = Function.update (Ring.inWin t (min (t + 2) n) 3) (Ring.sl 3 t) none :=
      Ring.inWin_pop (by omega) (by omega)
    rw [s0, s1, m0, hu]
    unfold ring
    rw [Ring.AtW_focus (σ := fun _ => Option ℕ) (slotSt c X) _ (Ring.sl 3 t), hlo]
    iintro ⟨⟨H0, Hr⟩, HH, Hk⟩
    iapply (run_last c i M4 h4 M5 h5 M6 h6 M7 h7 X T f4 f5 f6 f7 (Ring.sl 3 t) (by omega) (by omega) (by omega) (by omega) Q)
    rw [fn, yn]
    isplitl [H0]; · iexact H0
    isplitl [HH]; · iexact HH
    iintro ⟨H0, HH⟩
    iapply Hk
    isplitr [HH]
    · iapply (Ring.AtW_update (σ := fun _ => Option ℕ) (slotSt c X) _ (Ring.sl 3 t) none)
      isplitl [H0]; · iexact H0
      iexact Hr
    · iexact HH

end Point

end Cert.Proof.Experts

end
-- ==== Proof.Block.lean ====
/-
  What a grid point of the experts' kernel leaves in the result's block, as a function of the blocks it reads.
-/
module

public import proofs.«01_k».proof.Proof.States
public import Idealize.ShloMosaic.Lib.Pipeline.FrameBody

@[expose] public section

noncomputable section

namespace Cert.Proof.Experts

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-- A weight block, read whole. -/
abbrev wrd (x : Vec F S1x1x1024x256 .f32) : Vec F S1x1x1024x256 .f32 :=
  View.ld x (Rect.unit (s := S1x1x1024x256) ![0, 0, 0, 0] S1x1x1024x256.size inb_S1x1x1024x256_S1x1x1024x256_0_0_0_0)
abbrev drd (x : Vec F S1x1x256x1024 .f32) : Vec F S1x1x256x1024 .f32 :=
  View.ld x (Rect.unit (s := S1x1x256x1024) ![0, 0, 0, 0] S1x1x256x1024.size inb_S1x1x256x1024_S1x1x256x1024_0_0_0_0)

/-- Four stores of the result's block, in quarters of rows, latest first. -/
abbrev quarters (p3 p2 p1 p0 : Vec F S512x2x128 .bf16) : List (View.Piece (Elt F) S2048x2x128 .bf16) :=
  [⟨⟨⟨![3, 0, 0], S512x2x128.size, ![4, 1, 1], inb_S2048x2x128_S512x2x128_3_0_0_s_4_1_1⟩, spos_4_1_1⟩, p3⟩,
    ⟨⟨⟨![2, 0, 0], S512x2x128.size, ![4, 1, 1], inb_S2048x2x128_S512x2x128_2_0_0_s_4_1_1⟩, spos_4_1_1⟩, p2⟩,
    ⟨⟨⟨![1, 0, 0], S512x2x128.size, ![4, 1, 1], inb_S2048x2x128_S512x2x128_1_0_0_s_4_1_1⟩, spos_4_1_1⟩, p1⟩,
    ⟨⟨⟨![0, 0, 0], S512x2x128.size, ![4, 1, 1], inb_S2048x2x128_S512x2x128_0_0_0_s_4_1_1⟩, spos_4_1_1⟩, p0⟩]

/-- The stores of point `i`. -/
abbrev pieces (c : Dev nD) (i : grid0.Coords) (X : Bf F c rowsM) (x4 x5 : Vec F S1x1x1024x256 .f32) (x6 : Vec F S1x1x256x1024 .f32) :
    List (View.Piece (Elt F) S2048x2x128 .bf16) :=
  quarters
    (k0_pay3 (k0_pay8 (q0 c i X) (q1 c i X) (q2 c i X) (q3 c i X) (wrd x4) (wrd x5) (drd x6))
      (k0_pay9 (q0 c i X) (q1 c i X) (q2 c i X) (q3 c i X) (wrd x4) (wrd x5) (drd x6)))
    (k0_pay2 (k0_pay8 (q0 c i X) (q1 c i X) (q2 c i X) (q3 c i X) (wrd x4) (wrd x5) (drd x6))
      (k0_pay9 (q0 c i X) (q1 c i X) (q2 c i X) (q3 c i X) (wrd x4) (wrd x5) (drd x6)))
    (k0_pay1 (k0_pay8 (q0 c i X) (q1 c i X) (q2 c i X) (q3 c i X) (wrd x4) (wrd x5) (drd x6))
      (k0_pay9 (q0 c i X) (q1 c i X) (q2 c i X) (q3 c i X) (wrd x4) (wrd x5) (drd x6)))
    (k0_pay10 (q0 c i X) (q1 c i X) (q2 c i X) (q3 c i X) (wrd x4) (wrd x5) (drd x6))

/-- The store of zeros past the tiles in use. -/
def zeroPiece : List (View.Piece (Elt F) S2048x2x128 .bf16) :=
  [⟨Rect.unit (s := S2048x2x128) ![0, 0, 0] S2048x2x128.size inb_S2048x2x128_S2048x2x128_0_0_0, constant S2048x2x128 .bf16 0x0000#16⟩]

open Classical in
/-- The result's block after point `i`, `n` tiles in use. -/
def blk (c : Dev nD) (i : grid0.Coords) (n : ℕ) (X : Bf F c rowsM) (x4 x5 : Vec F S1x1x1024x256 .f32) (x6 : Vec F S1x1x256x1024 .f32) :
    Vec F S2048x2x128 .bf16 :=
  if (i 0).val < n then View.canon (pieces c i X x4 x5 x6) else View.canon zeroPiece

/-- Row `y` of the block lies in the store of the rows that leave its remainder by four. -/
theorem mem_quarter (y : S2048x2x128.Idx) (k : Fin 4) (hk : (y 0).val % 4 = k.val)
    (inb : ∀ a, S512x2x128.size a = 0 ∨ (![k.val, 0, 0] : Fin 3 → ℕ) a + (![4, 1, 1] : Fin 3 → ℕ) a * (S512x2x128.size a - 1) < S2048x2x128.size a) :
    y ∈ (⟨⟨![k.val, 0, 0], S512x2x128.size, ![4, 1, 1], inb⟩, spos_4_1_1⟩ : Rect S2048x2x128).set := by
  rw [LoadRect.mem_set]
  have h0 : (y 0).val < 2048 := (y 0).isLt
  have h1 : (y 1).val < 2 := (y 1).isLt
  have h2 : (y 2).val < 128 := (y 2).isLt
  intro a
  match a with
  | ⟨0, _⟩ => exact ⟨(y 0).val / 4, show _ < 512 by omega, show (y 0).val = k.val + 4 * ((y 0).val / 4) by omega⟩
  | ⟨1, _⟩ => exact ⟨(y 1).val, h1, show (y 1).val = 0 + 1 * (y 1).val by omega⟩
  | ⟨2, _⟩ => exact ⟨(y 2).val, h2, show (y 2).val = 0 + 1 * (y 2).val by omega⟩

/-- The four stores cover the block. -/
theorem quarters_cover (p3 p2 p1 p0 : Vec F S512x2x128 .bf16) (y : S2048x2x128.Idx) : ∃ p ∈ quarters p3 p2 p1 p0, y ∈ p.1.set := by
  have h : (y 0).val % 4 < 4 := Nat.mod_lt _ (by decide)
  by_cases h3 : (y 0).val % 4 = 3
  · exact ⟨_, List.mem_cons_self, mem_quarter y 3 h3 _⟩
  by_cases h2 : (y 0).val % 4 = 2
  · exact ⟨_, List.mem_cons_of_mem _ List.mem_cons_self, mem_quarter y 2 h2 _⟩
  by_cases h1 : (y 0).val % 4 = 1
  · exact ⟨_, List.mem_cons_of_mem _ (List.mem_cons_of_mem _ List.mem_cons_self), mem_quarter y 1 h1 _⟩
  · exact ⟨_, List.mem_cons_of_mem _ (List.mem_cons_of_mem _ (List.mem_cons_of_mem _ List.mem_cons_self)),
      mem_quarter y 0 (show (y 0).val % 4 = 0 by omega) _⟩

/-- The store of zeros covers the block. -/
theorem zero_cover (y : S2048x2x128.Idx) : ∃ p ∈ (zeroPiece (F := F)), y ∈ p.1.set := by
  refine ⟨_, List.mem_singleton_self _, ?_⟩
  rw [LoadRect.mem_set]
  intro a
  match a with
  | ⟨0, _⟩ => exact ⟨(y 0).val, (y 0).isLt, show (y 0).val = 0 + 1 * (y 0).val by omega⟩
  | ⟨1, _⟩ => exact ⟨(y 1).val, (y 1).isLt, show (y 1).val = 0 + 1 * (y 1).val by omega⟩
  | ⟨2, _⟩ => exact ⟨(y 2).val, (y 2).isLt, show (y 2).val = 0 + 1 * (y 2).val by omega⟩

/-- Read through its memref, the result's buffer after the point is the block. -/
theorem read_outB (c : Dev nD) (i : grid0.Coords) (M4 : Memref sig .tc .vmem S1x1x1024x256 .f32) (M5 : Memref sig .tc .vmem S1x1x1024x256 .f32)
    (M6 : Memref sig .tc .vmem S1x1x256x1024 .f32) (M7 : Memref sig .tc .vmem S2048x2x128 .bf16) (X : Bf F c rowsM) (T : Bf F c cntM)
    (f4 : Bf F c M4) (f5 : Bf F c M5) (f6 : Bf F c M6) (f7 : Bf F c M7) :
    M7.view.read (Elt F) (outB c i M4 M5 M6 M7 X T f4 f5 f6 f7)
      = blk c i (nT (rdN c T)) X (M4.view.read (Elt F) f4) (M5.view.read (Elt F) f5) (M6.view.read (Elt F) f6) := by
  unfold outB blk
  split
  · exact View.read_writes_eq_canon M7.view f7 (pieces c i X _ _ _) (quarters_cover _ _ _ _)
  · exact View.read_writes_eq_canon M7.view f7 zeroPiece zero_cover

end Cert.Proof.Experts

end
-- ==== Proof.Region0.lean ====
/-
  The experts' kernel over its whole grid: its proof data and the body's obligation at every point.
-/
module

public import proofs.«01_k».proof.Proof.Block
public import Idealize.ShloMosaic.Lib.Pipeline.RegionArraysT

@[expose] public section

noncomputable section

namespace Cert.Proof.Experts

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F] [Named F]

local notation "𝕄" => MT nD τ sig Unit (Elt F) ℕ UU ℕ

variable (a : (pcfg0 (F := F)).Adm) (V : Dev nD → Valuation τ sig (Elt F))

/-- The tiles in use, as the admitted tables tell. -/
abbrev cntT (c : Dev nD) : Bf F c cntM := a.1 1
abbrev rowsX (c : Dev nD) : Bf F c rowsM := V c main_arg2

/-- Window `w`'s block at point `t`, as the array's entry contents hold it. -/
abbrev inB (c : Dev nD) (w : Fin 4) (t : Fin (cfg0 a).N) : (((cfg0 a).win w).xblock ((cfg0 a).grid.coords t)).Idx → Elt F ((cfg0 a).win w).elt :=
  (((cfg0 a).win w).blk t).view.read (Elt F) (V c (Proc.devRef .tc (Pipeline.arrRef spec0 w)))

/-- The rest of the second kernel's staging buffers, at anything. -/
def rest0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f))

/-- What is held between points and does not move: the table of experts, the rows' share that no slot lends out, and the rest. -/
def still (c : Dev nD) : sProp 𝕄 :=
  iprop((((c : Thread nD τ).loc main_arg0) ↦{fullShare} (a.1 0 : Buf (Elt F) ((c : Thread nD τ).loc main_arg0)))
    ∗ (rowsM.view.loc (c : Thread nD τ) ↦{Transfers.shareDrop fullShare 3} rowsX V c) ∗ rest0 c)

/-- The invariant before point `t`. -/
def inv0 (c : Dev nD) (t : ℕ) : sProp 𝕄 :=
  iprop(ring c (rowsX V c) (stAt (nT (rdN c (cntT a c))) t) ∗ pt c cntM (cntT a c) ∗ still a V c)

/-- The proof data: the arrays at the entry contents, each input's block left as fetched, the result's block as computed. -/
def dat0 (c : Dev nD) : Dat τ (Elt F) Unit ℕ UU ℕ (cfg0 a) c where
  A w := V c (Proc.devRef .tc (Pipeline.arrRef spec0 w))
  after w t := match w with
    | ⟨0, _⟩ => inB a V c 0 t
    | ⟨1, _⟩ => inB a V c 1 t
    | ⟨2, _⟩ => inB a V c 2 t
    | ⟨3, _⟩ => blk c (grid0.coords t) (nT (rdN c (cntT a c))) (rowsX V c) (inB a V c 0 t) (inB a V c 1 t) (inB a V c 2 t)
  Φ t := inv0 a V c t.val
  q _ := fullShare
  owed _ := 0

theorem coords0 : ∀ t : Fin grid0.N, (grid0.coords t 0).val = t.val := by decide +kernel

theorem before0 (c : Dev nD) (t : Fin (cfg0 a).N) (d) : (dat0 a V c).before 0 t d = inB a V c 0 t :=
  (dat0 a V c).before_in_eq_fetched 0 rfl (fun _ => rfl) (fun _ _ _ => rfl) (fun _ => rfl) t d
theorem before1 (c : Dev nD) (t : Fin (cfg0 a).N) (d) : (dat0 a V c).before 1 t d = inB a V c 1 t :=
  (dat0 a V c).before_in_eq_fetched 1 rfl (fun _ => rfl) (fun _ _ _ => rfl) (fun _ => rfl) t d
theorem before2 (c : Dev nD) (t : Fin (cfg0 a).N) (d) : (dat0 a V c).before 2 t d = inB a V c 2 t :=
  (dat0 a V c).before_in_eq_fetched 2 rfl (fun _ => rfl) (fun _ _ _ => rfl) (fun _ => rfl) t d

theorem idle_word (i : grid0.Coords) (w : BitVec 32) : (!(k0_cond5 i w == 1#1) && !(k0_cond6 i w == 1#1)) = false := by
  by_cases h : (i 0).val < nT w
  · rw [(cond5_iff i w).2 h]; rfl
  · rw [(cond6_iff i w).2 (by omega)]; simp

/-- The result's window is idle at no point: the kernel stores it, or zeros. -/
theorem idle3 (pf : pre0.Contents (Elt F)) (i : grid0.Coords) : idle0 pf 3 i = false := idle_word i (pf.atD 1 ![0])

/-- A whole memref owned is its buffer held. -/
theorem own_pt (c : Dev nD) {sp : Space} {S : Shape} {e : EltTy} {M : Memref sig .tc sp S e} (h : M.IsWhole) (X : S.Idx → Elt F e) :
    (owns (c : Thread nD τ) M fullShare X : sProp 𝕄) = iprop(∃ f : Bf F c M, ⌜M.view.read (Elt F) f = X⌝ ∗ pt c M f) := by
  unfold owns
  rw [h.set_eq_univ]

theorem own_eq (c : Dev nD) {sp : Space} {S : Shape} {e : EltTy} {M : Memref sig .tc sp S e} {X Y : S.Idx → Elt F e} (h : X = Y) :
    (owns (c : Thread nD τ) M fullShare X : sProp 𝕄) ⊢ owns (c : Thread nD τ) M fullShare Y := h ▸ .rfl

set_option maxHeartbeats 1000000 in
/-- A grid point over any four whole staging buffers. -/
theorem point0 (c : Dev nD) (hn : nT (rdN c (cntT a c)) ≤ 96) (t : Fin grid0.N)
    (M4 : Memref sig .tc .vmem S1x1x1024x256 .f32) (h4 : M4.IsWhole) (M5 : Memref sig .tc .vmem S1x1x1024x256 .f32) (h5 : M5.IsWhole)
    (M6 : Memref sig .tc .vmem S1x1x256x1024 .f32) (h6 : M6.IsWhole) (M7 : Memref sig .tc .vmem S2048x2x128 .bf16) (h7 : M7.IsWhole)
    (x4 x5 : Vec F S1x1x1024x256 .f32) (x6 : Vec F S1x1x256x1024 .f32) :
    iprop(inv0 a V c t.val ∗ (∃ W, owes (c : Thread nD τ) (0 : CellTallies nD τ sig Unit) W)
        ∗ owns (c : Thread nD τ) M4 fullShare x4 ∗ owns (c : Thread nD τ) M5 fullShare x5 ∗ owns (c : Thread nD τ) M6 fullShare x6
        ∗ ∃ d, owns (c : Thread nD τ) M7 fullShare d)
      ⊢ Run c (grid0.coords t) M4 h4 M5 h5 M6 h6 M7 h7 fun _ =>
          iprop(inv0 a V c (t.val + 1) ∗ (∃ W, owes (c : Thread nD τ) (0 : CellTallies nD τ sig Unit) W)
            ∗ owns (c : Thread nD τ) M4 fullShare x4 ∗ owns (c : Thread nD τ) M5 fullShare x5 ∗ owns (c : Thread nD τ) M6 fullShare x6
            ∗ owns (c : Thread nD τ) M7 fullShare (blk c (grid0.coords t) (nT (rdN c (cntT a c))) (rowsX V c) x4 x5 x6)) := by
  simp only [own_pt c h4, own_pt c h5, own_pt c h6, own_pt c h7]
  iintro ⟨HΦ, HO, ⟨%f4, %e4, H4⟩, ⟨%f5, %e5, H5⟩, ⟨%f6, %e6, H6⟩, ⟨%d, ⟨%f7, -, H7⟩⟩⟩
  unfold inv0
  icases HΦ with ⟨HR, HT, HS⟩
  have hp := run_point c (grid0.coords t) M4 h4 M5 h5 M6 h6 M7 h7 (rowsX V c) (cntT a c) f4 f5 f6 f7 hn
  rw [coords0] at hp
  iapply hp
  isplitl [HR]; · iexact HR
  isplitl [HO HT H4 H5 H6 H7]
  · isplitl [HO]; · iexact HO
    isplitl [HT]; · iexact HT
    isplitl [H4]; · iexact H4
    isplitl [H5]; · iexact H5
    isplitl [H6]; · iexact H6
    iexact H7
  iintro ⟨HR, HO, HT, H4, H5, H6, H7⟩
  isplitl [HR HT HS]
  · isplitl [HR]; · iexact HR
    isplitl [HT]; · iexact HT
    iexact HS
  isplitl [HO]; · iexact HO
  isplitl [H4]; · iexists f4; isplitr; · ipureintro; exact e4
                  iexact H4
  isplitl [H5]; · iexists f5; isplitr; · ipureintro; exact e5
                  iexact H5
  isplitl [H6]; · iexists f6; isplitr; · ipureintro; exact e6
                  iexact H6
  iexists _
  isplitr; swap; · iexact H7
  ipureintro
  rw [read_outB, e4, e5, e6]

/-- The library's body obligation. -/
theorem body0 (c : Dev nD) (hn : nT (rdN c (cntT a c)) ≤ 96) : BodyObligationLoose (dat0 a V c) (defs₀ (F := F)) Variants.none () Set.univ := fun t => by
  rw [bigSep_W0, bigSep_W0]
  dsimp only
  rw [idle3]
  dsimp only
  rw [show (dat0 a V c).Φ t.castSucc = inv0 a V c t.val from rfl, show (dat0 a V c).Φ t.succ = inv0 a V c (t.val + 1) from rfl,
    show (dat0 a V c).owesAt () t.succ = (dat0 a V c).owesAt () t.castSucc from rfl]
  refine triple_restated (point0 a V c hn t (stage0_0 ((cfg0 a).slots t 0)) (hstage0_0 (((cfg0 a).slots t 0).cast nbuf0_0))
    (stage0_1 ((cfg0 a).slots t 1)) (hstage0_1 (((cfg0 a).slots t 1).cast nbuf0_1))
    (stage0_2 ((cfg0 a).slots t 2)) (hstage0_2 (((cfg0 a).slots t 2).cast nbuf0_2))
    (stage0_3 ((cfg0 a).slots t 3)) (hstage0_3 (((cfg0 a).slots t 3).cast nbuf0_3)) (inB a V c 0 t) (inB a V c 1 t) (inB a V c 2 t)) ?_ ?_ fun _ => ?_
  · unfold defs₀; rw [Defs.onTc_tc]
  · unfold Dat.owesAt Pipeline.owesWithin
    iintro ⟨HΦ, ⟨%W, -, HO⟩, ⟨%d0, H0⟩, ⟨%d1, H1⟩, ⟨%d2, H2⟩, ⟨%d3, H3⟩⟩
    have q0 : (owns (c : Thread nD τ) (stage0_0 ((cfg0 a).slots t 0)) fullShare ((dat0 a V c).before 0 t d0) : sProp 𝕄)
        ⊢ owns (c : Thread nD τ) (stage0_0 ((cfg0 a).slots t 0)) fullShare (inB a V c 0 t) := own_eq c (before0 a V c t d0)
    have q1 : (owns (c : Thread nD τ) (stage0_1 ((cfg0 a).slots t 1)) fullShare ((dat0 a V c).before 1 t d1) : sProp 𝕄)
        ⊢ owns (c : Thread nD τ) (stage0_1 ((cfg0 a).slots t 1)) fullShare (inB a V c 1 t) := own_eq c (before1 a V c t d1)
    have q2 : (owns (c : Thread nD τ) (stage0_2 ((cfg0 a).slots t 2)) fullShare ((dat0 a V c).before 2 t d2) : sProp 𝕄)
        ⊢ owns (c : Thread nD τ) (stage0_2 ((cfg0 a).slots t 2)) fullShare (inB a V c 2 t) := own_eq c (before2 a V c t d2)
    isplitl [HΦ]; · iexact HΦ
    isplitl [HO]; · iexists W; iexact HO
    isplitl [H0]; · iapply q0; iexact H0
    isplitl [H1]; · iapply q1; iexact H1
    isplitl [H2]; · iapply q2; iexact H2
    iexists _; iexact H3
  · unfold Dat.owesAt Pipeline.owesWithin
    iintro ⟨HΦ, ⟨%W, HO⟩, H0, H1, H2, H3⟩
    isplitl [HΦ]; · iexact HΦ
    isplitl [HO]
    · iexists W; isplitr; · ipureintro; exact fun _ _ => Or.inl trivial
      iexact HO
    isplitl [H0]; · iexact H0
    isplitl [H1]; · iexact H1
    isplitl [H2]; · iexact H2
    iexact H3

end Cert.Proof.Experts

end
-- ==== Proof.Entry.lean ====
/-
  Entering and leaving the ring: the ring buffer whole, the three semaphores at zero and the packed rows whole are the
  three slots free and the part of the rows no slot lends out.
-/
module

public import proofs.«01_k».proof.Proof.Region0

@[expose] public section

noncomputable section

namespace Cert.Proof.Experts

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-- The elements of slot `k`. -/
abbrev slotSet (k : Fin 3) : Finset (S3x2048x128.Idx) := (Rect.unit (s := S3x2048x128) (oS k) S1x2048x128.size (oS_inb k)).set

/-- Two slots of the ring share no element. -/
theorem slots_disjoint (k k' : Fin 3) (h : k ≠ k') : Disjoint (slotSet k) (slotSet k') :=
  Ring.lead_disjoint (s := S3x2048x128) 0 1 (fun k : Fin 3 => oS k) S1x2048x128.size oS_inb
    (by decide) (by decide) k k' h

/-- The three slots are the whole ring. -/
theorem slots_cover : Finset.univ.biUnion slotSet = Finset.univ :=
  Ring.lead_cover (s := S3x2048x128) 0 1 (fun k : Fin 3 => oS k) S1x2048x128.size oS_inb
    (by decide) (by decide) (by decide) (by decide) (by decide)

theorem slot_set (k : Fin 3) : (slotAt (oS k) (oS_inb k)).view.set = slotSet k :=
  (View.set_reshape _ _).trans (View.set_slice_whole _ _)

/-- The kernel's own semaphores. -/
abbrev osem0 (k : Fin 3) : SemLoc sig := SemLoc.dma (cellAt (oC k) (oC_inb k))

/-- The free slots are the semaphores at zero, the ring buffer at anything and the slots' parts of the rows. -/
theorem ring_free (c : Dev nD) (X : Bf F c rowsM) :
    (ring c X (fun _ => none) : sProp 𝕄)
      = iprop(FreeAt c X 0 (oS 0) (oS_inb 0) (oC 0) (oC_inb 0) ∗ FreeAt c X 1 (oS 1) (oS_inb 1) (oC 1) (oC_inb 1)
        ∗ FreeAt c X 2 (oS 2) (oS_inb 2) (oC 2) (oC_inb 2)) :=
  Ring.bigSep_fin3 _

/-- The ring and its semaphores, split into three free slots. -/
theorem ring_in (c : Dev nD) (X : Bf F c rowsM) :
    iprop(Pipeline.ownSems0 osem0 c ∗ (∃ f : Buf (Elt F) ((c : Thread nD τ).loc cc0_scratch0), ((c : Thread nD τ).loc cc0_scratch0) ↦{fullShare} f)
        ∗ pt c rowsM X)
      ⊢ (iprop(ring c X (fun _ => none) ∗ (rowsM.view.loc (c : Thread nD τ) ↦{Transfers.shareDrop fullShare 3} X)) : sProp 𝕄) := by
  rw [ring_free]
  unfold Pipeline.ownSems0 FreeAt
  rw [Ring.bigSep_fin3]
  have hs := Ring.slots3_split (Ix := Unit) (Val := Elt F) (Name := ℕ) (U := UU) (Lvl := ℕ) (ℓ := (c : Thread nD τ).loc cc0_scratch0) (q := fullShare)
    slotSet slots_disjoint slots_cover
    (fun f => (slotAt (oS 0) (oS_inb 0)).view.loc (c : Thread nD τ) ↦[(slotAt (oS 0) (oS_inb 0)).view.set]{fullShare} f)
    (fun f => (slotAt (oS 1) (oS_inb 1)).view.loc (c : Thread nD τ) ↦[(slotAt (oS 1) (oS_inb 1)).view.set]{fullShare} f)
    (fun f => (slotAt (oS 2) (oS_inb 2)).view.loc (c : Thread nD τ) ↦[(slotAt (oS 2) (oS_inb 2)).view.set]{fullShare} f)
    (fun f => by rw [← slot_set 0]; rfl) (fun f => by rw [← slot_set 1]; rfl) (fun f => by rw [← slot_set 2]; rfl)
  have ht := Transfers.pointsTo_toks_split (Ix := Unit) (Val := Elt F) (Name := ℕ) (U := UU) (Lvl := ℕ) (ℓ := rowsM.view.loc (c : Thread nD τ)) (S := Finset.univ) (f := X) fullShare 3
  rw [Ring.bigSep_fin3] at ht
  iintro ⟨⟨S0, S1, S2⟩, HB, HX⟩
  ihave HB := hs $$ HB
  ihave HX := ht $$ HX
  icases HB with ⟨B0, B1, B2⟩
  icases HX with ⟨HX, X0, X1, X2⟩
  isplitr [HX]; swap; · iexact HX
  isplitl [S0 B0 X0]
  · isplitl [S0]; · iexact S0
    isplitl [B0]; · iexact B0
    iexact X0
  isplitl [S1 B1 X1]
  · isplitl [S1]; · iexact S1
    isplitl [B1]; · iexact B1
    iexact X1
  isplitl [S2]; · iexact S2
  isplitl [B2]; · iexact B2
  iexact X2

/-- Three free slots put together are the ring and its semaphores. -/
theorem ring_out (c : Dev nD) (X : Bf F c rowsM) :
    (iprop(ring c X (fun _ => none) ∗ (rowsM.view.loc (c : Thread nD τ) ↦{Transfers.shareDrop fullShare 3} X)) : sProp 𝕄)
      ⊢ iprop(Pipeline.ownSems0 osem0 c ∗ (∃ f : Buf (Elt F) ((c : Thread nD τ).loc cc0_scratch0), ((c : Thread nD τ).loc cc0_scratch0) ↦{fullShare} f)
        ∗ pt c rowsM X) := by
  rw [ring_free]
  unfold Pipeline.ownSems0 FreeAt
  rw [Ring.bigSep_fin3]
  have hs := Ring.slots3_join (Ix := Unit) (Val := Elt F) (Name := ℕ) (U := UU) (Lvl := ℕ) (ℓ := (c : Thread nD τ).loc cc0_scratch0) (q := fullShare)
    slotSet slots_disjoint slots_cover
    (fun f => (slotAt (oS 0) (oS_inb 0)).view.loc (c : Thread nD τ) ↦[(slotAt (oS 0) (oS_inb 0)).view.set]{fullShare} f)
    (fun f => (slotAt (oS 1) (oS_inb 1)).view.loc (c : Thread nD τ) ↦[(slotAt (oS 1) (oS_inb 1)).view.set]{fullShare} f)
    (fun f => (slotAt (oS 2) (oS_inb 2)).view.loc (c : Thread nD τ) ↦[(slotAt (oS 2) (oS_inb 2)).view.set]{fullShare} f)
    (fun f => by rw [← slot_set 0]; rfl) (fun f => by rw [← slot_set 1]; rfl) (fun f => by rw [← slot_set 2]; rfl)
  have ht := Transfers.pointsTo_toks_join (Ix := Unit) (Val := Elt F) (Name := ℕ) (U := UU) (Lvl := ℕ) (ℓ := rowsM.view.loc (c : Thread nD τ)) (S := Finset.univ) (f := X) fullShare 3
  rw [Ring.bigSep_fin3] at ht
  iintro ⟨⟨⟨S0, B0, X0⟩, ⟨S1, B1, X1⟩, ⟨S2, B2, X2⟩⟩, HX⟩
  isplitl [S0 S1 S2]
  · isplitl [S0]; · iexact S0
    isplitl [S1]; · iexact S1
    iexact S2
  isplitl [B0 B1 B2]
  · iapply hs
    isplitl [B0]; · iexact B0
    isplitl [B1]; · iexact B1
    iexact B2
  iapply ht
  isplitl [HX]; · iexact HX
  isplitl [X0]; · iexact X0
  isplitl [X1]; · iexact X1
  iexact X2

end Cert.Proof.Experts

end
-- ==== Proof.Region1.lean ====
/-
  The second kernel, which takes the pairs of the packed result apart: its body, its proof data and the body's obligation.
-/
module

public import proofs.«01_k».proof.Proof.Region0
public import proofs.«01_k».proof.Proof.Gen.KernelIdeal.Points

@[expose] public section

noncomputable section

namespace Cert.Proof.Experts

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F] [Named F]

local notation "𝕄" => MT nD τ sig Unit (Elt F) ℕ UU ℕ

/-- Every fourth pair of rows, from row 0, 1, 2 and 3 on. -/
def r0 (x : Vec F S2048x2x128 .bf16) : Vec F S512x2x128 .bf16 :=
  fun j => x ((⟨![0, 0, 0], S512x2x128.size, ![4, 1, 1], inb_S2048x2x128_S512x2x128_0_0_0_s_4_1_1⟩ : LoadRect S2048x2x128).idx j)
def r1 (x : Vec F S2048x2x128 .bf16) : Vec F S512x2x128 .bf16 :=
  fun j => x ((⟨![1, 0, 0], S512x2x128.size, ![4, 1, 1], inb_S2048x2x128_S512x2x128_1_0_0_s_4_1_1⟩ : LoadRect S2048x2x128).idx j)
def r2 (x : Vec F S2048x2x128 .bf16) : Vec F S512x2x128 .bf16 :=
  fun j => x ((⟨![2, 0, 0], S512x2x128.size, ![4, 1, 1], inb_S2048x2x128_S512x2x128_2_0_0_s_4_1_1⟩ : LoadRect S2048x2x128).idx j)
def r3 (x : Vec F S2048x2x128 .bf16) : Vec F S512x2x128 .bf16 :=
  fun j => x ((⟨![3, 0, 0], S512x2x128.size, ![4, 1, 1], inb_S2048x2x128_S512x2x128_3_0_0_s_4_1_1⟩ : LoadRect S2048x2x128).idx j)

/-- The stores of the two halves of the columns, latest first. -/
abbrev halves (p1 p0 : Vec F S512x512 .f32) : List (View.Piece (Elt F) S512x1024 .f32) :=
  [⟨Rect.unit (s := S512x1024) ![0, 512] S512x512.size inb_S512x1024_S512x512_0_512, p1⟩,
    ⟨Rect.unit (s := S512x1024) ![0, 0] S512x512.size inb_S512x1024_S512x512_0_0, p0⟩]

/-- They cover the block. -/
theorem halves_cover (p1 p0 : Vec F S512x512 .f32) (y : S512x1024.Idx) : ∃ p ∈ halves p1 p0, y ∈ p.1.set := by
  have h0 : (y 0).val < 512 := (y 0).isLt
  have h1 : (y 1).val < 1024 := (y 1).isLt
  by_cases h : 512 ≤ (y 1).val
  · refine ⟨_, List.mem_cons_self, ?_⟩
    rw [LoadRect.mem_set]
    intro a
    match a with
    | ⟨0, _⟩ => exact ⟨(y 0).val, h0, show (y 0).val = 0 + 1 * (y 0).val by omega⟩
    | ⟨1, _⟩ => exact ⟨(y 1).val - 512, show _ < 512 by omega, show (y 1).val = 512 + 1 * ((y 1).val - 512) by omega⟩
  · refine ⟨_, List.mem_cons_of_mem _ List.mem_cons_self, ?_⟩
    rw [LoadRect.mem_set]
    intro a
    match a with
    | ⟨0, _⟩ => exact ⟨(y 0).val, h0, show (y 0).val = 0 + 1 * (y 0).val by omega⟩
    | ⟨1, _⟩ => exact ⟨(y 1).val, show _ < 512 by omega, show (y 1).val = 0 + 1 * (y 1).val by omega⟩

/-- The block the kernel makes of a block of pairs. -/
def unp (x : Vec F S2048x2x128 .bf16) : Vec F S512x1024 .f32 :=
  View.canon (halves (k1_pay2 (r0 x) (r1 x) (r2 x) (r3 x)) (k1_pay1 (r0 x) (r1 x) (r2 x) (r3 x)))

set_option maxHeartbeats 1000000 in
/-- The body at a point, over any two whole staging buffers. -/
theorem point1 (c : Dev nD) (i : grid1.Coords) (M1 : Memref sig .tc .vmem S2048x2x128 .bf16) (h1 : M1.IsWhole)
    (M2 : Memref sig .tc .vmem S512x1024 .f32) (h2 : M2.IsWhole) (x : Vec F S2048x2x128 .bf16) (P : sProp 𝕄) :
    iprop(P ∗ owns (c : Thread nD τ) M1 fullShare x ∗ ∃ d, owns (c : Thread nD τ) M2 fullShare d)
      ⊢ wp frame (wpE (defs₀ (F := F)) Variants.none c none) Set.univ (cc1_unpack i M1 h1 M2 h2) fun _ =>
          iprop(P ∗ owns (c : Thread nD τ) M1 fullShare x ∗ owns (c : Thread nD τ) M2 fullShare (unp x)) := by
  simp only [own_pt c h1, own_pt c h2]
  iintro ⟨HP, ⟨%f1, %e1, H1⟩, ⟨%d, ⟨%f2, -, H2⟩⟩⟩
  rw [cc1_unpack_eq_skeleton]
  unfold cc1_unpack_skel
  sl_exec
  sl_step
  isplitl [HP]; · iexact HP
  isplitl [H1]
  · iexists f1; isplitr; · ipureintro; exact e1
    iexact H1
  iexists _
  isplitr; swap; · iexact H2
  ipureintro
  subst e1
  exact View.read_writes_eq_canon M2.view f2 (halves _ _) (halves_cover _ _)

attribute [local irreducible] unp

variable (V : Dev nD → Valuation τ sig (Elt F))

/-- The packed result's block at point `t`, as the region finds it. -/
abbrev inU (c : Dev nD) (t : Fin cfg1.N) : ((cfg1.win 0).xblock (cfg1.grid.coords t)).Idx → Elt F (cfg1.win 0).elt :=
  ((cfg1.win 0).blk t).view.read (Elt F) (V c main_v0)

/-- The buffers no window of this kernel stages, at anything. -/
abbrev inv1 (c : Dev nD) : sProp 𝕄 := Pipeline.scopedRest (Ix := Unit) (Name := ℕ) (U := UU) (Lvl := ℕ) (Val := Elt F) spec1 c

/-- The proof data. -/
def dat1 (c : Dev nD) : Dat τ (Elt F) Unit ℕ UU ℕ cfg1 c where
  A w := V c (Proc.devRef .tc (Pipeline.arrRef spec1 w))
  after w t := match w with
    | ⟨0, _⟩ => inU V c t
    | ⟨1, _⟩ => unp (inU V c t)
  Φ _ := inv1 c
  q _ := fullShare
  owed _ := 0

theorem beforeU (c : Dev nD) (t : Fin cfg1.N) (d) : (dat1 V c).before 0 t d = inU V c t :=
  (dat1 V c).before_in_eq_fetched 0 rfl (fun _ => rfl) (fun _ _ _ => rfl) (fun _ => rfl) t d

theorem afterU (c : Dev nD) (t : Fin cfg1.N) : unp (inU V c t) = (dat1 V c).after 1 t := rfl

/-- The library's body obligation. -/
theorem body1 (c : Dev nD) : BodyObligationLoose (dat1 V c) (defs₀ (F := F)) Variants.none () Set.univ := fun t => by
  rw [bigSep_W1, bigSep_W1]
  dsimp only
  rw [show (dat1 V c).Φ t.castSucc = inv1 c from rfl, show (dat1 V c).Φ t.succ = inv1 c from rfl,
    show (dat1 V c).owesAt () t.succ = (dat1 V c).owesAt () t.castSucc from rfl]
  refine triple_restated (point1 c (grid1.coords t) (stage1_0 (cfg1.slots t 0)) (hstage1_0 ((cfg1.slots t 0).cast nbuf1_0))
    (stage1_1 (cfg1.slots t 1)) (hstage1_1 ((cfg1.slots t 1).cast nbuf1_1)) (inU V c t)
    iprop(inv1 c ∗ (dat1 V c).owesAt () t.castSucc)) ?_ ?_ fun _ => ?_
  · unfold defs₀; rw [Defs.onTc_tc]
  · iintro ⟨HΦ, HO, ⟨%d0, H0⟩, ⟨%d1, H1⟩⟩
    have q0 : (owns (c : Thread nD τ) (stage1_0 (cfg1.slots t 0)) fullShare ((dat1 V c).before 0 t d0) : sProp 𝕄)
        ⊢ owns (c : Thread nD τ) (stage1_0 (cfg1.slots t 0)) fullShare (inU V c t) := own_eq c (beforeU V c t d0)
    isplitl [HΦ HO]
    · isplitl [HΦ]; · iexact HΦ
      iexact HO
    isplitl [H0]; · iapply q0; iexact H0
    iexists _; iexact H1
  · iintro ⟨⟨HΦ, HO⟩, H0, H1⟩
    have q1 : (owns (c : Thread nD τ) (stage1_1 (cfg1.slots t 1)) fullShare (unp (inU V c t)) : sProp 𝕄)
        ⊢ owns (c : Thread nD τ) (stage1_1 (cfg1.slots t 1)) fullShare ((dat1 V c).after 1 t) := own_eq c (afterU V c t)
    isplitl [HΦ]; · iexact HΦ
    isplitl [HO]; · iexact HO
    isplitl [H0]; · iexact H0
    iapply q1; iexact H1

end Cert.Proof.Experts

end
-- ==== Proof.Segs.lean ====
/-
  The two kernels as regions of the program, between thread states that hold every unscoped buffer at a valuation.
-/
module

public import proofs.«01_k».proof.Proof.Entry
public import proofs.«01_k».proof.Proof.Region1
public import Idealize.ShloMosaic.Lib.Pipeline.RegionsLoop

@[expose] public section

noncomputable section

namespace Cert.Proof.Experts

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F] [Named F]

local notation "𝕄" => MT nD τ sig Unit (Elt F) ℕ UU ℕ

/-- No core owes another anything: no level is assigned. -/
abbrev L : GSem nD τ sig → Finset Unit := fun _ => ∅
abbrev lv : GSem nD τ sig → Unit → ℕ := fun _ _ => 0

variable (a : (p : Fin 2) → (pcfgs (F := F) p).Adm) (V V1 V2 : Dev nD → Valuation τ sig (Elt F))

omit [FloatOps F] [Named F] in
theorem ent_of_eq {P Q : sProp 𝕄} (e : P = Q) : P ⊢ Q := e ▸ .rfl

/-- The kernel's own semaphores are three, and no window's. -/
theorem own0 : Pipeline.OwnSemFacts spec0 osem0 := by decide

/-- The proof data of the two kernels. -/
def pdats : (p : Fin 2) → (c : Dev nD) → Dat τ (Elt F) Unit ℕ UU ℕ (Pipeline.pin (pcfgs (F := F)) a p) c
  | ⟨0, _⟩ => fun c => dat0 (a 0) V c
  | ⟨1, _⟩ => fun c => dat1 V1 c

/-- The core's dues: none. -/
abbrev noDue (c : Dev nD) : sProp 𝕄 := iprop(∃ W, owes (c : Thread nD τ) (0 : CellTallies nD τ sig Unit) W)

theorem unscopedRest0 (c : Dev nD) (W : Valuation τ sig (Elt F)) :
    (Pipeline.unscopedRest (Ix := Unit) (Name := ℕ) (U := UU) (Lvl := ℕ) spec0 c (fun b => W b) : sProp 𝕄)
      = iprop((((c : Thread nD τ).loc main_arg0) ↦{fullShare} W main_arg0) ∗ (((c : Thread nD τ).loc main_arg1) ↦{fullShare} W main_arg1)
        ∗ (((c : Thread nD τ).loc main_arg2) ↦{fullShare} W main_arg2) ∗ (((c : Thread nD τ).loc main_v1) ↦{fullShare} W main_v1)) :=
  Pipeline.unscopedRest_eq_of_list spec0 c (fun b => W b) [main_arg0, main_arg1, main_arg2, main_v1] (by decide) (by decide)

/-- The two tables held whole. -/
theorem prefHeld0 (c : Dev nD) (pf : pre0.Contents (Elt F)) :
    (Pipeline.prefHeld (Ix := Unit) (Name := ℕ) (U := UU) (Lvl := ℕ) pre0 c (fun _ => fullShare) pf : sProp 𝕄)
      = iprop((((c : Thread nD τ).loc main_arg0) ↦{fullShare} (pf 0 : Buf (Elt F) ((c : Thread nD τ).loc main_arg0)))
        ∗ (((c : Thread nD τ).loc main_arg1) ↦{fullShare} (pf 1 : Buf (Elt F) ((c : Thread nD τ).loc main_arg1)))) :=
  bigSep_univ_eq_bigSepL ([0, 1] : List (Fin 2)) (by decide) (by decide) _

set_option backward.isDefEq.respectTransparency.types false in
/-- The experts' kernel. -/
def seg0 (hn : ∀ c, nT (rdN c (cntT (a 0) c)) ≤ 96) (hT0 : ∀ c, V c main_arg0 = (a 0).1 0) (hT1 : ∀ c, V c main_arg1 = (a 0).1 1)
    (hout : ∀ c, V1 c main_v0 = (pdats a V V1 0 c).arrAt 3 (Pipeline.pin (pcfgs (F := F)) a 0).N)
    (hne : ∀ c (b : Ref sig .tc), b ≠ main_v0 → V1 c b = V c b) :
    Pipeline.RegionSeg (pcfgs (F := F)) a (pdats a V V1) () defs₀ Variants.none L lv 0 where
  win := (launch0 (F := F)).win.to₀
  block_pos := (launch0 (F := F)).block_pos
  stage_whole := (launch0 (F := F)).stage_whole
  K := Fin 3
  osem := osem0
  ho := own0
  hbody c := body0 (a 0) V c (hn c)
  hwaits := Pipeline.hwaits_of_owed_zero _ _ _ _ L lv 0 fun _ _ => rfl
  pre c := iprop(unscopedBufs c (fun b => V c b) ∗ noDue c)
  post c := iprop(unscopedBufs c (fun b => V1 c b) ∗ noDue c)
  X c := iprop((((c : Thread nD τ).loc main_arg2) ↦{fullShare} V c main_arg2) ∗ Pipeline.ownSems0 osem0 c)
  Y c := iprop((((c : Thread nD τ).loc main_arg0) ↦{fullShare} V c main_arg0) ∗ (((c : Thread nD τ).loc main_arg1) ↦{fullShare} V c main_arg1)
        ∗ (((c : Thread nD τ).loc main_arg2) ↦{fullShare} V c main_arg2))
  Z c := iprop(((c : Thread nD τ).loc main_v1) ↦{fullShare} V c main_v1)
  hentry c := by
    have hsplit := Pipeline.arrays_of_unscopedBufs (p := 0) (pcfgs (F := F)) a (pdats a V V1) (launch0 (F := F)).win (launch0 (F := F)).arr_whole c
      ((pdats a V V1 0 c).share_full fun _ => rfl) (fun b => V c b) fun _ => rfl
    have hrest : (Pipeline.unscopedRest (Ix := Unit) (Name := ℕ) (U := UU) (Lvl := ℕ) ((pcfgs (F := F)) 0).spec c (fun b => V c b) : sProp 𝕄) ⊢ _ :=
      ent_of_eq (unscopedRest0 c (V c))
    iintro ⟨⟨Hub, HO⟩, HS, -⟩
    ihave H := hsplit $$ Hub
    icases H with ⟨Ha, Hrest⟩
    ihave H := hrest $$ Hrest
    icases H with ⟨H0, H1, H2, H3⟩
    imodintro
    isplitl [Ha]; · iexact Ha
    isplitl [H0 H1]
    · have e := prefHeld0 c (a 0).1
      rw [← hT0 c, ← hT1 c] at e
      iapply (ent_of_eq e.symm)
      isplitl [H0]; · iexact H0
      iexact H1
    isplitl [HO]
    · unfold Pipeline.Dat.owesAt Pipeline.owesWithin
      icases HO with ⟨%W, HO⟩; iexists W; isplitr; · ipureintro; exact fun _ _ => Or.inl trivial
      iexact HO
    isplitl [H2 HS]
    · isplitl [H2]; · iexact H2
      iexact HS
    iexact H3
  hin c := by
    rw [show (pdats a V V1 0 c).Φ 0 = inv0 (a 0) V c 0 from rfl]
    unfold inv0 still rest0
    iintro ⟨⟨HX, HS⟩, HT, HR⟩
    ihave HT := (ent_of_eq (prefHeld0 c (a 0).1)) $$ HT
    ihave HR := (ent_of_eq (scopedRest0_eq c)) $$ HR
    icases HT with ⟨T0, T1⟩
    icases HR with ⟨HB, HR⟩
    ihave HG := (ring_in c (rowsX V c)) $$ [HS HB HX]
    · isplitl [HS]; · iexact HS
      isplitl [HB]; · iexact HB
      iexact HX
    icases HG with ⟨HG, HX⟩
    isplitl [HG]; · iexact HG
    isplitl [T1]; · iexact T1
    isplitl [T0]; · iexact T0
    isplitl [HX]; · iexact HX
    iexact HR
  hout c := by
    rw [show (pdats a V V1 0 c).Φ (Fin.last _) = inv0 (a 0) V c 96 from rfl]
    unfold inv0 still rest0
    rw [stAt_past _ 96 (hn c)]
    iintro ⟨HG, T1, T0, HX, HR⟩
    ihave HG := (ring_out c (rowsX V c)) $$ [HG HX]
    · isplitl [HG]; · iexact HG
      iexact HX
    icases HG with ⟨HS, HB, HX⟩
    isplitl [T0 T1 HX]
    · rw [hT0 c, hT1 c]
      isplitl [T0]; · iexact T0
      isplitl [T1]; · iexact T1
      iexact HX
    isplitl [HS]; · iexact HS
    iapply (ent_of_eq (scopedRest0_eq c).symm)
    isplitl [HB]; · iexact HB
    iexact HR
  hexit c := by
    have hjoin := Pipeline.unscopedBufs_of_arrays (p := 0) (pcfgs (F := F)) a (Ix := Unit) (Name := ℕ) (U := UU) (Lvl := ℕ) (launch0 (F := F)).win (launch0 (F := F)).arr_whole c
      (pdats a V V1) ((pdats a V V1 0 c).share_full fun _ => rfl) (fun b => V c b) (fun b => V1 c b) ((pdats a V V1 0 c).arrAt · (Pipeline.pin (pcfgs (F := F)) a 0).N)
      (fun w => by
        fin_cases w
        · exact ((pdats a V V1 0 c).arrAt_in 0 rfl _).trans (hne c main_arg3 (by decide)).symm
        · exact ((pdats a V V1 0 c).arrAt_in 1 rfl _).trans (hne c main_arg4 (by decide)).symm
        · exact ((pdats a V V1 0 c).arrAt_in 2 rfl _).trans (hne c main_arg5 (by decide)).symm
        · exact (hout c).symm)
      (fun b hb => hne c b fun h => hb (h ▸ Finset.mem_image.mpr ⟨3, Finset.mem_univ _, rfl⟩))
    have hrest : _ ⊢ (Pipeline.unscopedRest (Ix := Unit) (Name := ℕ) (U := UU) (Lvl := ℕ) ((pcfgs (F := F)) 0).spec c (fun b => V c b) : sProp 𝕄) :=
      ent_of_eq (unscopedRest0 c (V c)).symm
    iintro ⟨Ha, HO, ⟨H0, H1, H2⟩, H3⟩
    ihave Hrest := hrest $$ [H0 H1 H2 H3]
    · isplitl [H0]; · iexact H0
      isplitl [H1]; · iexact H1
      isplitl [H2]; · iexact H2
      iexact H3
    imodintro
    isplitl [Ha Hrest]
    · iapply hjoin; isplitl [Ha] <;> iassumption
    unfold Pipeline.Dat.owesAt Pipeline.owesWithin
    icases HO with ⟨%W, -, HO⟩; iexists W; iexact HO

set_option backward.isDefEq.respectTransparency.types false in
/-- The kernel that takes the pairs apart. -/
def seg1 (hout : ∀ c, V2 c main_v1 = (pdats a V V1 1 c).arrAt 1 cfg1.N)
    (hne : ∀ c (b : Ref sig .tc), b ≠ main_v1 → V2 c b = V1 c b) :
    Pipeline.RegionSeg (pcfgs (F := F)) a (pdats a V V1) () defs₀ Variants.none L lv 1 where
  win := (launch1 (F := F)).win.to₀
  block_pos := (launch1 (F := F)).block_pos
  stage_whole := (launch1 (F := F)).stage_whole
  K := PEmpty
  osem k := k.elim
  ho := Pipeline.OwnSemFacts.none _
  hbody c := body1 V1 c
  hwaits := Pipeline.hwaits_of_owed_zero _ _ _ _ L lv 1 fun _ _ => rfl
  pre c := iprop(unscopedBufs c (fun b => V1 c b) ∗ noDue c)
  post c := iprop(unscopedBufs c (fun b => V2 c b) ∗ noDue c)
  X _ := BI.emp
  Y _ := BI.emp
  Z c := Pipeline.unscopedRest (Ix := Unit) (Name := ℕ) (U := UU) (Lvl := ℕ) spec1 c (fun b => V1 c b)
  hentry c := by
    rw [Pipeline.ownSems0_none]
    have hsplit := Pipeline.arrays_of_unscopedBufs (p := 1) (pcfgs (F := F)) a (pdats a V V1) (launch1 (F := F)).win (launch1 (F := F)).arr_whole c
      ((pdats a V V1 1 c).share_full fun _ => rfl) (fun b => V1 c b) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats a V V1 1 c).Φ 0 = inv1 (F := F) c from rfl]
    iintro ⟨-, -, Hr⟩; iexact Hr
  hout c := by
    rw [Pipeline.ownSems0_none, show (pdats a V V1 1 c).Φ (Fin.last _) = inv1 (F := F) c from rfl]
    iintro Hr
    isplitr; · iempintro
    isplitr; · iempintro
    iexact Hr
  hexit c := by
    have hjoin := Pipeline.unscopedBufs_of_arrays (p := 1) (pcfgs (F := F)) a (Ix := Unit) (Name := ℕ) (U := UU) (Lvl := ℕ) (launch1 (F := F)).win (launch1 (F := F)).arr_whole c
      (pdats a V V1) ((pdats a V V1 1 c).share_full fun _ => rfl) (fun b => V1 c b) (fun b => V2 c b) ((pdats a V V1 1 c).arrAt · cfg1.N)
      (fun w => by
        fin_cases w
        · exact ((pdats a V V1 1 c).arrAt_in 0 rfl _).trans (hne c main_v0 (by decide)).symm
        · exact (hout c).symm)
      (fun b hb => hne c b fun h => hb (h ▸ Finset.mem_image.mpr ⟨1, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end Cert.Proof.Experts

end
-- ==== Proof.Launch.lean ====
/-
  The whole program's run: from any memory whose tables are in range, every execution ends with the result as the two kernels
  compute it, every argument as launched and every semaphore at zero.
-/
module

public import proofs.«01_k».proof.Proof.Segs
public import proofs.«01_k».proof.Proof.Gen.KernelIdeal.Regions
public import Idealize.ShloMosaic.Lib.Pipeline.Frame

@[expose] public section

noncomputable section

namespace Cert.Proof.Experts

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose Seg)

variable {F : FTy → Type} [FloatOps F] [Named F]

local notation "𝕄" => MT nD τ sig Unit (Elt F) ℕ UU ℕ

variable (m : (ℓ : Loc nD τ sig) → Buf (Elt F) ℓ) (ρ : Dev nD → PrngReg)

/-- The two tables, as the first core's memory holds them (there is one core). -/
def tabs : pre0.Contents (Elt F) := fun
  | ⟨0, _⟩ => m (((0 : Dev nD) : Thread nD τ).loc main_arg0)
  | ⟨1, _⟩ => m (((0 : Dev nD) : Thread nD τ).loc main_arg1)
  | ⟨_ + 2, h⟩ => absurd h (Nat.not_lt.2 (Nat.le_add_left _ _))

/-- Every tile's expert is one of the 32. -/
def TeOk : Prop := ∀ i, (m (((0 : Dev nD) : Thread nD τ).loc main_arg0) i : BitVec 32).toNat < 32

/-- At most 96 tiles are in use. -/
def NtOk : Prop := ∀ i, (m (((0 : Dev nD) : Thread nD τ).loc main_arg1) i : BitVec 32).toInt.toNat ≤ 96

/-- A block of one expert's weights, first or second matrix or third, lies inside its array. -/
theorem block_in (n : ℕ) (hn : n < 32) :
    (∀ x : Fin 4, ((![0, n, 0, 0] : Fin 4 → ℕ) x + 1) * S1x1x1024x256.size x ≤ S2x32x1024x256.size x)
      ∧ ∀ x : Fin 4, ((![0, n, 0, 0] : Fin 4 → ℕ) x + 1) * S1x1x256x1024.size x ≤ S2x32x256x1024.size x := by
  refine ⟨fun x => ?_, fun x => ?_⟩
  · match x with
    | 0 => show (0 + 1) * 1 ≤ 2; omega
    | 1 => show (n + 1) * 1 ≤ 32; omega
    | 2 => show (0 + 1) * 1024 ≤ 1024; omega
    | 3 => show (0 + 1) * 256 ≤ 256; omega
  · match x with
    | 0 => show (0 + 1) * 1 ≤ 2; omega
    | 1 => show (n + 1) * 1 ≤ 32; omega
    | 2 => show (0 + 1) * 256 ≤ 256; omega
    | 3 => show (0 + 1) * 1024 ≤ 1024; omega

/-- Every tile's expert being one of the 32, every block of the weights lies inside its array. -/
theorem tabs_ok (h : TeOk m) : ok0 (tabs m) :=
  ⟨fun i => ⟨(block_in _ (h _)).1, .inl rfl⟩, fun i => ⟨(block_in _ (h _)).1, .inl rfl⟩, fun i => ⟨(block_in _ (h _)).2, .inl rfl⟩⟩

/-- The tables the two kernels are launched at. -/
def adm (h : TeOk m) : (p : Fin 2) → (pcfgs (F := F) p).Adm
  | ⟨0, _⟩ => ⟨tabs m, tabs_ok m h⟩
  | ⟨1, _⟩ => cfg1.toPCfg_adm

/-- The buffers at launch. -/
abbrev W0 : Dev nD → Valuation τ sig (Elt F) := fun c b => m (c, b)
/-- The experts' kernel's result. -/
def out0 (h : TeOk m) (c : Dev nD) : Buf (Elt F) ((c : Thread nD τ).loc main_v0) := (dat0 (adm m h 0) (W0 m) c).arrAt 3 (cfg0 (adm m h 0)).N
/-- The buffers after the experts' kernel: its result as computed. -/
def W1 (h : TeOk m) : Dev nD → Valuation τ sig (Elt F) := fun c => Function.update (W0 m c) main_v0 (out0 m h c)
/-- The program's result. -/
def out1 (h : TeOk m) (c : Dev nD) : Buf (Elt F) ((c : Thread nD τ).loc main_v1) := (dat1 (W1 m h) c).arrAt 1 cfg1.N
/-- The buffers at the end. -/
def W2 (h : TeOk m) : Dev nD → Valuation τ sig (Elt F) := fun c => Function.update (W1 m h c) main_v1 (out1 m h c)

theorem W1_v0 (h : TeOk m) (c : Dev nD) : W1 m h c main_v0 = out0 m h c := by
  unfold W1; rw [Function.update_self]
theorem W1_ne (h : TeOk m) (c : Dev nD) (b : Ref sig .tc) (hb : b ≠ main_v0) : W1 m h c b = W0 m c b := by
  unfold W1; rw [Function.update_of_ne (StableHlo.devRef_ne_of_ne hb)]
theorem W2_v1 (h : TeOk m) (c : Dev nD) : W2 m h c main_v1 = out1 m h c := by
  unfold W2; rw [Function.update_self]
theorem W2_ne (h : TeOk m) (c : Dev nD) (b : Ref sig .tc) (hb : b ≠ main_v1) : W2 m h c b = W1 m h c b := by
  unfold W2; rw [Function.update_of_ne (StableHlo.devRef_ne_of_ne hb)]
theorem W2_arg (h : TeOk m) (c : Dev nD) (b : Ref sig .tc) (hb : b ≠ main_v1) (hb' : b ≠ main_v0) :
    W2 m h c b = m ((c : Thread nD τ).loc b) := (W2_ne m h c b hb).trans (W1_ne m h c b hb')

/-- The pipelines' part of the ghost state. -/
abbrev EP : Emb (UR sig nD τ) 𝕄 := embL

/-- The ghost state at launch. -/
def u₀ (h : TeOk m) : UU :=
  (initOf (Pipeline.cells (Pipeline.pin (pcfgs (F := F)) (adm m h)) (cellOf_inj (adm m h))) (Pipeline.launchToks (Pipeline.pin (pcfgs (F := F)) (adm m h)) (cellOf_inj (adm m h))), 1)

theorem dev0 (c : Dev nD) : c = 0 := Subsingleton.elim _ _

/-- The first kernel, between the launch's buffers and its own. -/
def S0 (h : TeOk m) (hn : NtOk m) : Pipeline.RegionSeg (pcfgs (F := F)) (adm m h) (pdats (adm m h) (W0 m) (W1 m h)) () defs₀ Variants.none L lv 0 :=
  seg0 (adm m h) (W0 m) (W1 m h) (fun c => hn _) (fun c => by rw [dev0 c]; rfl) (fun c => by rw [dev0 c]; rfl)
    (fun c => W1_v0 m h c) (fun c b hb => W1_ne m h c b hb)

/-- The second kernel, from the first one's buffers. -/
def S1 (h : TeOk m) (hn : NtOk m) : Pipeline.RegionSeg (pcfgs (F := F)) (adm m h) (pdats (adm m h) (W0 m) (W1 m h)) () defs₀ Variants.none L lv 1 :=
  seg1 (adm m h) (W0 m) (W1 m h) (W2 m h) (fun c => W2_v1 m h c) (fun c b hb => W2_ne m h c b hb)

set_option backward.isDefEq.respectTransparency.types false in
/-- THE RUN: every execution ends with the result as computed, the arguments as launched and every semaphore at zero. -/
theorem run_main (h : TeOk m) (hn : NtOk m) :
    θ_run defs (onTc (τ := τ) (main (F := F))) ⟨m, fun _ => 0, ρ⟩ (fun r => (∀ c : Dev nD,
      r.2.mem ((c.tc : Thread nD τ).loc main_v1) = out1 m h c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  refine Pipeline.θ_run_regions_kit_dev_sems (pcfgs (F := F)) (adm m h) (pdats (adm m h) (W0 m) (W1 m h)) () (cellOf_inj (adm m h)) EP defs₀ Variants.none L lv m ρ main
    (segs Variants.none L lv (fun _ _ => (BI.emp : sProp 𝕄)) () (adm m h) (pdats (adm m h) (W0 m) (W1 m h)) (S0 m h hn) (S1 m h hn))
    (fun c Q => by
      rewrite [main_chain c, Seg.run_eq_chain,
        show (segs Variants.none L lv (fun _ _ => (BI.emp : sProp 𝕄)) () (adm m h) (pdats (adm m h) (W0 m) (W1 m h)) (S0 m h hn) (S1 m h hn) c).map Seg.prog = [
          Prog.lift (.customCall (Pipeline.entry 0) ()),
          Prog.lift (.customCall (Pipeline.entry 1) ()) ] from rfl]
      dsimp (config := { failIfUnchanged := false }) only
      exact .rfl)
    (fun c => by simp only [segs, Seg.pipes_host, Seg.pipes_region, Seg.pipes_nil]; decide)
    (O₀ := 0) (hL := fun _ _ => rfl) (G := fun _ => iprop(emp)) (u₀ := u₀ m h)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(unscopedBufs c (fun b => W0 m c b) ∗ noDue c))
    (Tₙ := fun c => (unscopedBufs c (fun b => W2 m h c b) : sProp 𝕄))
    (hch := fun c => ⟨.rfl, .rfl, .rfl⟩)
    (hinit := ?_) (QY := fun c s => s.mem ((c.tc : Thread nD τ).loc main_v1) = out1 m h c
      ∧ s.mem ((c.tc : Thread nD τ).loc main_arg0) = m ((c.tc : Thread nD τ).loc main_arg0) ∧ s.mem ((c.tc : Thread nD τ).loc main_arg1) = m ((c.tc : Thread nD τ).loc main_arg1)
      ∧ s.mem ((c.tc : Thread nD τ).loc main_arg2) = m ((c.tc : Thread nD τ).loc main_arg2) ∧ s.mem ((c.tc : Thread nD τ).loc main_arg3) = m ((c.tc : Thread nD τ).loc main_arg3)
      ∧ s.mem ((c.tc : Thread nD τ).loc main_arg4) = m ((c.tc : Thread nD τ).loc main_arg4) ∧ s.mem ((c.tc : Thread nD τ).loc main_arg5) = m ((c.tc : Thread nD τ).loc main_arg5))
    (hfin := fun c s' => ?_) (hQ := fun _ h' hz => ⟨h', funext fun g => hz g (.inr (regions_no_unscoped g.2))⟩)
  · refine Pipeline.initEach L lv fun c => ?_
    iintro ⟨⟨Hh, -, HO, -, -, -⟩, -⟩
    imodintro
    isplitl [Hh]; · iexact Hh
    iexists ∅; iexact HO
  · rw [Pipeline.unscopedBufs_held (Ix := Unit) (Name := ℕ) (U := UU) (Lvl := ℕ) c (W2 m h c)]
    unfold StableHlo.held
    iintro ⟨Hh, HSI⟩
    ihave Hr := (pointsTo_read_all (Pipeline.ucRefs τ sig) (fun b => ((c : Thread nD τ).1, b)) (W2 m h c) s') $$ [Hh HSI]
    · isplitl [Hh] <;> iassumption
    icases Hr with ⟨%hr, HSI⟩
    imodintro
    isplitr
    · ipureintro
      exact ⟨(hr (Proc.devRef .tc main_v1) (Finset.mem_filter.mpr ⟨StableHlo.devRef_mem_tcRefs main_v1, by decide⟩)).trans (W2_v1 m h c),
        (hr (Proc.devRef .tc main_arg0) (Finset.mem_filter.mpr ⟨StableHlo.devRef_mem_tcRefs main_arg0, by decide⟩)).trans (W2_arg m h c main_arg0 (by decide) (by decide)),
        (hr (Proc.devRef .tc main_arg1) (Finset.mem_filter.mpr ⟨StableHlo.devRef_mem_tcRefs main_arg1, by decide⟩)).trans (W2_arg m h c main_arg1 (by decide) (by decide)),
        (hr (Proc.devRef .tc main_arg2) (Finset.mem_filter.mpr ⟨StableHlo.devRef_mem_tcRefs main_arg2, by decide⟩)).trans (W2_arg m h c main_arg2 (by decide) (by decide)),
        (hr (Proc.devRef .tc main_arg3) (Finset.mem_filter.mpr ⟨StableHlo.devRef_mem_tcRefs main_arg3, by decide⟩)).trans (W2_arg m h c main_arg3 (by decide) (by decide)),
        (hr (Proc.devRef .tc main_arg4) (Finset.mem_filter.mpr ⟨StableHlo.devRef_mem_tcRefs main_arg4, by decide⟩)).trans (W2_arg m h c main_arg4 (by decide) (by decide)),
        (hr (Proc.devRef .tc main_arg5) (Finset.mem_filter.mpr ⟨StableHlo.devRef_mem_tcRefs main_arg5, by decide⟩)).trans (W2_arg m h c main_arg5 (by decide) (by decide))⟩
    · iexact HSI

end Cert.Proof.Experts

end
-- ==== Proof.Words.Body.lean ====
/-
  One grid point of the experts' kernel, run.

  Seven cases, by where the point stands against the number of tiles in use: at the first point the kernel starts the
  first two transfers as well; at every point it starts the transfer of the tile two ahead while there is one; and
  it either waits for its own tile and computes, or, past the tiles in use, stores zeros.
-/
module

public import proofs.«01_k».proof.Proof.Words.Ring
public import Idealize.ShloMosaic.Lib.Ring.Pair

@[expose] public section

noncomputable section

namespace Cert.Proof.Words

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig Unit (Elt F) ℕ UU ℕ

/-- The word the kernel reads: the number of tiles in use. -/
abbrev rdN (c : Dev nD) (T : Bf F c cntM) : BitVec 32 :=
  cntM.view.readAt (Elt F) (Rect.unit (s := S1) ![0] S1.size inb_S1_S1_0).toLoadRect T (Shape.Idx.first (by decide))

/-- The four loads of the tile that has landed: every fourth row, from row 0, 1, 2 and 3 on. -/
abbrev ld8 (i : grid0.Coords) : LoadRect S3x2048x128 := ⟨k0_off8 i, S1x512x128.size, ![1, 4, 1], (k0_off8_inb i)⟩
abbrev ld9 (i : grid0.Coords) : LoadRect S3x2048x128 := ⟨k0_off9 i, S1x512x128.size, ![1, 4, 1], (k0_off9_inb i)⟩
abbrev ld10 (i : grid0.Coords) : LoadRect S3x2048x128 := ⟨k0_off10 i, S1x512x128.size, ![1, 4, 1], (k0_off10_inb i)⟩
abbrev ld11 (i : grid0.Coords) : LoadRect S3x2048x128 := ⟨k0_off11 i, S1x512x128.size, ![1, 4, 1], (k0_off11_inb i)⟩

/-- The ring buffer once the tile of point `i` has landed in its slot. -/
def landed (c : Dev nD) (i : grid0.Coords) (X : Bf F c rowsM) : Bf F c ringM :=
  (slotAt (k0_off6 i) (k0_off6_inb i)).view.writes (Elt F) (slotAt (k0_off6 i) (k0_off6_inb i)).view.junk
    [⟨Rect.whole S2048x128, ReadAs.same.apply ((tileAt (k0_off7 i) (k0_off7_inb i)).view.read (Elt F) X)⟩]

/-- The three weight blocks as the kernel loads them. -/
abbrev wld (c : Dev nD) (M : Memref sig .tc .vmem S1x1x1024x256 .f32) (f : Bf F c M) : Vec F S1x1x1024x256 .f32 :=
  M.view.readAt (Elt F) (Rect.unit (s := S1x1x1024x256) ![0, 0, 0, 0] S1x1x1024x256.size inb_S1x1x1024x256_S1x1x1024x256_0_0_0_0).toLoadRect f
abbrev dld (c : Dev nD) (M : Memref sig .tc .vmem S1x1x256x1024 .f32) (f : Bf F c M) : Vec F S1x1x256x1024 .f32 :=
  M.view.readAt (Elt F) (Rect.unit (s := S1x1x256x1024) ![0, 0, 0, 0] S1x1x256x1024.size inb_S1x1x256x1024_S1x1x256x1024_0_0_0_0).toLoadRect f

/-- The four loaded quarters of the tile, and what the four stores write. -/
abbrev q0 (c : Dev nD) (i : grid0.Coords) (X : Bf F c rowsM) := k0_pay4 (F := F) (ringM.view.readAt (Elt F) (ld8 i) (landed c i X))
abbrev q1 (c : Dev nD) (i : grid0.Coords) (X : Bf F c rowsM) := k0_pay5 (F := F) (ringM.view.readAt (Elt F) (ld9 i) (landed c i X))
abbrev q2 (c : Dev nD) (i : grid0.Coords) (X : Bf F c rowsM) := k0_pay6 (F := F) (ringM.view.readAt (Elt F) (ld10 i) (landed c i X))
abbrev q3 (c : Dev nD) (i : grid0.Coords) (X : Bf F c rowsM) := ringM.view.readAt (Elt F) (ld11 i) (landed c i X)

/-- The four stores of the result, in quarters of rows, over the block's former contents. -/
def outF (c : Dev nD) (i : grid0.Coords) (M4 : Memref sig .tc .vmem S1x1x1024x256 .f32) (M5 : Memref sig .tc .vmem S1x1x1024x256 .f32)
    (M6 : Memref sig .tc .vmem S1x1x256x1024 .f32) (M7 : Memref sig .tc .vmem S2048x128 .i32) (X : Bf F c rowsM)
    (f4 : Bf F c M4) (f5 : Bf F c M5) (f6 : Bf F c M6) (f7 : Bf F c M7) : Bf F c M7 :=
  M7.view.writes (Elt F) f7
    [⟨⟨⟨![3, 0], S512x128.size, ![4, 1], inb_S2048x128_S512x128_3_0_s_4_1⟩, spos_4_1⟩,
        k0_pay2 (k0_pay7 (q0 c i X) (q1 c i X) (q2 c i X) (q3 c i X) (wld c M4 f4) (wld c M5 f5) (dld c M6 f6))⟩,
      ⟨⟨⟨![2, 0], S512x128.size, ![4, 1], inb_S2048x128_S512x128_2_0_s_4_1⟩, spos_4_1⟩,
        k0_pay1 (k0_pay7 (q0 c i X) (q1 c i X) (q2 c i X) (q3 c i X) (wld c M4 f4) (wld c M5 f5) (dld c M6 f6))⟩,
      ⟨⟨⟨![1, 0], S512x128.size, ![4, 1], inb_S2048x128_S512x128_1_0_s_4_1⟩, spos_4_1⟩,
        k0_pay9 (q0 c i X) (q1 c i X) (q2 c i X) (q3 c i X) (wld c M4 f4) (wld c M5 f5) (dld c M6 f6)⟩,
      ⟨⟨⟨![0, 0], S512x128.size, ![4, 1], inb_S2048x128_S512x128_0_0_s_4_1⟩, spos_4_1⟩,
        k0_pay8 (q0 c i X) (q1 c i X) (q2 c i X) (q3 c i X) (wld c M4 f4) (wld c M5 f5) (dld c M6 f6)⟩]

/-- What the result's block holds past the tiles in use: zeros. -/
def zeroF (c : Dev nD) (M7 : Memref sig .tc .vmem S2048x128 .i32) (f7 : Bf F c M7) : Bf F c M7 :=
  M7.view.writes (Elt F) f7
    [⟨Rect.unit (s := S2048x128) ![0, 0] S2048x128.size inb_S2048x128_S2048x128_0_0, k0_pay3⟩]

/-- What a point holds beside the ring: the waits it has recorded, the count of tiles, and the four blocks. -/
abbrev Held (c : Dev nD) (T : Bf F c cntM) (M4 : Memref sig .tc .vmem S1x1x1024x256 .f32) (M5 : Memref sig .tc .vmem S1x1x1024x256 .f32)
    (M6 : Memref sig .tc .vmem S1x1x256x1024 .f32) (M7 : Memref sig .tc .vmem S2048x128 .i32)
    (f4 : Bf F c M4) (f5 : Bf F c M5) (f6 : Bf F c M6) (f7 : Bf F c M7) : sProp 𝕄 :=
  iprop((∃ W, owes (c : Thread nD τ) 0 W) ∗ pt c cntM T ∗ pt c M4 f4 ∗ pt c M5 f5 ∗ pt c M6 f6 ∗ pt c M7 f7)

/-- The kernel's body at point `i` run to `Q`. -/
abbrev Run (c : Dev nD) (i : grid0.Coords)
    (M4 : Memref sig .tc .vmem S1x1x1024x256 .f32) (h4 : M4.IsWhole) (M5 : Memref sig .tc .vmem S1x1x1024x256 .f32) (h5 : M5.IsWhole)
    (M6 : Memref sig .tc .vmem S1x1x256x1024 .f32) (h6 : M6.IsWhole) (M7 : Memref sig .tc .vmem S2048x128 .i32) (h7 : M7.IsWhole)
    (Q : PUnit → sProp 𝕄) : sProp 𝕄 :=
  wp frame (wpE (defs₀ (F := F)) Variants.none c none) Set.univ
    (cc0_moe_experts i (Memref.whole main_arg0) (Memref.isWhole_whole _) cntM (Memref.isWhole_whole _) rowsM (Memref.isWhole_whole _)
      M4 h4 M5 h5 M6 h6 M7 h7 ringM (Memref.isWhole_whole _) cc0_scratch1) Q

section Cases

variable (c : Dev nD) (i : grid0.Coords)
  (M4 : Memref sig .tc .vmem S1x1x1024x256 .f32) (h4 : M4.IsWhole) (M5 : Memref sig .tc .vmem S1x1x1024x256 .f32) (h5 : M5.IsWhole)
  (M6 : Memref sig .tc .vmem S1x1x256x1024 .f32) (h6 : M6.IsWhole) (M7 : Memref sig .tc .vmem S2048x128 .i32) (h7 : M7.IsWhole)
  (X : Bf F c rowsM) (T : Bf F c cntM) (f4 : Bf F c M4) (f5 : Bf F c M5) (f6 : Bf F c M6) (f7 : Bf F c M7)

/-- The slot of this point's tile, free and in flight, in the kernel's own index arithmetic; and the slot of the tile two
    ahead. -/
abbrev freeNow (k : Fin 3) : sProp 𝕄 := FreeAt c X k (k0_off6 i) (k0_off6_inb i) (k0_off5 i) (k0_off5_inb i)
abbrev flyNow (k : Fin 3) : sProp 𝕄 := FlyAt c X k (k0_off6 i) (k0_off6_inb i) (k0_off5 i) (k0_off5_inb i) (k0_off7 i) (k0_off7_inb i)
abbrev freeNext (k : Fin 3) : sProp 𝕄 := FreeAt c X k (k0_off3 i) (k0_off3_inb i) (k0_off2 i) (k0_off2_inb i)
abbrev flyNext (k : Fin 3) (h : ∀ a, k0_off4 i a + S2048x128.size a ≤ S196608x128.size a) : sProp 𝕄 :=
  FlyAt c X k (k0_off3 i) (k0_off3_inb i) (k0_off2 i) (k0_off2_inb i) (k0_off4 i) h

set_option maxHeartbeats 4000000 in
/-- A point after the first, its tile and the tile two ahead both in use. -/
theorem run_both (k k' : Fin 3) (hn : nT (rdN c T) ≤ 96) (hi : (i 0).val ≠ 0) (hlt : (i 0).val + 2 < nT (rdN c T))
    (hx : ∀ a, k0_off4 i a + S2048x128.size a ≤ S196608x128.size a) (Q : PUnit → sProp 𝕄) :
    iprop((flyNow c i X k ∗ freeNext c i X k') ∗ Held c T M4 M5 M6 M7 f4 f5 f6 f7
        ∗ (((freeNow c i X k ∗ flyNext c i X k' hx) ∗ Held c T M4 M5 M6 M7 f4 f5 f6 (outF c i M4 M5 M6 M7 X f4 f5 f6 f7)) -∗ Q ⟨⟩))
      ⊢ Run c i M4 h4 M5 h5 M6 h6 M7 h7 Q := by
  have c1 : ¬ k0_cond1 i = 1#1 := fun h => hi ((cond1_iff i).1 h)
  have c4 := (cond4_iff i (rdN c T)).2 hlt
  have c5 := (cond5_iff i (rdN c T)).2 (by omega)
  have c6 : ¬ k0_cond6 i (rdN c T) = 1#1 := fun h => absurd ((cond6_iff i _).1 h) (by omega)
  have k1 := chk1_of i _ hn
  unfold freeNow flyNow freeNext flyNext FlyAt FreeAt
  iintro ⟨⟨⟨⟨%fs, Hfl⟩, Hr⟩, Hc, ⟨%fd, Hs⟩, Ht⟩, ⟨⟨%Ws, HO⟩, HT, H4, H5, H6, H7⟩, Hk⟩
  unfold Run
  rw [cc0_moe_experts_eq_skeleton]
  unfold cc0_moe_experts_skel
  sl_exec (disch := first | sl_exact c1 | sl_exact k1 | sl_exact c4 | sl_exact c5 | sl_exact c6)
  sl_step
  iapply Hk
  isplitr [HO HT H4 H5 H6 H7]
  · isplitl [Hfl Hfl_dst Hr]
    · isplitl [Hfl]; · iexact Hfl
      isplitl [Hfl_dst]; · iexists _; iexact Hfl_dst
      iexact Hr
    · isplitl [Hc]; · iexists fd; iexact Hc
      iexact Ht
  · isplitl [HO]; · iexists _; iexact HO
    isplitl [HT]; · iexact HT
    isplitl [H4]; · iexact H4
    isplitl [H5]; · iexact H5
    isplitl [H6]; · iexact H6
    iexact H7

set_option maxHeartbeats 4000000 in
/-- A point after the first, its tile the last or the last but one in use. -/
theorem run_last (k : Fin 3) (hn : nT (rdN c T) ≤ 96) (hi : (i 0).val ≠ 0) (hlt : (i 0).val < nT (rdN c T)) (hge : nT (rdN c T) ≤ (i 0).val + 2)
    (Q : PUnit → sProp 𝕄) :
    iprop(flyNow c i X k ∗ Held c T M4 M5 M6 M7 f4 f5 f6 f7
        ∗ ((freeNow c i X k ∗ Held c T M4 M5 M6 M7 f4 f5 f6 (outF c i M4 M5 M6 M7 X f4 f5 f6 f7)) -∗ Q ⟨⟩))
      ⊢ Run c i M4 h4 M5 h5 M6 h6 M7 h7 Q := by
  have c1 : ¬ k0_cond1 i = 1#1 := fun h => hi ((cond1_iff i).1 h)
  have c4 : ¬ k0_cond4 i (rdN c T) = 1#1 := fun h => absurd ((cond4_iff i (rdN c T)).1 h) (by omega)
  have c5 := (cond5_iff i (rdN c T)).2 (by omega)
  have c6 : ¬ k0_cond6 i (rdN c T) = 1#1 := fun h => absurd ((cond6_iff i _).1 h) (by omega)
  have k1 := chk1_of i _ hn
  unfold freeNow flyNow FlyAt FreeAt
  iintro ⟨⟨⟨%fs, Hfl⟩, Hr⟩, ⟨⟨%Ws, HO⟩, HT, H4, H5, H6, H7⟩, Hk⟩
  unfold Run
  rw [cc0_moe_experts_eq_skeleton]
  unfold cc0_moe_experts_skel
  sl_exec (disch := first | sl_exact c1 | sl_exact k1 | sl_exact c4 | sl_exact c5 | sl_exact c6)
  sl_step
  iapply Hk
  isplitr [HO HT H4 H5 H6 H7]
  · isplitl [Hfl]; · iexact Hfl
    isplitl [Hfl_dst]; · iexists _; iexact Hfl_dst
    iexact Hr
  · isplitl [HO]; · iexists _; iexact HO
    isplitl [HT]; · iexact HT
    isplitl [H4]; · iexact H4
    isplitl [H5]; · iexact H5
    isplitl [H6]; · iexact H6
    iexact H7

set_option maxHeartbeats 4000000 in
/-- A point past the tiles in use. -/
theorem run_past (hn : nT (rdN c T) ≤ 96) (hge : nT (rdN c T) ≤ (i 0).val) (Q : PUnit → sProp 𝕄) :
    iprop(Held c T M4 M5 M6 M7 f4 f5 f6 f7 ∗ (Held c T M4 M5 M6 M7 f4 f5 f6 (zeroF c M7 f7) -∗ Q ⟨⟩))
      ⊢ Run c i M4 h4 M5 h5 M6 h6 M7 h7 Q := by
  have c2 : ¬ Scalar.cmpi .ne (Scalar.extui (Scalar.cmpi .sgt (rdN c T) 0#32) : BitVec 32) 0#32 = 1#1 ∨ ¬ k0_cond1 i = 1#1 := by
    by_cases h : (i 0).val = 0
    · exact .inl fun h' => absurd ((cond2_iff _).1 h') (by omega)
    · exact .inr fun h' => h ((cond1_iff i).1 h')
  have c3 : ¬ Scalar.cmpi .ne (Scalar.extui (Scalar.cmpi .sgt (rdN c T) 1#32) : BitVec 32) 0#32 = 1#1 ∨ ¬ k0_cond1 i = 1#1 := by
    by_cases h : (i 0).val = 0
    · exact .inl fun h' => absurd ((cond3_iff _).1 h') (by omega)
    · exact .inr fun h' => h ((cond1_iff i).1 h')
  have c4 : ¬ k0_cond4 i (rdN c T) = 1#1 := fun h => absurd ((cond4_iff i (rdN c T)).1 h) (by omega)
  have c5 : ¬ k0_cond5 i (rdN c T) = 1#1 := fun h => absurd ((cond5_iff i (rdN c T)).1 h) (by omega)
  have c6 := (cond6_iff i (rdN c T)).2 hge
  have k1 := chk1_of i _ hn
  by_cases c1 : k0_cond1 i = 1#1
  · have c2' := c2.resolve_right (fun h => h c1)
    have c3' := c3.resolve_right (fun h => h c1)
    iintro ⟨⟨⟨%Ws, HO⟩, HT, H4, H5, H6, H7⟩, Hk⟩
    unfold Run
    rw [cc0_moe_experts_eq_skeleton]
    unfold cc0_moe_experts_skel
    sl_exec (disch := first | sl_exact c1 | sl_exact k1 | sl_exact c2' | sl_exact c3' | sl_exact c4 | sl_exact c5 | sl_exact c6)
    sl_step
    iapply Hk
    isplitl [HO]; · iexists _; iexact HO
    isplitl [HT]; · iexact HT
    isplitl [H4]; · iexact H4
    isplitl [H5]; · iexact H5
    isplitl [H6]; · iexact H6
    iexact H7
  · iintro ⟨⟨⟨%Ws, HO⟩, HT, H4, H5, H6, H7⟩, Hk⟩
    unfold Run
    rw [cc0_moe_experts_eq_skeleton]
    unfold cc0_moe_experts_skel
    sl_exec (disch := first | sl_exact c1 | sl_exact k1 | sl_exact c4 | sl_exact c5 | sl_exact c6)
    sl_step
    iapply Hk
    isplitl [HO]; · iexists _; iexact HO
    isplitl [HT]; · iexact HT
    isplitl [H4]; · iexact H4
    isplitl [H5]; · iexact H5
    isplitl [H6]; · iexact H6
    iexact H7

end Cases

end Cert.Proof.Words

end
-- ==== Proof.Words.Block.lean ====
/-
  What a grid point of the experts' kernel leaves in the result's block, as a function of the blocks it reads.
-/
module

public import proofs.«01_k».proof.Proof.Words.States
public import Idealize.ShloMosaic.Lib.Pipeline.FrameBody

@[expose] public section

noncomputable section

namespace Cert.Proof.Words

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig Unit (Elt F) ℕ UU ℕ

/-- A weight block, read whole. -/
abbrev wrd (x : Vec F S1x1x1024x256 .f32) : Vec F S1x1x1024x256 .f32 :=
  View.ld x (Rect.unit (s := S1x1x1024x256) ![0, 0, 0, 0] S1x1x1024x256.size inb_S1x1x1024x256_S1x1x1024x256_0_0_0_0)
abbrev drd (x : Vec F S1x1x256x1024 .f32) : Vec F S1x1x256x1024 .f32 :=
  View.ld x (Rect.unit (s := S1x1x256x1024) ![0, 0, 0, 0] S1x1x256x1024.size inb_S1x1x256x1024_S1x1x256x1024_0_0_0_0)

/-- Four stores of the result's block, in quarters of rows, latest first. -/
abbrev quarters (p3 p2 p1 p0 : Vec F S512x128 .i32) : List (View.Piece (Elt F) S2048x128 .i32) :=
  [⟨⟨⟨![3, 0], S512x128.size, ![4, 1], inb_S2048x128_S512x128_3_0_s_4_1⟩, spos_4_1⟩, p3⟩,
    ⟨⟨⟨![2, 0], S512x128.size, ![4, 1], inb_S2048x128_S512x128_2_0_s_4_1⟩, spos_4_1⟩, p2⟩,
    ⟨⟨⟨![1, 0], S512x128.size, ![4, 1], inb_S2048x128_S512x128_1_0_s_4_1⟩, spos_4_1⟩, p1⟩,
    ⟨⟨⟨![0, 0], S512x128.size, ![4, 1], inb_S2048x128_S512x128_0_0_s_4_1⟩, spos_4_1⟩, p0⟩]

/-- The stores of point `i`. -/
abbrev pieces (c : Dev nD) (i : grid0.Coords) (X : Bf F c rowsM) (x4 x5 : Vec F S1x1x1024x256 .f32) (x6 : Vec F S1x1x256x1024 .f32) :
    List (View.Piece (Elt F) S2048x128 .i32) :=
  quarters
    (k0_pay2 (k0_pay7 (q0 c i X) (q1 c i X) (q2 c i X) (q3 c i X) (wrd x4) (wrd x5) (drd x6)))
    (k0_pay1 (k0_pay7 (q0 c i X) (q1 c i X) (q2 c i X) (q3 c i X) (wrd x4) (wrd x5) (drd x6)))
    (k0_pay9 (q0 c i X) (q1 c i X) (q2 c i X) (q3 c i X) (wrd x4) (wrd x5) (drd x6))
    (k0_pay8 (q0 c i X) (q1 c i X) (q2 c i X) (q3 c i X) (wrd x4) (wrd x5) (drd x6))

/-- The store of zeros past the tiles in use. -/
def zeroPiece : List (View.Piece (Elt F) S2048x128 .i32) :=
  [⟨Rect.unit (s := S2048x128) ![0, 0] S2048x128.size inb_S2048x128_S2048x128_0_0, k0_pay3⟩]

open Classical in
/-- The result's block after point `i`, `n` tiles in use. -/
def blk (c : Dev nD) (i : grid0.Coords) (n : ℕ) (X : Bf F c rowsM) (x4 x5 : Vec F S1x1x1024x256 .f32) (x6 : Vec F S1x1x256x1024 .f32) :
    Vec F S2048x128 .i32 :=
  if (i 0).val < n then View.canon (pieces c i X x4 x5 x6) else View.canon zeroPiece

/-- Row `y` of the block lies in the store of the rows that leave its remainder by four. -/
theorem mem_quarter (y : S2048x128.Idx) (k : Fin 4) (hk : (y 0).val % 4 = k.val)
    (inb : ∀ a, S512x128.size a = 0 ∨ (![k.val, 0] : Fin 2 → ℕ) a + (![4, 1] : Fin 2 → ℕ) a * (S512x128.size a - 1) < S2048x128.size a) :
    y ∈ (⟨⟨![k.val, 0], S512x128.size, ![4, 1], inb⟩, spos_4_1⟩ : Rect S2048x128).set := by
  rw [LoadRect.mem_set]
  have h0 : (y 0).val < 2048 := (y 0).isLt
  have h1 : (y 1).val < 128 := (y 1).isLt
  intro a
  match a with
  | ⟨0, _⟩ => exact ⟨(y 0).val / 4, show _ < 512 by omega, show (y 0).val = k.val + 4 * ((y 0).val / 4) by omega⟩
  | ⟨1, _⟩ => exact ⟨(y 1).val, h1, show (y 1).val = 0 + 1 * (y 1).val by omega⟩

/-- The four stores cover the block. -/
theorem quarters_cover (p3 p2 p1 p0 : Vec F S512x128 .i32) (y : S2048x128.Idx) : ∃ p ∈ quarters p3 p2 p1 p0, y ∈ p.1.set := by
  have h : (y 0).val % 4 < 4 := Nat.mod_lt _ (by decide)
  by_cases h3 : (y 0).val % 4 = 3
  · exact ⟨_, List.mem_cons_self, mem_quarter y 3 h3 _⟩
  by_cases h2 : (y 0).val % 4 = 2
  · exact ⟨_, List.mem_cons_of_mem _ List.mem_cons_self, mem_quarter y 2 h2 _⟩
  by_cases h1 : (y 0).val % 4 = 1
  · exact ⟨_, List.mem_cons_of_mem _ (List.mem_cons_of_mem _ List.mem_cons_self), mem_quarter y 1 h1 _⟩
  · exact ⟨_, List.mem_cons_of_mem _ (List.mem_cons_of_mem _ (List.mem_cons_of_mem _ List.mem_cons_self)),
      mem_quarter y 0 (show (y 0).val % 4 = 0 by omega) _⟩

/-- The store of zeros covers the block. -/
theorem zero_cover (y : S2048x128.Idx) : ∃ p ∈ (zeroPiece (F := F)), y ∈ p.1.set := by
  refine ⟨_, List.mem_singleton_self _, ?_⟩
  rw [LoadRect.mem_set]
  intro a
  match a with
  | ⟨0, _⟩ => exact ⟨(y 0).val, (y 0).isLt, show (y 0).val = 0 + 1 * (y 0).val by omega⟩
  | ⟨1, _⟩ => exact ⟨(y 1).val, (y 1).isLt, show (y 1).val = 0 + 1 * (y 1).val by omega⟩

/-- Read through its memref, the result's buffer after the point is the block. -/
theorem read_outB (c : Dev nD) (i : grid0.Coords) (M4 : Memref sig .tc .vmem S1x1x1024x256 .f32) (M5 : Memref sig .tc .vmem S1x1x1024x256 .f32)
    (M6 : Memref sig .tc .vmem S1x1x256x1024 .f32) (M7 : Memref sig .tc .vmem S2048x128 .i32) (X : Bf F c rowsM) (T : Bf F c cntM)
    (f4 : Bf F c M4) (f5 : Bf F c M5) (f6 : Bf F c M6) (f7 : Bf F c M7) :
    M7.view.read (Elt F) (outB c i M4 M5 M6 M7 X T f4 f5 f6 f7)
      = blk c i (nT (rdN c T)) X (M4.view.read (Elt F) f4) (M5.view.read (Elt F) f5) (M6.view.read (Elt F) f6) := by
  unfold outB blk
  split
  · exact View.read_writes_eq_canon M7.view f7 (pieces c i X _ _ _) (quarters_cover _ _ _ _)
  · exact View.read_writes_eq_canon M7.view f7 zeroPiece zero_cover

end Cert.Proof.Words

end
-- ==== Proof.Words.Region1.lean ====
/-
  The second kernel, which takes the words of the packed result apart: its body, its proof data and the body's obligation.
-/
module

public import proofs.«01_k».proof.Proof.Words.Region0
public import proofs.«01_k».proof.Proof.Gen.Kernel.Points

@[expose] public section

noncomputable section

namespace Cert.Proof.Words

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [BitOps F]

local notation "𝕄" => MT nD τ sig Unit (Elt F) ℕ UU ℕ

/-- Every fourth row of words, from row 0, 1, 2 and 3 on. -/
def r0 (x : Vec F S2048x128 .i32) : Vec F S512x128 .i32 :=
  fun j => x ((⟨![0, 0], S512x128.size, ![4, 1], inb_S2048x128_S512x128_0_0_s_4_1⟩ : LoadRect S2048x128).idx j)
def r1 (x : Vec F S2048x128 .i32) : Vec F S512x128 .i32 :=
  fun j => x ((⟨![1, 0], S512x128.size, ![4, 1], inb_S2048x128_S512x128_1_0_s_4_1⟩ : LoadRect S2048x128).idx j)
def r2 (x : Vec F S2048x128 .i32) : Vec F S512x128 .i32 :=
  fun j => x ((⟨![2, 0], S512x128.size, ![4, 1], inb_S2048x128_S512x128_2_0_s_4_1⟩ : LoadRect S2048x128).idx j)
def r3 (x : Vec F S2048x128 .i32) : Vec F S512x128 .i32 :=
  fun j => x ((⟨![3, 0], S512x128.size, ![4, 1], inb_S2048x128_S512x128_3_0_s_4_1⟩ : LoadRect S2048x128).idx j)

/-- The stores of the two halves of the columns, latest first. -/
abbrev halves (p1 p0 : Vec F S512x512 .f32) : List (View.Piece (Elt F) S512x1024 .f32) :=
  [⟨Rect.unit (s := S512x1024) ![0, 512] S512x512.size inb_S512x1024_S512x512_0_512, p1⟩,
    ⟨Rect.unit (s := S512x1024) ![0, 0] S512x512.size inb_S512x1024_S512x512_0_0, p0⟩]

/-- They cover the block. -/
theorem halves_cover (p1 p0 : Vec F S512x512 .f32) (y : S512x1024.Idx) : ∃ p ∈ halves p1 p0, y ∈ p.1.set := by
  have h0 : (y 0).val < 512 := (y 0).isLt
  have h1 : (y 1).val < 1024 := (y 1).isLt
  by_cases h : 512 ≤ (y 1).val
  · refine ⟨_, List.mem_cons_self, ?_⟩
    rw [LoadRect.mem_set]
    intro a
    match a with
    | ⟨0, _⟩ => exact ⟨(y 0).val, h0, show (y 0).val = 0 + 1 * (y 0).val by omega⟩
    | ⟨1, _⟩ => exact ⟨(y 1).val - 512, show _ < 512 by omega, show (y 1).val = 512 + 1 * ((y 1).val - 512) by omega⟩
  · refine ⟨_, List.mem_cons_of_mem _ List.mem_cons_self, ?_⟩
    rw [LoadRect.mem_set]
    intro a
    match a with
    | ⟨0, _⟩ => exact ⟨(y 0).val, h0, show (y 0).val = 0 + 1 * (y 0).val by omega⟩
    | ⟨1, _⟩ => exact ⟨(y 1).val, show _ < 512 by omega, show (y 1).val = 0 + 1 * (y 1).val by omega⟩

/-- The block the kernel makes of a block of words. -/
def unp (x : Vec F S2048x128 .i32) : Vec F S512x1024 .f32 :=
  View.canon (halves (k1_pay3 (r0 x) (r1 x) (r2 x) (r3 x)) (k1_pay2 (r0 x) (r1 x) (r2 x) (r3 x)))

set_option maxHeartbeats 1000000 in
/-- The body at a point, over any two whole staging buffers. -/
theorem point1 (c : Dev nD) (i : grid1.Coords) (M1 : Memref sig .tc .vmem S2048x128 .i32) (h1 : M1.IsWhole)
    (M2 : Memref sig .tc .vmem S512x1024 .f32) (h2 : M2.IsWhole) (x : Vec F S2048x128 .i32) (P : sProp 𝕄) :
    iprop(P ∗ owns (c : Thread nD τ) M1 fullShare x ∗ ∃ d, owns (c : Thread nD τ) M2 fullShare d)
      ⊢ wp frame (wpE (defs₀ (F := F)) Variants.none c none) Set.univ (cc1_unpack i M1 h1 M2 h2) fun _ =>
          iprop(P ∗ owns (c : Thread nD τ) M1 fullShare x ∗ owns (c : Thread nD τ) M2 fullShare (unp x)) := by
  simp only [own_pt c h1, own_pt c h2]
  iintro ⟨HP, ⟨%f1, %e1, H1⟩, ⟨%d, ⟨%f2, -, H2⟩⟩⟩
  rw [cc1_unpack_eq_skeleton]
  unfold cc1_unpack_skel
  sl_exec
  sl_step
  isplitl [HP]; · iexact HP
  isplitl [H1]
  · iexists f1; isplitr; · ipureintro; exact e1
    iexact H1
  iexists _
  isplitr; swap; · iexact H2
  ipureintro
  subst e1
  exact View.read_writes_eq_canon M2.view f2 (halves _ _) (halves_cover _ _)

attribute [local irreducible] unp

variable (V : Dev nD → Valuation τ sig (Elt F))

/-- The packed result's block at point `t`, as the region finds it. -/
abbrev inU (c : Dev nD) (t : Fin cfg1.N) : ((cfg1.win 0).xblock (cfg1.grid.coords t)).Idx → Elt F (cfg1.win 0).elt :=
  ((cfg1.win 0).blk t).view.read (Elt F) (V c main_v0)

/-- The buffers no window of this kernel stages, at anything. -/
abbrev inv1 (c : Dev nD) : sProp 𝕄 := Pipeline.scopedRest (Ix := Unit) (Name := ℕ) (U := UU) (Lvl := ℕ) (Val := Elt F) spec1 c

/-- The proof data. -/
def dat1 (c : Dev nD) : Dat τ (Elt F) Unit ℕ UU ℕ cfg1 c where
  A w := V c (Proc.devRef .tc (Pipeline.arrRef spec1 w))
  after w t := match w with
    | ⟨0, _⟩ => inU V c t
    | ⟨1, _⟩ => unp (inU V c t)
  Φ _ := inv1 c
  q _ := fullShare
  owed _ := 0

theorem beforeU (c : Dev nD) (t : Fin cfg1.N) (d) : (dat1 V c).before 0 t d = inU V c t :=
  (dat1 V c).before_in_eq_fetched 0 rfl (fun _ => rfl) (fun _ _ _ => rfl) (fun _ => rfl) t d

theorem afterU (c : Dev nD) (t : Fin cfg1.N) : unp (inU V c t) = (dat1 V c).after 1 t := rfl

/-- The library's body obligation. -/
theorem body1 (c : Dev nD) : BodyObligationLoose (dat1 V c) (defs₀ (F := F)) Variants.none () Set.univ := fun t => by
  rw [bigSep_W1, bigSep_W1]
  dsimp only
  rw [show (dat1 V c).Φ t.castSucc = inv1 c from rfl, show (dat1 V c).Φ t.succ = inv1 c from rfl,
    show (dat1 V c).owesAt () t.succ = (dat1 V c).owesAt () t.castSucc from rfl]
  refine triple_restated (point1 c (grid1.coords t) (stage1_0 (cfg1.slots t 0)) (hstage1_0 ((cfg1.slots t 0).cast nbuf1_0))
    (stage1_1 (cfg1.slots t 1)) (hstage1_1 ((cfg1.slots t 1).cast nbuf1_1)) (inU V c t)
    iprop(inv1 c ∗ (dat1 V c).owesAt () t.castSucc)) ?_ ?_ fun _ => ?_
  · unfold defs₀; rw [Defs.onTc_tc]
  · iintro ⟨HΦ, HO, ⟨%d0, H0⟩, ⟨%d1, H1⟩⟩
    have q0 : (owns (c : Thread nD τ) (stage1_0 (cfg1.slots t 0)) fullShare ((dat1 V c).before 0 t d0) : sProp 𝕄)
        ⊢ owns (c : Thread nD τ) (stage1_0 (cfg1.slots t 0)) fullShare (inU V c t) := own_eq c (beforeU V c t d0)
    isplitl [HΦ HO]
    · isplitl [HΦ]; · iexact HΦ
      iexact HO
    isplitl [H0]; · iapply q0; iexact H0
    iexists _; iexact H1
  · iintro ⟨⟨HΦ, HO⟩, H0, H1⟩
    have q1 : (owns (c : Thread nD τ) (stage1_1 (cfg1.slots t 1)) fullShare (unp (inU V c t)) : sProp 𝕄)
        ⊢ owns (c : Thread nD τ) (stage1_1 (cfg1.slots t 1)) fullShare ((dat1 V c).after 1 t) := own_eq c (afterU V c t)
    isplitl [HΦ]; · iexact HΦ
    isplitl [HO]; · iexact HO
    isplitl [H0]; · iexact H0
    iapply q1; iexact H1

end Cert.Proof.Words

end
-- ==== Proof.Range.lean ====
/-
  What the precondition says: every tile's expert is one of the 32, and at most all 96 tiles are in use.
-/
module

public import proofs.«01_k».proof.Pre_in_range
public import proofs.«01_k».proof.Proof.Gen.Pre_in_range
public import Idealize.ShloMosaic.Lib.ReduceAll
public import Idealize.ShloMosaic.Lib.Affine

@[expose] public section

namespace Cert.Proof.Experts

open Idealize.ShloMosaic
open Cert.Pre_in_range

variable {F : FTy → Type} [FloatOps F]

/-- A truth value's word is 1 exactly when it is true. -/
theorem word_one (b : Bool) : BitVec.ofBool b = 1#1 ↔ b = true := by cases b <;> decide

/-- A word that is at least 0 and below 32 as a signed number is below 32 as a natural number. -/
theorem lt_of_cmp (v : BitVec 32) (h0 : IntOp.cmpi .sge v 0#32 = 1#1) (h1 : IntOp.cmpi .slt v 32#32 = 1#1) : v.toNat < 32 := by
  unfold IntOp.cmpi at h0 h1
  simp only [word_one] at h0 h1
  simp only [BitVec.sle, BitVec.slt, decide_eq_true_eq] at h0 h1
  have e0 : (0#32).toInt = 0 := by decide
  have e1 : (32#32).toInt = 32 := by decide
  rw [e0] at h0; rw [e1] at h1
  rw [BitVec.toInt_eq_toNat_cond] at h0 h1
  split at h0 <;> omega

/-- A word that is at most 96 as a signed number. -/
theorem le_of_cmp (v : BitVec 32) (h : IntOp.cmpi .sle v 96#32 = 1#1) : v.toInt.toNat ≤ 96 := by
  unfold IntOp.cmpi at h
  simp only [word_one] at h
  simp only [BitVec.sle, decide_eq_true_eq] at h
  have e1 : (96#32).toInt = 96 := by decide
  rw [e1] at h
  omega

theorem S_sub : Subsingleton S_.Idx := ⟨fun a b => funext fun i => i.elim0⟩

/-- Under the precondition the table's words are below 32 and the number of tiles is at most 96. -/
theorem range_of {te : IVec S96 32} {nt : IVec S1 32} {xs wg wu wd} (h : Cert.Pre_in_range.fn (F := F) te nt xs wg wu wd = fun _ => 1#1) :
    (∀ i, (te i).toNat < 32) ∧ ∀ i, (nt i).toInt.toNat ≤ 96 := by
  have h0 := congrFun h (fun i : Fin 0 => i.elim0)
  obtain ⟨ha, hb⟩ := IntOp.andi_eq_one.1 h0
  haveI := S_sub
  have ha' := Host.reduce_andi_all _ _ _ _ _ ha
  have hb' := Host.reduce_andi_all _ _ _ _ _ hb
  refine ⟨fun i => ?_, fun i => le_of_cmp _ (hb' i)⟩
  obtain ⟨h1, h2⟩ := IntOp.andi_eq_one.1 (ha' i)
  exact lt_of_cmp _ h1 h2

end Cert.Proof.Experts
-- ==== Proof.Frames.lean ====
/-
  The frames of the three programs, and the rewrites the idealized one was printed with.
-/
module

public import proofs.«01_k».proof.Defs
public import proofs.«01_k».proof.Proof.Launch
public import proofs.«01_k».proof.Proof.Words.Launch
public import proofs.«01_k».proof.Proof.Range
public import proofs.«01_k».proof.Proof.Gen.ReferenceIdeal.Run
public import Idealize.ShloMosaic.Lib.Bf16PairInverse

@[expose] public section

noncomputable section

namespace Cert.Proof.Frames

open Idealize.ShloMosaic Idealize.SL.Sem

/-- The kernel as printed: under the precondition it runs, leaves its arguments and ends with every semaphore at zero. -/
theorem frame_p : Cert.quiescent_Kernel := fun m ρ h =>
  have hr := Experts.range_of (h 0)
  (θ_run Cert.Kernel.defs _ _).mono (fun r h => ⟨fun c => (h.1 c).2, h.2⟩) (Words.run_main (F := Bits) m ρ hr.1 hr.2)

/-- The idealized kernel likewise. -/
theorem frame_pi : Cert.quiescent_KernelIdeal := fun m ρ h =>
  have hr := Experts.range_of (h 0)
  (θ_run Cert.KernelIdeal.defs _ _).mono (fun r h => ⟨fun c => (h.1 c).2, h.2⟩) (Experts.run_main (F := Ideal) m ρ hr.1 hr.2)

/-- The reference, which has no semaphore. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same under the precondition. -/
theorem frame_ri_pre : Cert.quiescent_ReferenceIdeal_pre_in_range := fun m ρ _ => frame_ri m ρ trivial

/-- The rewrites: the packed array and its blocks re-typed as pairs of rows, the constant −1/log 2 by its name, the packs, the
    stores and loads of pairs, the store of zero words, and the words taken apart. -/
theorem preserves : Cert.preserves_Kernel_KernelIdeal :=
  open Cert.KernelIdeal IdealRules.bf16_pair in
  ⟨bufferStatement S196608x2x128 S196608x1x128, bufferStatement S2048x2x128 S2048x1x128,
    IdealRules.named_const.statement Cert.KernelIdeal.κ "neg_log2_e" .f32 0xBFB8AA3B#32 ((-((Real.log 2)⁻¹) : ℝ) : EReal) rfl,
    packStatement S512x512, statement S512x2x128 S512x1x128, selectZeroStatement S2048x128, statement S1024x512 S512x512⟩

end Cert.Proof.Frames

end
-- ==== Proof.Decode.lean ====
/-
  The packed words as numbers: the two halves of a word, bf16 each, and the two ways in which the programs read them.
-/
module

public import Idealize.ShloMosaic.Lib.Pointwise
public import Idealize.ShloMosaic.Init

@[expose] public section

noncomputable section

namespace Cert.Proof.Decode

open Idealize.ShloMosaic

/-- The number that a half of a word stands for: the low half for `0`, the high half for `1`. -/
def half (w : BitVec 32) (h : ℕ) : EReal := Ideal.ofBits .bf16 (w.extractLsb' (h * 16) 16)

/-- Sixteen zeros appended to a bf16 word: the f32 word of the same number. -/
theorem widen (b : BitVec 32) (c : BitVec 16) (h : b.toNat = c.toNat * 65536) : Ideal.ofBits .f32 b = Ideal.ofBits .bf16 c := by
  have hc : c.toNat < 65536 := c.isLt
  have e1 : (b.extractLsb' (8 + 23) 1 == 1#1) = (c.extractLsb' (8 + 7) 1 == 1#1) := by
    have : b.extractLsb' (8 + 23) 1 = c.extractLsb' (8 + 7) 1 := by
      apply BitVec.eq_of_toNat_eq
      simp only [BitVec.extractLsb'_toNat, Nat.shiftRight_eq_div_pow, h]
      omega
    rw [this]
  have e2 : (b.extractLsb' 23 8).toNat = (c.extractLsb' 7 8).toNat := by
    simp only [BitVec.extractLsb'_toNat, Nat.shiftRight_eq_div_pow, h]
    omega
  have e3 : (b.extractLsb' 0 23).toNat = (c.extractLsb' 0 7).toNat * 65536 := by
    simp only [BitVec.extractLsb'_toNat, Nat.shiftRight_eq_div_pow, h]
    omega
  have e4 : ((c.extractLsb' 0 7).toNat * 65536 = 0) = ((c.extractLsb' 0 7).toNat = 0) := by
    apply propext; omega
  have p (k : ℤ) : (2 : ℝ) ^ (k - 7) = 65536 * (2 : ℝ) ^ (k - 23) := by
    rw [show k - 7 = (k - 23) + 16 by ring, zpow_add₀ (by norm_num)]
    norm_num [mul_comm]
  show Ideal.ieee 8 23 b = Ideal.ieee 8 7 c
  unfold Ideal.ieee
  simp only [e1, e2, e3, e4]
  refine if_congr Iff.rfl rfl (if_congr Iff.rfl (congrArg Real.toEReal ?_) (congrArg Real.toEReal ?_))
  · have q := p (1 - (2 ^ (8 - 1) - 1))
    push_cast at q ⊢
    rw [q]; ring
  · have q := p (((c.extractLsb' 7 8).toNat : ℤ) - (2 ^ (8 - 1) - 1))
    push_cast at q ⊢
    rw [q]; ring

/-- The mask's bits: the upper sixteen. -/
theorem mask_bit : ∀ i : Fin 32, (0xFFFF0000#32)[i.val] = decide (16 ≤ i.val) := by decide

/-- A word moved up by sixteen, read as f32: its low half. -/
theorem low (w : BitVec 32) : Ideal.ofBits .f32 (w <<< 16) = half w 0 := by
  refine widen _ _ ?_
  simp only [BitVec.extractLsb'_toNat, Nat.shiftRight_eq_div_pow, BitVec.toNat_shiftLeft, Nat.shiftLeft_eq]
  have := w.isLt
  omega

/-- A word with its low half cleared, read as f32: its high half. -/
theorem high (w : BitVec 32) : Ideal.ofBits .f32 (w &&& 0xFFFF0000#32) = half w 1 := by
  refine widen _ _ ?_
  have e : w &&& 0xFFFF0000#32 = (w >>> 16) <<< 16 := by
    ext i hi
    have := mask_bit ⟨i, hi⟩
    simp only [BitVec.getElem_and, BitVec.getElem_shiftLeft, BitVec.getElem_ushiftRight, this]
    by_cases h : 16 ≤ i
    · simp [h, show ¬ i < 16 by omega, show 16 + (i - 16) = i by omega, BitVec.getLsbD_eq_getElem hi]
    · simp [h, show i < 16 by omega]
  rw [e]
  simp only [BitVec.extractLsb'_toNat, Nat.shiftRight_eq_div_pow, BitVec.toNat_shiftLeft, Nat.shiftLeft_eq, BitVec.toNat_ushiftRight]
  have := w.isLt
  omega

end Cert.Proof.Decode

end
-- ==== Proof.Payload.lean ====
/-
  What the experts' kernel computes of a tile, entry by entry, over the extended reals.
-/
module

public import proofs.«01_k».proof.Proof.Block
public import proofs.«01_k».proof.Proof.Decode
public import Idealize.ShloMosaic.Lib.Pipeline.ReadBack

@[expose] public section

noncomputable section

namespace Cert.Proof.Experts

open Cert.KernelIdeal Cert.KernelIdeal.Gen

open Idealize.ShloMosaic
open Cert.Proof.Decode

/-- The sigmoid-weighted product of the two projections of a row at one hidden unit. -/
def gated (hg hu : EReal) : EReal := hg * Ideal.div 1 (1 + Ideal.exp (-hg)) * hu

/-- The feed-forward of a row `x` through one expert's weights, at one output column. -/
def ffn (x : Fin 1024 → EReal) (wg wu : Fin 1024 → Fin 256 → EReal) (wd : Fin 256 → EReal) : EReal :=
  ∑ f : Fin 256, gated (∑ k : Fin 1024, x k * wg k f) (∑ k : Fin 1024, x k * wu k f) * wd f

/-- The tile's rows as numbers, of its four quarters of words. -/
def rowsOf (v43 v46 v49 : IVec S512x128 32) (v51 : Vec Ideal S1x512x128 .i32) : FVec Ideal S512x1024 .bf16 :=
  let v53 := concatenate S512x512 1 [⟨S512x128, v43⟩, ⟨S512x128, v46⟩, ⟨S512x128, v49⟩, ⟨S512x128, shapeCast S512x128 v51 shapeCasts_S1x512x128_S512x128⟩] concatenates_S512x128_S512x128_S512x128_S512x128_S512x512_d1
  truncf .bf16 (concatenate S512x1024 1 [⟨S512x512, (unpackElementwise 0 v53 : FVec Ideal S512x512 .f32)⟩, ⟨S512x512, (unpackElementwise 1 v53 : FVec Ideal S512x512 .f32)⟩] concatenates_S512x512_S512x512_S512x1024_d1) bitsLt_bf16_f32

/-- The three products, of a tile's rows. -/
def prods (v57 : FVec Ideal S512x1024 .bf16) (v58 v62 : Vec Ideal S1x1x1024x256 .f32) (v76 : Vec Ideal S1x1x256x1024 .f32) : FVec Ideal S512x1024 .f32 :=
  let v61 : FVec Ideal S512x256 .f32 := matmul dot_S512x1024_S1024x256_S512x256_1_0_0_1_n_n none v57 (truncf .bf16 (shapeCast S1024x256 v58 shapeCasts_S1x1x1024x256_S1024x256) bitsLt_bf16_f32) (constant S512x256 .f32 0x00000000#32)
  let v65 : FVec Ideal S512x256 .f32 := matmul dot_S512x1024_S1024x256_S512x256_1_0_0_1_n_n none v57 (truncf .bf16 (shapeCast S1024x256 v62 shapeCasts_S1x1x1024x256_S1024x256) bitsLt_bf16_f32) (constant S512x256 .f32 0x00000000#32)
  let v72 : FVec Ideal S512x256 .f32 := divf (broadcast S512x256 (Scalar.ofBits .f32 0x3F800000#32)) (addf (broadcast S512x256 (Scalar.ofBits .f32 0x3F800000#32)) (exp2 (mulf v61 (broadcast S512x256 (Named.named κ "neg_log2_e" 0xBFB8AA3B#32)))))
  matmul dot_S512x256_S256x1024_S512x1024_1_0_0_1_n_n none (truncf .bf16 (mulf (mulf v61 v72) v65) bitsLt_bf16_f32)
    (truncf .bf16 (shapeCast S256x1024 v76 shapeCasts_S1x1x256x1024_S256x1024) bitsLt_bf16_f32) (constant S512x1024 .f32 0x00000000#32)

/-- What the body computes of a tile before it is packed: the three products of the tile's rows. -/
theorem pay7_eq (v43 v46 v49 : IVec S512x128 32) (v51 : Vec Ideal S1x512x128 .i32) (v58 v62 : Vec Ideal S1x1x1024x256 .f32) (v76 : Vec Ideal S1x1x256x1024 .f32) :
    k0_pay7 v43 v46 v49 v51 v58 v62 v76 = prods (rowsOf v43 v46 v49 v51) v58 v62 v76 := rfl

/-- Base two to the power `-x / log 2` is the exponential of `-x`. -/
theorem exp2_neg (x : EReal) : Ideal.exp2 (x * ((-((Real.log 2)⁻¹) : ℝ) : EReal)) = Ideal.exp (-x) := by
  have hl : 0 < Real.log 2 := Real.log_pos (by norm_num)
  have hn : -((Real.log 2)⁻¹) < 0 := by simpa using hl
  induction x with
  | bot =>
    rw [EReal.bot_mul_coe_of_neg hn]; rfl
  | top =>
    rw [EReal.top_mul_coe_of_neg hn]; rfl
  | coe r =>
    rw [← EReal.coe_mul, ← EReal.coe_neg]
    show ((Real.rpow 2 _ : ℝ) : EReal) = ((Real.exp _ : ℝ) : EReal)
    congr 1
    rw [show Real.rpow 2 (r * -(Real.log 2)⁻¹) = (2 : ℝ) ^ (r * -(Real.log 2)⁻¹) from rfl, Real.rpow_def_of_pos (by norm_num)]
    congr 1
    field_simp

/-- The named constant. -/
theorem named_val : (Named.named κ "neg_log2_e" 0xBFB8AA3B#32 : Ideal .f32) = ((-((Real.log 2)⁻¹) : ℝ) : EReal) :=
  IdealRules.named_const.ideal_named_scalar _ _ _ _ rfl

/-- The products, at an entry. -/
theorem prods_apply (x : FVec Ideal S512x1024 .bf16) (v58 v62 : Vec Ideal S1x1x1024x256 .f32) (v76 : Vec Ideal S1x1x256x1024 .f32) (j : Fin 512) (d : Fin 1024) :
    prods x v58 v62 v76 (ix2 j d)
      = ffn (fun k => x (ix2 j k)) (fun k f => v58 (ix4 0 0 k f)) (fun k f => v62 (ix4 0 0 k f)) (fun f => v76 (ix4 0 0 f d)) := by
  unfold prods ffn gated
  pointwise
  refine Finset.sum_congr rfl fun f _ => ?_
  rw [named_val]
  exact congrArg (fun e => _ * Ideal.div 1 (1 + e) * _ * _) (exp2_neg _)

/-- The rows as numbers, at an entry: the half of the word that the column belongs to. -/
theorem rowsOf_apply (Y : Fin 512 → Fin 512 → BitVec 32) (v43 v46 v49 : IVec S512x128 32) (v51 : Vec Ideal S1x512x128 .i32)
    (h0 : ∀ j (l : Fin 128), v43 (ix2 j l) = Y j ⟨l.val, by omega⟩) (h1 : ∀ j (l : Fin 128), v46 (ix2 j l) = Y j ⟨128 + l.val, by omega⟩)
    (h2 : ∀ j (l : Fin 128), v49 (ix2 j l) = Y j ⟨256 + l.val, by omega⟩) (h3 : ∀ j (l : Fin 128), v51 (ix3 0 j l) = Y j ⟨384 + l.val, by omega⟩)
    (j : Fin 512) (k : Fin 1024) :
    rowsOf v43 v46 v49 v51 (ix2 j k) = half (Y j ⟨k.val % 512, Nat.mod_lt _ (by decide)⟩) (k.val / 512) := by
  unfold rowsOf
  pointwise
  have hk := k.isLt
  simp only [h0, h1, h2, h3]
  by_cases h : k.val < 512
  · rw [dif_pos h, show k.val / 512 = 0 by omega]
    refine congrArg (fun w => half w 0) ?_
    split_ifs <;> exact congrArg (Y j) (Fin.ext (by dsimp only; omega))
  · rw [dif_neg h, show k.val / 512 = 1 by omega]
    refine congrArg (fun w => half w 1) ?_
    split_ifs <;> exact congrArg (Y j) (Fin.ext (by dsimp only; omega))

/-- The two halves of a pair of columns, as one column. -/
theorem pick (f : Fin 1024 → EReal) (h : Fin 2) (n : ℕ) (hn : n < 512) :
    (if h.val % 2 = 0 then f ⟨n, by omega⟩ else f ⟨512 + n, by omega⟩) = f ⟨h.val * 512 + n, by omega⟩ := by
  have hh := h.isLt
  split_ifs with e
  · exact congrArg f (Fin.ext (by dsimp only; omega))
  · exact congrArg f (Fin.ext (by dsimp only; omega))

section Stores

variable (v43 v46 v49 : IVec S512x128 32) (v51 : Vec Ideal S1x512x128 .i32) (v58 v62 : Vec Ideal S1x1x1024x256 .f32) (v76 : Vec Ideal S1x1x256x1024 .f32)
  (j : Fin 512) (h : Fin 2) (l : Fin 128)

/-- The four stores: quarter `s` holds, of each half of the columns, those from `s * 128` on. -/
theorem pay10_apply : k0_pay10 v43 v46 v49 v51 v58 v62 v76 (ix3 j h l)
    = k0_pay7 v43 v46 v49 v51 v58 v62 v76 (ix2 j ⟨h.val * 512 + l.val, by omega⟩) := by
  unfold k0_pay10 k0_pay8 k0_pay9
  pointwise
  exact pick (fun d => k0_pay7 v43 v46 v49 v51 v58 v62 v76 (ix2 j d)) h l.val (by omega)
/-- The second quarter of a row that the body stores. -/
theorem pay1_apply : k0_pay1 (k0_pay8 v43 v46 v49 v51 v58 v62 v76) (k0_pay9 v43 v46 v49 v51 v58 v62 v76) (ix3 j h l)
    = k0_pay7 v43 v46 v49 v51 v58 v62 v76 (ix2 j ⟨h.val * 512 + (128 + l.val), by omega⟩) := by
  unfold k0_pay1 k0_pay8 k0_pay9
  pointwise
  exact pick (fun d => k0_pay7 v43 v46 v49 v51 v58 v62 v76 (ix2 j d)) h (128 + l.val) (by omega)
/-- The third quarter of a row that the body stores. -/
theorem pay2_apply : k0_pay2 (k0_pay8 v43 v46 v49 v51 v58 v62 v76) (k0_pay9 v43 v46 v49 v51 v58 v62 v76) (ix3 j h l)
    = k0_pay7 v43 v46 v49 v51 v58 v62 v76 (ix2 j ⟨h.val * 512 + (256 + l.val), by omega⟩) := by
  unfold k0_pay2 k0_pay8 k0_pay9
  pointwise
  exact pick (fun d => k0_pay7 v43 v46 v49 v51 v58 v62 v76 (ix2 j d)) h (256 + l.val) (by omega)
/-- The fourth quarter of a row that the body stores. -/
theorem pay3_apply : k0_pay3 (k0_pay8 v43 v46 v49 v51 v58 v62 v76) (k0_pay9 v43 v46 v49 v51 v58 v62 v76) (ix3 j h l)
    = k0_pay7 v43 v46 v49 v51 v58 v62 v76 (ix2 j ⟨h.val * 512 + (384 + l.val), by omega⟩) := by
  unfold k0_pay3 k0_pay8 k0_pay9
  pointwise
  exact pick (fun d => k0_pay7 v43 v46 v49 v51 v58 v62 v76 (ix2 j d)) h (384 + l.val) (by omega)

/-- The block of the result, at an entry: row `y0 / 4` of the tile, at the column that half `y1`, quarter `y0 % 4` and lane `y2` make. -/
theorem quarters_apply (y0 : Fin 2048) (y1 : Fin 2) (y2 : Fin 128) :
    View.canon (Val := Elt Ideal) (quarters
      (k0_pay3 (k0_pay8 v43 v46 v49 v51 v58 v62 v76) (k0_pay9 v43 v46 v49 v51 v58 v62 v76))
      (k0_pay2 (k0_pay8 v43 v46 v49 v51 v58 v62 v76) (k0_pay9 v43 v46 v49 v51 v58 v62 v76))
      (k0_pay1 (k0_pay8 v43 v46 v49 v51 v58 v62 v76) (k0_pay9 v43 v46 v49 v51 v58 v62 v76))
      (k0_pay10 v43 v46 v49 v51 v58 v62 v76)) (ix3 y0 y1 y2)
      = k0_pay7 v43 v46 v49 v51 v58 v62 v76 (ix2 ⟨y0.val / 4, by omega⟩ ⟨y1.val * 512 + (y0.val % 4 * 128 + y2.val), by omega⟩) := by
  let G : S2048x2x128.Idx → EReal := fun y => k0_pay7 v43 v46 v49 v51 v58 v62 v76
    (ix2 (⟨(y 0).val / 4, by have : (y 0).val < 2048 := (y 0).isLt; omega⟩ : Fin 512)
      (⟨(y 1).val * 512 + ((y 0).val % 4 * 128 + (y 2).val), by
        have h1 : (y 1).val < 2 := (y 1).isLt
        have h2 : (y 2).val < 128 := (y 2).isLt
        omega⟩ : Fin 1024))
  have key := View.canon_append_of_piecesOf (Val := Elt Ideal) (e := .bf16) G [] (quarters
      (k0_pay3 (k0_pay8 v43 v46 v49 v51 v58 v62 v76) (k0_pay9 v43 v46 v49 v51 v58 v62 v76))
      (k0_pay2 (k0_pay8 v43 v46 v49 v51 v58 v62 v76) (k0_pay9 v43 v46 v49 v51 v58 v62 v76))
      (k0_pay1 (k0_pay8 v43 v46 v49 v51 v58 v62 v76) (k0_pay9 v43 v46 v49 v51 v58 v62 v76))
      (k0_pay10 v43 v46 v49 v51 v58 v62 v76)) ?_ (ix3 y0 y1 y2) (quarters_cover _ _ _ _ _)
  · rw [List.append_nil] at key; exact key
  have place (s : ℕ) (hs : s < 4) (a : Fin 512) (b : Fin 2) (l : Fin 128) (n0 n1 n2 : ℕ) (e0 : n0 = s + 4 * a.val) (e1 : n1 = 0 + 1 * b.val) (e2 : n2 = 0 + 1 * l.val)
      (p0 : n0 / 4 < 512) (p1 : n1 * 512 + (n0 % 4 * 128 + n2) < 1024) :
      k0_pay7 v43 v46 v49 v51 v58 v62 v76 (ix2 (⟨n0 / 4, p0⟩ : Fin 512) (⟨n1 * 512 + (n0 % 4 * 128 + n2), p1⟩ : Fin 1024))
        = k0_pay7 v43 v46 v49 v51 v58 v62 v76 (ix2 a ⟨b.val * 512 + (s * 128 + l.val), by omega⟩) := by
    congr 2
    · exact Fin.ext (by dsimp only; omega)
    · exact Fin.ext (by dsimp only; omega)
  refine ⟨fun x => ?_, fun x => ?_, fun x => ?_, fun x => ?_, trivial⟩
  · obtain ⟨a, b, l, rfl⟩ : ∃ (a : Fin 512) (b : Fin 2) (l : Fin 128), x = ix3 a b l := ⟨x 0, x 1, x 2, eq_ix3 x⟩
    exact (pay3_apply v43 v46 v49 v51 v58 v62 v76 a b l).trans (place 3 (by omega) a b l _ _ _ rfl rfl rfl _ _).symm
  · obtain ⟨a, b, l, rfl⟩ : ∃ (a : Fin 512) (b : Fin 2) (l : Fin 128), x = ix3 a b l := ⟨x 0, x 1, x 2, eq_ix3 x⟩
    exact (pay2_apply v43 v46 v49 v51 v58 v62 v76 a b l).trans (place 2 (by omega) a b l _ _ _ rfl rfl rfl _ _).symm
  · obtain ⟨a, b, l, rfl⟩ : ∃ (a : Fin 512) (b : Fin 2) (l : Fin 128), x = ix3 a b l := ⟨x 0, x 1, x 2, eq_ix3 x⟩
    exact (pay1_apply v43 v46 v49 v51 v58 v62 v76 a b l).trans (place 1 (by omega) a b l _ _ _ rfl rfl rfl _ _).symm
  · obtain ⟨a, b, l, rfl⟩ : ∃ (a : Fin 512) (b : Fin 2) (l : Fin 128), x = ix3 a b l := ⟨x 0, x 1, x 2, eq_ix3 x⟩
    refine (pay10_apply v43 v46 v49 v51 v58 v62 v76 a b l).trans (Eq.trans ?_ (place 0 (by omega) a b l _ _ _ rfl rfl rfl _ _).symm)
    congr 2
    exact Fin.ext (by dsimp only; omega)

end Stores

end Cert.Proof.Experts

end
-- ==== Proof.Landed.lean ====
/-
  The tile as it has landed in the ring buffer, and the four loads of it.
-/
module

public import proofs.«01_k».proof.Proof.Payload

@[expose] public section

noncomputable section

namespace Cert.Proof.Experts

open Cert.KernelIdeal Cert.KernelIdeal.Gen Cert.Proof.Decode

open Idealize.ShloMosaic
open Idealize.ShloMosaic.TcCoe Idealize.ShloMosaic.Tactic

/-- An entry of a slot, in the ring buffer. -/
theorem slot_emb (k : Fin 3) (r : Fin 2048) (l : Fin 128) : (slotAt (oS k.val) (oS_inb k)).view.emb (ix2 r l) = ix3 k r l := by
  show (Rect.unit (s := S3x2048x128) (oS k.val) S1x2048x128.size (oS_inb k)).emb (Shape.reshapeEquiv _ (ix2 r l)) = _
  have e (h) : Shape.reshapeEquiv (s := S1x2048x128) (s' := S2048x128) h (ix2 r l) = ix3 (0 : Fin 1) r l := by pointwise
  rw [e]
  funext a
  apply Fin.ext
  match a with
  | ⟨0, _⟩ => show k.val + 1 * 0 = k.val; omega
  | ⟨1, _⟩ => show 0 + 1 * r.val = r.val; omega
  | ⟨2, _⟩ => show 0 + 1 * l.val = l.val; omega

/-- An entry of a tile of the packed rows, in the packed rows. -/
theorem tile_emb (u : Fin 96) (r : Fin 2048) (l : Fin 128) :
    (tileAt (oX u.val) (oX_inb u)).view.emb (ix2 r l) = ix2 (⟨2048 * u.val + r.val, by omega⟩ : Fin 196608) l := by
  show (Rect.unit (s := S196608x128) (oX u.val) S2048x128.size (oX_inb u)).emb (ix2 r l) = _
  funext a
  apply Fin.ext
  match a with
  | ⟨0, _⟩ => show 2048 * u.val + 1 * r.val = 2048 * u.val + r.val; omega
  | ⟨1, _⟩ => show 0 + 1 * l.val = l.val; omega

variable (c : Dev nD) (X : Bf Ideal c rowsM)

/-- Once a tile has landed in a slot, the ring buffer's entries there are the tile's. -/
theorem slot_read (k : Fin 3) (o : Fin 3 → ℕ) (h) (ho : o = oS k.val) (f : Bf Ideal c ringM) (w : Vec Ideal S2048x128 .i32)
    (r : Fin 2048) (l : Fin 128) :
    ((slotAt o h).view.writes (Elt Ideal) f [⟨Rect.whole S2048x128, w⟩] : Bf Ideal c ringM) (ix3 k r l) = w (ix2 r l) := by
  subst ho
  have e := congrFun (View.read_writes_whole (slotAt (oS k.val) h).view f w) (ix2 r l)
  have e1 : (slotAt (oS k.val) h).view.emb (ix2 r l) = ix3 k r l := slot_emb k r l
  generalize (slotAt (oS k.val) h).view.writes (Elt Ideal) f [⟨Rect.whole S2048x128, w⟩] = g at e ⊢
  have e3 : (slotAt (oS k.val) h).view.read (Elt Ideal) g (ix2 r l) = g ((slotAt (oS k.val) h).view.emb (ix2 r l)) := rfl
  have e4 : g ((slotAt (oS k.val) h).view.emb (ix2 r l)) = g (ix3 k r l) := congrArg g e1
  exact e4.symm.trans (e3.symm.trans e)

/-- An entry of a tile is the packed rows' at its place. -/
theorem tile_read (u : Fin 96) (o : Fin 2 → ℕ) (h) (ho : o = oX u.val) (r : Fin 2048) (l : Fin 128) :
    (tileAt o h).view.read (Elt Ideal) X (ix2 r l) = X (ix2 (⟨2048 * u.val + r.val, by omega⟩ : Fin 196608) l) := by
  subst ho
  have e2 : (tileAt (oX u.val) h).view.emb (ix2 r l) = ix2 (⟨2048 * u.val + r.val, by omega⟩ : Fin 196608) l := tile_emb u r l
  have e3 : (tileAt (oX u.val) h).view.read (Elt Ideal) X (ix2 r l) = X ((tileAt (oX u.val) h).view.emb (ix2 r l)) := rfl
  exact e3.trans (congrArg X e2)

variable (i : grid0.Coords)

/-- Row `r` of point `i`'s tile, in the packed rows. -/
abbrev rowOf (r : ℕ) (hr : r < 2048) : Fin 196608 := ⟨2048 * (i 0).val + r, by have := i0_lt i; omega⟩

/-- What the ring holds of the tile whose turn it is: word (r, l) of its slot is word (r, l) of the tile in the sorted rows. -/
theorem landed_apply (r : Fin 2048) (l : Fin 128) :
    landed c i X (ix3 (⟨(i 0).val % 3, by omega⟩ : Fin 3) r l) = X (ix2 (rowOf i r.val r.isLt) l) :=
  (slot_read c ⟨(i 0).val % 3, by omega⟩ _ _ (off6_eq i) _ _ r l).trans (tile_read c X ⟨(i 0).val, i0_lt i⟩ _ _ (off7_eq i) r l)

/-- A load of every fourth row from row `s` on. -/
theorem load_apply (s : ℕ) (hs : s < 4) (o : Fin 3 → ℕ) (ho : o = ![(i 0).val % 3, s, 0]) (h) (j : Fin 512) (l : Fin 128) :
    ringM.view.readAt (Elt Ideal) (⟨o, S1x512x128.size, ![1, 4, 1], h⟩ : LoadRect S3x2048x128) (landed c i X) (ix3 (0 : Fin 1) j l)
      = X (ix2 (rowOf i (4 * j.val + s) (by omega)) l) := by
  subst ho
  refine Eq.trans ?_ (landed_apply c X i ⟨4 * j.val + s, by omega⟩ l)
  generalize landed c i X = f
  rw [View.readAt_apply]
  refine congrArg f ?_
  funext a
  apply Fin.ext
  match a with
  | ⟨0, _⟩ => show (i 0).val % 3 + 1 * 0 = (i 0).val % 3; omega
  | ⟨1, _⟩ => show s + 4 * j.val = 4 * j.val + s; omega
  | ⟨2, _⟩ => show 0 + 1 * l.val = l.val; omega

/-- Word `q` of row `j` of the tile: lane `q % 128` of packed row `4 j + q / 128`. -/
abbrev tileWord (j q : Fin 512) : BitVec 32 :=
  X (ix2 (rowOf i (4 * j.val + q.val / 128) (by omega)) (⟨q.val % 128, by omega⟩ : Fin 128))

/-- The four loads: quarter `s` of each row's words, those from `128 * s` on. -/
theorem q0_apply (j : Fin 512) (l : Fin 128) : q0 c i X (ix2 j l) = tileWord c X i j ⟨l.val, by omega⟩ := by
  unfold q0 k0_pay4
  pointwise
  refine (load_apply c X i 0 (by omega) _ (off8_eq i) _ j l).trans (congrArg X ?_)
  congr 1 <;> exact Fin.ext (by dsimp only; omega)
/-- The second load reads words 128 to 255 of each row of the tile. -/
theorem q1_apply (j : Fin 512) (l : Fin 128) : q1 c i X (ix2 j l) = tileWord c X i j ⟨128 + l.val, by omega⟩ := by
  unfold q1 k0_pay5
  pointwise
  refine (load_apply c X i 1 (by omega) _ (off9_eq i) _ j l).trans (congrArg X ?_)
  congr 1 <;> exact Fin.ext (by dsimp only; omega)
/-- The third load reads words 256 to 383 of each row. -/
theorem q2_apply (j : Fin 512) (l : Fin 128) : q2 c i X (ix2 j l) = tileWord c X i j ⟨256 + l.val, by omega⟩ := by
  unfold q2 k0_pay6
  pointwise
  refine (load_apply c X i 2 (by omega) _ (off10_eq i) _ j l).trans (congrArg X ?_)
  congr 1 <;> exact Fin.ext (by dsimp only; omega)
/-- The fourth load reads words 384 to 511 of each row. -/
theorem q3_apply (j : Fin 512) (l : Fin 128) : q3 c i X (ix3 (0 : Fin 1) j l) = tileWord c X i j ⟨384 + l.val, by omega⟩ := by
  refine (load_apply c X i 3 (by omega) _ (off11_eq i) _ j l).trans (congrArg X ?_)
  congr 1 <;> exact Fin.ext (by dsimp only; omega)

/-- Column `k` of sorted row `r`: the low half of a packed word for the first 512 columns, the high half for the rest. -/
def xrow (X : S196608x128.Idx → BitVec 32) (r : Fin 49152) (k : Fin 1024) : EReal :=
  half (X (ix2 (⟨4 * r.val + k.val % 512 / 128, by omega⟩ : Fin 196608) (⟨k.val % 128, by omega⟩ : Fin 128))) (k.val / 512)

/-- The rows of point `i`'s tile that the body forms are the sorted rows from `512 * i` on. -/
theorem rows_apply (j : Fin 512) (k : Fin 1024) :
    rowsOf (q0 c i X) (q1 c i X) (q2 c i X) (q3 c i X) (ix2 j k)
      = xrow X ⟨512 * (i 0).val + j.val, by have := i0_lt i; omega⟩ k := by
  refine (rowsOf_apply (fun j q => tileWord c X i j q) _ _ _ _ (q0_apply c X i) (q1_apply c X i) (q2_apply c X i) (q3_apply c X i) j k).trans ?_
  unfold xrow
  refine congrArg (fun w => half w (k.val / 512)) (congrArg X ?_)
  congr 1 <;> exact Fin.ext (by dsimp only; omega)

/-- A weight block loaded whole is the block. -/
theorem wrd_eq (x : Vec Ideal S1x1x1024x256 .f32) : wrd x = x := by
  funext y
  refine congrArg x (funext fun a => Fin.ext ?_)
  show (![0, 0, 0, 0] : Fin 4 → ℕ) a + 1 * (y a).val = (y a).val
  fin_cases a <;> simp
/-- Reading the down-projection block of one expert gives the block itself. -/
theorem drd_eq (x : Vec Ideal S1x1x256x1024 .f32) : drd x = x := by
  funext y
  refine congrArg x (funext fun a => Fin.ext ?_)
  show (![0, 0, 0, 0] : Fin 4 → ℕ) a + 1 * (y a).val = (y a).val
  fin_cases a <;> simp

/-- The result's block after point `i`, at an entry: the feed-forward of the sorted row when the tile is in use, zero
    otherwise. -/
theorem blk_apply (n : ℕ) (x4 x5 : Vec Ideal S1x1x1024x256 .f32) (x6 : Vec Ideal S1x1x256x1024 .f32) (y0 : Fin 2048) (y1 : Fin 2) (y2 : Fin 128) :
    blk c i n X x4 x5 x6 (ix3 y0 y1 y2)
      = if (i 0).val < n then
          ffn (xrow X ⟨512 * (i 0).val + y0.val / 4, by have := i0_lt i; omega⟩) (fun k f => x4 (ix4 0 0 k f)) (fun k f => x5 (ix4 0 0 k f))
            (fun f => x6 (ix4 0 0 f ⟨y1.val * 512 + (y0.val % 4 * 128 + y2.val), by omega⟩))
        else 0 := by
  unfold blk
  split
  · refine (quarters_apply _ _ _ _ _ _ _ y0 y1 y2).trans ?_
    rw [pay7_eq, prods_apply]
    have hx : (fun k => rowsOf (q0 c i X) (q1 c i X) (q2 c i X) (q3 c i X) (ix2 (⟨y0.val / 4, by omega⟩ : Fin 512) k))
        = xrow X ⟨512 * (i 0).val + y0.val / 4, by have := i0_lt i; omega⟩ := funext fun k => rows_apply c X i _ k
    have h4 (k : Fin 1024) (f : Fin 256) : wrd x4 (ix4 0 0 k f) = x4 (ix4 0 0 k f) := congrFun (wrd_eq x4) _
    have h5 (k : Fin 1024) (f : Fin 256) : wrd x5 (ix4 0 0 k f) = x5 (ix4 0 0 k f) := congrFun (wrd_eq x5) _
    have h6 (f : Fin 256) (d : Fin 1024) : drd x6 (ix4 0 0 f d) = x6 (ix4 0 0 f d) := congrFun (drd_eq x6) _
    rw [hx]
    simp only [h4, h5, h6]
  · have key := View.canon_append_of_piecesOf (Val := Elt Ideal) (e := .bf16) (fun _ => (0 : EReal)) [] zeroPiece
      ⟨fun x => Ideal.ofBits_zero_bf16, trivial⟩ (ix3 y0 y1 y2) (zero_cover _)
    rw [List.append_nil] at key
    exact key

end Cert.Proof.Experts

end
-- ==== Proof.Value0.lean ====
/-
  The experts' kernel's result over the reals, entry by entry: every sorted row whose tile is in use gets its tile's expert's
  feed-forward, every other row zero.
-/
module

public import proofs.«01_k».proof.Proof.Landed
public import proofs.«01_k».proof.Proof.Launch
public import Idealize.ShloMosaic.Lib.Pipeline.ValueKit
public import Idealize.ShloMosaic.Lib.Pipeline.Covers

@[expose] public section

noncomputable section

namespace Cert.Proof.Experts

open Cert.KernelIdeal Cert.KernelIdeal.Gen Cert.Proof.Decode

open Idealize.ShloMosaic
open Idealize.ShloMosaic.TcCoe Idealize.ShloMosaic.Tactic
open Idealize.ShloMosaic.Pipeline (Dat Cfg Window)

/-- The result, from the tiles' experts, the number of tiles in use, the packed rows and the weights. -/
def moe (ex : Fin 96 → Fin 32) (n : ℕ) (X : S196608x128.Idx → BitVec 32) (Wg Wu : S2x32x1024x256.Idx → EReal)
    (Wd : S2x32x256x1024.Idx → EReal) (r : Fin 49152) (d : Fin 1024) : EReal :=
  if r.val / 512 < n then
    ffn (xrow X r) (fun k f => Wg (ix4 0 (ex ⟨r.val / 512, by omega⟩) k f)) (fun k f => Wu (ix4 0 (ex ⟨r.val / 512, by omega⟩) k f))
      (fun f => Wd (ix4 0 (ex ⟨r.val / 512, by omega⟩) f d))
  else 0

/-- The feed-forward of a row depends only on the values of the row and the weights. -/
theorem ffn_congr {x x' : Fin 1024 → EReal} {g g' u u' : Fin 1024 → Fin 256 → EReal} {d d' : Fin 256 → EReal} (hx : ∀ k, x k = x' k)
    (hg : ∀ k f, g k f = g' k f) (hu : ∀ k f, u k f = u' k f) (hd : ∀ f, d f = d' f) : ffn x g u d = ffn x' g' u' d' := by
  rw [funext hx, funext₂ hg, funext₂ hu, funext hd]

variable (m : (ℓ : Loc nD τ sig) → Buf (Elt Ideal) ℓ) (h : TeOk m)

/-- The expert of tile `t`. -/
def ex (t : Fin 96) : Fin 32 := ⟨(m (((0 : Dev nD) : Thread nD τ).loc main_arg0) (ix1 t) : BitVec 32).toNat, h _⟩
/-- The tiles in use. -/
def used : ℕ := nT (m (((0 : Dev nD) : Thread nD τ).loc main_arg1) (ix1 0))
/-- The result of this launch. -/
def res : Fin 49152 → Fin 1024 → EReal :=
  moe (ex m h) (used m) (m (((0 : Dev nD) : Thread nD τ).loc main_arg2)) (m (((0 : Dev nD) : Thread nD τ).loc main_arg3))
    (m (((0 : Dev nD) : Thread nD τ).loc main_arg4)) (m (((0 : Dev nD) : Thread nD τ).loc main_arg5))

/-- The table's entry that a grid point's index maps read. -/
theorem off1_eq : ∀ i : grid0.Coords, k0_off1 i = ![(i 0).val] := by decide +kernel

/-- The block of the weights that point `i` fetches is its tile's expert's. -/
theorem transform_eq (i : grid0.Coords) :
    cc0_transform_1 k0_off1_inb numel1_S1 (tabs m) i = ![0, (ex m h ⟨(i 0).val, i0_lt i⟩).val, 0, 0] := by
  have e : ∀ (o : Fin 1 → ℕ) (ho : ∀ a, o a + Cert.KernelIdeal.S1.size a ≤ S96.size a), o = ![(i 0).val] →
      (tabs m).at 0 (Rect.unit (s := S96) o Cert.KernelIdeal.S1.size ho) numel1_S1 = m (((0 : Dev nD) : Thread nD τ).loc main_arg0) (ix1 (⟨(i 0).val, i0_lt i⟩ : Fin 96)) := by
    intro o ho rfl
    refine congrArg (m (((0 : Dev nD) : Thread nD τ).loc main_arg0)) ?_
    funext a
    apply Fin.ext
    fin_cases a
    rfl
  show (![0, BitVec.toNat ((tabs m).at 0 (Rect.unit (s := S96) (k0_off1 i) Cert.KernelIdeal.S1.size (k0_off1_inb i)) numel1_S1), 0, 0] : Fin 4 → ℕ) = _
  rw [e _ _ (off1_eq i)]
  rfl

/-- Point `t` of the grid as a tile. -/
abbrev tileOf (t : Fin grid0.N) : Fin 96 := ⟨(grid0.coords t 0).val, i0_lt _⟩

/-- The gate block of a grid point is that of the expert of its tile. -/
theorem inB0_apply (t : Fin grid0.N) (k : Fin 1024) (f : Fin 256) :
    inB (adm m h 0) (W0 m) 0 0 t (ix4 0 0 k f) = m (((0 : Dev nD) : Thread nD τ).loc main_arg3) (ix4 0 (ex m h (tileOf t)) k f) := by
  refine congrArg (m (((0 : Dev nD) : Thread nD τ).loc main_arg3)) ?_
  have ht := transform_eq m h (grid0.coords t)
  funext a
  apply Fin.ext
  show cc0_transform_1 k0_off1_inb numel1_S1 (tabs m) (grid0.coords t) a * S1x1x1024x256.size a + 1 * (ix4 (0 : Fin 1) (0 : Fin 1) k f a).val = _
  rw [ht]
  match a with
  | 0 => rfl
  | 1 => show (ex m h (tileOf t)).val * 1 + 1 * 0 = (ex m h (tileOf t)).val; omega
  | 2 => show 0 * 1024 + 1 * k.val = k.val; omega
  | 3 => show 0 * 256 + 1 * f.val = f.val; omega
/-- The up block of a grid point is that of the expert of its tile. -/
theorem inB1_apply (t : Fin grid0.N) (k : Fin 1024) (f : Fin 256) :
    inB (adm m h 0) (W0 m) 0 1 t (ix4 0 0 k f) = m (((0 : Dev nD) : Thread nD τ).loc main_arg4) (ix4 0 (ex m h (tileOf t)) k f) := by
  refine congrArg (m (((0 : Dev nD) : Thread nD τ).loc main_arg4)) ?_
  have ht := transform_eq m h (grid0.coords t)
  funext a
  apply Fin.ext
  show cc0_transform_1 k0_off1_inb numel1_S1 (tabs m) (grid0.coords t) a * S1x1x1024x256.size a + 1 * (ix4 (0 : Fin 1) (0 : Fin 1) k f a).val = _
  rw [ht]
  match a with
  | 0 => rfl
  | 1 => show (ex m h (tileOf t)).val * 1 + 1 * 0 = (ex m h (tileOf t)).val; omega
  | 2 => show 0 * 1024 + 1 * k.val = k.val; omega
  | 3 => show 0 * 256 + 1 * f.val = f.val; omega
/-- The down block of a grid point is that of the expert of its tile. -/
theorem inB2_apply (t : Fin grid0.N) (f : Fin 256) (d : Fin 1024) :
    inB (adm m h 0) (W0 m) 0 2 t (ix4 0 0 f d) = m (((0 : Dev nD) : Thread nD τ).loc main_arg5) (ix4 0 (ex m h (tileOf t)) f d) := by
  refine congrArg (m (((0 : Dev nD) : Thread nD τ).loc main_arg5)) ?_
  have ht := transform_eq m h (grid0.coords t)
  funext a
  apply Fin.ext
  show cc0_transform_1 k0_off1_inb numel1_S1 (tabs m) (grid0.coords t) a * S1x1x256x1024.size a + 1 * (ix4 (0 : Fin 1) (0 : Fin 1) f d a).val = _
  rw [ht]
  match a with
  | 0 => rfl
  | 1 => show (ex m h (tileOf t)).val * 1 + 1 * 0 = (ex m h (tileOf t)).val; omega
  | 2 => show 0 * 256 + 1 * f.val = f.val; omega
  | 3 => show 0 * 1024 + 1 * d.val = d.val; omega

/-- The count the body reads is the number of tiles in use. -/
theorem count_eq : nT (rdN (F := Ideal) 0 (cntT (adm m h 0) 0)) = used m := by
  unfold used
  refine congrArg (fun j => nT (m (((0 : Dev nD) : Thread nD τ).loc main_arg1) j)) ?_
  funext a
  apply Fin.ext
  fin_cases a
  rfl

/-- Grid point i writes block i of the result. -/
theorem transform4_eq : ∀ i : grid0.Coords, cc0_transform_4 i = ![(i 0).val, 0, 0] := by decide +kernel

/-- What point `t` leaves in the result's block, at an entry. -/
theorem point_apply (t : Fin grid0.N) (y0 : Fin 2048) (y1 : Fin 2) (y2 : Fin 128) :
    blk 0 (grid0.coords t) (nT (rdN (F := Ideal) 0 (cntT (adm m h 0) 0))) (rowsX (W0 m) 0) (inB (adm m h 0) (W0 m) 0 0 t)
        (inB (adm m h 0) (W0 m) 0 1 t) (inB (adm m h 0) (W0 m) 0 2 t) (ix3 y0 y1 y2)
      = res m h ⟨512 * (tileOf t).val + y0.val / 4, by omega⟩ ⟨y1.val * 512 + (y0.val % 4 * 128 + y2.val), by omega⟩ := by
  refine (blk_apply 0 (rowsX (W0 m) 0) (grid0.coords t) _ _ _ _ y0 y1 y2).trans ?_
  rw [count_eq]
  unfold res moe
  have ht : (512 * (tileOf t).val + y0.val / 4) / 512 = (grid0.coords t 0).val := by dsimp only; omega
  have he : (⟨(512 * (tileOf t).val + y0.val / 4) / 512, by omega⟩ : Fin 96) = tileOf t := Fin.ext ht
  by_cases hu : (grid0.coords t 0).val < used m
  · rw [if_pos hu, if_pos (show (512 * (tileOf t).val + y0.val / 4) / 512 < used m from by rw [ht]; exact hu)]
    refine ffn_congr (fun k => rfl) (fun k f => (inB0_apply m h t k f).trans ?_) (fun k f => (inB1_apply m h t k f).trans ?_)
      (fun f => (inB2_apply m h t f _).trans ?_)
    · rw [he]
    · rw [he]
    · rw [he]
  · rw [if_neg hu, if_neg (show ¬ (512 * (tileOf t).val + y0.val / 4) / 512 < used m from by rw [ht]; exact hu)]

attribute [local irreducible] blk res

/-- The result's blocks cover it. -/
theorem covers3 (a : (pcfg0 (F := Ideal)).Adm) : ((cfg0 a).win 3).Covers := by
  refine ((cfg0 a).win 3).covers_of_indexMap_surj rfl (by decide : ∀ a : Fin 3, 0 < S2048x2x128.size a) fun β => ?_
  have hn : ∀ x : Fin 3, (β x).val < (![96, 1, 1] : Fin 3 → ℕ) x := fun x => lt_of_lt_of_eq (β x).isLt
    ((by decide : ∀ x : Fin 3, (S196608x2x128.size x + S2048x2x128.size x - 1) / S2048x2x128.size x = (![96, 1, 1] : Fin 3 → ℕ) x) x)
  let i : grid0.Coords := fun a => match a with | ⟨0, _⟩ => ⟨(β (0 : Fin 3)).val, hn 0⟩
  have hi : ∀ x : Fin 3, cc0_transform_4 i x = (β x).val := by
    intro x
    rw [transform4_eq]
    match x with
    | 0 => rfl
    | 1 => have : (β (1 : Fin 3)).val < 1 := hn 1
           show 0 = (β (1 : Fin 3)).val; omega
    | 2 => have : (β (2 : Fin 3)).val < 1 := hn 2
           show 0 = (β (2 : Fin 3)).val; omega
  exact ⟨i, hi⟩

/-- The array the kernel leaves, from what each point leaves in its block. -/
theorem arr3 (a : (pcfg0 (F := Ideal)).Adm) (V : Dev nD → Valuation τ sig (Elt Ideal)) (G : S196608x2x128.Idx → EReal)
    (hG : ∀ (t : Fin grid0.N) (y0 : Fin 2048) (y1 : Fin 2) (y2 : Fin 128), blk 0 (grid0.coords t) (nT (rdN (F := Ideal) 0 (cntT a 0))) (rowsX V 0)
      (inB a V 0 0 t) (inB a V 0 1 t) (inB a V 0 2 t) (ix3 y0 y1 y2) = G (ix3 ⟨2048 * (tileOf t).val + y0.val, by omega⟩ y1 y2)) :
    (dat0 a V 0).arrAt 3 (cfg0 a).N = G := by
  refine (dat0 a V 0).arrAt_eq_of_covers 3 G (covers3 a) fun t hf y => ?_
  have key : ∀ y : S2048x2x128.Idx, blk 0 (grid0.coords t) (nT (rdN (F := Ideal) 0 (cntT a 0))) (rowsX V 0)
      (inB a V 0 0 t) (inB a V 0 1 t) (inB a V 0 2 t) y = G ((((cfg0 a).win 3).blk t).view.emb y) := by
    intro y
    obtain ⟨b0, b1, b2, rfl⟩ : ∃ (a : Fin 2048) (b : Fin 2) (l : Fin 128), y = ix3 a b l := ⟨y 0, y 1, y 2, eq_ix3 y⟩
    refine (hG t b0 b1 b2).trans (congrArg G ?_)
    have hi := transform4_eq (grid0.coords t)
    funext x
    apply Fin.ext
    show _ = cc0_transform_4 (grid0.coords t) x * S2048x2x128.size x + 1 * (ix3 b0 b1 b2 x).val
    rw [hi]
    match x with
    | 0 => show 2048 * (tileOf t).val + b0.val = (tileOf t).val * 2048 + 1 * b0.val; omega
    | 1 => show b1.val = 0 * 2 + 1 * b1.val; omega
    | 2 => show b2.val = 0 * 128 + 1 * b2.val; omega
  exact key y

/-- The experts' kernel's result. -/
theorem out0_eq (y0 : Fin 196608) (y1 : Fin 2) (y2 : Fin 128) :
    out0 m h 0 (ix3 y0 y1 y2) = res m h ⟨y0.val / 4, by omega⟩ ⟨y1.val * 512 + (y0.val % 4 * 128 + y2.val), by omega⟩ := by
  have key : out0 m h 0 = fun y : S196608x2x128.Idx => res m h ⟨(y 0).val / 4, by have : (y 0).val < 196608 := (y 0).isLt; omega⟩
      ⟨(y 1).val * 512 + ((y 0).val % 4 * 128 + (y 2).val), by
        have h1 : (y 1).val < 2 := (y 1).isLt
        have h2 : (y 2).val < 128 := (y 2).isLt
        omega⟩ := by
    refine arr3 (adm m h 0) (W0 m) _ fun t a b l => (point_apply m h t a b l).trans ?_
    have e (r r' : Fin 49152) (d d' : Fin 1024) (hr : r.val = r'.val) (hd : d.val = d'.val) : res m h r d = res m h r' d' := by
      rw [Fin.ext hr, Fin.ext hd]
    refine e _ _ _ _ ?_ ?_
    · show 512 * (tileOf t).val + a.val / 4 = (2048 * (tileOf t).val + a.val) / 4; omega
    · show b.val * 512 + (a.val % 4 * 128 + l.val) = b.val * 512 + ((2048 * (tileOf t).val + a.val) % 4 * 128 + l.val); omega
  exact congrFun key (ix3 y0 y1 y2)

end Cert.Proof.Experts

end
-- ==== Proof.Value1.lean ====
/-
  The second kernel's result over the reals: the rows of the packed result with each pair taken apart, so that the program's
  result is the experts' feed-forward, row by row.
-/
module

public import proofs.«01_k».proof.Proof.Value0
public import Idealize.ShloMosaic.Lib.ViewIndex

@[expose] public section

noncomputable section

namespace Cert.Proof.Experts

open Cert.KernelIdeal Cert.KernelIdeal.Gen Cert.Proof.Decode

open Idealize.ShloMosaic
open Idealize.ShloMosaic.TcCoe Idealize.ShloMosaic.Tactic
open Idealize.ShloMosaic.Pipeline (Dat Cfg Window)

section Block

variable (x : Vec Ideal S2048x2x128 .bf16) (j : Fin 512)

/-- Every fourth pair of rows. -/
theorem r0_apply (b : Fin 2) (l : Fin 128) : r0 x (ix3 j b l) = x (ix3 (⟨4 * j.val, by omega⟩ : Fin 2048) b l) := by
  refine congrArg x (Shape.idx3_ext ?_ ?_ ?_)
  · show 0 + 4 * j.val = 4 * j.val; omega
  · show 0 + 1 * b.val = b.val; omega
  · show 0 + 1 * l.val = l.val; omega
/-- The second load takes rows 4 j + 1. -/
theorem r1_apply (b : Fin 2) (l : Fin 128) : r1 x (ix3 j b l) = x (ix3 (⟨4 * j.val + 1, by omega⟩ : Fin 2048) b l) := by
  refine congrArg x (Shape.idx3_ext ?_ ?_ ?_)
  · show 1 + 4 * j.val = 4 * j.val + 1; omega
  · show 0 + 1 * b.val = b.val; omega
  · show 0 + 1 * l.val = l.val; omega
/-- The third load takes rows 4 j + 2. -/
theorem r2_apply (b : Fin 2) (l : Fin 128) : r2 x (ix3 j b l) = x (ix3 (⟨4 * j.val + 2, by omega⟩ : Fin 2048) b l) := by
  refine congrArg x (Shape.idx3_ext ?_ ?_ ?_)
  · show 2 + 4 * j.val = 4 * j.val + 2; omega
  · show 0 + 1 * b.val = b.val; omega
  · show 0 + 1 * l.val = l.val; omega
/-- The fourth load takes rows 4 j + 3. -/
theorem r3_apply (b : Fin 2) (l : Fin 128) : r3 x (ix3 j b l) = x (ix3 (⟨4 * j.val + 3, by omega⟩ : Fin 2048) b l) := by
  refine congrArg x (Shape.idx3_ext ?_ ?_ ?_)
  · show 3 + 4 * j.val = 4 * j.val + 3; omega
  · show 0 + 1 * b.val = b.val; omega
  · show 0 + 1 * l.val = l.val; omega

/-- The two halves of a row: of each quarter the pairs' first rows, and their second rows. -/
theorem low_apply (k : Fin 512) : k1_pay1 (r0 x) (r1 x) (r2 x) (r3 x) (ix2 j k)
    = x (ix3 (⟨4 * j.val + k.val / 128, by omega⟩ : Fin 2048) (0 : Fin 2) (⟨k.val % 128, by omega⟩ : Fin 128)) := by
  unfold k1_pay1
  pointwise
  simp only [r0_apply, r1_apply, r2_apply, r3_apply]
  split_ifs <;> exact congrArg x (Shape.idx3_ext (by dsimp; omega) rfl (by dsimp; omega))

/-- The high halves of the words are the second half of a row. -/
theorem high_apply (k : Fin 512) : k1_pay2 (r0 x) (r1 x) (r2 x) (r3 x) (ix2 j k)
    = x (ix3 (⟨4 * j.val + k.val / 128, by omega⟩ : Fin 2048) (1 : Fin 2) (⟨k.val % 128, by omega⟩ : Fin 128)) := by
  unfold k1_pay2
  pointwise
  simp only [r0_apply, r1_apply, r2_apply, r3_apply]
  split_ifs <;> exact congrArg x (Shape.idx3_ext (by dsimp; omega) rfl (by dsimp; omega))

/-- The block the kernel makes, at an entry. -/
theorem unp_apply (d : Fin 1024) : unp x (ix2 j d)
    = x (ix3 (⟨4 * j.val + d.val % 512 / 128, by omega⟩ : Fin 2048) (⟨d.val / 512, by omega⟩ : Fin 2) (⟨d.val % 128, by omega⟩ : Fin 128)) := by
  let G : S512x1024.Idx → EReal := fun y => x (ix3
    (⟨4 * (y 0).val + (y 1).val % 512 / 128, by have : (y 0).val < 512 := (y 0).isLt; omega⟩ : Fin 2048)
    (⟨(y 1).val / 512, by have : (y 1).val < 1024 := (y 1).isLt; omega⟩ : Fin 2) (⟨(y 1).val % 128, by omega⟩ : Fin 128))
  have key := View.canon_append_of_piecesOf (Val := Elt Ideal) (e := .f32) G [] (halves (k1_pay2 (r0 x) (r1 x) (r2 x) (r3 x)) (k1_pay1 (r0 x) (r1 x) (r2 x) (r3 x)))
    ?_ (ix2 j d) (halves_cover _ _ _)
  · rw [List.append_nil] at key; exact key
  refine ⟨fun y => ?_, fun y => ?_, trivial⟩
  · obtain ⟨a, b, rfl⟩ : ∃ (a b : Fin 512), y = ix2 a b := ⟨y 0, y 1, eq_ix2 y⟩
    refine (high_apply x a b).trans (congrArg x (Shape.idx3_ext ?_ ?_ ?_))
    · show 4 * a.val + b.val / 128 = 4 * (0 + 1 * a.val) + (512 + 1 * b.val) % 512 / 128; omega
    · show 1 = (512 + 1 * b.val) / 512; omega
    · show b.val % 128 = (512 + 1 * b.val) % 128; omega
  · obtain ⟨a, b, rfl⟩ : ∃ (a b : Fin 512), y = ix2 a b := ⟨y 0, y 1, eq_ix2 y⟩
    refine (low_apply x a b).trans (congrArg x (Shape.idx3_ext ?_ ?_ ?_))
    · show 4 * a.val + b.val / 128 = 4 * (0 + 1 * a.val) + (0 + 1 * b.val) % 512 / 128; omega
    · show 0 = (0 + 1 * b.val) / 512; omega
    · show b.val % 128 = (0 + 1 * b.val) % 128; omega

end Block

attribute [local irreducible] unp res

variable (m : (ℓ : Loc nD τ sig) → Buf (Elt Ideal) ℓ) (h : TeOk m)

/-- The two windows' blocks at a point. -/
theorem index1_eq : (∀ i : grid1.Coords, cc1_transform_0 i = ![(i 0).val, 0, 0]) ∧ ∀ i : grid1.Coords, cc1_transform_1 i = ![(i 0).val, 0] := by
  constructor <;> decide +kernel

/-- Point `t`'s block of the packed result, at an entry. -/
theorem inU_read (V : Dev nD → Valuation τ sig (Elt Ideal)) (t : Fin grid1.N) (a : Fin 2048) (b : Fin 2) (l : Fin 128) :
    inU V 0 t (ix3 a b l)
      = V 0 main_v0 (ix3 (⟨2048 * (grid1.coords t 0).val + a.val, by have : (grid1.coords t 0).val < 96 := (grid1.coords t 0).isLt; omega⟩ : Fin 196608) b l) := by
  refine congrArg (V 0 main_v0) ?_
  have hi := index1_eq.1 (grid1.coords t)
  funext x
  apply Fin.ext
  show cc1_transform_0 (grid1.coords t) x * S2048x2x128.size x + 1 * (ix3 a b l x).val = _
  rw [hi]
  match x with
  | 0 => show (grid1.coords t 0).val * 2048 + 1 * a.val = 2048 * (grid1.coords t 0).val + a.val; omega
  | 1 => show 0 * 2 + 1 * b.val = b.val; omega
  | 2 => show 0 * 128 + 1 * l.val = l.val; omega

/-- The block that a grid point of the decoding call reads. -/
theorem inU_apply (t : Fin grid1.N) (a : Fin 2048) (b : Fin 2) (l : Fin 128) :
    inU (W1 m h) 0 t (ix3 a b l)
      = out0 m h 0 (ix3 (⟨2048 * (grid1.coords t 0).val + a.val, by have : (grid1.coords t 0).val < 96 := (grid1.coords t 0).isLt; omega⟩ : Fin 196608) b l) :=
  (inU_read (W1 m h) t a b l).trans (congrFun (W1_v0 m h 0) _)

/-- The result's blocks cover it. -/
theorem covers1 : (cfg1.win 1).Covers := by decide +kernel

/-- The program's result: row `r` is the experts' feed-forward of sorted row `r`. -/
theorem out1_eq (r : Fin 49152) (d : Fin 1024) : out1 m h 0 (ix2 r d) = res m h r d := by
  have key : out1 m h 0 = fun y : S49152x1024.Idx => res m h (y 0) (y 1) := by
    unfold out1
    refine (dat1 (W1 m h) 0).arrAt_eq_of_covers 1 _ covers1 fun t hf y => ?_
    have key : ∀ y : S512x1024.Idx, unp (inU (W1 m h) 0 t) y = (fun y : S49152x1024.Idx => res m h (y 0) (y 1)) (((cfg1.win 1).blk t).view.emb y) := by
      intro y
      obtain ⟨j, d, rfl⟩ : ∃ (a : Fin 512) (b : Fin 1024), y = ix2 a b := ⟨y 0, y 1, eq_ix2 y⟩
      have hu : (grid1.coords t 0).val < 96 := (grid1.coords t 0).isLt
      have he : ((cfg1.win 1).blk t).view.emb (ix2 j d) = ix2 (⟨512 * (grid1.coords t 0).val + j.val, by omega⟩ : Fin 49152) d := by
        have hi := index1_eq.2 (grid1.coords t)
        funext x
        apply Fin.ext
        show cc1_transform_1 (grid1.coords t) x * S512x1024.size x + 1 * (ix2 j d x).val = _
        rw [hi]
        match x with
        | 0 => show (grid1.coords t 0).val * 512 + 1 * j.val = 512 * (grid1.coords t 0).val + j.val; omega
        | 1 => show 0 * 1024 + 1 * d.val = d.val; omega
      rw [he]
      refine (unp_apply _ j d).trans ((inU_apply m h t _ _ _).trans ((out0_eq m h _ _ _).trans ?_))
      show res m h _ _ = res m h _ _
      congr 1 <;> apply Fin.ext
      · show (2048 * (grid1.coords t 0).val + (4 * j.val + d.val % 512 / 128)) / 4 = 512 * (grid1.coords t 0).val + j.val; omega
      · show d.val / 512 * 512 + ((2048 * (grid1.coords t 0).val + (4 * j.val + d.val % 512 / 128)) % 4 * 128 + d.val % 128) = d.val; omega
    exact key y
  exact congrFun key (ix2 r d)

end Cert.Proof.Experts

end
-- ==== Proof.Reference.lean ====
/-
  The reference's result over the reals, entry by entry: a sum over all experts, of which the row's own is the only one that
  counts.
-/
module

public import proofs.«01_k».proof.Proof.Value1
public import proofs.«01_k».proof.Proof.Gen.ReferenceIdeal.Run

@[expose] public section

noncomputable section

namespace Cert.Proof.Reference

open Cert.ReferenceIdeal Cert.ReferenceIdeal.Gen Cert.Proof.Decode
open Cert.Proof.Experts (xrow ffn gated moe nT)

open Idealize.ShloMosaic
open Idealize.ShloMosaic.TcCoe Idealize.ShloMosaic.Tactic

/-- The rows, from their packed words. -/
def rows (w : IVec S196608x128 32) : FVec Ideal S49152x1024 .f32 :=
  concatenate S49152x1024 1
    [⟨S49152x512, (bitcastToFloat (F := Ideal) .f32 (Host.shli (shapeCast _ w shapeCasts_S196608x128_S49152x512) (broadcastInDim S49152x512 ![] bcast_S_S49152x512 (constantI S_ 32 16#32))))⟩,
      ⟨S49152x512, (bitcastToFloat (F := Ideal) .f32 (andi (shapeCast _ w shapeCasts_S196608x128_S49152x512) (broadcastInDim S49152x512 ![] bcast_S_S49152x512 (constantI S_ 32 4294901760#32))))⟩]
    concatenates_S49152x512_S49152x512_S49152x1024_d1

/-- Every row against every expert's first or second matrix. -/
def hidden (x : FVec Ideal S49152x1024 .f32) (W : FVec Ideal S2x32x1024x256 .f32) : FVec Ideal S49152x32x256 .f32 :=
  Host.dotGeneral dot_S49152x1024_S32x1024x256_S49152x32x256_1_1_0_02_n_n none x
    (shapeCast _ (extractStridedSlice S1x32x1024x256 ![0, 0, 0, 0] W slices_S2x32x1024x256_S1x32x1024x256_0_0_0_0) shapeCasts_S1x32x1024x256_S32x1024x256)

/-- One where the row's tile is in use and the expert its own, zero elsewhere. -/
def own (te : IVec S96 32) (nt : IVec S1 32) : FVec Ideal S49152x32x256 .f32 :=
  (broadcastInDim S49152x32x256 ![0, 1, 2] bcast_S49152x32x1_S49152x32x256_0_1_2 (broadcastInDim S49152x32x1 ![0, 1] bcast_S49152x32_S49152x32x1_0_1 (uitofp .f32 (cmpi .eq (broadcastInDim S49152x32 ![0, 1] bcast_S49152x1_S49152x32_0_1 (broadcastInDim S49152x1 ![0] bcast_S49152_S49152x1_0 (shapeCast _ (broadcastInDim S96x512 ![0] bcast_S96_S96x512_0 (select (cmpi .slt (iotaInDim S96 32 0) (broadcastInDim S96 ![] bcast_S_S96 (shapeCast _ nt shapeCasts_S1_S_))) te (broadcastInDim S96 ![] bcast_S_S96 (id (constantI S_ 32 4294967295#32))))) shapeCasts_S96x512_S49152))) (broadcastInDim S49152x32 ![0, 1] bcast_S1x32_S49152x32_0_1 (iotaInDim S1x32 32 1))))))

/-- The reference's result. -/
def total (te : IVec S96 32) (nt : IVec S1 32) (w : IVec S196608x128 32) (Wg Wu : FVec Ideal S2x32x1024x256 .f32) (Wd : FVec Ideal S2x32x256x1024 .f32) :
    FVec Ideal S49152x1024 .f32 :=
  Host.dotGeneral dot_S49152x32x256_S32x256x1024_S49152x1024_12_01_0_2_n_n none
    (mulf (mulf (mulf (hidden (rows w) Wg)
        (Host.divf (broadcastInDim S49152x32x256 ![] bcast_S_S49152x32x256 (constant S_ .f32 0x3F800000#32))
          (addf (broadcastInDim S49152x32x256 ![] bcast_S_S49152x32x256 (constant S_ .f32 0x3F800000#32)) (Host.exp (Host.negf (hidden (rows w) Wg))))))
        (hidden (rows w) Wu)) (own te nt))
    (shapeCast _ (extractStridedSlice S1x32x256x1024 ![0, 0, 0, 0] Wd slices_S2x32x256x1024_S1x32x256x1024_0_0_0_0) shapeCasts_S1x32x256x1024_S32x256x1024)

/-- Two indices are equal if their coordinates are. -/
theorem idx2 {a b : ℕ} {x y : (⟨2, ![a, b]⟩ : Shape).Idx} (h0 : (x 0).val = (y 0).val) (h1 : (x 1).val = (y 1).val) : x = y :=
  funext fun i => by
    match i with
    | ⟨0, _⟩ => exact Fin.ext h0
    | ⟨1, _⟩ => exact Fin.ext h1

/-- The reference's rows are the sorted rows. -/
theorem rows_apply (w : IVec S196608x128 32) (r : Fin 49152) (k : Fin 1024) : rows w (ix2 r k) = xrow w r k := by
  unfold rows xrow
  pointwise
  have hk := k.isLt
  by_cases h : k.val < 512
  · rw [dif_pos h, show (k.val / 512) = 0 by omega]
    refine Eq.trans ?_ (low _)
    refine (congrArg (fun v : BitVec 32 => Ideal.ofBits .f32 (v <<< 16)) (congrArg w (idx2 ?_ ?_) : w _ = w _) : _)
    · dsimp; omega
    · rfl
  · rw [dif_neg h, show (k.val / 512) = 1 by omega]
    refine Eq.trans ?_ (high _)
    refine (congrArg (fun v : BitVec 32 => Ideal.ofBits .f32 (v &&& 0xFFFF0000#32)) (congrArg w (idx2 ?_ ?_) : w _ = w _) : _)
    · dsimp; omega
    · dsimp; omega

/-- A hidden entry is the row's product with the expert's column. -/
theorem hidden_apply (x : FVec Ideal S49152x1024 .f32) (W : FVec Ideal S2x32x1024x256 .f32) (r : Fin 49152) (e : Fin 32) (f : Fin 256) :
    hidden x W (ix3 r e f) = ∑ k : Fin 1024, x (ix2 r k) * W (ix4 0 e k f) := by
  unfold hidden
  pointwise

/-- The mask is one exactly at a used tile's own expert. -/
theorem own_apply (te : IVec S96 32) (nt : IVec S1 32) (r : Fin 49152) (e : Fin 32) (f : Fin 256) :
    own te nt (ix3 r e f) = if r.val / 512 < nT (nt (ix1 0)) ∧ te (ix1 (⟨r.val / 512, by omega⟩ : Fin 96)) = BitVec.ofNat 32 e.val then 1 else 0 := by
  unfold own
  pointwise
  have hr := r.isLt
  have he := e.isLt
  have hlt := Cert.Proof.Experts.slt_iff (r.val / 512) (by omega) (nt (ix1 0))
  have hc (a b : BitVec 32) (b' : BitVec 1) (h : b' = IntOp.cmpi .eq a b) : (FloatOps.uitofp .f32 b' : Ideal .f32) = if a = b then (1 : EReal) else 0 := by
    subst h
    by_cases e : a = b
    · subst e
      rw [if_pos rfl, show IntOp.cmpi .eq a a = 1#1 from by simp [IntOp.cmpi]]
      show (((1#1 : BitVec 1).toNat : ℝ) : EReal) = 1
      simp
    · rw [if_neg e, show IntOp.cmpi .eq a b = 0#1 from by
        show BitVec.ofBool (a == b) = 0#1
        rw [beq_eq_false_iff_ne.2 e]; rfl]
      show (((0#1 : BitVec 1).toNat : ℝ) : EReal) = 0
      simp
  refine (hc _ _ _ rfl).trans ?_
  by_cases hu : r.val / 512 < nT (nt (ix1 0))
  · have h1 : IntOp.cmpi .slt (BitVec.ofNat 32 (r.val / 512)) (nt (ix1 0)) = 1#1 := hlt.2 hu
    rw [h1]
    simp only [hu, true_and]
    rfl
  · have h1 : ¬ IntOp.cmpi .slt (BitVec.ofNat 32 (r.val / 512)) (nt (ix1 0)) = 1#1 := fun h => hu (hlt.1 h)
    have h2 : ¬ (4294967295#32 = BitVec.ofNat 32 e.val) := fun h => by
      have := congrArg BitVec.toNat h
      rw [BitVec.toNat_ofNat, BitVec.toNat_ofNat] at this
      omega
    have h3 (x y : BitVec 32) : Scalar.select (IntOp.cmpi .slt (BitVec.ofNat 32 (r.val / 512)) (nt (ix1 0))) x y = y := if_neg h1
    rw [h3]
    exact (if_neg h2).trans (if_neg fun h => hu h.1).symm

/-- The result as a sum over experts and hidden columns. -/
theorem total_apply (te : IVec S96 32) (nt : IVec S1 32) (w : IVec S196608x128 32) (Wg Wu : FVec Ideal S2x32x1024x256 .f32) (Wd : FVec Ideal S2x32x256x1024 .f32)
    (r : Fin 49152) (d : Fin 1024) :
    total te nt w Wg Wu Wd (ix2 r d)
      = ∑ e : Fin 32, ∑ f : Fin 256, gated (hidden (rows w) Wg (ix3 r e f)) (hidden (rows w) Wu (ix3 r e f)) * own te nt (ix3 r e f) * Wd (ix4 0 e f d) := by
  unfold total gated
  pointwise

/-- The reference's result: every sorted row whose tile is in use gets its tile's expert's feed-forward, every other row zero. -/
theorem total_eq (te : IVec S96 32) (nt : IVec S1 32) (w : IVec S196608x128 32) (Wg Wu : FVec Ideal S2x32x1024x256 .f32) (Wd : FVec Ideal S2x32x256x1024 .f32)
    (ex : Fin 96 → Fin 32) (hex : ∀ t, (ex t).val = (te (ix1 t)).toNat) (r : Fin 49152) (d : Fin 1024) :
    total te nt w Wg Wu Wd (ix2 r d) = moe ex (nT (nt (ix1 0))) w Wg Wu Wd r d := by
  rw [total_apply]
  simp only [own_apply, hidden_apply, rows_apply]
  unfold moe
  by_cases hu : r.val / 512 < nT (nt (ix1 0))
  · rw [if_pos hu]
    simp only [hu, true_and]
    have hte : te (ix1 (⟨r.val / 512, by omega⟩ : Fin 96)) = BitVec.ofNat 32 (ex ⟨r.val / 512, by omega⟩).val := by
      apply BitVec.eq_of_toNat_eq
      rw [BitVec.toNat_ofNat, hex]
      exact (Nat.mod_eq_of_lt (BitVec.isLt _)).symm
    rw [hte, Finset.sum_eq_single (ex ⟨r.val / 512, by omega⟩)]
    · simp only [if_true, mul_one]
      rfl
    · intro e _ hne
      have hn : ¬ (BitVec.ofNat 32 (ex ⟨r.val / 512, by omega⟩).val = BitVec.ofNat 32 e.val) := fun h => by
        have h' := congrArg BitVec.toNat h
        rw [BitVec.toNat_ofNat, BitVec.toNat_ofNat] at h'
        have h1 := (ex ⟨r.val / 512, by omega⟩).isLt
        have h2 := e.isLt
        exact hne (Fin.ext (by omega))
      simp only [hn, if_false, mul_zero, zero_mul, Finset.sum_const_zero]
    · exact fun h => absurd (Finset.mem_univ _) h
  · rw [if_neg hu]
    simp only [hu, false_and, if_false, mul_zero, zero_mul, Finset.sum_const_zero]

end Cert.Proof.Reference

end
-- ==== Proof.Algebraic.lean ====
/-
  Over the reals the idealized kernel and the reference end with the same result.
-/
module

public import proofs.«01_k».proof.Proof.Frames
public import proofs.«01_k».proof.Proof.Reference

@[expose] public section

noncomputable section

namespace Cert.Proof.Algebraic

open Idealize.ShloMosaic Idealize.ShloMosaic.TcCoe Idealize.SL.Sem
open Cert.Proof.Experts (TeOk NtOk)

variable (m : (ℓ : Loc Cert.KernelIdeal.nD Cert.KernelIdeal.τ Cert.KernelIdeal.sig) → Buf (Elt Ideal) ℓ)

/-- The reference's result at the kernel's arguments is the kernel's. -/
theorem total_out (h : TeOk m) :
    Reference.total (m (((0 : Dev Cert.KernelIdeal.nD) : Thread Cert.KernelIdeal.nD Cert.KernelIdeal.τ).loc Cert.KernelIdeal.main_arg0))
        (m (((0 : Dev Cert.KernelIdeal.nD) : Thread Cert.KernelIdeal.nD Cert.KernelIdeal.τ).loc Cert.KernelIdeal.main_arg1))
        (m (((0 : Dev Cert.KernelIdeal.nD) : Thread Cert.KernelIdeal.nD Cert.KernelIdeal.τ).loc Cert.KernelIdeal.main_arg2))
        (m (((0 : Dev Cert.KernelIdeal.nD) : Thread Cert.KernelIdeal.nD Cert.KernelIdeal.τ).loc Cert.KernelIdeal.main_arg3))
        (m (((0 : Dev Cert.KernelIdeal.nD) : Thread Cert.KernelIdeal.nD Cert.KernelIdeal.τ).loc Cert.KernelIdeal.main_arg4))
        (m (((0 : Dev Cert.KernelIdeal.nD) : Thread Cert.KernelIdeal.nD Cert.KernelIdeal.τ).loc Cert.KernelIdeal.main_arg5))
      = Experts.out1 m h 0 := by
  have key : ∀ (r : Fin 49152) (d : Fin 1024), Reference.total _ _ _ _ _ _ (ix2 r d) = Experts.out1 m h 0 (ix2 r d) := fun r d =>
    (Reference.total_eq _ _ _ _ _ _ (Experts.ex m h) (fun t => rfl) r d).trans (Experts.out1_eq m h r d).symm
  funext y
  obtain ⟨r, d, rfl⟩ : ∃ (r : Fin 49152) (d : Fin 1024), y = ix2 r d := ⟨y 0, y 1, eq_ix2 y⟩
  exact key r d

/-- The value claim. -/
theorem value : Cert.algebraic_KernelIdeal_ReferenceIdeal := fun m g m' g' hpre hm =>
  have hr := Experts.range_of (hpre 0)
  ⟨fun c => Experts.out1 m hr.1 c,
    (θ_run Cert.KernelIdeal.defs _ _).mono (fun r h => h.1) (Experts.run_main (F := Ideal) m g hr.1 hr.2),
    (θ_run Cert.ReferenceIdeal.defs _ _).mono (fun r h c => by
      refine ⟨(h c).1.trans ?_, (h c).2⟩
      obtain rfl := Experts.dev0 c
      obtain ⟨h0, h1, h2, h3, h4, h5⟩ := hm 0
      rw [h0, h1, h2, h3, h4, h5]
      exact total_out m hr.1)
      (Cert.ReferenceIdeal.Value.run (F := Ideal) m' g')⟩

end Cert.Proof.Algebraic

end
-- ==== Proof.InBody.lean ====
/-
  The input projection's kernel: what its body does at the three points of a row block.
-/
module

public import proofs.«01_k».proof.Proof.Gen.Kernel2Ideal
public import proofs.«01_k».proof.Proof.Gen.Kernel2Ideal.Skeleton
public import proofs.«01_k».proof.Proof.Gen.Kernel2Ideal.Frame
public import Idealize.ShloMosaic.Lib.VecWindow

@[expose] public section

noncomputable section

namespace Cert.Proof.InProj

open Cert.Kernel2Ideal Cert.Kernel2Ideal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig Unit (Elt F) ℕ (UR sig nD τ) ℕ

/-- The first 1536 columns of a block of the main weight, and the remaining 1280. -/
def w0 (w : Vec F S1024x2816 .bf16) : Vec F S1024x1536 .bf16 :=
  fun j => w ((Rect.unit (s := S1024x2816) ![0, 0] S1024x1536.size inb_S1024x2816_S1024x1536_0_0).toLoadRect.idx j)
def w1 (w : Vec F S1024x2816 .bf16) : Vec F S1024x1280 .bf16 :=
  fun j => w ((Rect.unit (s := S1024x2816) ![0, 1536] S1024x1280.size inb_S1024x2816_S1024x1280_0_1536).toLoadRect.idx j)

/-- The stores of the two parts of the columns, latest first. -/
abbrev parts (p1 : Vec F S1024x1280 .bf16) (p0 : Vec F S1024x1536 .bf16) : List (View.Piece (Elt F) S1024x2816 .bf16) :=
  [⟨Rect.unit (s := S1024x2816) ![0, 1536] S1024x1280.size inb_S1024x2816_S1024x1280_0_1536, p1⟩,
    ⟨Rect.unit (s := S1024x2816) ![0, 0] S1024x1536.size inb_S1024x2816_S1024x1536_0_0, p0⟩]

/-- They cover the block. -/
theorem parts_cover (p1 : Vec F S1024x1280 .bf16) (p0 : Vec F S1024x1536 .bf16) (y : S1024x2816.Idx) : ∃ p ∈ parts p1 p0, y ∈ p.1.set := by
  have h0 : (y 0).val < 1024 := (y 0).isLt
  have h1 : (y 1).val < 2816 := (y 1).isLt
  by_cases h : 1536 ≤ (y 1).val
  · refine ⟨_, List.mem_cons_self, ?_⟩
    rw [LoadRect.mem_set]
    intro a
    match a with
    | ⟨0, _⟩ => exact ⟨(y 0).val, h0, show (y 0).val = 0 + 1 * (y 0).val by omega⟩
    | ⟨1, _⟩ => exact ⟨(y 1).val - 1536, show _ < 1280 by omega, show (y 1).val = 1536 + 1 * ((y 1).val - 1536) by omega⟩
  · refine ⟨_, List.mem_cons_of_mem _ List.mem_cons_self, ?_⟩
    rw [LoadRect.mem_set]
    intro a
    match a with
    | ⟨0, _⟩ => exact ⟨(y 0).val, h0, show (y 0).val = 0 + 1 * (y 0).val by omega⟩
    | ⟨1, _⟩ => exact ⟨(y 1).val, show _ < 1536 by omega, show (y 1).val = 0 + 1 * (y 1).val by omega⟩

/-- A block of the main result, from the normed rows and a block of the weight. -/
def mainB (h : Vec F S1024x1024 .bf16) (w : Vec F S1024x2816 .bf16) : Vec F S1024x2816 .bf16 :=
  View.canon (parts (k0_pay3 h (w1 w)) (k0_pay2 h (w0 w)))

/-- A whole memref owned is its buffer held. -/
theorem own_pt (c : Dev nD) {sp : Space} {S : Shape} {e : EltTy} {M : Memref sig .tc sp S e} (h : M.IsWhole) (X : S.Idx → Elt F e) :
    (owns (c : Thread nD τ) M fullShare X : sProp 𝕄)
      = iprop(∃ f : Buf (Elt F) (M.view.loc (c : Thread nD τ)), ⌜M.view.read (Elt F) f = X⌝ ∗ M.view.loc (c : Thread nD τ) ↦{fullShare} f) := by
  unfold owns
  rw [h.set_eq_univ]

theorem own_eq (c : Dev nD) {sp : Space} {S : Shape} {e : EltTy} {M : Memref sig .tc sp S e} {X Y : S.Idx → Elt F e} (h : X = Y) :
    (owns (c : Thread nD τ) M fullShare X : sProp 𝕄) ⊢ owns (c : Thread nD τ) M fullShare Y := h ▸ .rfl

/-- The condition of the first store: the point is the first of its row block. -/
abbrev cond1 (i : grid0.Coords) : BitVec 1 :=
  Scalar.cmpi .ne (Scalar.extui (Scalar.cmpi .eq (BitVec.ofNat 32 (i 1).val) 0#32) : BitVec 32) 0#32

variable (c : Dev nD) (i : grid0.Coords)
  (M2 : Memref sig .tc .vmem S1024x1024 .f32) (h2 : M2.IsWhole) (M3 : Memref sig .tc .vmem S1x1024 .f32) (h3 : M3.IsWhole)
  (M4 : Memref sig .tc .vmem S1024x2816 .bf16) (h4 : M4.IsWhole) (M5 : Memref sig .tc .vmem S1024x1280 .bf16) (h5 : M5.IsWhole)
  (M6 : Memref sig .tc .vmem S1024x2816 .bf16) (h6 : M6.IsWhole) (M7 : Memref sig .tc .vmem S1024x1280 .bf16) (h7 : M7.IsWhole)
  (M8 : Memref sig .tc .vmem S1024x1024 .bf16) (h8 : M8.IsWhole)

set_option maxHeartbeats 1000000 in
/-- The first point of a row block: the rows are normed into the scratch, and the first block of the main result stored. -/
theorem pointA (e1 : cond1 i = 1#1) (e2 : k0_cond2 i = 1#1) (e3 : ¬ k0_cond3 i = 1#1)
    (x : Vec F S1024x1024 .f32) (g : Vec F S1x1024 .f32) (w : Vec F S1024x2816 .bf16) (P : sProp 𝕄) :
    iprop(P ∗ owns (c : Thread nD τ) M2 fullShare x ∗ owns (c : Thread nD τ) M3 fullShare g ∗ owns (c : Thread nD τ) M4 fullShare w
        ∗ (∃ d, owns (c : Thread nD τ) M6 fullShare d) ∗ ∃ d, owns (c : Thread nD τ) M8 fullShare d)
      ⊢ wp frame (wpE (defs₀ (F := F)) Variants.none c none) Set.univ (cc0_in_proj i M2 h2 M3 h3 M4 h4 M5 h5 M6 h6 M7 h7 M8 h8) fun _ =>
          iprop(P ∗ owns (c : Thread nD τ) M2 fullShare x ∗ owns (c : Thread nD τ) M3 fullShare g ∗ owns (c : Thread nD τ) M4 fullShare w
            ∗ owns (c : Thread nD τ) M6 fullShare (mainB (k0_pay1 x g) w) ∗ owns (c : Thread nD τ) M8 fullShare (k0_pay1 x g)) := by
  simp only [own_pt c h2, own_pt c h3, own_pt c h4, own_pt c h6, own_pt c h8]
  iintro ⟨HP, ⟨%f2, %q2, H2⟩, ⟨%f3, %q3, H3⟩, ⟨%f4, %q4, H4⟩, ⟨%d6, ⟨%f6, -, H6⟩⟩, ⟨%d8, ⟨%f8, -, H8⟩⟩⟩
  rw [cc0_in_proj_eq_skeleton]
  unfold cc0_in_proj_skel
  sl_exec
  sl_step
  isplitl [HP]; · iexact HP
  isplitl [H2]
  · iexists f2; isplitr; · ipureintro; exact q2
    iexact H2
  isplitl [H3]
  · iexists f3; isplitr; · ipureintro; exact q3
    iexact H3
  isplitl [H4]
  · iexists f4; isplitr; · ipureintro; exact q4
    iexact H4
  isplitl [H6]
  · iexists _
    isplitr; swap; · iexact H6
    ipureintro
    subst q2; subst q3; subst q4
    refine (View.read_writes_eq_canon M6.view f6 (parts _ _) (parts_cover _ _)).trans ?_
    have hv : pointA.sl.v9 c M2 M3 M8 f2 f3 = k0_pay1 (M2.view.read (Elt F) f2) (M3.view.read (Elt F) f3) := by
      unfold pointA.sl.v9
      refine (View.readCov_full M8.view _ _ _ _).trans ?_
      exact congr (congrArg k0_pay1 (View.readAt_full M2.view f2 _)) (View.readAt_full M3.view f3 _)
    rw [hv]; rfl
  iexists _
  isplitr; swap; · iexact H8
  ipureintro
  subst q2; subst q3
  refine (View.read_writes_full M8.view f8 _ _ _).trans ?_
  exact congr (congrArg k0_pay1 (View.readAt_full M2.view f2 _)) (View.readAt_full M3.view f3 _)

set_option maxHeartbeats 1000000 in
/-- The second point: the second block of the main result, from the normed rows in the scratch. -/
theorem pointB (e1 : ¬ cond1 i = 1#1) (e2 : k0_cond2 i = 1#1) (e3 : ¬ k0_cond3 i = 1#1)
    (h : Vec F S1024x1024 .bf16) (w : Vec F S1024x2816 .bf16) (P : sProp 𝕄) :
    iprop(P ∗ owns (c : Thread nD τ) M4 fullShare w ∗ (∃ d, owns (c : Thread nD τ) M6 fullShare d) ∗ owns (c : Thread nD τ) M8 fullShare h)
      ⊢ wp frame (wpE (defs₀ (F := F)) Variants.none c none) Set.univ (cc0_in_proj i M2 h2 M3 h3 M4 h4 M5 h5 M6 h6 M7 h7 M8 h8) fun _ =>
          iprop(P ∗ owns (c : Thread nD τ) M4 fullShare w ∗ owns (c : Thread nD τ) M6 fullShare (mainB h w) ∗ owns (c : Thread nD τ) M8 fullShare h) := by
  simp only [own_pt c h4, own_pt c h6, own_pt c h8]
  iintro ⟨HP, ⟨%f4, %q4, H4⟩, ⟨%d6, ⟨%f6, -, H6⟩⟩, ⟨%f8, %q8, H8⟩⟩
  rw [cc0_in_proj_eq_skeleton]
  unfold cc0_in_proj_skel
  sl_exec
  sl_step
  isplitl [HP]; · iexact HP
  isplitl [H4]
  · iexists f4; isplitr; · ipureintro; exact q4
    iexact H4
  isplitl [H6]
  · iexists _
    isplitr; swap; · iexact H6
    ipureintro
    subst q4; subst q8
    refine (View.read_writes_eq_canon M6.view f6 (parts _ _) (parts_cover _ _)).trans ?_
    rw [show M8.view.readAt (Elt F) (Rect.unit (s := S1024x1024) ![0, 0] S1024x1024.size inb_S1024x1024_S1024x1024_0_0).toLoadRect f8
      = M8.view.read (Elt F) f8 from View.readAt_full M8.view f8 _]
    rfl
  iexists f8; isplitr; · ipureintro; exact q8
  iexact H8

set_option maxHeartbeats 1000000 in
/-- The last point: the tail's block, from the normed rows in the scratch. -/
theorem pointC (e1 : ¬ cond1 i = 1#1) (e2 : ¬ k0_cond2 i = 1#1) (e3 : k0_cond3 i = 1#1)
    (h : Vec F S1024x1024 .bf16) (w : Vec F S1024x1280 .bf16) (P : sProp 𝕄) :
    iprop(P ∗ owns (c : Thread nD τ) M5 fullShare w ∗ (∃ d, owns (c : Thread nD τ) M7 fullShare d) ∗ owns (c : Thread nD τ) M8 fullShare h)
      ⊢ wp frame (wpE (defs₀ (F := F)) Variants.none c none) Set.univ (cc0_in_proj i M2 h2 M3 h3 M4 h4 M5 h5 M6 h6 M7 h7 M8 h8) fun _ =>
          iprop(P ∗ owns (c : Thread nD τ) M5 fullShare w ∗ owns (c : Thread nD τ) M7 fullShare (k0_pay4 h w) ∗ owns (c : Thread nD τ) M8 fullShare h) := by
  simp only [own_pt c h5, own_pt c h7, own_pt c h8]
  iintro ⟨HP, ⟨%f5, %q5, H5⟩, ⟨%d7, ⟨%f7, -, H7⟩⟩, ⟨%f8, %q8, H8⟩⟩
  rw [cc0_in_proj_eq_skeleton]
  unfold cc0_in_proj_skel
  sl_exec
  sl_step
  isplitl [HP]; · iexact HP
  isplitl [H5]
  · iexists f5; isplitr; · ipureintro; exact q5
    iexact H5
  isplitl [H7]
  · iexists _
    isplitr; swap; · iexact H7
    ipureintro
    subst q5; subst q8
    refine (View.read_writes_full M7.view f7 _ _ _).trans ?_
    exact congr (congrArg k0_pay4 (View.readAt_full M8.view f8 _)) (View.readAt_full M5.view f5 _)
  iexists f8; isplitr; · ipureintro; exact q8
  iexact H8

end Cert.Proof.InProj

end
-- ==== Proof.InRun.lean ====
/-
  The input projection's kernel over its whole grid: its proof data, the body's obligation at every point, and the run.
-/
module

public import proofs.«01_k».proof.Proof.InBody

@[expose] public section

noncomputable section

namespace Cert.Proof.InProj

open Cert.Kernel2Ideal Cert.Kernel2Ideal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig Unit (Elt F) ℕ (UR sig nD τ) ℕ

attribute [local irreducible] mainB k0_pay1 k0_pay2 k0_pay3 k0_pay4

/-! ## The points -/

theorem condA : ∀ t : Fin grid0.N, cond1 (grid0.coords t) = 1#1 ↔ t.val % 3 = 0 := by decide +kernel
theorem condB : ∀ t : Fin grid0.N, k0_cond2 (grid0.coords t) = 1#1 ↔ t.val % 3 ≠ 2 := by decide +kernel
theorem condC : ∀ t : Fin grid0.N, k0_cond3 (grid0.coords t) = 1#1 ↔ t.val % 3 = 2 := by decide +kernel
theorem flush4 : ∀ t : Fin grid0.N, win0_4.flush t = true ↔ t.val % 3 ≠ 1 := by decide +kernel

theorem live4 (t : Fin grid0.N) (h : t.val % 3 ≠ 2) : idle0 4 (grid0.coords t) = false := by
  show (!(k0_cond2 (grid0.coords t) == 1#1)) = false
  rw [(condB t).2 h]; rfl
theorem idle4 (t : Fin grid0.N) (h : t.val % 3 = 2) : idle0 4 (grid0.coords t) = true := by
  show (!(k0_cond2 (grid0.coords t) == 1#1)) = true
  have := mt (condB t).1 (fun e => e h)
  simpa using this
theorem live5 (t : Fin grid0.N) (h : t.val % 3 = 2) : idle0 5 (grid0.coords t) = false := by
  show (!(k0_cond3 (grid0.coords t) == 1#1)) = false
  rw [(condC t).2 h]; rfl
theorem idle5 (t : Fin grid0.N) (h : t.val % 3 ≠ 2) : idle0 5 (grid0.coords t) = true := by
  show (!(k0_cond3 (grid0.coords t) == 1#1)) = true
  have := mt (condC t).1 h
  simpa using this

/-! ## The blocks -/

variable (m : (ℓ : Loc nD τ sig) → Buf (Elt F) ℓ) (c : Dev nD)

def xB (t : Fin grid0.N) : Vec F S1024x1024 .f32 := iblk m c 0 t
def gB (t : Fin grid0.N) : Vec F S1x1024 .f32 := iblk m c 1 t
def wB (t : Fin grid0.N) : Vec F S1024x2816 .bf16 := iblk m c 2 t
def vB (t : Fin grid0.N) : Vec F S1024x1280 .bf16 := iblk m c 3 t

/-- The first point of row block `b`. -/
def first (b : ℕ) (h : b < 16) : Fin grid0.N := ⟨3 * b, by rw [N_0]; omega⟩

/-- The normed rows of row block `b`. -/
def hB (b : ℕ) (h : b < 16) : Vec F S1024x1024 .bf16 := k0_pay1 (xB m c (first b h)) (gB m c (first b h))

theorem row_lt (t : Fin grid0.N) : t.val / 3 < 16 := by
  have : t.val < 48 := lt_of_lt_of_eq t.isLt N_0
  omega

/-- The point whose main block is in the staging buffer after point `t`. -/
def mainPt (t : Fin grid0.N) : Fin grid0.N := ⟨t.val - t.val % 3 / 2, lt_of_le_of_lt (Nat.sub_le _ _) t.isLt⟩

/-- The main block after point `t`, and the tail's. -/
def outM (t : Fin grid0.N) : Vec F S1024x2816 .bf16 := mainB (hB m c (t.val / 3) (row_lt t)) (wB m c (mainPt t))
def outT (t : Fin grid0.N) : Vec F S1024x1280 .bf16 := k0_pay4 (hB m c (t.val / 3) (row_lt t)) (vB m c t)

/-- The scratch. -/
abbrev scr : Memref sig .tc .vmem S1024x1024 .bf16 := Memref.whole cc0_scratch0

/-- Inside a row block the scratch holds its normed rows; between row blocks, anything. -/
def inv (n : ℕ) : sProp 𝕄 :=
  if n % 3 = 0 then iprop((∃ d, owns (c : Thread nD τ) scr fullShare d) ∗ ∃ r, prngReg c r)
  else if h : n / 3 < 16 then iprop(owns (c : Thread nD τ) scr fullShare (hB m c (n / 3) h) ∗ ∃ r, prngReg c r)
  else iprop(False)

/-- The proof data. -/
def dat : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outM m c t
    | ⟨5, _⟩ => outT m c t
  Φ t := inv m c t.val
  q _ := fullShare
  owed _ := 0

theorem inv_first (n : ℕ) (h : n % 3 = 0) : inv m c n = iprop((∃ d, owns (c : Thread nD τ) scr fullShare d) ∗ ∃ r, prngReg c r) := if_pos h
theorem inv_mid (n b : ℕ) (h : n % 3 ≠ 0) (hb : b < 16) (e : n / 3 = b) :
    inv m c n = iprop(owns (c : Thread nD τ) scr fullShare (hB m c b hb) ∗ ∃ r, prngReg c r) := by
  subst e
  exact (if_neg h).trans (dif_pos hb)

/-- Between row blocks this is what the launch hands over, and takes back. -/
theorem inv_in : Pipeline.ΦA spec0 c ⊢ inv m c 0 := by
  rw [inv_first m c 0 rfl]
  unfold Pipeline.ΦA
  rw [scopedRest0_eq]
  simp only [own_pt c (Memref.isWhole_whole cc0_scratch0)]
  iintro ⟨⟨%f, H⟩, HR⟩
  isplitl [H]
  · iexists _; iexists f; isplitr; · ipureintro; rfl
    iexact H
  iexact HR
theorem inv_out : inv m c 48 ⊢ Pipeline.ΦA spec0 c := by
  rw [inv_first m c 48 rfl]
  unfold Pipeline.ΦA
  rw [scopedRest0_eq]
  simp only [own_pt c (Memref.isWhole_whole cc0_scratch0)]
  iintro ⟨⟨%d, ⟨%f, -, H⟩⟩, HR⟩
  isplitl [H]; · iexists f; iexact H
  iexact HR

theorem bef0 (t : Fin cfg0.N) (d) : (dat m c).before 0 t d = xB m c t := before0_0_of m (dat m c) rfl (fun _ => rfl) t d
theorem bef1 (t : Fin cfg0.N) (d) : (dat m c).before 1 t d = gB m c t := before0_1_of m (dat m c) rfl (fun _ => rfl) t d
theorem bef2 (t : Fin cfg0.N) (d) : (dat m c).before 2 t d = wB m c t := before0_2_of m (dat m c) rfl (fun _ => rfl) t d
theorem bef3 (t : Fin cfg0.N) (d) : (dat m c).before 3 t d = vB m c t := before0_3_of m (dat m c) rfl (fun _ => rfl) t d

theorem hB_congr {b b' : ℕ} (e : b = b') (h : b < 16) (h' : b' < 16) : hB m c b h = hB m c b' h' := by subst e; rfl

theorem outM_before (t t' : Fin grid0.N) (ht : t.val % 3 = 2) (e : t'.val = t.val - 1) : outM m c t' = outM m c t := by
  unfold outM
  have e2 : mainPt t' = mainPt t := Fin.ext (by show t'.val - t'.val % 3 / 2 = t.val - t.val % 3 / 2; omega)
  exact congr (congrArg mainB (hB_congr m c (by omega) _ _)) (congrArg (wB m c) e2)

theorem after4 (t : Fin grid0.N) : (dat m c).after 4 t = outM m c t := rfl
theorem after5 (t : Fin grid0.N) : (dat m c).after 5 t = outT m c t := rfl

attribute [local irreducible] outM outT

theorem kept4 (t : Fin cfg0.N) (d) : (dat m c).kept 4 t d = outM m c t := by
  unfold Dat.kept
  rw [Pipeline.fill_of_clip_none 4 _ (fun _ => rfl) d ((dat m c).after 4 t), Window.fill_cut]
  exact after4 m c t

/-- At the last point of a row block the main block's staging buffer holds what the point before left. -/
theorem bef4 (t : Fin cfg0.N) (ht : t.val % 3 = 2) (d) : (dat m c).before 4 t d = outM m c t := by
  have hlt : t.val - 1 < grid0.N := Nat.lt_of_le_of_lt (Nat.sub_le _ _) t.isLt
  have hfl : (cfg0.win 4).flush ⟨t.val - 1, hlt⟩ = false := by
    have := mt (flush4 ⟨t.val - 1, hlt⟩).1 (fun e => e (by show (t.val - 1) % 3 = 1; omega))
    simpa using this
  rw [(dat m c).before_of_pos 4 t (by omega) ((cfg0.win 4).fetch_out rfl t), hfl, if_neg Bool.false_ne_true]
  unfold Dat.left
  rw [show cfg0.idle 4 (cfg0.grid.coords ⟨t.val - 1, hlt⟩) = false from live4 ⟨t.val - 1, hlt⟩ (by show (t.val - 1) % 3 ≠ 2; omega)]
  exact (kept4 m c _ d).trans (outM_before m c t _ ht rfl)

theorem start_eq (t : Fin grid0.N) (h : t.val % 3 = 0) : k0_pay1 (xB m c t) (gB m c t) = hB m c (t.val / 3) (row_lt t) := by
  unfold hB
  have e : first (t.val / 3) (row_lt t) = t := Fin.ext (by show 3 * (t.val / 3) = t.val; omega)
  rw [e]
theorem mainPt_eq (t : Fin grid0.N) (h : t.val % 3 ≠ 2) : mainPt t = t := Fin.ext (by show t.val - t.val % 3 / 2 = t.val; omega)

section
attribute [local semireducible] outM outT
theorem outB' (t : Fin grid0.N) (h : t.val % 3 ≠ 2) : mainB (hB m c (t.val / 3) (row_lt t)) (wB m c t) = outM m c t :=
  congrArg (fun s => mainB (hB m c (t.val / 3) (row_lt t)) (wB m c s)) (mainPt_eq t h).symm
theorem outC (t : Fin grid0.N) : k0_pay4 (hB m c (t.val / 3) (row_lt t)) (vB m c t) = (dat m c).after 5 t := rfl
end
theorem outB (t : Fin grid0.N) (h : t.val % 3 = 1) : mainB (hB m c (t.val / 3) (row_lt t)) (wB m c t) = (dat m c).after 4 t :=
  (outB' m c t (by omega)).trans (after4 m c t).symm
theorem outA (t : Fin grid0.N) (h : t.val % 3 = 0) : mainB (k0_pay1 (xB m c t) (gB m c t)) (wB m c t) = (dat m c).after 4 t :=
  (congrArg (fun y => mainB y (wB m c t)) (start_eq m c t h)).trans ((outB' m c t (by omega)).trans (after4 m c t).symm)

set_option maxHeartbeats 1000000 in
/-- The library's body obligation. -/
theorem body : BodyObligationLoose (dat m c) (defs₀ (F := F)) Variants.none () Set.univ := fun t => by
  rw [bigSep_W0, bigSep_W0]
  rw [show (dat m c).Φ t.castSucc = inv m c t.val from rfl, show (dat m c).Φ t.succ = inv m c (t.val + 1) from rfl,
    show (dat m c).owesAt () t.succ = (dat m c).owesAt () t.castSucc from rfl]
  have hlt := row_lt t
  obtain h | h | h : t.val % 3 = 0 ∨ t.val % 3 = 1 ∨ t.val % 3 = 2 := by omega
  · have hi4 : idle0 4 (cfg0.grid.coords t) = false := live4 t (by omega)
    have hi5 : idle0 5 (cfg0.grid.coords t) = true := idle5 t (by omega)
    have hf5 : (cfg0.win 5).flush t = false := by
      have := mt (flush0_5 t).1 (by omega)
      simpa using this
    rw [inv_first m c t.val h, inv_mid m c (t.val + 1) (t.val / 3) (by omega) hlt (by omega)]
    simp only [hi4, hi5, hf5]
    refine triple_restated (pointA (c := c) (i := grid0.coords t) (M2 := stage0_0 (cfg0.slots t 0)) (h2 := hstage0_0 ((cfg0.slots t 0).cast nbuf0_0))
      (M3 := stage0_1 (cfg0.slots t 1)) (h3 := hstage0_1 ((cfg0.slots t 1).cast nbuf0_1))
      (M4 := stage0_2 (cfg0.slots t 2)) (h4 := hstage0_2 ((cfg0.slots t 2).cast nbuf0_2))
      (M5 := stage0_3 (cfg0.slots t 3)) (h5 := hstage0_3 ((cfg0.slots t 3).cast nbuf0_3))
      (M6 := stage0_4 (cfg0.slots t 4)) (h6 := hstage0_4 ((cfg0.slots t 4).cast nbuf0_4))
      (M7 := stage0_5 (cfg0.slots t 5)) (h7 := hstage0_5 ((cfg0.slots t 5).cast nbuf0_5)) (M8 := scr) (h8 := Memref.isWhole_whole _)
      ((condA t).2 h) ((condB t).2 (by omega)) (fun e => by have := (condC t).1 e; omega) (xB m c t) (gB m c t) (wB m c t)
      iprop((∃ r, prngReg c r) ∗ (dat m c).owesAt () t.castSucc ∗ owns (c : Thread nD τ) (stage0_3 (cfg0.slots t 3)) fullShare (vB m c t) ∗ ∃ d, owns (c : Thread nD τ) (stage0_5 (cfg0.slots t 5)) fullShare ((dat m c).before 5 t d))) ?_ ?_ fun _ => ?_
    · unfold defs₀; rw [Defs.onTc_tc]
    · iintro ⟨⟨HS, HR⟩, HO, ⟨%d0, H0⟩, ⟨%d1, H1⟩, ⟨%d2, H2⟩, ⟨%d3, H3⟩, H4, H5⟩
      have q0 : (owns (c : Thread nD τ) (stage0_0 (cfg0.slots t 0)) fullShare ((dat m c).before 0 t d0) : sProp 𝕄)
          ⊢ owns (c : Thread nD τ) (stage0_0 (cfg0.slots t 0)) fullShare (xB m c t) := own_eq c (bef0 m c t d0)
      have q1 : (owns (c : Thread nD τ) (stage0_1 (cfg0.slots t 1)) fullShare ((dat m c).before 1 t d1) : sProp 𝕄)
          ⊢ owns (c : Thread nD τ) (stage0_1 (cfg0.slots t 1)) fullShare (gB m c t) := own_eq c (bef1 m c t d1)
      have q2 : (owns (c : Thread nD τ) (stage0_2 (cfg0.slots t 2)) fullShare ((dat m c).before 2 t d2) : sProp 𝕄)
          ⊢ owns (c : Thread nD τ) (stage0_2 (cfg0.slots t 2)) fullShare (wB m c t) := own_eq c (bef2 m c t d2)
      have q3 : (owns (c : Thread nD τ) (stage0_3 (cfg0.slots t 3)) fullShare ((dat m c).before 3 t d3) : sProp 𝕄)
          ⊢ owns (c : Thread nD τ) (stage0_3 (cfg0.slots t 3)) fullShare (vB m c t) := own_eq c (bef3 m c t d3)
      isplitl [HR HO H3 H5]
      · isplitl [HR]; · iexact HR
        isplitl [HO]; · iexact HO
        isplitl [H3]; · iapply q3; iexact H3
        iexact H5
      isplitl [H0]; · iapply q0; iexact H0
      isplitl [H1]; · iapply q1; iexact H1
      isplitl [H2]; · iapply q2; iexact H2
      isplitl [H4]
      · icases H4 with ⟨%d4, H4⟩; iexists _; iexact H4
      iexact HS
    · iintro ⟨⟨HR, HO, H3, H5⟩, H0, H1, H2, H4, HS⟩
      have q4 : (owns (c : Thread nD τ) (stage0_4 (cfg0.slots t 4)) fullShare (mainB (k0_pay1 (xB m c t) (gB m c t)) (wB m c t)) : sProp 𝕄)
          ⊢ owns (c : Thread nD τ) (stage0_4 (cfg0.slots t 4)) fullShare ((dat m c).after 4 t) := own_eq c (outA m c t h)
      have q8 : (owns (c : Thread nD τ) scr fullShare (k0_pay1 (xB m c t) (gB m c t)) : sProp 𝕄)
          ⊢ owns (c : Thread nD τ) scr fullShare (hB m c (t.val / 3) hlt) := own_eq c (start_eq m c t h)
      isplitl [HS HR]
      · isplitl [HS]; · iapply q8; iexact HS
        iexact HR
      isplitl [HO]; · iexact HO
      isplitl [H0]; · iexact H0
      isplitl [H1]; · iexact H1
      isplitl [H2]; · iexact H2
      isplitl [H3]; · iexact H3
      isplitl [H4]; · iapply q4; iexact H4
      iexact H5
  · have hi4 : idle0 4 (cfg0.grid.coords t) = false := live4 t (by omega)
    have hi5 : idle0 5 (cfg0.grid.coords t) = true := idle5 t (by omega)
    have hf5 : (cfg0.win 5).flush t = false := by
      have := mt (flush0_5 t).1 (by omega)
      simpa using this
    rw [inv_mid m c t.val (t.val / 3) (by omega) hlt rfl, inv_mid m c (t.val + 1) (t.val / 3) (by omega) hlt (by omega)]
    simp only [hi4, hi5, hf5]
    refine triple_restated (pointB (c := c) (i := grid0.coords t) (M2 := stage0_0 (cfg0.slots t 0)) (h2 := hstage0_0 ((cfg0.slots t 0).cast nbuf0_0))
      (M3 := stage0_1 (cfg0.slots t 1)) (h3 := hstage0_1 ((cfg0.slots t 1).cast nbuf0_1))
      (M4 := stage0_2 (cfg0.slots t 2)) (h4 := hstage0_2 ((cfg0.slots t 2).cast nbuf0_2))
      (M5 := stage0_3 (cfg0.slots t 3)) (h5 := hstage0_3 ((cfg0.slots t 3).cast nbuf0_3))
      (M6 := stage0_4 (cfg0.slots t 4)) (h6 := hstage0_4 ((cfg0.slots t 4).cast nbuf0_4))
      (M7 := stage0_5 (cfg0.slots t 5)) (h7 := hstage0_5 ((cfg0.slots t 5).cast nbuf0_5)) (M8 := scr) (h8 := Memref.isWhole_whole _)
      (fun e => by have := (condA t).1 e; omega) ((condB t).2 (by omega)) (fun e => by have := (condC t).1 e; omega)
      (hB m c (t.val / 3) hlt) (wB m c t)
      iprop((∃ r, prngReg c r) ∗ (dat m c).owesAt () t.castSucc ∗ owns (c : Thread nD τ) (stage0_0 (cfg0.slots t 0)) fullShare (xB m c t) ∗ owns (c : Thread nD τ) (stage0_1 (cfg0.slots t 1)) fullShare (gB m c t) ∗ owns (c : Thread nD τ) (stage0_3 (cfg0.slots t 3)) fullShare (vB m c t) ∗ ∃ d, owns (c : Thread nD τ) (stage0_5 (cfg0.slots t 5)) fullShare ((dat m c).before 5 t d))) ?_ ?_ fun _ => ?_
    · unfold defs₀; rw [Defs.onTc_tc]
    · iintro ⟨⟨HS, HR⟩, HO, ⟨%d0, H0⟩, ⟨%d1, H1⟩, ⟨%d2, H2⟩, ⟨%d3, H3⟩, H4, H5⟩
      have q0 : (owns (c : Thread nD τ) (stage0_0 (cfg0.slots t 0)) fullShare ((dat m c).before 0 t d0) : sProp 𝕄)
          ⊢ owns (c : Thread nD τ) (stage0_0 (cfg0.slots t 0)) fullShare (xB m c t) := own_eq c (bef0 m c t d0)
      have q1 : (owns (c : Thread nD τ) (stage0_1 (cfg0.slots t 1)) fullShare ((dat m c).before 1 t d1) : sProp 𝕄)
          ⊢ owns (c : Thread nD τ) (stage0_1 (cfg0.slots t 1)) fullShare (gB m c t) := own_eq c (bef1 m c t d1)
      have q2 : (owns (c : Thread nD τ) (stage0_2 (cfg0.slots t 2)) fullShare ((dat m c).before 2 t d2) : sProp 𝕄)
          ⊢ owns (c : Thread nD τ) (stage0_2 (cfg0.slots t 2)) fullShare (wB m c t) := own_eq c (bef2 m c t d2)
      have q3 : (owns (c : Thread nD τ) (stage0_3 (cfg0.slots t 3)) fullShare ((dat m c).before 3 t d3) : sProp 𝕄)
          ⊢ owns (c : Thread nD τ) (stage0_3 (cfg0.slots t 3)) fullShare (vB m c t) := own_eq c (bef3 m c t d3)
      isplitl [HR HO H0 H1 H3 H5]
      · isplitl [HR]; · iexact HR
        isplitl [HO]; · iexact HO
        isplitl [H0]; · iapply q0; iexact H0
        isplitl [H1]; · iapply q1; iexact H1
        isplitl [H3]; · iapply q3; iexact H3
        iexact H5
      isplitl [H2]; · iapply q2; iexact H2
      isplitl [H4]
      · icases H4 with ⟨%d4, H4⟩; iexists _; iexact H4
      iexact HS
    · iintro ⟨⟨HR, HO, H0, H1, H3, H5⟩, H2, H4, HS⟩
      have q4 : (owns (c : Thread nD τ) (stage0_4 (cfg0.slots t 4)) fullShare (mainB (hB m c (t.val / 3) hlt) (wB m c t)) : sProp 𝕄)
          ⊢ owns (c : Thread nD τ) (stage0_4 (cfg0.slots t 4)) fullShare ((dat m c).after 4 t) := own_eq c (outB m c t h)
      isplitl [HS HR]
      · isplitl [HS]; · iexact HS
        iexact HR
      isplitl [HO]; · iexact HO
      isplitl [H0]; · iexact H0
      isplitl [H1]; · iexact H1
      isplitl [H2]; · iexact H2
      isplitl [H3]; · iexact H3
      isplitl [H4]; · iapply q4; iexact H4
      iexact H5
  · have hi4 : idle0 4 (cfg0.grid.coords t) = true := idle4 t h
    have hi5 : idle0 5 (cfg0.grid.coords t) = false := live5 t h
    have hf4 : (cfg0.win 4).flush t = true := (flush4 t).2 (by omega)
    rw [inv_mid m c t.val (t.val / 3) (by omega) hlt rfl, inv_first m c (t.val + 1) (by omega)]
    simp only [hi4, hi5, hf4]
    refine triple_restated (pointC (c := c) (i := grid0.coords t) (M2 := stage0_0 (cfg0.slots t 0)) (h2 := hstage0_0 ((cfg0.slots t 0).cast nbuf0_0))
      (M3 := stage0_1 (cfg0.slots t 1)) (h3 := hstage0_1 ((cfg0.slots t 1).cast nbuf0_1))
      (M4 := stage0_2 (cfg0.slots t 2)) (h4 := hstage0_2 ((cfg0.slots t 2).cast nbuf0_2))
      (M5 := stage0_3 (cfg0.slots t 3)) (h5 := hstage0_3 ((cfg0.slots t 3).cast nbuf0_3))
      (M6 := stage0_4 (cfg0.slots t 4)) (h6 := hstage0_4 ((cfg0.slots t 4).cast nbuf0_4))
      (M7 := stage0_5 (cfg0.slots t 5)) (h7 := hstage0_5 ((cfg0.slots t 5).cast nbuf0_5)) (M8 := scr) (h8 := Memref.isWhole_whole _)
      (fun e => by have := (condA t).1 e; omega) (fun e => (condB t).1 e h) ((condC t).2 h)
      (hB m c (t.val / 3) hlt) (vB m c t)
      iprop((∃ r, prngReg c r) ∗ (dat m c).owesAt () t.castSucc ∗ owns (c : Thread nD τ) (stage0_0 (cfg0.slots t 0)) fullShare (xB m c t) ∗ owns (c : Thread nD τ) (stage0_1 (cfg0.slots t 1)) fullShare (gB m c t) ∗ owns (c : Thread nD τ) (stage0_2 (cfg0.slots t 2)) fullShare (wB m c t) ∗ owns (c : Thread nD τ) (stage0_4 (cfg0.slots t 4)) fullShare (outM m c t))) ?_ ?_ fun _ => ?_
    · unfold defs₀; rw [Defs.onTc_tc]
    · iintro ⟨⟨HS, HR⟩, HO, ⟨%d0, H0⟩, ⟨%d1, H1⟩, ⟨%d2, H2⟩, ⟨%d3, H3⟩, H4, H5⟩
      have q0 : (owns (c : Thread nD τ) (stage0_0 (cfg0.slots t 0)) fullShare ((dat m c).before 0 t d0) : sProp 𝕄)
          ⊢ owns (c : Thread nD τ) (stage0_0 (cfg0.slots t 0)) fullShare (xB m c t) := own_eq c (bef0 m c t d0)
      have q1 : (owns (c : Thread nD τ) (stage0_1 (cfg0.slots t 1)) fullShare ((dat m c).before 1 t d1) : sProp 𝕄)
          ⊢ owns (c : Thread nD τ) (stage0_1 (cfg0.slots t 1)) fullShare (gB m c t) := own_eq c (bef1 m c t d1)
      have q2 : (owns (c : Thread nD τ) (stage0_2 (cfg0.slots t 2)) fullShare ((dat m c).before 2 t d2) : sProp 𝕄)
          ⊢ owns (c : Thread nD τ) (stage0_2 (cfg0.slots t 2)) fullShare (wB m c t) := own_eq c (bef2 m c t d2)
      have q3 : (owns (c : Thread nD τ) (stage0_3 (cfg0.slots t 3)) fullShare ((dat m c).before 3 t d3) : sProp 𝕄)
          ⊢ owns (c : Thread nD τ) (stage0_3 (cfg0.slots t 3)) fullShare (vB m c t) := own_eq c (bef3 m c t d3)
      icases H4 with ⟨%d4, H4⟩
      have q4 : (owns (c : Thread nD τ) (stage0_4 (cfg0.slots t 4)) fullShare ((dat m c).before 4 t d4) : sProp 𝕄)
          ⊢ owns (c : Thread nD τ) (stage0_4 (cfg0.slots t 4)) fullShare (outM m c t) := own_eq c (bef4 m c t h d4)
      isplitl [HR HO H0 H1 H2 H4]
      · isplitl [HR]; · iexact HR
        isplitl [HO]; · iexact HO
        isplitl [H0]; · iapply q0; iexact H0
        isplitl [H1]; · iapply q1; iexact H1
        isplitl [H2]; · iapply q2; iexact H2
        iapply q4; iexact H4
      isplitl [H3]; · iapply q3; iexact H3
      isplitl [H5]
      · icases H5 with ⟨%d5, H5⟩; iexists _; iexact H5
      iexact HS
    · iintro ⟨⟨HR, HO, H0, H1, H2, H4⟩, H3, H5, HS⟩
      have q5 : (owns (c : Thread nD τ) (stage0_5 (cfg0.slots t 5)) fullShare (k0_pay4 (hB m c (t.val / 3) hlt) (vB m c t)) : sProp 𝕄)
          ⊢ owns (c : Thread nD τ) (stage0_5 (cfg0.slots t 5)) fullShare ((dat m c).after 5 t) := own_eq c (outC m c t)
      isplitl [HS HR]
      · isplitl [HS]; · iexists _; iexact HS
        iexact HR
      isplitl [HO]; · iexact HO
      isplitl [H0]; · iexact H0
      isplitl [H1]; · iexact H1
      isplitl [H2]; · iexact H2
      isplitl [H3]; · iexact H3
      isplitl [H4]; · iexact H4
      iapply q5; iexact H5

/-! ## The run -/

/-- Every run ends with both results as the proof data tell, the arguments as they were, and every semaphore at zero. -/
theorem run_main (ρ : Dev nD → PrngReg) :
    θ_run (defs (F := F)) (onTc (τ := τ) (main (F := F))) ⟨m, fun _ => 0, ρ⟩ (fun r => (∀ c : Dev nD,
      r.2.mem ((c.tc : Thread nD τ).loc main_v12_0) = (dat m c).arrAt 4 cfg0.N
      ∧ r.2.mem ((c.tc : Thread nD τ).loc main_v12_1) = (dat m c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  Pipeline.θ_run_frame_track cfgs (fun _ c => dat m c) 0 launch0 defs₀ Variants.none m ρ main
    (fun c => body m c) (fun _ _ => ite_self _) (fun _ _ => rfl) (V m) (hmain m Variants.none) (fun _ _ => rfl)
    (fun c => inv_in m c) (fun c => inv_out m c)
    (fun r => (∀ c : Dev nD,
      r.2.mem ((c.tc : Thread nD τ).loc main_v12_0) = (dat m c).arrAt 4 cfg0.N
      ∧ r.2.mem ((c.tc : Thread nD τ).loc main_v12_1) = (dat m c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0)
    (fun r h => ⟨fun c => ⟨(h.1 c).1 4, (h.1 c).1 5,
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩)

end Cert.Proof.InProj

end
-- ==== Proof.InFrames.lean ====
/-
  The frame claims of the input projection: the kernel as printed, the idealized kernel and the reference.
-/
module

public import proofs.«01_k».proof.Defs
public import proofs.«01_k».proof.Proof.Gen.Kernel2
public import proofs.«01_k».proof.Proof.Gen.Reference2Ideal
public import proofs.«01_k».proof.Proof.Gen.Reference2Ideal.Run
public import proofs.«01_k».proof.Proof.InRun

@[expose] public section

noncomputable section

namespace Cert.Proof.InProj

open Idealize.ShloMosaic Idealize.ShloMosaic.TcCoe Idealize.SL.Sem

/-- The idealized kernel. -/
theorem frame_pi2 : Cert.quiescent_Kernel2Ideal := fun m ρ _ =>
  (θ_run Cert.Kernel2Ideal.defs _ _).mono (fun r h => ⟨fun c => (h.1 c).2.2, h.2⟩) (run_main (F := Ideal) m ρ)

/-- The kernel as printed is the same text. -/
theorem body_same : @Cert.Kernel2.defs₀ Bits _ _ = @Cert.Kernel2Ideal.defs₀ Bits _ _ := by
  unfold Cert.Kernel2.defs₀ Cert.Kernel2Ideal.defs₀
  refine congrArg (Defs.onTc (nD := Cert.Kernel2Ideal.nD) (τ := Cert.Kernel2Ideal.τ) (sig := Cert.Kernel2Ideal.sig) (Val := Elt Bits) (Λ := Cert.Kernel2Ideal.Λ₀)) ?_
  funext l x
  match l, x with
  | 0, (t, s) => rfl
theorem defs_same : @Cert.Kernel2.defs Bits _ _ = @Cert.Kernel2Ideal.defs Bits _ _ :=
  congrArg (Pipeline.defs (Cert.Kernel2Ideal.pcfgs (F := Bits))) body_same

/-- So it runs the same. -/
theorem frame_p2 : Cert.quiescent_Kernel2 := fun m ρ _ => by
  rw [defs_same]
  exact (θ_run Cert.Kernel2Ideal.defs _ _).mono (fun r h => ⟨fun c => (h.1 c).2.2, h.2⟩) (run_main (F := Bits) m ρ)

/-- The reference, which has no semaphore. -/
theorem frame_ri2 : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run (F := Ideal) m ρ)

end Cert.Proof.InProj

end
-- ==== Proof.InReference.lean ====
/-
  The input projection's reference over the reals, entry by entry: the normed row's product with the columns of the weight.
-/
module

public import proofs.«01_k».proof.Proof.Reference
public import proofs.«01_k».proof.Proof.Gen.Reference2Ideal.Run

@[expose] public section

noncomputable section

namespace Cert.Proof.InReference

open Cert.Reference2Ideal Cert.Reference2Ideal.Gen Cert.Proof.Decode

open Idealize.ShloMosaic
open Idealize.ShloMosaic.TcCoe Idealize.ShloMosaic.Tactic

/-- An entry of a normed row: the entry over the row's root mean square, times the scale. -/
def normed (x g : Fin 1024 → EReal) (k : Fin 1024) : EReal :=
  x k * FloatOps.rsqrt (F := Ideal) (φ := .f32) (Ideal.div (∑ i : Fin 1024, x i * x i) (Ideal.ofBits .f32 0x44800000#32) + Ideal.ofBits .f32 0x358637BD#32) * g k

/-- A row's product with one column. -/
def dotCol (x g w : Fin 1024 → EReal) : EReal := ∑ k : Fin 1024, normed x g k * w k

/-- The second result's layout: the last 1024 columns, the 32 before them, and these again with their halves exchanged, zeros between. -/
def laidOut (f : Fin 6688 → EReal) (n : Fin 1280) : EReal :=
  if h : n.val < 1024 then f ⟨n.val + 5664, by omega⟩
  else if h : 1088 ≤ n.val ∧ n.val < 1120 then f ⟨n.val + 4544, by omega⟩
  else if h : 1216 ≤ n.val ∧ n.val < 1232 then f ⟨n.val + 4432, by omega⟩
  else if h : 1232 ≤ n.val ∧ n.val < 1248 then f ⟨n.val + 4400, by omega⟩
  else 0

/-- The rows' products with all columns. -/
def product (x : FVec Ideal S8x2048x1024 .f32) (g : FVec Ideal S1024 .f32) (w : FVec Ideal S1024x6688 .f32) : FVec Ideal S16384x6688 .f32 :=
  shapeCast _ (Host.dotGeneral dot_S8x2048x1024_S1024x6688_S8x2048x6688_2_0_01_1_n_n none (mulf (mulf x (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf x x) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 g))) w) shapeCasts_S8x2048x6688_S16384x6688

/-- The first result: the first 5632 columns. -/
def mainPart (p : FVec Ideal S16384x6688 .f32) : FVec Ideal S16384x5632 .bf16 :=
  truncf .bf16 (extractStridedSlice S16384x5632 ![0, 0] p slices_S16384x6688_S16384x5632_0_0) bitsLt_bf16_f32

/-- The second result: the other columns, laid out. -/
def tailPart (p : FVec Ideal S16384x6688 .f32) : FVec Ideal S16384x1280 .bf16 :=
  truncf .bf16 ((concatenate S16384x1280 1 [⟨S16384x1024, ((extractStridedSlice S16384x1024 ![0, 5664] p slices_S16384x6688_S16384x1024_0_5664) : (⟨S16384x1024, .f32⟩ : BufTy).Contents (Elt Ideal))⟩, ⟨S16384x128, ((pad S16384x128 ![0, 64] ![0, 32] ![0, 0] (extractStridedSlice S16384x32 ![0, 5632] p slices_S16384x6688_S16384x32_0_5632) ((sitofp .f32 (constantI S_ 32 0#32) : FVec Ideal S_ .f32)) pads_S16384x32_S16384x128_000_64320 h_S_) : (⟨S16384x128, .f32⟩ : BufTy).Contents (Elt Ideal))⟩, ⟨S16384x128, ((pad S16384x128 ![0, 64] ![0, 32] ![0, 0] (concatenate S16384x32 1 [⟨S16384x16, (extractStridedSlice S16384x16 ![0, 16] (extractStridedSlice S16384x32 ![0, 5632] p slices_S16384x6688_S16384x32_0_5632) slices_S16384x32_S16384x16_0_16)⟩, ⟨S16384x16, (extractStridedSlice S16384x16 ![0, 0] (extractStridedSlice S16384x32 ![0, 5632] p slices_S16384x6688_S16384x32_0_5632) slices_S16384x32_S16384x16_0_0)⟩] concatenates_S16384x16_S16384x16_S16384x32_d1 : (⟨S16384x32, .f32⟩ : BufTy).Contents (Elt Ideal)) ((sitofp .f32 (constantI S_ 32 0#32) : FVec Ideal S_ .f32)) pads_S16384x32_S16384x128_000_64320 h_S_) : (⟨S16384x128, .f32⟩ : BufTy).Contents (Elt Ideal))⟩] concatenates_S16384x1024_S16384x128_S16384x128_S16384x1280_d1 : (⟨S16384x1280, .f32⟩ : BufTy).Contents (Elt Ideal))) bitsLt_bf16_f32

/-- Row `r` of the rows, by their two axes. -/
def row (x : FVec Ideal S8x2048x1024 .f32) (r : Fin 16384) (k : Fin 1024) : EReal := x (ix3 (⟨r.val / 2048, by omega⟩ : Fin 8) (⟨r.val % 2048, by omega⟩ : Fin 2048) k)

/-- An entry of the product. -/
theorem product_apply (x : FVec Ideal S8x2048x1024 .f32) (g : FVec Ideal S1024 .f32) (w : FVec Ideal S1024x6688 .f32) (r : Fin 16384) (n : Fin 6688) :
    product x g w (ix2 r n) = dotCol (row x r) (fun k => g (ix1 k)) (fun k => w (ix2 k n)) := by
  unfold product dotCol normed row
  pointwise

/-- The first result takes its columns in place. -/
theorem mainPart_apply (p : FVec Ideal S16384x6688 .f32) (r : Fin 16384) (n : Fin 5632) :
    mainPart p (ix2 r n) = p (ix2 r (⟨n.val, by omega⟩ : Fin 6688)) := by
  unfold mainPart
  pointwise

section Laid

variable (f : Fin 6688 → EReal) (n : Fin 1280)

theorem laid1 (h : n.val < 1024) (c : Fin 6688) (e : c.val = n.val + 5664) : laidOut f n = f c := by
  unfold laidOut
  rw [dif_pos h]
  exact congrArg f (Fin.ext e.symm)
theorem laid2 (h : 1088 ≤ n.val ∧ n.val < 1120) (c : Fin 6688) (e : c.val = n.val + 4544) : laidOut f n = f c := by
  unfold laidOut
  rw [dif_neg (show ¬ n.val < 1024 by omega), dif_pos h]
  exact congrArg f (Fin.ext e.symm)
theorem laid3 (h : 1216 ≤ n.val ∧ n.val < 1232) (c : Fin 6688) (e : c.val = n.val + 4432) : laidOut f n = f c := by
  unfold laidOut
  rw [dif_neg (show ¬ n.val < 1024 by omega), dif_neg (show ¬ (1088 ≤ n.val ∧ n.val < 1120) by omega), dif_pos h]
  exact congrArg f (Fin.ext e.symm)
theorem laid4 (h : 1232 ≤ n.val ∧ n.val < 1248) (c : Fin 6688) (e : c.val = n.val + 4400) : laidOut f n = f c := by
  unfold laidOut
  rw [dif_neg (show ¬ n.val < 1024 by omega), dif_neg (show ¬ (1088 ≤ n.val ∧ n.val < 1120) by omega),
    dif_neg (show ¬ (1216 ≤ n.val ∧ n.val < 1232) by omega), dif_pos h]
  exact congrArg f (Fin.ext e.symm)
/-- Between them there is nothing. -/
theorem laid0 (h : ¬ n.val < 1024 ∧ ¬ (1088 ≤ n.val ∧ n.val < 1120) ∧ ¬ (1216 ≤ n.val ∧ n.val < 1248)) : laidOut f n = 0 := by
  unfold laidOut
  rw [dif_neg h.1, dif_neg h.2.1, dif_neg (show ¬ (1216 ≤ n.val ∧ n.val < 1232) by omega), dif_neg (show ¬ (1232 ≤ n.val ∧ n.val < 1248) by omega)]

end Laid

attribute [local irreducible] laidOut

theorem zero_word : (FloatOps.sitofp .f32 (0#32 : BitVec 32) : Ideal .f32) = (0 : EReal) := by
  show (((0#32 : BitVec 32).toInt : ℝ) : EReal) = 0
  simp

/-- The second result is the product laid out. -/
theorem tailPart_apply (p : FVec Ideal S16384x6688 .f32) (r : Fin 16384) (n : Fin 1280) :
    tailPart p (ix2 r n) = laidOut (fun c => p (ix2 r c)) n := by
  have hn := n.isLt
  unfold tailPart
  pointwise
  split_ifs
  all_goals first
    | (refine Eq.symm ((laid1 (fun c => p (ix2 r c)) n (by omega) ⟨_, ?_⟩ ?_).trans rfl) <;> (try dsimp only) <;> omega)
    | (refine Eq.symm ((laid2 (fun c => p (ix2 r c)) n (by omega) ⟨_, ?_⟩ ?_).trans rfl) <;> (try dsimp only) <;> omega)
    | (refine Eq.symm ((laid3 (fun c => p (ix2 r c)) n (by omega) ⟨_, ?_⟩ ?_).trans rfl) <;> (try dsimp only) <;> omega)
    | (refine Eq.symm ((laid4 (fun c => p (ix2 r c)) n (by omega) ⟨_, ?_⟩ ?_).trans rfl) <;> (try dsimp only) <;> omega)
    | exact zero_word.trans (laid0 _ n (by omega)).symm
    | exact absurd rfl ‹_›

/-- A row against a weight laid out is the row's products laid out. -/
theorem dotCol_laidOut (x g : Fin 1024 → EReal) (w : Fin 1024 → Fin 6688 → EReal) (n : Fin 1280) :
    dotCol x g (fun k => laidOut (w k) n) = laidOut (fun c => dotCol x g (fun k => w k c)) n := by
  unfold laidOut
  split_ifs
  · rfl
  · rfl
  · rfl
  · rfl
  · unfold dotCol
    simp only [mul_zero, Finset.sum_const_zero]

end Cert.Proof.InReference

end
-- ==== Proof.InValue.lean ====
/-
  The input projection's kernel over the reals: its two results, entry by entry.
-/
module

public import proofs.«01_k».proof.Proof.InRun
public import proofs.«01_k».proof.Proof.InReference

@[expose] public section

noncomputable section

namespace Cert.Proof.InProj

open Cert.Kernel2Ideal Cert.Kernel2Ideal.Gen Cert.Proof.Decode Cert.Proof.InReference

open Idealize.ShloMosaic
open Idealize.ShloMosaic.TcCoe Idealize.ShloMosaic.Tactic
open Idealize.ShloMosaic.Pipeline (Dat Cfg Window)

/-! ## The payloads -/

/-- The scratch holds the normed rows. -/
theorem pay1_apply (x : Vec Ideal S1024x1024 .f32) (g : Vec Ideal S1x1024 .f32) (j k : Fin 1024) :
    k0_pay1 x g (ix2 j k) = normed (fun k => x (ix2 j k)) (fun k => g (ix2 (0 : Fin 1) k)) k := by
  unfold k0_pay1 normed
  pointwise

/-- The three products. -/
theorem pay2_apply (h : Vec Ideal S1024x1024 .bf16) (w : Vec Ideal S1024x1536 .bf16) (j : Fin 1024) (n : Fin 1536) :
    k0_pay2 h w (ix2 j n) = ∑ k : Fin 1024, h (ix2 j k) * w (ix2 k n) := by
  unfold k0_pay2
  pointwise
/-- The second columns of a block. -/
theorem pay3_apply (h : Vec Ideal S1024x1024 .bf16) (w : Vec Ideal S1024x1280 .bf16) (j : Fin 1024) (n : Fin 1280) :
    k0_pay3 h w (ix2 j n) = ∑ k : Fin 1024, h (ix2 j k) * w (ix2 k n) := by
  unfold k0_pay3
  pointwise
/-- The second result's columns. -/
theorem pay4_apply (h : Vec Ideal S1024x1024 .bf16) (w : Vec Ideal S1024x1280 .bf16) (j : Fin 1024) (n : Fin 1280) :
    k0_pay4 h w (ix2 j n) = ∑ k : Fin 1024, h (ix2 j k) * w (ix2 k n) := by
  unfold k0_pay4
  pointwise

/-- A block of the first result is the normed rows against a block of the weight. -/
theorem mainB_apply (h : Vec Ideal S1024x1024 .bf16) (w : Vec Ideal S1024x2816 .bf16) (j : Fin 1024) (n : Fin 2816) :
    mainB h w (ix2 j n) = ∑ k : Fin 1024, h (ix2 j k) * w (ix2 k n) := by
  let G : S1024x2816.Idx → EReal := fun y => ∑ k : Fin 1024, h (ix2 (⟨(y 0).val, (y 0).isLt⟩ : Fin 1024) k) * w (ix2 k (⟨(y 1).val, (y 1).isLt⟩ : Fin 2816))
  have key := View.canon_append_of_piecesOf (Val := Elt Ideal) (e := .bf16) G [] (parts (k0_pay3 h (w1 w)) (k0_pay2 h (w0 w)))
    ?_ (ix2 j n) (parts_cover _ _ _)
  · rw [List.append_nil] at key; exact key
  refine ⟨fun y => ?_, fun y => ?_, trivial⟩
  · obtain ⟨a, b, rfl⟩ : ∃ (a : Fin 1024) (b : Fin 1280), y = ix2 a b := ⟨y 0, y 1, eq_ix2 y⟩
    refine (pay3_apply h (w1 w) a b).trans (Finset.sum_congr rfl fun k _ => ?_)
    refine congr (congrArg HMul.hMul (congrArg h (Reference.idx2 ?_ rfl))) (congrArg w (Reference.idx2 ?_ rfl))
    · show a.val = 0 + 1 * a.val; omega
    · show 0 + 1 * k.val = k.val; omega
  · obtain ⟨a, b, rfl⟩ : ∃ (a : Fin 1024) (b : Fin 1536), y = ix2 a b := ⟨y 0, y 1, eq_ix2 y⟩
    refine (pay2_apply h (w0 w) a b).trans (Finset.sum_congr rfl fun k _ => ?_)
    refine congr (congrArg HMul.hMul (congrArg h (Reference.idx2 ?_ rfl))) (congrArg w (Reference.idx2 ?_ rfl))
    · show a.val = 0 + 1 * a.val; omega
    · show 0 + 1 * k.val = k.val; omega

/-! ## The arrays the call reads -/

variable (m : (ℓ : Loc nD τ sig) → Buf (Elt Ideal) ℓ) (c : Dev nD)

abbrev argX : FVec Ideal S8x2048x1024 .f32 := m ((c.tc : Thread nD τ).loc main_arg0)
abbrev argG : FVec Ideal S1024 .f32 := m ((c.tc : Thread nD τ).loc main_arg1)
abbrev argW : FVec Ideal S1024x6688 .f32 := m ((c.tc : Thread nD τ).loc main_arg2)

/-- The rows. -/
theorem V_v0 : V m c main_v0 = (shapeCast S16384x1024 (argX m c) shapeCasts_S8x2048x1024_S16384x1024 : FVec Ideal S16384x1024 .f32) := by
  unfold V
  simp only [hostOps0]
  after_results_simp <;> (try dsimp only [Matrix.cons_val]) <;> (try after_results_simp) <;> rfl
/-- The scale. -/
theorem V_v1 : V m c main_v1 = (shapeCast S1x1024 (argG m c) shapeCasts_S1024_S1x1024 : FVec Ideal S1x1024 .f32) := by
  unfold V
  simp only [hostOps0]
  after_results_simp <;> (try dsimp only [Matrix.cons_val]) <;> (try after_results_simp) <;> rfl
/-- The weight's first columns. -/
theorem V_v10 : V m c main_v10 = (truncf .bf16 (extractStridedSlice S1024x5632 ![0, 0] (argW m c) slices_S1024x6688_S1024x5632_0_0) bitsLt_bf16_f32 : FVec Ideal S1024x5632 .bf16) := by
  unfold V
  simp only [hostOps0]
  after_results_simp <;> (try dsimp only [Matrix.cons_val]) <;> (try after_results_simp) <;> rfl

/-- The weight's other columns, laid out. -/
def tailW (w : FVec Ideal S1024x6688 .f32) : FVec Ideal S1024x1280 .bf16 :=
  truncf .bf16 (concatenate S1024x1280 1
    [⟨S1024x1024, (extractStridedSlice S1024x1024 ![0, 5664] w slices_S1024x6688_S1024x1024_0_5664 : FVec Ideal S1024x1024 .f32)⟩,
      ⟨S1024x64, (broadcastInDim S1024x64 ![] bcast_S_S1024x64 (constant S_ .f32 0x00000000#32) : FVec Ideal S1024x64 .f32)⟩,
      ⟨S1024x32, (extractStridedSlice S1024x32 ![0, 5632] w slices_S1024x6688_S1024x32_0_5632 : FVec Ideal S1024x32 .f32)⟩,
      ⟨S1024x32, (broadcastInDim S1024x32 ![] bcast_S_S1024x32 (constant S_ .f32 0x00000000#32) : FVec Ideal S1024x32 .f32)⟩,
      ⟨S1024x64, (broadcastInDim S1024x64 ![] bcast_S_S1024x64 (constant S_ .f32 0x00000000#32) : FVec Ideal S1024x64 .f32)⟩,
      ⟨S1024x16, (extractStridedSlice S1024x16 ![0, 16] (extractStridedSlice S1024x32 ![0, 5632] w slices_S1024x6688_S1024x32_0_5632) slices_S1024x32_S1024x16_0_16 : FVec Ideal S1024x16 .f32)⟩,
      ⟨S1024x16, (extractStridedSlice S1024x16 ![0, 0] (extractStridedSlice S1024x32 ![0, 5632] w slices_S1024x6688_S1024x32_0_5632) slices_S1024x32_S1024x16_0_0 : FVec Ideal S1024x16 .f32)⟩,
      ⟨S1024x32, (broadcastInDim S1024x32 ![] bcast_S_S1024x32 (constant S_ .f32 0x00000000#32) : FVec Ideal S1024x32 .f32)⟩]
    concatenates_S1024x1024_S1024x64_S1024x32_S1024x32_S1024x64_S1024x16_S1024x16_S1024x32_S1024x1280_d1 : FVec Ideal S1024x1280 .f32) bitsLt_bf16_f32

/-- The tail's weight. -/
theorem V_v11 : V m c main_v11 = tailW (argW m c) := by
  unfold V tailW
  simp only [hostOps0]
  after_results_simp <;> (try dsimp only [Matrix.cons_val]) <;> (try after_results_simp) <;> rfl

/-- Its entries. -/
theorem tailW_apply (w : FVec Ideal S1024x6688 .f32) (k : Fin 1024) (n : Fin 1280) : tailW w (ix2 k n) = laidOut (fun c => w (ix2 k c)) n := by
  have hn := n.isLt
  have hz : Ideal.ofBits .f32 0x00000000#32 = 0 := by simp
  unfold tailW
  pointwise
  split_ifs
  all_goals first
    | (refine Eq.symm ((laid1 (fun c => w (ix2 k c)) n (by omega) ⟨_, ?_⟩ ?_).trans rfl) <;> (try dsimp only) <;> omega)
    | (refine Eq.symm ((laid2 (fun c => w (ix2 k c)) n (by omega) ⟨_, ?_⟩ ?_).trans rfl) <;> (try dsimp only) <;> omega)
    | (refine Eq.symm ((laid3 (fun c => w (ix2 k c)) n (by omega) ⟨_, ?_⟩ ?_).trans rfl) <;> (try dsimp only) <;> omega)
    | (refine Eq.symm ((laid4 (fun c => w (ix2 k c)) n (by omega) ⟨_, ?_⟩ ?_).trans rfl) <;> (try dsimp only) <;> omega)
    | exact (laid0 _ n (by omega)).symm

/-! ## The blocks -/

theorem at0 : ∀ t : Fin grid0.N, cc0_transform_0 (grid0.coords t) = ![t.val / 3, 0] := by decide +kernel
theorem at1 : ∀ t : Fin grid0.N, cc0_transform_1 (grid0.coords t) = ![0, 0] := by decide +kernel
theorem at2 : ∀ t : Fin grid0.N, cc0_transform_2 (grid0.coords t) = ![0, min (t.val % 3) 1] := by decide +kernel
theorem at3 : ∀ t : Fin grid0.N, cc0_transform_3 (grid0.coords t) = ![0, 0] := by decide +kernel
theorem at4 : ∀ t : Fin grid0.N, cc0_transform_4 (grid0.coords t) = ![t.val / 3, min (t.val % 3) 1] := by decide +kernel
theorem at5 : ∀ t : Fin grid0.N, cc0_transform_5 (grid0.coords t) = ![t.val / 3, 0] := by decide +kernel

/-- Row `j` of row block `b`, as a row of the whole. -/
abbrev rowOf (b : ℕ) (h : b < 16) (j : Fin 1024) : Fin 16384 := ⟨1024 * b + j.val, by omega⟩
/-- Column `n` of column block `t % 3`, as a column of the whole. -/
abbrev colOf (t : Fin grid0.N) (n : Fin 2816) : Fin 5632 := ⟨2816 * min (t.val % 3) 1 + n.val, by omega⟩

/-- A block of the rows. -/
theorem xB_apply (t : Fin grid0.N) (j k : Fin 1024) : xB m c t (ix2 j k) = row (argX m c) (rowOf (t.val / 3) (row_lt t) j) k := by
  have e : xB m c t (ix2 j k) = (V m c main_v0 : FVec Ideal S16384x1024 .f32) (ix2 (rowOf (t.val / 3) (row_lt t) j) k) := by
    refine congrArg (V m c main_v0) ?_
    have hi := at0 t
    funext x
    apply Fin.ext
    show cc0_transform_0 (grid0.coords t) x * S1024x1024.size x + 1 * (ix2 j k x).val = _
    rw [hi]
    match x with
    | 0 => show t.val / 3 * 1024 + 1 * j.val = 1024 * (t.val / 3) + j.val; omega
    | 1 => show 0 * 1024 + 1 * k.val = k.val; omega
  rw [e, V_v0]
  unfold row
  generalize argX m c = X
  pointwise

/-- The scale, at every point. -/
theorem gB_apply (t : Fin grid0.N) (k : Fin 1024) : gB m c t (ix2 (0 : Fin 1) k) = argG m c (ix1 k) := by
  have e : gB m c t (ix2 (0 : Fin 1) k) = (V m c main_v1 : FVec Ideal S1x1024 .f32) (ix2 (0 : Fin 1) k) := by
    refine congrArg (V m c main_v1) ?_
    have hi := at1 t
    funext x
    apply Fin.ext
    show cc0_transform_1 (grid0.coords t) x * S1x1024.size x + 1 * (ix2 (0 : Fin 1) k x).val = _
    rw [hi]
    match x with
    | 0 => rfl
    | 1 => show 0 * 1024 + 1 * k.val = k.val; omega
  rw [e, V_v1]
  generalize argG m c = g
  pointwise

/-- A block of the weight's first columns. -/
theorem wB_apply (t : Fin grid0.N) (k : Fin 1024) (n : Fin 2816) :
    wB m c t (ix2 k n) = argW m c (ix2 k (⟨(colOf t n).val, by omega⟩ : Fin 6688)) := by
  have e : wB m c t (ix2 k n) = (V m c main_v10 : FVec Ideal S1024x5632 .bf16) (ix2 k (colOf t n)) := by
    refine congrArg (V m c main_v10) ?_
    have hi := at2 t
    funext x
    apply Fin.ext
    show cc0_transform_2 (grid0.coords t) x * S1024x2816.size x + 1 * (ix2 k n x).val = _
    rw [hi]
    match x with
    | 0 => show 0 * 1024 + 1 * k.val = k.val; omega
    | 1 => show min (t.val % 3) 1 * 2816 + 1 * n.val = 2816 * min (t.val % 3) 1 + n.val; omega
  rw [e, V_v10]
  have q : ∀ (W : FVec Ideal S1024x6688 .f32) (d : Fin 5632),
      (truncf .bf16 (extractStridedSlice S1024x5632 ![0, 0] W slices_S1024x6688_S1024x5632_0_0) bitsLt_bf16_f32 : FVec Ideal S1024x5632 .bf16) (ix2 k d)
        = W (ix2 k (⟨d.val, by omega⟩ : Fin 6688)) := by
    intro W d
    pointwise
  exact q _ _

/-- The tail's weight, at every point. -/
theorem vB_apply (t : Fin grid0.N) (k : Fin 1024) (n : Fin 1280) : vB m c t (ix2 k n) = laidOut (fun d => argW m c (ix2 k d)) n := by
  have e : vB m c t (ix2 k n) = (V m c main_v11 : FVec Ideal S1024x1280 .bf16) (ix2 k n) := by
    refine congrArg (V m c main_v11) ?_
    have hi := at3 t
    funext x
    apply Fin.ext
    show cc0_transform_3 (grid0.coords t) x * S1024x1280.size x + 1 * (ix2 k n x).val = _
    rw [hi]
    match x with
    | 0 => show 0 * 1024 + 1 * k.val = k.val; omega
    | 1 => show 0 * 1280 + 1 * n.val = n.val; omega
  rw [e, V_v11]
  exact tailW_apply _ k n

/-- The normed rows of a row block. -/
theorem hB_apply (b : ℕ) (h : b < 16) (j k : Fin 1024) :
    hB m c b h (ix2 j k) = normed (row (argX m c) (rowOf b h j)) (fun k => argG m c (ix1 k)) k := by
  refine (pay1_apply _ _ j k).trans ?_
  have hx : (fun k => xB m c (first b h) (ix2 j k)) = row (argX m c) (rowOf b h j) := funext fun k =>
    (xB_apply m c (first b h) j k).trans (congrArg (fun r => row (argX m c) r k)
      (Fin.ext (show 1024 * (3 * b / 3) + j.val = 1024 * b + j.val by omega)))
  have hg : (fun k => gB m c (first b h) (ix2 (0 : Fin 1) k)) = fun k => argG m c (ix1 k) := funext fun k => gB_apply m c _ k
  rw [hx, hg]

/-! ## The results -/

/-- An entry of the first result's block. -/
theorem outM_apply (t : Fin grid0.N) (j : Fin 1024) (n : Fin 2816) :
    outM m c t (ix2 j n) = dotCol (row (argX m c) (rowOf (t.val / 3) (row_lt t) j)) (fun k => argG m c (ix1 k))
      (fun k => argW m c (ix2 k (⟨(colOf t n).val, by omega⟩ : Fin 6688))) := by
  refine (mainB_apply _ _ j n).trans (Finset.sum_congr rfl fun k _ => ?_)
  rw [hB_apply, wB_apply]
  refine congrArg (fun d => _ * argW m c (ix2 k d)) (Fin.ext ?_)
  show 2816 * min ((t.val - t.val % 3 / 2) % 3) 1 + n.val = 2816 * min (t.val % 3) 1 + n.val
  omega

/-- An entry of the second result's block. -/
theorem outT_apply (t : Fin grid0.N) (j : Fin 1024) (n : Fin 1280) :
    outT m c t (ix2 j n) = laidOut (fun d => dotCol (row (argX m c) (rowOf (t.val / 3) (row_lt t) j)) (fun k => argG m c (ix1 k))
      (fun k => argW m c (ix2 k d))) n := by
  refine (pay4_apply _ _ j n).trans ?_
  simp only [hB_apply, vB_apply]
  exact dotCol_laidOut _ _ (fun k d => argW m c (ix2 k d)) n

attribute [local irreducible] outM outT dotCol

theorem covers4 : (cfg0.win 4).Covers := by decide +kernel
theorem covers5 : (cfg0.win 5).Covers := by decide +kernel

/-- The first result. -/
theorem arr4 (r : Fin 16384) (n : Fin 5632) :
    ((dat m c).arrAt 4 cfg0.N : FVec Ideal S16384x5632 .bf16) (ix2 r n)
      = dotCol (row (argX m c) r) (fun k => argG m c (ix1 k)) (fun k => argW m c (ix2 k (⟨n.val, by omega⟩ : Fin 6688))) := by
  let G : S16384x5632.Idx → EReal := fun y => dotCol (row (argX m c) (⟨(y 0).val, (y 0).isLt⟩ : Fin 16384)) (fun k => argG m c (ix1 k))
    (fun k => argW m c (ix2 k (⟨(y 1).val, lt_trans (show (y 1).val < 5632 from (y 1).isLt) (by decide)⟩ : Fin 6688)))
  have key : (dat m c).arrAt 4 cfg0.N = G := by
    refine (dat m c).arrAt_eq_of_covers 4 G covers4 fun t hf y => ?_
    have key : ∀ y : S1024x2816.Idx, outM m c t y = G (((cfg0.win 4).blk t).view.emb y) := by
      intro y
      obtain ⟨j, d, rfl⟩ : ∃ (a : Fin 1024) (b : Fin 2816), y = ix2 a b := ⟨y 0, y 1, eq_ix2 y⟩
      have he : ((cfg0.win 4).blk t).view.emb (ix2 j d) = ix2 (rowOf (t.val / 3) (row_lt t) j) (colOf t d) := by
        have hi := at4 t
        funext x
        apply Fin.ext
        show cc0_transform_4 (grid0.coords t) x * S1024x2816.size x + 1 * (ix2 j d x).val = _
        rw [hi]
        match x with
        | 0 => show t.val / 3 * 1024 + 1 * j.val = 1024 * (t.val / 3) + j.val; omega
        | 1 => show min (t.val % 3) 1 * 2816 + 1 * d.val = 2816 * min (t.val % 3) 1 + d.val; omega
      rw [he]
      exact outM_apply m c t j d
    exact key y
  exact congrFun key (ix2 r n)

/-- The second result. -/
theorem arr5 (r : Fin 16384) (n : Fin 1280) :
    ((dat m c).arrAt 5 cfg0.N : FVec Ideal S16384x1280 .bf16) (ix2 r n)
      = laidOut (fun d => dotCol (row (argX m c) r) (fun k => argG m c (ix1 k)) (fun k => argW m c (ix2 k d))) n := by
  let G : S16384x1280.Idx → EReal := fun y => laidOut (fun d => dotCol (row (argX m c) (⟨(y 0).val, (y 0).isLt⟩ : Fin 16384))
    (fun k => argG m c (ix1 k)) (fun k => argW m c (ix2 k d))) ⟨(y 1).val, (y 1).isLt⟩
  have key : (dat m c).arrAt 5 cfg0.N = G := by
    refine (dat m c).arrAt_eq_of_covers 5 G covers5 fun t hf y => ?_
    have key : ∀ y : S1024x1280.Idx, outT m c t y = G (((cfg0.win 5).blk t).view.emb y) := by
      intro y
      obtain ⟨j, d, rfl⟩ : ∃ (a : Fin 1024) (b : Fin 1280), y = ix2 a b := ⟨y 0, y 1, eq_ix2 y⟩
      have he : ((cfg0.win 5).blk t).view.emb (ix2 j d) = ix2 (rowOf (t.val / 3) (row_lt t) j) d := by
        have hi := at5 t
        funext x
        apply Fin.ext
        show cc0_transform_5 (grid0.coords t) x * S1024x1280.size x + 1 * (ix2 j d x).val = _
        rw [hi]
        match x with
        | 0 => show t.val / 3 * 1024 + 1 * j.val = 1024 * (t.val / 3) + j.val; omega
        | 1 => show 0 * 1280 + 1 * d.val = d.val; omega
      rw [he]
      exact outT_apply m c t j d
    exact key y
  exact congrFun key (ix2 r n)

end Cert.Proof.InProj

end
-- ==== Proof.InAlgebraic.lean ====
/-
  Over the reals the idealized input projection and its reference end with the same two results.
-/
module

public import proofs.«01_k».proof.Proof.InFrames
public import proofs.«01_k».proof.Proof.InValue

@[expose] public section

noncomputable section

namespace Cert.Proof.InAlgebraic

open Idealize.ShloMosaic Idealize.ShloMosaic.TcCoe Idealize.SL.Sem
open Cert.Proof.InProj (dat argX argG argW arr4 arr5)
open Cert.Proof.InReference (product mainPart tailPart mainPart_apply tailPart_apply product_apply)

variable (m : (ℓ : Loc Cert.Kernel2Ideal.nD Cert.Kernel2Ideal.τ Cert.Kernel2Ideal.sig) → Buf (Elt Ideal) ℓ) (c : Dev Cert.Kernel2Ideal.nD)

/-- The reference's first result at the kernel's arguments is the kernel's. -/
theorem main_eq : mainPart (product (argX m c) (argG m c) (argW m c)) = (dat m c).arrAt 4 Cert.Kernel2Ideal.cfg0.N := by
  have key : ∀ (r : Fin 16384) (n : Fin 5632), mainPart (product (argX m c) (argG m c) (argW m c)) (ix2 r n)
      = ((dat m c).arrAt 4 Cert.Kernel2Ideal.cfg0.N : FVec Ideal Cert.Kernel2Ideal.S16384x5632 .bf16) (ix2 r n) := fun r n =>
    (mainPart_apply _ r n).trans ((product_apply _ _ _ r _).trans (arr4 m c r n).symm)
  funext y
  obtain ⟨r, n, rfl⟩ : ∃ (r : Fin 16384) (n : Fin 5632), y = ix2 r n := ⟨y 0, y 1, eq_ix2 y⟩
  exact key r n

/-- The reference's second result at the kernel's arguments is the kernel's. -/
theorem tail_eq : tailPart (product (argX m c) (argG m c) (argW m c)) = (dat m c).arrAt 5 Cert.Kernel2Ideal.cfg0.N := by
  have key : ∀ (r : Fin 16384) (n : Fin 1280), tailPart (product (argX m c) (argG m c) (argW m c)) (ix2 r n)
      = ((dat m c).arrAt 5 Cert.Kernel2Ideal.cfg0.N : FVec Ideal Cert.Kernel2Ideal.S16384x1280 .bf16) (ix2 r n) := fun r n => by
    refine (tailPart_apply _ r n).trans (Eq.trans ?_ (arr5 m c r n).symm)
    simp only [product_apply]
  funext y
  obtain ⟨r, n, rfl⟩ : ∃ (r : Fin 16384) (n : Fin 1280), y = ix2 r n := ⟨y 0, y 1, eq_ix2 y⟩
  exact key r n

/-- The value claim of the input projection. -/
theorem value : Cert.algebraic_Kernel2Ideal_Reference2Ideal := fun m g m' g' hpre hm =>
  ⟨fun c => (dat m c).arrAt 4 Cert.Kernel2Ideal.cfg0.N, fun c => (dat m c).arrAt 5 Cert.Kernel2Ideal.cfg0.N,
    (θ_run Cert.Kernel2Ideal.defs _ _).mono (fun r h => h.1) (InProj.run_main (F := Ideal) m g),
    (θ_run Cert.Reference2Ideal.defs _ _).mono (fun r h c => by
      obtain ⟨h0, h1, h2⟩ := hm c
      refine ⟨(h c).1.trans ?_, (h c).2.1.trans ?_, (h c).2.2⟩
      · rw [h0, h1, h2]
        exact main_eq m c
      · unfold Cert.Reference2Ideal.Value.res_main_v25
        rw [h0, h1, h2]
        exact tail_eq m c)
      (Cert.Reference2Ideal.Value.run (F := Ideal) m' g')⟩

end Cert.Proof.InAlgebraic

end
-- ==== Proof.TailFrames.lean ====
/-
  The frame claims of the mixer tail: the kernel as printed, the idealized kernel and the reference; and the rewrite between the first two.
-/
module

public import proofs.«01_k».proof.Defs
public import proofs.«01_k».proof.Proof.Gen.Kernel3
public import proofs.«01_k».proof.Proof.Gen.Kernel3Ideal.Value
public import proofs.«01_k».proof.Proof.Gen.Reference3Ideal
public import proofs.«01_k».proof.Proof.Gen.Reference3Ideal.Run

@[expose] public section

noncomputable section

namespace Cert.Proof.Tail

open Idealize.ShloMosaic Idealize.ShloMosaic.TcCoe Idealize.SL.Sem

/-- The idealized kernel. -/
theorem frame_pi3 : Cert.quiescent_Kernel3Ideal := fun m ρ _ => Cert.Kernel3Ideal.Gen.frame (F := Ideal) m ρ

/-- At bit patterns a named constant is its literal. -/
@[reducible] def literal : Named Bits := ⟨fun _ _ {φ} b => Scalar.ofBits φ b⟩

attribute [local instance] literal

set_option maxHeartbeats 4000000 in
/-- At the machine's floats the kernel as printed is the same program: the named constant is its literal. -/
theorem body_same : @Cert.Kernel3.defs₀ Bits _ _ = @Cert.Kernel3Ideal.defs₀ Bits _ _ _ := by
  unfold Cert.Kernel3.defs₀ Cert.Kernel3Ideal.defs₀
  refine congrArg (Defs.onTc (nD := Cert.Kernel3Ideal.nD) (τ := Cert.Kernel3Ideal.τ) (sig := Cert.Kernel3Ideal.sig) (Val := Elt Bits) (Λ := Cert.Kernel3Ideal.Λ₀)) ?_
  funext l x
  match l, x with
  | 0, (t, s) => rfl
theorem defs_same : @Cert.Kernel3.defs Bits _ _ = @Cert.Kernel3Ideal.defs Bits _ _ _ :=
  congrArg (Pipeline.defs (Cert.Kernel3Ideal.pcfgs (F := Bits))) body_same

/-- So it runs the same. -/
theorem frame_p3 : Cert.quiescent_Kernel3 := fun m ρ _ => by
  rw [defs_same]
  exact Cert.Kernel3Ideal.Gen.frame (F := Bits) m ρ

/-- The reference, which has no semaphore. -/
theorem frame_ri3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The rewrite: the constant −1/log 2 by its name. -/
theorem preserves : Cert.preserves_Kernel3_Kernel3Ideal :=
  IdealRules.named_const.statement Cert.Kernel3Ideal.κ "neg_log2_e" .f32 0xBFB8AA3B#32 ((-((Real.log 2)⁻¹) : ℝ) : EReal) rfl

end Cert.Proof.Tail

end
-- ==== Proof.TailChunk.lean ====
/-
  The mixer tail's body over the reals, part one: the long convolution's eight chunks of rows. Each is the sum of its 31 taps, every
  tap a load of sixty-four rows, normalized, scaled, shifted and passed through x times sigmoid of x.
-/
module

public import proofs.«01_k».proof.Proof.Gen.Kernel3Ideal.Value
public import proofs.«01_k».proof.Proof.Payload

@[expose] public section

set_option maxRecDepth 16384

noncomputable section

namespace Cert.Proof.Tail

open Cert.Kernel3Ideal Cert.Kernel3Ideal.Gen

open Idealize.ShloMosaic
open Idealize.ShloMosaic.TcCoe Idealize.ShloMosaic.Tactic

/-- A sum of 31 terms, from the first on. -/
theorem sum31 (f : Fin 31 → EReal) : ∑ t : Fin 31, f t = f 0 + f 1 + f 2 + f 3 + f 4 + f 5 + f 6 + f 7 + f 8 + f 9 + f 10 + f 11 + f 12 + f 13 + f 14 + f 15 + f 16 + f 17 + f 18 + f 19 + f 20 + f 21 + f 22 + f 23 + f 24 + f 25 + f 26 + f 27 + f 28 + f 29 + f 30 := by
  simp only [Fin.sum_univ_castSucc, Fin.sum_univ_zero, zero_add]
  rfl

/-- The sum of 31 taps, each a row of weights times sixty-four rows of the source. -/
def taps (s w : Fin 31 → FVec Ideal S64x512 .f32) : FVec Ideal S64x512 .f32 :=
  addf (addf (addf (addf (addf (addf (addf (addf (addf (addf (addf (addf (addf (addf (addf (addf (addf (addf (addf (addf (addf (addf (addf (addf (addf (addf (addf (addf (addf (addf (mulf (w 0) (s 0)) (mulf (w 1) (s 1))) (mulf (w 2) (s 2))) (mulf (w 3) (s 3))) (mulf (w 4) (s 4))) (mulf (w 5) (s 5))) (mulf (w 6) (s 6))) (mulf (w 7) (s 7))) (mulf (w 8) (s 8))) (mulf (w 9) (s 9))) (mulf (w 10) (s 10))) (mulf (w 11) (s 11))) (mulf (w 12) (s 12))) (mulf (w 13) (s 13))) (mulf (w 14) (s 14))) (mulf (w 15) (s 15))) (mulf (w 16) (s 16))) (mulf (w 17) (s 17))) (mulf (w 18) (s 18))) (mulf (w 19) (s 19))) (mulf (w 20) (s 20))) (mulf (w 21) (s 21))) (mulf (w 22) (s 22))) (mulf (w 23) (s 23))) (mulf (w 24) (s 24))) (mulf (w 25) (s 25))) (mulf (w 26) (s 26))) (mulf (w 27) (s 27))) (mulf (w 28) (s 28))) (mulf (w 29) (s 29))) (mulf (w 30) (s 30))

theorem taps_apply (s w : Fin 31 → FVec Ideal S64x512 .f32) (j : S64x512.Idx) : taps s w j = ∑ t : Fin 31, w t j * s t j := by
  rw [sum31]; rfl

/-- What a chunk stores of its sum. -/
def finish (acc : FVec Ideal S64x512 .f32) (g b : Vec Ideal S1x512 .f32) : FVec Ideal S64x512 .bf16 :=
  have mu : FVec Ideal S64x1 .f32 := divf (shapeCast S64x1 (multiReduction .add [1] S64 acc 0x00000000#32 reduces_S64x512_S64 (.inl rfl) rfl) shapeCasts_S64_S64x1) (broadcast S64x1 (Scalar.ofBits .f32 0x44000000#32))
  have xc : FVec Ideal S64x512 .f32 := subf acc (broadcastTo S64x512 mu broadcasts_S64x1_S64x512)
  have var : FVec Ideal S64x1 .f32 := divf (shapeCast S64x1 (multiReduction .add [1] S64 (mulf xc xc) 0x00000000#32 reduces_S64x512_S64 (.inl rfl) rfl) shapeCasts_S64_S64x1) (broadcast S64x1 (Scalar.ofBits .f32 0x44000000#32))
  k0_pay107 xc var g b

section

variable (c : Dev nD) (i : grid0.Coords) (arg4 : Memref sig .tc .vmem S512x512 .bf16) (harg4 : arg4.IsWhole) (arg5 : Memref sig .tc .vmem S512x512 .bf16) (harg5 : arg5.IsWhole) (arg6 : Memref sig .tc .vmem S32x512 .bf16) (harg6 : arg6.IsWhole) (arg7 : Memref sig .tc .vmem S32x512 .bf16) (harg7 : arg7.IsWhole)
  (arg12 : Memref sig .tc .vmem S31x512 .f32) (harg12 : arg12.IsWhole) (arg13 : Memref sig .tc .vmem S1x512 .f32) (harg13 : arg13.IsWhole) (arg14 : Memref sig .tc .vmem S1x512 .f32) (harg14 : arg14.IsWhole)
  (arg20 : Memref sig .tc .vmem S544x512 .f32) (arg21 : Memref sig .tc .vmem S7x536x512 .f32)
  (x3 : Vec Ideal S512x512 .bf16) (x4 : Vec Ideal S512x512 .bf16) (x5 : Vec Ideal S32x512 .bf16) (x6 : Vec Ideal S32x512 .bf16) (x11 : Vec Ideal S31x512 .f32) (x12 : Vec Ideal S1x512 .f32) (x13 : Vec Ideal S1x512 .f32)

/-- Sixty-four rows of the gated values, from row `k`. -/
def ldU (k : ℕ) (h : k + 64 ≤ 544) : FVec Ideal S64x512 .f32 :=
  arg20.view.readCov (kernelRun0_A.sl.HS1_2 c i arg4 harg4 arg5 harg5 arg6 harg6 arg7 harg7 x3 x4 x5 x6)
    (Rect.unit (s := S544x512) ![k, 0] S64x512.size (by intro a; match a with | 0 => exact h | 1 => exact Nat.le_refl 512)).toLoadRect

/-- Sixty-four rows of their copy moved by `b + 1` rows, from row `k`. -/
def ldS (b k : ℕ) (hb : b + 1 ≤ 7) (h : k + 64 ≤ 536) : FVec Ideal S64x512 .f32 :=
  shapeCast S64x512 (arg21.view.readCov (kernelRun0_A.sl.HS2_7 c i arg4 harg4 arg5 harg5 arg6 harg6 arg7 harg7 arg20 x3 x4 x5 x6)
    (Rect.unit (s := S7x536x512) ![b, k, 0] S1x64x512.size (by intro a; match a with | 0 => exact hb | 1 => exact h | 2 => exact Nat.le_refl 512)).toLoadRect) shapeCasts_S1x64x512_S64x512

/-- One row of the weights, for every row of a chunk. -/
def ldW (t : Fin 31) : FVec Ideal S64x512 .f32 :=
  broadcastTo S64x512 (View.readAt (Elt Ideal) arg12.view (Rect.unit (s := S31x512) ![t.val, 0] S1x512.size (by intro a; match a with | 0 => exact Nat.succ_le_of_lt t.isLt | 1 => exact Nat.le_refl 512)).toLoadRect (harg12.unread x11)) broadcasts_S1x512_S64x512

/-- A row of a vector of one row. -/
def ldV (arg : Memref sig .tc .vmem S1x512 .f32) (h : arg.IsWhole) (x : Vec Ideal S1x512 .f32) : Vec Ideal S1x512 .f32 :=
  View.readAt (Elt Ideal) arg.view (Rect.unit (s := S1x512) ![0, 0] S1x512.size inb_S1x512_S1x512_0_0).toLoadRect (h.unread x)

/-- The source of tap `t` of chunk `q`. -/
def src (q : Fin 8) (t : Fin 31) : FVec Ideal S64x512 .f32 :=
  if h : (t.val + 2) % 8 = 0 then ldU c i arg4 harg4 arg5 harg5 arg6 harg6 arg7 harg7 arg20 x3 x4 x5 x6 (64 * q.val + (t.val + 2)) (by omega)
  else ldS c i arg4 harg4 arg5 harg5 arg6 harg6 arg7 harg7 arg20 arg21 x3 x4 x5 x6 ((t.val + 2) % 8 - 1) (64 * q.val + (t.val + 2) - (t.val + 2) % 8) (by omega) (by omega)

/-- What chunk `q` stores. -/
def chunk (q : Fin 8) : FVec Ideal S64x512 .bf16 :=
  finish (taps (src c i arg4 harg4 arg5 harg5 arg6 harg6 arg7 harg7 arg20 arg21 x3 x4 x5 x6 q) (ldW arg12 harg12 x11)) (ldV arg13 harg13 x12) (ldV arg14 harg14 x13)

/-- The eight chunks, last first. -/
def chunks : List (View.Piece (Elt Ideal) S512x512 .bf16) :=
  [⟨Rect.unit (s := S512x512) ![448, 0] S64x512.size inb_S512x512_S64x512_448_0, chunk c i arg4 harg4 arg5 harg5 arg6 harg6 arg7 harg7 arg12 harg12 arg13 harg13 arg14 harg14 arg20 arg21 x3 x4 x5 x6 x11 x12 x13 7⟩,
    ⟨Rect.unit (s := S512x512) ![384, 0] S64x512.size inb_S512x512_S64x512_384_0, chunk c i arg4 harg4 arg5 harg5 arg6 harg6 arg7 harg7 arg12 harg12 arg13 harg13 arg14 harg14 arg20 arg21 x3 x4 x5 x6 x11 x12 x13 6⟩,
    ⟨Rect.unit (s := S512x512) ![320, 0] S64x512.size inb_S512x512_S64x512_320_0, chunk c i arg4 harg4 arg5 harg5 arg6 harg6 arg7 harg7 arg12 harg12 arg13 harg13 arg14 harg14 arg20 arg21 x3 x4 x5 x6 x11 x12 x13 5⟩,
    ⟨Rect.unit (s := S512x512) ![256, 0] S64x512.size inb_S512x512_S64x512_256_0, chunk c i arg4 harg4 arg5 harg5 arg6 harg6 arg7 harg7 arg12 harg12 arg13 harg13 arg14 harg14 arg20 arg21 x3 x4 x5 x6 x11 x12 x13 4⟩,
    ⟨Rect.unit (s := S512x512) ![192, 0] S64x512.size inb_S512x512_S64x512_192_0, chunk c i arg4 harg4 arg5 harg5 arg6 harg6 arg7 harg7 arg12 harg12 arg13 harg13 arg14 harg14 arg20 arg21 x3 x4 x5 x6 x11 x12 x13 3⟩,
    ⟨Rect.unit (s := S512x512) ![128, 0] S64x512.size inb_S512x512_S64x512_128_0, chunk c i arg4 harg4 arg5 harg5 arg6 harg6 arg7 harg7 arg12 harg12 arg13 harg13 arg14 harg14 arg20 arg21 x3 x4 x5 x6 x11 x12 x13 2⟩,
    ⟨Rect.unit (s := S512x512) ![64, 0] S64x512.size inb_S512x512_S64x512_64_0, chunk c i arg4 harg4 arg5 harg5 arg6 harg6 arg7 harg7 arg12 harg12 arg13 harg13 arg14 harg14 arg20 arg21 x3 x4 x5 x6 x11 x12 x13 1⟩,
    ⟨Rect.unit (s := S512x512) ![0, 0] S64x512.size inb_S512x512_S64x512_0_0, chunk c i arg4 harg4 arg5 harg5 arg6 harg6 arg7 harg7 arg12 harg12 arg13 harg13 arg14 harg14 arg20 arg21 x3 x4 x5 x6 x11 x12 x13 0⟩]

/-- They are what the body stores. -/
theorem chunks_eq : kernelRun0_A.sl.HS3_8 (F := Ideal) c i arg4 harg4 arg5 harg5 arg6 harg6 arg7 harg7 arg12 harg12 arg13 harg13 arg14 harg14 arg20 arg21 x3 x4 x5 x6 x11 x12 x13
    = chunks c i arg4 harg4 arg5 harg5 arg6 harg6 arg7 harg7 arg12 harg12 arg13 harg13 arg14 harg14 arg20 arg21 x3 x4 x5 x6 x11 x12 x13 := by
  unfold chunks kernelRun0_A.sl.HS3_8
  refine congrArg₂ List.cons (congrArg (Sigma.mk _) ?_) <| congrArg₂ List.cons (congrArg (Sigma.mk _) ?_) <| congrArg₂ List.cons (congrArg (Sigma.mk _) ?_) <| congrArg₂ List.cons (congrArg (Sigma.mk _) ?_) <| congrArg₂ List.cons (congrArg (Sigma.mk _) ?_) <| congrArg₂ List.cons (congrArg (Sigma.mk _) ?_) <| congrArg₂ List.cons (congrArg (Sigma.mk _) ?_) <| congrArg₂ List.cons (congrArg (Sigma.mk _) ?_) rfl
  all_goals rfl

end

end Cert.Proof.Tail

end
-- ==== Proof.TailBody.lean ====
/-
  The mixer tail's body over the reals, part two: its entries.
-/
module

public import proofs.«01_k».proof.Proof.TailChunk
public import proofs.«01_k».proof.Proof.Reference
public import Idealize.ShloMosaic.Lib.VecWindow

@[expose] public section

set_option maxRecDepth 16384

noncomputable section

namespace Cert.Proof.Tail

open Cert.Kernel3Ideal Cert.Kernel3Ideal.Gen

open Idealize.ShloMosaic
open Idealize.ShloMosaic.TcCoe Idealize.ShloMosaic.Tactic

/-- The sigmoid. -/
def sg (x : EReal) : EReal := Ideal.div 1 (1 + Ideal.exp (-x))

/-- The mean over 512 columns. -/
def mean (v : Fin 512 → EReal) : EReal := Ideal.div (∑ e : Fin 512, v e) (Ideal.ofBits .f32 0x44000000#32)

/-- A row without its mean, over its deviation, scaled and shifted. -/
def lnorm (v g b : Fin 512 → EReal) (e : Fin 512) : EReal :=
  (v e - mean v) * FloatOps.rsqrt (F := Ideal) (φ := .f32) (mean (fun e => (v e - mean v) * (v e - mean v)) + Ideal.ofBits .f32 0x358637BD#32) * g e + b e

/-- The same, times its sigmoid. -/
def act (v g b : Fin 512 → EReal) (e : Fin 512) : EReal := lnorm v g b e * sg (lnorm v g b e)

/-- The named constant. -/
theorem named_val : (Named.named κ "neg_log2_e" 0xBFB8AA3B#32 : Ideal .f32) = ((-((Real.log 2)⁻¹) : ℝ) : EReal) :=
  IdealRules.named_const.ideal_named_scalar _ _ _ _ rfl

theorem sg_eq (x : EReal) : Ideal.div 1 (1 + Ideal.exp2 (x * ((-((Real.log 2)⁻¹) : ℝ) : EReal))) = sg x :=
  congrArg (fun e => Ideal.div 1 (1 + e)) (Experts.exp2_neg x)

/-- An entry of what a chunk stores. -/
theorem finish_apply (acc : FVec Ideal S64x512 .f32) (g b : Vec Ideal S1x512 .f32) (a : Fin 64) (e : Fin 512) :
    finish acc g b (ix2 a e) = act (fun e => acc (ix2 a e)) (fun e => g (ix2 (0 : Fin 1) e)) (fun e => b (ix2 (0 : Fin 1) e)) e := by
  unfold finish k0_pay107
  pointwise
  rw [named_val]
  exact congrArg (fun u => _ * u) (sg_eq _)

theorem pay7_apply (x3 x4 : Vec Ideal S512x512 .bf16) (a e : Fin 512) : k0_pay7 x3 x4 (ix2 a e) = x3 (ix2 a e) * sg (x4 (ix2 a e)) := by
  unfold k0_pay7
  pointwise
  rw [named_val]
  exact congrArg (fun u => _ * u) (sg_eq _)

/-- Reading a whole buffer back gives what it holds. -/
theorem read_full {sp : Space} {S : Shape} {e : EltTy} {M : Memref sig .tc sp S e} (h : M.IsWhole) (x : S.Idx → Elt Ideal e) (off : Fin S.rank → ℕ) (H : _) (j : S.Idx)
    (h0 : ∀ a, off a = 0) :
    View.readAt (Elt Ideal) M.view (Rect.unit off S.size H).toLoadRect (h.unread x) j = x j := by
  obtain rfl : off = fun _ => 0 := funext h0
  exact congrFun ((View.readAt_full (Val := Elt Ideal) M.view _ _).trans (h.read_unread x)) j

/-- The rows before a batch's first are zeros. -/
def Uat (p : BitVec 1) (x3 x4 : Vec Ideal S512x512 .bf16) (x5 x6 : Vec Ideal S32x512 .bf16) (k : Fin 544) (e : Fin 512) : EReal :=
  if h : k.val < 32 then (if p = 1#1 then x5 (ix2 (⟨k.val, h⟩ : Fin 32) e) * sg (x6 (ix2 (⟨k.val, h⟩ : Fin 32) e)) else 0)
  else x3 (ix2 (⟨k.val - 32, by omega⟩ : Fin 512) e) * sg (x4 (ix2 (⟨k.val - 32, by omega⟩ : Fin 512) e))

theorem Uat_lt (p : BitVec 1) (x3 x4 : Vec Ideal S512x512 .bf16) (x5 x6 : Vec Ideal S32x512 .bf16) (k : Fin 544) (e : Fin 512) (a : Fin 32) (h : k.val = a.val) :
    Uat p x3 x4 x5 x6 k e = if p = 1#1 then x5 (ix2 a e) * sg (x6 (ix2 a e)) else 0 := by
  obtain ⟨k, hk⟩ := k
  obtain rfl : k = a.val := h
  unfold Uat
  rw [dif_pos a.isLt]
theorem Uat_ge (p : BitVec 1) (x3 x4 : Vec Ideal S512x512 .bf16) (x5 x6 : Vec Ideal S32x512 .bf16) (k : Fin 544) (e : Fin 512) (a : Fin 512) (h : k.val = a.val + 32) :
    Uat p x3 x4 x5 x6 k e = x3 (ix2 a e) * sg (x4 (ix2 a e)) := by
  obtain ⟨k, hk⟩ := k
  obtain rfl : k = a.val + 32 := h
  unfold Uat
  rw [dif_neg (show ¬ a.val + 32 < 32 by omega)]
  rfl

/-- An entry lies in the rows of a piece. -/
theorem in_rows {R n C off : ℕ} (H : ∀ a, (![off, 0] : Fin 2 → ℕ) a + (⟨2, ![n, C]⟩ : Shape).size a ≤ (⟨2, ![R, C]⟩ : Shape).size a) (k : Fin R) (e : Fin C)
    (h1 : off ≤ k.val) (h2 : k.val < off + n) :
    (ix2 k e : (⟨2, ![R, C]⟩ : Shape).Idx) ∈ (Rect.unit (s := ⟨2, ![R, C]⟩) ![off, 0] (⟨2, ![n, C]⟩ : Shape).size H).set := by
  rw [LoadRect.mem_set]
  intro a
  match a with
  | ⟨0, _⟩ => exact ⟨k.val - off, show _ < n by omega, show k.val = off + 1 * (k.val - off) by omega⟩
  | ⟨1, _⟩ => exact ⟨e.val, e.isLt, show e.val = 0 + 1 * e.val by omega⟩

section

variable (c : Dev nD) (i : grid0.Coords) (arg4 : Memref sig .tc .vmem S512x512 .bf16) (harg4 : arg4.IsWhole) (arg5 : Memref sig .tc .vmem S512x512 .bf16) (harg5 : arg5.IsWhole) (arg6 : Memref sig .tc .vmem S32x512 .bf16) (harg6 : arg6.IsWhole) (arg7 : Memref sig .tc .vmem S32x512 .bf16) (harg7 : arg7.IsWhole)
  (arg12 : Memref sig .tc .vmem S31x512 .f32) (harg12 : arg12.IsWhole) (arg13 : Memref sig .tc .vmem S1x512 .f32) (harg13 : arg13.IsWhole) (arg14 : Memref sig .tc .vmem S1x512 .f32) (harg14 : arg14.IsWhole)
  (arg20 : Memref sig .tc .vmem S544x512 .f32) (arg21 : Memref sig .tc .vmem S7x536x512 .f32)
  (x3 : Vec Ideal S512x512 .bf16) (x4 : Vec Ideal S512x512 .bf16) (x5 : Vec Ideal S32x512 .bf16) (x6 : Vec Ideal S32x512 .bf16) (x11 : Vec Ideal S31x512 .f32) (x12 : Vec Ideal S1x512 .f32) (x13 : Vec Ideal S1x512 .f32)

theorem v83_apply (a : Fin 32) (e : Fin 512) : kernelRun0_A.sl.v83 (F := Ideal) c i arg6 harg6 arg7 harg7 x5 x6 (ix2 a e)
    = if kernelRun0_A.sl.v10 i = 1#1 then x5 (ix2 a e) * sg (x6 (ix2 a e)) else 0 := by
  have q : ∀ (p : BitVec 1) (y5 y6 : Vec Ideal S32x512 .bf16), k0_pay10 p (k0_pay8 y5) (k0_pay9 y6) (Named.named κ "neg_log2_e" 0xBFB8AA3B#32) (ix2 a e)
      = if p = 1#1 then y5 (ix2 a e) * sg (y6 (ix2 a e)) else 0 := by
    intro p y5 y6
    unfold k0_pay10 k0_pay8 k0_pay9
    pointwise
    by_cases hp : p = 1#1
    · rw [if_pos hp, named_val]
      exact (if_pos hp).trans (congrArg (fun u => y5 (ix2 a e) * u) (sg_eq _))
    · rw [if_neg hp]
      exact if_neg hp
  refine (q (kernelRun0_A.sl.v10 i) _ _ : kernelRun0_A.sl.v83 (F := Ideal) c i arg6 harg6 arg7 harg7 x5 x6 (ix2 a e) = _).trans ?_
  rw [read_full harg6 x5 _ _ (ix2 a e) (by decide), read_full harg7 x6 _ _ (ix2 a e) (by decide)]

theorem HS1_canon (k : Fin 544) (e : Fin 512) :
    View.canon (Val := Elt Ideal) (kernelRun0_A.sl.HS1_2 (F := Ideal) c i arg4 harg4 arg5 harg5 arg6 harg6 arg7 harg7 x3 x4 x5 x6) (ix2 k e)
      = Uat (kernelRun0_A.sl.v10 i) x3 x4 x5 x6 k e := by
  let G : S544x512.Idx → EReal := fun y => Uat (kernelRun0_A.sl.v10 i) x3 x4 x5 x6 (⟨(y 0).val, (y 0).isLt⟩ : Fin 544) (⟨(y 1).val, (y 1).isLt⟩ : Fin 512)
  have key := View.canon_append_of_piecesOf (Val := Elt Ideal) (e := .f32) G [] (kernelRun0_A.sl.HS1_2 (F := Ideal) c i arg4 harg4 arg5 harg5 arg6 harg6 arg7 harg7 x3 x4 x5 x6)
    ?_ (ix2 k e) ?_
  · rw [List.append_nil] at key; exact key
  · unfold kernelRun0_A.sl.HS1_2
    refine ⟨fun y => ?_, fun y => ?_, trivial⟩
    · obtain ⟨a, b, rfl⟩ : ∃ (a : Fin 32) (b : Fin 512), y = ix2 a b := ⟨y 0, y 1, eq_ix2 y⟩
      refine (v83_apply c i arg6 harg6 arg7 harg7 x5 x6 a b).trans ?_
      refine Eq.trans ?_ (Uat_lt _ _ _ _ _ _ _ a (show 0 + 1 * a.val = a.val by omega)).symm
      have hb : (⟨0 + 1 * b.val, by omega⟩ : Fin 512) = b := Fin.ext (by dsimp only; omega)
      show _ = if _ then x5 (ix2 a (⟨0 + 1 * b.val, by omega⟩ : Fin 512)) * sg (x6 (ix2 a (⟨0 + 1 * b.val, by omega⟩ : Fin 512))) else 0
      rw [hb]
    · obtain ⟨a, b, rfl⟩ : ∃ (a : Fin 512) (b : Fin 512), y = ix2 a b := ⟨y 0, y 1, eq_ix2 y⟩
      refine (pay7_apply _ _ a b).trans ?_
      rw [read_full harg4 x3 _ _ (ix2 a b) (by decide), read_full harg5 x4 _ _ (ix2 a b) (by decide)]
      refine Eq.trans ?_ (Uat_ge _ _ _ _ _ _ _ a (show 32 + 1 * a.val = a.val + 32 by omega)).symm
      have hb : (⟨0 + 1 * b.val, by omega⟩ : Fin 512) = b := Fin.ext (by dsimp only; omega)
      show _ = x3 (ix2 a (⟨0 + 1 * b.val, by omega⟩ : Fin 512)) * sg (x4 (ix2 a (⟨0 + 1 * b.val, by omega⟩ : Fin 512)))
      rw [hb]
  · unfold kernelRun0_A.sl.HS1_2
    by_cases h : k.val < 32
    · refine ⟨_, List.mem_cons_self, ?_⟩
      exact in_rows (n := 32) (by decide) k e (Nat.zero_le _) (by omega)
    · refine ⟨_, List.mem_cons_of_mem _ List.mem_cons_self, ?_⟩
      exact in_rows (n := 512) (by decide) k e (by omega) (by omega)

theorem ldU_apply (k : ℕ) (h : k + 64 ≤ 544) (a : Fin 64) (e : Fin 512) :
    ldU c i arg4 harg4 arg5 harg5 arg6 harg6 arg7 harg7 arg20 x3 x4 x5 x6 k h (ix2 a e) = Uat (kernelRun0_A.sl.v10 i) x3 x4 x5 x6 ⟨k + a.val, by omega⟩ e := by
  unfold ldU
  rw [View.readCov_eq_canon']
  refine Eq.trans (congrArg _ ?_) (HS1_canon c i arg4 harg4 arg5 harg5 arg6 harg6 arg7 harg7 x3 x4 x5 x6 ⟨k + a.val, by omega⟩ e)
  refine Reference.idx2 (show k + 1 * a.val = k + a.val by omega) (show 0 + 1 * e.val = e.val by omega)

/-- A copy of the gated values moved by `n - 543` rows. -/
def moved (n : BitVec 32) (v : FVec Ideal S544x512 .f32) : FVec Ideal S1x536x512 .f32 :=
  shapeCast S1x536x512 (extractStridedSlice S536x512 ![0, 0] (dynamicRotate 0 n none v rotates_S544x512_d0) slices_S544x512_o0_0_S536x512) shapeCasts_S536x512_S1x536x512

theorem moved_apply (n : BitVec 32) (b : ℕ) (hb : b < 7) (hn : n.toNat = 543 - b) (v : FVec Ideal S544x512 .f32) (a : Fin 536) (e : Fin 512) :
    moved n v (ix3 (0 : Fin 1) a e) = v (ix2 (⟨a.val + b + 1, by omega⟩ : Fin 544) e) := by
  unfold moved
  pointwise
  refine congrArg v (Reference.idx2 ?_ rfl)
  show (a.val + 544 - n.toNat % 544) % 544 = a.val + b + 1
  rw [hn]
  omega

theorem v84_apply (k : Fin 544) (e : Fin 512) :
    kernelRun0_A.sl.v84 (F := Ideal) c i arg4 harg4 arg5 harg5 arg6 harg6 arg7 harg7 arg20 x3 x4 x5 x6 (ix2 k e) = Uat (kernelRun0_A.sl.v10 i) x3 x4 x5 x6 k e := by
  unfold kernelRun0_A.sl.v84
  rw [View.readCov_eq_canon']
  refine Eq.trans (congrArg _ ?_) (HS1_canon c i arg4 harg4 arg5 harg5 arg6 harg6 arg7 harg7 x3 x4 x5 x6 k e)
  refine Reference.idx2 (show 0 + 1 * k.val = k.val by omega) (show 0 + 1 * e.val = e.val by omega)

theorem HS2_canon (b : Fin 7) (k : Fin 536) (e : Fin 512) :
    View.canon (Val := Elt Ideal) (kernelRun0_A.sl.HS2_7 (F := Ideal) c i arg4 harg4 arg5 harg5 arg6 harg6 arg7 harg7 arg20 x3 x4 x5 x6) (ix3 b k e)
      = Uat (kernelRun0_A.sl.v10 i) x3 x4 x5 x6 ⟨k.val + b.val + 1, by omega⟩ e := by
  let G : S7x536x512.Idx → EReal := fun y => Uat (kernelRun0_A.sl.v10 i) x3 x4 x5 x6
    (⟨(y 1).val + (y 0).val + 1, by have h1 : (y 1).val < 536 := (y 1).isLt; have h0 : (y 0).val < 7 := (y 0).isLt; omega⟩ : Fin 544) (⟨(y 2).val, (y 2).isLt⟩ : Fin 512)
  have step : ∀ (b : ℕ) (hb : b < 7) (n : BitVec 32) (hn : n.toNat = 543 - b) (H : _) (y : S1x536x512.Idx),
      moved n (kernelRun0_A.sl.v84 (F := Ideal) c i arg4 harg4 arg5 harg5 arg6 harg6 arg7 harg7 arg20 x3 x4 x5 x6) y = G ((Rect.unit (s := S7x536x512) ![b, 0, 0] S1x536x512.size H).toLoadRect.idx y) := by
    intro b hb n hn H y
    obtain ⟨z, a, e, rfl⟩ : ∃ (z : Fin 1) (a : Fin 536) (e : Fin 512), y = ix3 z a e := ⟨y 0, y 1, y 2, eq_ix3 y⟩
    obtain rfl : z = 0 := Subsingleton.elim _ _
    refine (moved_apply n b hb hn _ a e).trans ((v84_apply c i arg4 harg4 arg5 harg5 arg6 harg6 arg7 harg7 arg20 x3 x4 x5 x6 _ e).trans ?_)
    refine congr (congrArg (Uat _ _ _ _ _) (Fin.ext ?_)) (Fin.ext ?_)
    · show a.val + b + 1 = (0 + 1 * a.val) + (b + 1 * 0) + 1; omega
    · show e.val = 0 + 1 * e.val; omega
  have key := View.canon_append_of_piecesOf (Val := Elt Ideal) (e := .f32) G [] (kernelRun0_A.sl.HS2_7 (F := Ideal) c i arg4 harg4 arg5 harg5 arg6 harg6 arg7 harg7 arg20 x3 x4 x5 x6)
    ?_ (ix3 b k e) ?_
  · rw [List.append_nil] at key; exact key
  · unfold kernelRun0_A.sl.HS2_7
    exact ⟨step 6 (by decide) 537#32 rfl (by decide), step 5 (by decide) 538#32 rfl (by decide), step 4 (by decide) 539#32 rfl (by decide), step 3 (by decide) 540#32 rfl (by decide),
      step 2 (by decide) 541#32 rfl (by decide), step 1 (by decide) 542#32 rfl (by decide), step 0 (by decide) 543#32 rfl (by decide), trivial⟩
  · unfold kernelRun0_A.sl.HS2_7
    have inp : ∀ (b : Fin 7) (H : _), (ix3 b k e : S7x536x512.Idx) ∈ (Rect.unit (s := S7x536x512) ![b.val, 0, 0] S1x536x512.size H).set := by
      intro b H
      rw [LoadRect.mem_set]
      intro x
      match x with
      | ⟨0, _⟩ => exact ⟨0, Nat.one_pos, show b.val = b.val + 1 * 0 by omega⟩
      | ⟨1, _⟩ => exact ⟨k.val, k.isLt, show k.val = 0 + 1 * k.val by omega⟩
      | ⟨2, _⟩ => exact ⟨e.val, e.isLt, show e.val = 0 + 1 * e.val by omega⟩
    match b with
    | 0 => exact ⟨_, (.tail _ (.tail _ (.tail _ (.tail _ (.tail _ (.tail _ (List.Mem.head _))))))), inp 0 (by decide)⟩
    | 1 => exact ⟨_, (.tail _ (.tail _ (.tail _ (.tail _ (.tail _ (List.Mem.head _)))))), inp 1 (by decide)⟩
    | 2 => exact ⟨_, (.tail _ (.tail _ (.tail _ (.tail _ (List.Mem.head _))))), inp 2 (by decide)⟩
    | 3 => exact ⟨_, (.tail _ (.tail _ (.tail _ (List.Mem.head _)))), inp 3 (by decide)⟩
    | 4 => exact ⟨_, (.tail _ (.tail _ (List.Mem.head _))), inp 4 (by decide)⟩
    | 5 => exact ⟨_, (.tail _ (List.Mem.head _)), inp 5 (by decide)⟩
    | 6 => exact ⟨_, (List.Mem.head _), inp 6 (by decide)⟩

theorem ldS_apply (b k : ℕ) (hb : b + 1 ≤ 7) (h : k + 64 ≤ 536) (a : Fin 64) (e : Fin 512) :
    ldS c i arg4 harg4 arg5 harg5 arg6 harg6 arg7 harg7 arg20 arg21 x3 x4 x5 x6 b k hb h (ix2 a e)
      = Uat (kernelRun0_A.sl.v10 i) x3 x4 x5 x6 ⟨k + a.val + b + 1, by omega⟩ e := by
  have q : ∀ v : FVec Ideal S1x64x512 .f32, shapeCast S64x512 v shapeCasts_S1x64x512_S64x512 (ix2 a e) = v (ix3 (0 : Fin 1) a e) := by
    intro v
    pointwise
  unfold ldS
  refine (q _).trans ?_
  rw [View.readCov_eq_canon']
  refine Eq.trans (congrArg _ ?_) (HS2_canon c i arg4 harg4 arg5 harg5 arg6 harg6 arg7 harg7 arg20 x3 x4 x5 x6 ⟨b, hb⟩ ⟨k + a.val, by omega⟩ e)
  funext x
  apply Fin.ext
  match x with
  | ⟨0, _⟩ => show b + 1 * 0 = b; omega
  | ⟨1, _⟩ => show k + 1 * a.val = k + a.val; omega
  | ⟨2, _⟩ => show 0 + 1 * e.val = e.val; omega

theorem src_apply (q : Fin 8) (t : Fin 31) (a : Fin 64) (e : Fin 512) :
    src c i arg4 harg4 arg5 harg5 arg6 harg6 arg7 harg7 arg20 arg21 x3 x4 x5 x6 q t (ix2 a e)
      = Uat (kernelRun0_A.sl.v10 i) x3 x4 x5 x6 ⟨64 * q.val + a.val + (t.val + 2), by omega⟩ e := by
  unfold src
  split_ifs with h
  · refine (ldU_apply c i arg4 harg4 arg5 harg5 arg6 harg6 arg7 harg7 arg20 x3 x4 x5 x6 _ _ a e).trans (congrArg (fun k => Uat _ _ _ _ _ k e) (Fin.ext ?_))
    dsimp only; omega
  · refine (ldS_apply c i arg4 harg4 arg5 harg5 arg6 harg6 arg7 harg7 arg20 arg21 x3 x4 x5 x6 _ _ _ _ a e).trans (congrArg (fun k => Uat _ _ _ _ _ k e) (Fin.ext ?_))
    dsimp only; omega

theorem ldW_apply (t : Fin 31) (a : Fin 64) (e : Fin 512) : ldW arg12 harg12 x11 t (ix2 a e) = x11 (ix2 t e) := by
  have q : ∀ v : Vec Ideal S1x512 .f32, (broadcastTo S64x512 v broadcasts_S1x512_S64x512 : FVec Ideal S64x512 .f32) (ix2 a e) = v (ix2 (0 : Fin 1) e) := by
    intro v
    pointwise
  unfold ldW
  refine (q _).trans ?_
  refine Eq.trans (congrFun (harg12.read_unread x11) _ : _) (congrArg x11 ?_)
  exact Reference.idx2 (show t.val + 1 * 0 = t.val by omega) (show 0 + 1 * e.val = e.val by omega)

theorem ldV_apply (arg : Memref sig .tc .vmem S1x512 .f32) (h : arg.IsWhole) (x : Vec Ideal S1x512 .f32) (e : Fin 512) :
    ldV arg h x (ix2 (0 : Fin 1) e) = x (ix2 (0 : Fin 1) e) := read_full h x _ _ _ (by decide)

/-- A row of the long convolution: the sum of its taps. -/
def convC (p : BitVec 1) (x3 x4 : Vec Ideal S512x512 .bf16) (x5 x6 : Vec Ideal S32x512 .bf16) (x11 : Vec Ideal S31x512 .f32) (j : Fin 512) (e : Fin 512) : EReal :=
  ∑ t : Fin 31, x11 (ix2 t e) * Uat p x3 x4 x5 x6 ⟨j.val + (t.val + 2), by omega⟩ e

theorem chunk_apply (q : Fin 8) (a : Fin 64) (e : Fin 512) :
    chunk c i arg4 harg4 arg5 harg5 arg6 harg6 arg7 harg7 arg12 harg12 arg13 harg13 arg14 harg14 arg20 arg21 x3 x4 x5 x6 x11 x12 x13 q (ix2 a e)
      = act (convC (kernelRun0_A.sl.v10 i) x3 x4 x5 x6 x11 ⟨64 * q.val + a.val, by omega⟩) (fun e => x12 (ix2 (0 : Fin 1) e)) (fun e => x13 (ix2 (0 : Fin 1) e)) e := by
  unfold chunk
  refine (finish_apply _ _ _ a e).trans ?_
  have h1 : (fun e => taps (src c i arg4 harg4 arg5 harg5 arg6 harg6 arg7 harg7 arg20 arg21 x3 x4 x5 x6 q) (ldW arg12 harg12 x11) (ix2 a e))
      = convC (kernelRun0_A.sl.v10 i) x3 x4 x5 x6 x11 ⟨64 * q.val + a.val, by omega⟩ := by
    funext e
    refine (taps_apply _ _ _).trans (Finset.sum_congr rfl fun t _ => ?_)
    rw [src_apply, ldW_apply]
  have h2 : (fun e => ldV arg13 harg13 x12 (ix2 (0 : Fin 1) e)) = fun e => x12 (ix2 (0 : Fin 1) e) := funext fun e => ldV_apply arg13 harg13 x12 e
  have h3 : (fun e => ldV arg14 harg14 x13 (ix2 (0 : Fin 1) e)) = fun e => x13 (ix2 (0 : Fin 1) e) := funext fun e => ldV_apply arg14 harg14 x13 e
  rw [h1, h2, h3]

/-- A row of what the eight chunks store. -/
def rowC (p : BitVec 1) (x3 x4 : Vec Ideal S512x512 .bf16) (x5 x6 : Vec Ideal S32x512 .bf16) (x11 : Vec Ideal S31x512 .f32) (x12 x13 : Vec Ideal S1x512 .f32) (j e : Fin 512) : EReal :=
  act (convC p x3 x4 x5 x6 x11 j) (fun e => x12 (ix2 (0 : Fin 1) e)) (fun e => x13 (ix2 (0 : Fin 1) e)) e

theorem HS3_canon (j e : Fin 512) :
    View.canon (Val := Elt Ideal) (kernelRun0_A.sl.HS3_8 (F := Ideal) c i arg4 harg4 arg5 harg5 arg6 harg6 arg7 harg7 arg12 harg12 arg13 harg13 arg14 harg14 arg20 arg21 x3 x4 x5 x6 x11 x12 x13) (ix2 j e)
      = rowC (kernelRun0_A.sl.v10 i) x3 x4 x5 x6 x11 x12 x13 j e := by
  rw [chunks_eq]
  let G : S512x512.Idx → EReal := fun y => rowC (kernelRun0_A.sl.v10 i) x3 x4 x5 x6 x11 x12 x13 (⟨(y 0).val, (y 0).isLt⟩ : Fin 512) (⟨(y 1).val, (y 1).isLt⟩ : Fin 512)
  have step : ∀ (q : Fin 8) (H : _) (y : S64x512.Idx),
      chunk c i arg4 harg4 arg5 harg5 arg6 harg6 arg7 harg7 arg12 harg12 arg13 harg13 arg14 harg14 arg20 arg21 x3 x4 x5 x6 x11 x12 x13 q y = G ((Rect.unit (s := S512x512) ![64 * q.val, 0] S64x512.size H).toLoadRect.idx y) := by
    intro q H y
    obtain ⟨a, e, rfl⟩ : ∃ (a : Fin 64) (e : Fin 512), y = ix2 a e := ⟨y 0, y 1, eq_ix2 y⟩
    refine (chunk_apply c i arg4 harg4 arg5 harg5 arg6 harg6 arg7 harg7 arg12 harg12 arg13 harg13 arg14 harg14 arg20 arg21 x3 x4 x5 x6 x11 x12 x13 q a e).trans ?_
    refine congr (congrArg (rowC _ _ _ _ _ _ _ _) (Fin.ext ?_)) (Fin.ext ?_)
    · show 64 * q.val + a.val = 64 * q.val + 1 * a.val; omega
    · show e.val = 0 + 1 * e.val; omega
  have key := View.canon_append_of_piecesOf (Val := Elt Ideal) (e := .bf16) G [] (chunks c i arg4 harg4 arg5 harg5 arg6 harg6 arg7 harg7 arg12 harg12 arg13 harg13 arg14 harg14 arg20 arg21 x3 x4 x5 x6 x11 x12 x13)
    ?_ (ix2 j e) ?_
  · rw [List.append_nil] at key; exact key
  · unfold chunks
    exact ⟨step 7 (by decide), step 6 (by decide), step 5 (by decide), step 4 (by decide), step 3 (by decide), step 2 (by decide), step 1 (by decide), step 0 (by decide), trivial⟩
  · unfold chunks
    have hj := j.isLt
    obtain ⟨q, hq⟩ : ∃ q : Fin 8, j.val / 64 = q.val := ⟨⟨j.val / 64, by omega⟩, rfl⟩
    match q, hq with
    | 0, hq => replace hq : j.val / 64 = 0 := hq; exact ⟨_, (.tail _ (.tail _ (.tail _ (.tail _ (.tail _ (.tail _ (.tail _ (List.Mem.head _)))))))), in_rows (n := 64) (by decide) j e (Nat.zero_le _) (show j.val < 0 + 64 by omega)⟩
    | 1, hq => replace hq : j.val / 64 = 1 := hq; exact ⟨_, (.tail _ (.tail _ (.tail _ (.tail _ (.tail _ (.tail _ (List.Mem.head _))))))), in_rows (n := 64) (by decide) j e (show 64 ≤ j.val by omega) (show j.val < 64 + 64 by omega)⟩
    | 2, hq => replace hq : j.val / 64 = 2 := hq; exact ⟨_, (.tail _ (.tail _ (.tail _ (.tail _ (.tail _ (List.Mem.head _)))))), in_rows (n := 64) (by decide) j e (show 128 ≤ j.val by omega) (show j.val < 128 + 64 by omega)⟩
    | 3, hq => replace hq : j.val / 64 = 3 := hq; exact ⟨_, (.tail _ (.tail _ (.tail _ (.tail _ (List.Mem.head _))))), in_rows (n := 64) (by decide) j e (show 192 ≤ j.val by omega) (show j.val < 192 + 64 by omega)⟩
    | 4, hq => replace hq : j.val / 64 = 4 := hq; exact ⟨_, (.tail _ (.tail _ (.tail _ (List.Mem.head _)))), in_rows (n := 64) (by decide) j e (show 256 ≤ j.val by omega) (show j.val < 256 + 64 by omega)⟩
    | 5, hq => replace hq : j.val / 64 = 5 := hq; exact ⟨_, (.tail _ (.tail _ (List.Mem.head _))), in_rows (n := 64) (by decide) j e (show 320 ≤ j.val by omega) (show j.val < 320 + 64 by omega)⟩
    | 6, hq => replace hq : j.val / 64 = 6 := hq; exact ⟨_, (.tail _ (List.Mem.head _)), in_rows (n := 64) (by decide) j e (show 384 ≤ j.val by omega) (show j.val < 384 + 64 by omega)⟩
    | 7, hq => replace hq : j.val / 64 = 7 := hq; exact ⟨_, (List.Mem.head _), in_rows (n := 64) (by decide) j e (show 448 ≤ j.val by omega) (show j.val < 448 + 64 by omega)⟩

end

end Cert.Proof.Tail

end
-- ==== Proof.TailOut.lean ====
/-
  The mixer tail's body over the reals, part three: the short convolution, the three products and the block that a point stores.
-/
module

public import proofs.«01_k».proof.Proof.TailBody

@[expose] public section

set_option maxRecDepth 16384

noncomputable section

namespace Cert.Proof.Tail

open Cert.Kernel3Ideal Cert.Kernel3Ideal.Gen

open Idealize.ShloMosaic
open Idealize.ShloMosaic.TcCoe Idealize.ShloMosaic.Tactic

/-- What the short convolution reads: the products of two columns of the rows, zeros before a batch's first. -/
def Cat (p : BitVec 1) (x1 : Vec Ideal S512x1536 .bf16) (x2 : Vec Ideal S16x1536 .bf16) (k : Fin 520) (e : Fin 512) : EReal :=
  if h : k.val < 8 then (if p = 1#1 then x2 (ix2 (⟨8 + k.val, by omega⟩ : Fin 16) (⟨512 + e.val, by omega⟩ : Fin 1536)) * x2 (ix2 (⟨8 + k.val, by omega⟩ : Fin 16) (⟨1024 + e.val, by omega⟩ : Fin 1536)) else 0)
  else x1 (ix2 (⟨k.val - 8, by omega⟩ : Fin 512) (⟨512 + e.val, by omega⟩ : Fin 1536)) * x1 (ix2 (⟨k.val - 8, by omega⟩ : Fin 512) (⟨1024 + e.val, by omega⟩ : Fin 1536))

/-- A row of the first branch before its product. -/
def rowA (p : BitVec 1) (x1 : Vec Ideal S512x1536 .bf16) (x2 : Vec Ideal S16x1536 .bf16) (x9 : Vec Ideal S3x512 .f32) (j e : Fin 512) : EReal :=
  x1 (ix2 j (⟨e.val, by omega⟩ : Fin 1536)) * (x9 (ix2 (0 : Fin 3) e) * Cat p x1 x2 ⟨j.val + 6, by omega⟩ e + x9 (ix2 (1 : Fin 3) e) * Cat p x1 x2 ⟨j.val + 7, by omega⟩ e
    + x9 (ix2 (2 : Fin 3) e) * Cat p x1 x2 ⟨j.val + 8, by omega⟩ e)

section

variable (c : Dev nD) (i : grid0.Coords) (arg1 : Memref sig .tc .vmem S512x3072 .bf16) (harg1 : arg1.IsWhole) (arg2 : Memref sig .tc .vmem S512x1536 .bf16) (harg2 : arg2.IsWhole) (arg3 : Memref sig .tc .vmem S16x1536 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S32x512 .bf16) (harg6 : arg6.IsWhole) (arg7 : Memref sig .tc .vmem S32x512 .bf16) (harg7 : arg7.IsWhole) (arg8 : Memref sig .tc .vmem S512x512 .bf16) (harg8 : arg8.IsWhole) (arg9 : Memref sig .tc .vmem S512x1024 .f32) (harg9 : arg9.IsWhole) (arg10 : Memref sig .tc .vmem S3x512 .f32) (harg10 : arg10.IsWhole) (arg11 : Memref sig .tc .vmem S512x1024 .bf16) (harg11 : arg11.IsWhole) (arg12 : Memref sig .tc .vmem S31x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S512x1024 .bf16) (harg15 : arg15.IsWhole) (arg16 : Memref sig .tc .vmem S512x1024 .bf16) (harg16 : arg16.IsWhole) (arg17 : Memref sig .tc .vmem S1024x1024 .bf16) (harg17 : arg17.IsWhole) (arg18 : Memref sig .tc .vmem S512x1024 .f32) (harg18 : arg18.IsWhole) (arg19 : Memref sig .tc .vmem S520x512 .f32) (harg19 : arg19.IsWhole) (arg20 : Memref sig .tc .vmem S544x512 .f32) (harg20 : arg20.IsWhole) (arg21 : Memref sig .tc .vmem S7x536x512 .f32) (harg21 : arg21.IsWhole) (arg22 : Memref sig .tc .vmem S512x512 .bf16) (harg22 : arg22.IsWhole)
  (x0 : Vec Ideal S512x3072 .bf16) (x1 : Vec Ideal S512x1536 .bf16) (x2 : Vec Ideal S16x1536 .bf16) (x3 : Vec Ideal S512x512 .bf16) (x4 : Vec Ideal S512x512 .bf16) (x5 : Vec Ideal S32x512 .bf16) (x6 : Vec Ideal S32x512 .bf16) (x7 : Vec Ideal S512x512 .bf16) (x8 : Vec Ideal S512x1024 .f32) (x9 : Vec Ideal S3x512 .f32) (x10 : Vec Ideal S512x1024 .bf16) (x11 : Vec Ideal S31x512 .f32) (x12 : Vec Ideal S1x512 .f32) (x13 : Vec Ideal S1x512 .f32) (x14 : Vec Ideal S512x1024 .bf16) (x15 : Vec Ideal S512x1024 .bf16) (x16 : Vec Ideal S1024x1024 .bf16)

theorem v32_apply (a : Fin 8) (e : Fin 512) : kernelRun0_A.sl.v32 (F := Ideal) c i arg3 harg3 x2 (ix2 a e)
    = if kernelRun0_A.sl.v10 i = 1#1 then x2 (ix2 (⟨8 + a.val, by omega⟩ : Fin 16) (⟨512 + e.val, by omega⟩ : Fin 1536)) * x2 (ix2 (⟨8 + a.val, by omega⟩ : Fin 16) (⟨1024 + e.val, by omega⟩ : Fin 1536)) else 0 := by
  have q : ∀ y : Vec Ideal S16x1536 .bf16, k0_pay4 i y (ix2 a e)
      = if kernelRun0_A.sl.v10 i = 1#1 then y (ix2 (⟨8 + a.val, by omega⟩ : Fin 16) (⟨512 + e.val, by omega⟩ : Fin 1536)) * y (ix2 (⟨8 + a.val, by omega⟩ : Fin 16) (⟨1024 + e.val, by omega⟩ : Fin 1536)) else 0 := by
    intro y
    show shapeCast S8x512 (Scalar.select (kernelRun0_A.sl.v10 i) (mulf (extractStridedSlice S8x512 ![0, 512] (extractStridedSlice S8x1536 ![8, 0] (extf .f32 y bitsLt_bf16_f32) slices_S16x1536_o8_0_S8x1536) slices_S8x1536_o0_512_S8x512)
      (extractStridedSlice S8x512 ![0, 1024] (extractStridedSlice S8x1536 ![8, 0] (extf .f32 y bitsLt_bf16_f32) slices_S16x1536_o8_0_S8x1536) slices_S8x1536_o0_1024_S8x512))
      (broadcast S8x512 (Scalar.ofBits .f32 0x00000000#32) : FVec Ideal S8x512 .f32)) shapeCasts_S8x512_S8x512 (ix2 a e) = _
    generalize kernelRun0_A.sl.v10 i = p
    pointwise
    by_cases hp : p = 1#1
    · rw [if_pos hp]
      exact if_pos hp
    · rw [if_neg hp]
      exact if_neg hp
  refine (q _ : kernelRun0_A.sl.v32 (F := Ideal) c i arg3 harg3 x2 (ix2 a e) = _).trans ?_
  rw [read_full harg3 x2 _ _ (ix2 _ _) (by decide), read_full harg3 x2 _ _ (ix2 _ _) (by decide)]

theorem v21_apply (a e : Fin 512) : kernelRun0_A.sl.v21 (F := Ideal) c arg2 harg2 x1 (ix2 a e)
    = x1 (ix2 a (⟨512 + e.val, by omega⟩ : Fin 1536)) * x1 (ix2 a (⟨1024 + e.val, by omega⟩ : Fin 1536)) := by
  have q : ∀ y : Vec Ideal S512x1536 .bf16, k0_pay3 y (ix2 a e) = y (ix2 a (⟨512 + e.val, by omega⟩ : Fin 1536)) * y (ix2 a (⟨1024 + e.val, by omega⟩ : Fin 1536)) := by
    intro y
    unfold k0_pay3
    pointwise
  refine (q _ : kernelRun0_A.sl.v21 (F := Ideal) c arg2 harg2 x1 (ix2 a e) = _).trans ?_
  rw [read_full harg2 x1 _ _ (ix2 _ _) (by decide), read_full harg2 x1 _ _ (ix2 _ _) (by decide)]

theorem Cat_lt (p : BitVec 1) (k : Fin 520) (e : Fin 512) (a : Fin 8) (h : k.val = a.val) :
    Cat p x1 x2 k e = if p = 1#1 then x2 (ix2 (⟨8 + a.val, by omega⟩ : Fin 16) (⟨512 + e.val, by omega⟩ : Fin 1536)) * x2 (ix2 (⟨8 + a.val, by omega⟩ : Fin 16) (⟨1024 + e.val, by omega⟩ : Fin 1536)) else 0 := by
  obtain ⟨k, hk⟩ := k
  obtain rfl : k = a.val := h
  unfold Cat
  rw [dif_pos a.isLt]
theorem Cat_ge (p : BitVec 1) (k : Fin 520) (e : Fin 512) (a : Fin 512) (h : k.val = a.val + 8) :
    Cat p x1 x2 k e = x1 (ix2 a (⟨512 + e.val, by omega⟩ : Fin 1536)) * x1 (ix2 a (⟨1024 + e.val, by omega⟩ : Fin 1536)) := by
  obtain ⟨k, hk⟩ := k
  obtain rfl : k = a.val + 8 := h
  unfold Cat
  rw [dif_neg (show ¬ a.val + 8 < 8 by omega)]
  rfl

theorem HS0_canon (k : Fin 520) (e : Fin 512) :
    View.canon (Val := Elt Ideal) (kernelRun0_A.sl.HS0_2 (F := Ideal) c i arg2 harg2 arg3 harg3 x1 x2) (ix2 k e) = Cat (kernelRun0_A.sl.v10 i) x1 x2 k e := by
  let G : S520x512.Idx → EReal := fun y => Cat (kernelRun0_A.sl.v10 i) x1 x2 (⟨(y 0).val, (y 0).isLt⟩ : Fin 520) (⟨(y 1).val, (y 1).isLt⟩ : Fin 512)
  have key := View.canon_append_of_piecesOf (Val := Elt Ideal) (e := .f32) G [] (kernelRun0_A.sl.HS0_2 (F := Ideal) c i arg2 harg2 arg3 harg3 x1 x2)
    ?_ (ix2 k e) ?_
  · rw [List.append_nil] at key; exact key
  · unfold kernelRun0_A.sl.HS0_2
    refine ⟨fun y => ?_, fun y => ?_, trivial⟩
    · obtain ⟨a, b, rfl⟩ : ∃ (a : Fin 8) (b : Fin 512), y = ix2 a b := ⟨y 0, y 1, eq_ix2 y⟩
      refine (v32_apply c i arg3 harg3 x2 a b).trans ((Cat_lt x1 x2 _ ⟨a.val, by omega⟩ b a rfl).symm.trans ?_)
      exact congr (congrArg (Cat _ _ _) (Fin.ext (show a.val = 0 + 1 * a.val by omega))) (Fin.ext (show b.val = 0 + 1 * b.val by omega))
    · obtain ⟨a, b, rfl⟩ : ∃ (a : Fin 512) (b : Fin 512), y = ix2 a b := ⟨y 0, y 1, eq_ix2 y⟩
      refine (v21_apply c arg2 harg2 x1 a b).trans ((Cat_ge x1 x2 (kernelRun0_A.sl.v10 i) ⟨a.val + 8, by omega⟩ b a rfl).symm.trans ?_)
      exact congr (congrArg (Cat _ _ _) (Fin.ext (show a.val + 8 = 8 + 1 * a.val by omega))) (Fin.ext (show b.val = 0 + 1 * b.val by omega))
  · unfold kernelRun0_A.sl.HS0_2
    by_cases h : k.val < 8
    · exact ⟨_, (List.Mem.head _), in_rows (n := 8) (by decide) k e (Nat.zero_le _) (by omega)⟩
    · exact ⟨_, (.tail _ (List.Mem.head _)), in_rows (n := 512) (by decide) k e (by omega) (by omega)⟩

theorem ldC_apply (o : ℕ) (H : _) (a e : Fin 512) (ho : a.val + o < 520) :
    arg19.view.readCov (kernelRun0_A.sl.HS0_2 (F := Ideal) c i arg2 harg2 arg3 harg3 x1 x2) (Rect.unit (s := S520x512) ![o, 0] S512x512.size H).toLoadRect (ix2 a e)
      = Cat (kernelRun0_A.sl.v10 i) x1 x2 ⟨a.val + o, ho⟩ e := by
  rw [View.readCov_eq_canon']
  refine Eq.trans (congrArg _ ?_) (HS0_canon c i arg2 harg2 arg3 harg3 x1 x2 ⟨a.val + o, ho⟩ e)
  exact Reference.idx2 (show o + 1 * a.val = a.val + o by omega) (show 0 + 1 * e.val = e.val by omega)

theorem ldR_apply (t : Fin 3) (H : _) (e : Fin 512) :
    View.readAt (Elt Ideal) arg10.view (Rect.unit (s := S3x512) ![t.val, 0] S1x512.size H).toLoadRect (harg10.unread x9) (ix2 (0 : Fin 1) e) = x9 (ix2 t e) := by
  refine Eq.trans (congrFun (harg10.read_unread x9) _ : _) (congrArg x9 ?_)
  exact Reference.idx2 (show t.val + 1 * 0 = t.val by omega) (show 0 + 1 * e.val = e.val by omega)

/-- The first branch. -/
theorem r_apply (j : Fin 512) (d : Fin 1024) : kernelRun0_A.sl.r (F := Ideal) c i arg2 harg2 arg3 harg3 arg10 harg10 arg11 harg11 arg19 x1 x2 x9 x10 (ix2 j d)
    = ∑ k : Fin 512, rowA (kernelRun0_A.sl.v10 i) x1 x2 x9 j k * x10 (ix2 k d) := by
  have q : ∀ (y : Vec Ideal S512x1536 .bf16) (w0 w1 w2 : Vec Ideal S1x512 .f32) (s0 s1 s2 : Vec Ideal S512x512 .f32) (w : Vec Ideal S512x1024 .bf16),
      k0_pay6 (k0_pay2 y) (k0_pay5 w0 s0) w1 s1 w2 s2 w (ix2 j d)
        = ∑ k : Fin 512, (y (ix2 j (⟨k.val, by omega⟩ : Fin 1536)) * (w0 (ix2 (0 : Fin 1) k) * s0 (ix2 j k) + w1 (ix2 (0 : Fin 1) k) * s1 (ix2 j k) + w2 (ix2 (0 : Fin 1) k) * s2 (ix2 j k))) * w (ix2 k d) := by
    intro y w0 w1 w2 s0 s1 s2 w
    unfold k0_pay6 k0_pay2 k0_pay5
    pointwise
  refine (q _ _ _ _ _ _ _ _ : kernelRun0_A.sl.r (F := Ideal) c i arg2 harg2 arg3 harg3 arg10 harg10 arg11 harg11 arg19 x1 x2 x9 x10 (ix2 j d) = _).trans ?_
  refine Finset.sum_congr rfl fun k _ => ?_
  unfold rowA
  rw [read_full harg2 x1 _ _ (ix2 _ _) (by decide), read_full harg11 x10 _ _ (ix2 _ _) (by decide)]
  refine congrArg (fun u => x1 _ * u * x10 _) ?_
  refine congr (congrArg HAdd.hAdd (congr (congrArg HAdd.hAdd (congr (congrArg HMul.hMul ?_) ?_)) (congr (congrArg HMul.hMul ?_) ?_))) (congr (congrArg HMul.hMul ?_) ?_)
  · exact ldR_apply arg10 harg10 x9 0 _ k
  · exact ldC_apply c i arg2 harg2 arg3 harg3 arg19 x1 x2 6 _ j k _
  · exact ldR_apply arg10 harg10 x9 1 _ k
  · exact ldC_apply c i arg2 harg2 arg3 harg3 arg19 x1 x2 7 _ j k _
  · exact ldR_apply arg10 harg10 x9 2 _ k
  · exact ldC_apply c i arg2 harg2 arg3 harg3 arg19 x1 x2 8 _ j k _

/-- The third. -/
theorem r19_apply (j : Fin 512) (d : Fin 1024) : kernelRun0_A.sl.r_19 (F := Ideal) c i arg4 harg4 arg5 harg5 arg6 harg6 arg7 harg7 arg12 harg12 arg13 harg13 arg14 harg14 arg15 harg15 arg20 arg21 arg22 x3 x4 x5 x6 x11 x12 x13 x14 (ix2 j d)
    = ∑ k : Fin 512, rowC (kernelRun0_A.sl.v10 i) x3 x4 x5 x6 x11 x12 x13 j k * x14 (ix2 k d) := by
  have q : ∀ (y : Vec Ideal S512x512 .bf16) (w : Vec Ideal S512x1024 .bf16), k0_pay108 y w (ix2 j d) = ∑ k : Fin 512, y (ix2 j k) * w (ix2 k d) := by
    intro y w
    unfold k0_pay108
    pointwise
  refine (q _ _ : kernelRun0_A.sl.r_19 (F := Ideal) c i arg4 harg4 arg5 harg5 arg6 harg6 arg7 harg7 arg12 harg12 arg13 harg13 arg14 harg14 arg15 harg15 arg20 arg21 arg22 x3 x4 x5 x6 x11 x12 x13 x14 (ix2 j d) = _).trans ?_
  refine Finset.sum_congr rfl fun k _ => ?_
  rw [read_full harg15 x14 _ _ (ix2 _ _) (by decide)]
  refine congrArg (fun u => u * x14 _) ?_
  unfold kernelRun0_A.sl.v1856
  rw [View.readCov_eq_canon']
  refine Eq.trans (congrArg _ ?_) (HS3_canon c i arg4 harg4 arg5 harg5 arg6 harg6 arg7 harg7 arg12 harg12 arg13 harg13 arg14 harg14 arg20 arg21 x3 x4 x5 x6 x11 x12 x13 j k)
  exact Reference.idx2 (show 0 + 1 * j.val = j.val by omega) (show 0 + 1 * k.val = k.val by omega)

/-- The second. -/
theorem r20_apply (j : Fin 512) (d : Fin 1024) : kernelRun0_A.sl.r_20 (F := Ideal) c arg8 harg8 arg16 harg16 x7 x15 (ix2 j d) = ∑ k : Fin 512, x7 (ix2 j k) * x15 (ix2 k d) := by
  have q : ∀ (y : Vec Ideal S512x512 .bf16) (w : Vec Ideal S512x1024 .bf16), k0_pay109 y w (ix2 j d) = ∑ k : Fin 512, y (ix2 j k) * w (ix2 k d) := by
    intro y w
    unfold k0_pay109
    pointwise
  refine (q _ _ : kernelRun0_A.sl.r_20 (F := Ideal) c arg8 harg8 arg16 harg16 x7 x15 (ix2 j d) = _).trans ?_
  refine Finset.sum_congr rfl fun k _ => ?_
  rw [read_full harg8 x7 _ _ (ix2 _ _) (by decide), read_full harg16 x15 _ _ (ix2 _ _) (by decide)]

/-- The gated sum of the three branches. -/
def merged (g : Fin 3072 → EReal) (a b v : Fin 1024 → EReal) (e : Fin 1024) : EReal :=
  sg (g ⟨e.val, by omega⟩) * a e + sg (g ⟨1024 + e.val, by omega⟩) * b e + sg (g ⟨2048 + e.val, by omega⟩) * v e

/-- The last product, over the rows added to. -/
theorem pay1_apply (va vb vc : FVec Ideal S512x1024 .f32) (y : Vec Ideal S512x3072 .bf16) (x8 : Vec Ideal S512x1024 .f32) (x16 : Vec Ideal S1024x1024 .bf16) (j : Fin 512) (d : Fin 1024) :
    k0_pay1 va vc vb y (k0_pay111 (k0_pay110 y) (Named.named κ "neg_log2_e" 0xBFB8AA3B#32)) k0_pay112 x8 x16 (ix2 j d)
      = x8 (ix2 j d) + ∑ e : Fin 1024, merged (fun n => y (ix2 j n)) (fun e => va (ix2 j e)) (fun e => vb (ix2 j e)) (fun e => vc (ix2 j e)) e * x16 (ix2 e d) := by
  unfold k0_pay1 k0_pay110 k0_pay111 k0_pay112
  pointwise
  refine congrArg (fun u => x8 (ix2 j d) + u) (Finset.sum_congr rfl fun e _ => ?_)
  rw [named_val]
  unfold merged
  rw [← sg_eq, ← sg_eq, ← sg_eq]
  rfl

/-- An entry of the block a point stores. -/
theorem out_apply (j : Fin 512) (d : Fin 1024) :
    out0_A_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14 x15 x16 (ix2 j d)
      = x8 (ix2 j d) + ∑ e : Fin 1024, merged (fun n => x0 (ix2 j n)) (fun e => ∑ k : Fin 512, rowA (kernelRun0_A.sl.v10 i) x1 x2 x9 j k * x10 (ix2 k e)) (fun e => ∑ k : Fin 512, x7 (ix2 j k) * x15 (ix2 k e))
          (fun e => ∑ k : Fin 512, rowC (kernelRun0_A.sl.v10 i) x3 x4 x5 x6 x11 x12 x13 j k * x14 (ix2 k e)) e * x16 (ix2 e d) := by
  unfold out0_A_17
  dsimp only [kernelRun0_A]
  rw [View.read_writes_junk_eq_canon]
  refine (congrFun (View.canon_cons_unit_lit (S := S512x1024) inb_S512x1024_S512x1024_0_0 _ [] (by decide)) (ix2 j d)).trans ?_
  refine (pay1_apply _ _ _ (kernelRun0_A.sl.r_21 c arg1 harg1 x0) _ _ j d).trans ?_
  have h0 : (fun n => kernelRun0_A.sl.r_21 (F := Ideal) c arg1 harg1 x0 (ix2 j n)) = fun n => x0 (ix2 j n) := funext fun n => read_full harg1 x0 _ _ (ix2 j n) (by decide)
  have ha := fun e : Fin 1024 => r_apply c i arg2 harg2 arg3 harg3 arg10 harg10 arg11 harg11 arg19 x1 x2 x9 x10 j e
  have hb := fun e : Fin 1024 => r20_apply c arg8 harg8 arg16 harg16 x7 x15 j e
  have hc := fun e : Fin 1024 => r19_apply c i arg4 harg4 arg5 harg5 arg6 harg6 arg7 harg7 arg12 harg12 arg13 harg13 arg14 harg14 arg15 harg15 arg20 arg21 arg22 x3 x4 x5 x6 x11 x12 x13 x14 j e
  rw [h0, funext ha, funext hb, funext hc]
  refine congr (congrArg HAdd.hAdd (read_full harg9 x8 _ _ (ix2 j d) (by decide))) (Finset.sum_congr rfl fun e _ => ?_)
  exact congrArg (fun u => _ * u) (read_full harg17 x16 _ _ (ix2 e d) (by decide))

end

end Cert.Proof.Tail

end
-- ==== Proof.TailSpec.lean ====
/-
  The mixer tail as one formula over its arguments: what every entry of the result is.
-/
module

public import proofs.«01_k».proof.Proof.TailOut
public import proofs.«01_k».proof.Proof.InReference

@[expose] public section

noncomputable section

namespace Cert.Proof.Tail

open Idealize.ShloMosaic

/-- A column's entry `s` rows before row `R`, zero before the first row of the batch. -/
def back (f : Fin 16384 → EReal) (R : Fin 16384) (s : ℕ) : EReal := if s ≤ R.val % 2048 then f ⟨R.val - s, by omega⟩ else 0

theorem back_in (f : Fin 16384 → EReal) (R : Fin 16384) (s : ℕ) (h : s ≤ R.val % 2048) (Q : Fin 16384) (hQ : Q.val + s = R.val) : back f R s = f Q := by
  unfold back
  rw [if_pos h]
  exact congrArg f (Fin.ext (by dsimp only; omega))
theorem back_out (f : Fin 16384 → EReal) (R : Fin 16384) (s : ℕ) (h : ¬ s ≤ R.val % 2048) : back f R s = 0 := if_neg h

variable (main : (⟨2, ![16384, 5632]⟩ : Shape).Idx → EReal) (tail : (⟨2, ![16384, 1280]⟩ : Shape).Idx → EReal) (att : (⟨2, ![16384, 512]⟩ : Shape).Idx → EReal)
  (x : (⟨3, ![8, 2048, 1024]⟩ : Shape).Idx → EReal) (aw : (⟨2, ![3, 512]⟩ : Shape).Idx → EReal) (wa wb : (⟨2, ![512, 1024]⟩ : Shape).Idx → EReal)
  (cw : (⟨2, ![31, 512]⟩ : Shape).Idx → EReal) (g b : (⟨1, ![512]⟩ : Shape).Idx → EReal) (wc : (⟨2, ![512, 1024]⟩ : Shape).Idx → EReal)
  (wo : (⟨2, ![1024, 1024]⟩ : Shape).Idx → EReal)

/-- The gated values of the third branch. -/
def glu (e : Fin 512) (R : Fin 16384) : EReal := tail (ix2 R (⟨e.val, by omega⟩ : Fin 1280)) * sg (tail (ix2 R (⟨512 + e.val, by omega⟩ : Fin 1280)))

/-- The products that the first branch convolves. -/
def pair (e : Fin 512) (R : Fin 16384) : EReal := main (ix2 R (⟨3584 + e.val, by omega⟩ : Fin 5632)) * main (ix2 R (⟨4096 + e.val, by omega⟩ : Fin 5632))

/-- The first branch before its product. -/
def branchA (R : Fin 16384) (e : Fin 512) : EReal :=
  main (ix2 R (⟨3072 + e.val, by omega⟩ : Fin 5632)) * (aw (ix2 (0 : Fin 3) e) * back (pair main e) R 2 + aw (ix2 (1 : Fin 3) e) * back (pair main e) R 1 + aw (ix2 (2 : Fin 3) e) * back (pair main e) R 0)

/-- The third branch before its product. -/
def branchC (R : Fin 16384) (e : Fin 512) : EReal :=
  act (fun e => ∑ t : Fin 31, cw (ix2 t e) * back (glu tail e) R (30 - t.val)) (fun e => g (ix1 e)) (fun e => b (ix1 e)) e

/-- An entry of the result. -/
def entry (R : Fin 16384) (d : Fin 1024) : EReal :=
  InReference.row x R d + ∑ e : Fin 1024, merged (fun n => main (ix2 R (⟨n.val, by omega⟩ : Fin 5632))) (fun e => ∑ k : Fin 512, branchA main aw R k * wa (ix2 k e))
    (fun e => ∑ k : Fin 512, att (ix2 R k) * wb (ix2 k e)) (fun e => ∑ k : Fin 512, branchC tail cw g b R k * wc (ix2 k e)) e * wo (ix2 e d)

end Cert.Proof.Tail

end
-- ==== Proof.TailValue.lean ====
/-
  The mixer tail's kernel over the reals: its result, entry by entry.
-/
module

public import proofs.«01_k».proof.Proof.TailSpec

@[expose] public section

set_option maxRecDepth 16384

noncomputable section

namespace Cert.Proof.Tail

open Cert.Kernel3Ideal Cert.Kernel3Ideal.Gen

open Idealize.ShloMosaic
open Idealize.ShloMosaic.TcCoe Idealize.ShloMosaic.Tactic
open Idealize.ShloMosaic.Pipeline (Dat Cfg Window)

/-! ## The arrays the call reads -/

variable (m : (ℓ : Loc nD τ sig) → Buf (Elt Ideal) ℓ) (c : Dev nD)

abbrev aMain : FVec Ideal S16384x5632 .bf16 := m ((c.tc : Thread nD τ).loc main_arg0)
abbrev aTail : FVec Ideal S16384x1280 .bf16 := m ((c.tc : Thread nD τ).loc main_arg1)
abbrev aAtt : FVec Ideal S16384x512 .bf16 := m ((c.tc : Thread nD τ).loc main_arg2)
abbrev aX : FVec Ideal S8x2048x1024 .f32 := m ((c.tc : Thread nD τ).loc main_arg3)
abbrev aAw : FVec Ideal S3x512 .f32 := m ((c.tc : Thread nD τ).loc main_arg4)
abbrev aWa : FVec Ideal S512x1024 .f32 := m ((c.tc : Thread nD τ).loc main_arg5)
abbrev aWb : FVec Ideal S512x1024 .f32 := m ((c.tc : Thread nD τ).loc main_arg6)
abbrev aCw : FVec Ideal S31x512 .f32 := m ((c.tc : Thread nD τ).loc main_arg7)
abbrev aG : FVec Ideal S512 .f32 := m ((c.tc : Thread nD τ).loc main_arg8)
abbrev aB : FVec Ideal S512 .f32 := m ((c.tc : Thread nD τ).loc main_arg9)
abbrev aWc : FVec Ideal S512x1024 .f32 := m ((c.tc : Thread nD τ).loc main_arg10)
abbrev aWo : FVec Ideal S1024x1024 .f32 := m ((c.tc : Thread nD τ).loc main_arg11)

theorem V_v0 : V m c main_v0 = (shapeCast S16384x1024 (aX m c) shapeCasts_S8x2048x1024_S16384x1024 : FVec Ideal S16384x1024 .f32) := by
  unfold V
  simp only [hostOps0]
  after_results_simp <;> (try dsimp only [Matrix.cons_val]) <;> (try after_results_simp) <;> rfl
theorem V_v1 : V m c main_v1 = (truncf .bf16 (aWa m c) bitsLt_bf16_f32 : FVec Ideal S512x1024 .bf16) := by
  unfold V
  simp only [hostOps0]
  after_results_simp <;> (try dsimp only [Matrix.cons_val]) <;> (try after_results_simp) <;> rfl
theorem V_v2 : V m c main_v2 = (shapeCast S1x512 (aG m c) shapeCasts_S512_S1x512 : FVec Ideal S1x512 .f32) := by
  unfold V
  simp only [hostOps0]
  after_results_simp <;> (try dsimp only [Matrix.cons_val]) <;> (try after_results_simp) <;> rfl
theorem V_v3 : V m c main_v3 = (shapeCast S1x512 (aB m c) shapeCasts_S512_S1x512 : FVec Ideal S1x512 .f32) := by
  unfold V
  simp only [hostOps0]
  after_results_simp <;> (try dsimp only [Matrix.cons_val]) <;> (try after_results_simp) <;> rfl
theorem V_v4 : V m c main_v4 = (truncf .bf16 (aWc m c) bitsLt_bf16_f32 : FVec Ideal S512x1024 .bf16) := by
  unfold V
  simp only [hostOps0]
  after_results_simp <;> (try dsimp only [Matrix.cons_val]) <;> (try after_results_simp) <;> rfl
theorem V_v5 : V m c main_v5 = (truncf .bf16 (aWb m c) bitsLt_bf16_f32 : FVec Ideal S512x1024 .bf16) := by
  unfold V
  simp only [hostOps0]
  after_results_simp <;> (try dsimp only [Matrix.cons_val]) <;> (try after_results_simp) <;> rfl
theorem V_v6 : V m c main_v6 = (truncf .bf16 (aWo m c) bitsLt_bf16_f32 : FVec Ideal S1024x1024 .bf16) := by
  unfold V
  simp only [hostOps0]
  after_results_simp <;> (try dsimp only [Matrix.cons_val]) <;> (try after_results_simp) <;> rfl

/-! ## The blocks -/

theorem at0 : ∀ t : Fin grid0.N, cc0_transform_0 (grid0.coords t) = ![t.val, 0] := by decide +kernel
theorem at1 : ∀ t : Fin grid0.N, cc0_transform_1 (grid0.coords t) = ![t.val, 2] := by decide +kernel
theorem at2 : ∀ t : Fin grid0.N, cc0_transform_2 (grid0.coords t) = ![32 * t.val - 1, 2] := by decide +kernel
theorem at3 : ∀ t : Fin grid0.N, cc0_transform_3 (grid0.coords t) = ![t.val, 0] := by decide +kernel
theorem at4 : ∀ t : Fin grid0.N, cc0_transform_4 (grid0.coords t) = ![t.val, 1] := by decide +kernel
theorem at5 : ∀ t : Fin grid0.N, cc0_transform_5 (grid0.coords t) = ![16 * t.val - 1, 0] := by decide +kernel
theorem at6 : ∀ t : Fin grid0.N, cc0_transform_6 (grid0.coords t) = ![16 * t.val - 1, 1] := by decide +kernel
theorem at7 : ∀ t : Fin grid0.N, cc0_transform_7 (grid0.coords t) = ![t.val, 0] := by decide +kernel
theorem at8 : ∀ t : Fin grid0.N, cc0_transform_8 (grid0.coords t) = ![t.val, 0] := by decide +kernel
theorem at9 : ∀ t : Fin grid0.N, cc0_transform_9 (grid0.coords t) = ![0, 0] := by decide +kernel
theorem at10 : ∀ t : Fin grid0.N, cc0_transform_10 (grid0.coords t) = ![0, 0] := by decide +kernel
theorem at11 : ∀ t : Fin grid0.N, cc0_transform_11 (grid0.coords t) = ![0, 0] := by decide +kernel
theorem at12 : ∀ t : Fin grid0.N, cc0_transform_12 (grid0.coords t) = ![0, 0] := by decide +kernel
theorem at13 : ∀ t : Fin grid0.N, cc0_transform_13 (grid0.coords t) = ![0, 0] := by decide +kernel
theorem at14 : ∀ t : Fin grid0.N, cc0_transform_14 (grid0.coords t) = ![0, 0] := by decide +kernel
theorem at15 : ∀ t : Fin grid0.N, cc0_transform_15 (grid0.coords t) = ![0, 0] := by decide +kernel
theorem at16 : ∀ t : Fin grid0.N, cc0_transform_16 (grid0.coords t) = ![0, 0] := by decide +kernel
theorem at17 : ∀ t : Fin grid0.N, cc0_transform_17 (grid0.coords t) = ![t.val, 0] := by decide +kernel

theorem t_lt (t : Fin grid0.N) : t.val < 32 := t.isLt

/-- The bit that says a row block is not the first of its batch. -/
theorem past_at : ∀ t : Fin grid0.N, kernelRun0_A.sl.v10 (grid0.coords t) = if t.val % 4 = 0 then 0#1 else 1#1 := by decide +kernel

/-- Row `j` of row block `t`, as a row of the whole. -/
abbrev rowAt (t : Fin grid0.N) (j : Fin 512) : Fin 16384 := ⟨512 * t.val + j.val, by have := t_lt t; omega⟩

theorem x0_apply (t : Fin grid0.N) (a : Fin 512) (n : Fin 3072) (R : Fin 16384) (hR : R.val = (t.val) * 512 + a.val) : X0_0 m c t (ix2 a n) = aMain m c (ix2 R (⟨0 + n.val, by omega⟩ : Fin 5632)) := by
  unfold X0_0 Pipeline.Window.fill
  rw [dif_pos (moved0_0 t _)]
  refine Eq.trans (congrArg (V m c main_arg0) ?_) (congrFun (V_main_arg0 m c) _)
  have hi := at0 t
  funext x
  apply Fin.ext
  show cc0_transform_0 (grid0.coords t) x * S512x3072.size x + 1 * (ix2 a n x).val = _
  rw [hi]
  match x with
  | 0 => show (t.val) * 512 + 1 * a.val = R.val; omega
  | 1 => show 0 * 3072 + 1 * n.val = 0 + n.val; omega
theorem x1_apply (t : Fin grid0.N) (a : Fin 512) (n : Fin 1536) (R : Fin 16384) (hR : R.val = (t.val) * 512 + a.val) : X0_1 m c t (ix2 a n) = aMain m c (ix2 R (⟨3072 + n.val, by omega⟩ : Fin 5632)) := by
  unfold X0_1 Pipeline.Window.fill
  rw [dif_pos (moved0_1 t _)]
  refine Eq.trans (congrArg (V m c main_arg0) ?_) (congrFun (V_main_arg0 m c) _)
  have hi := at1 t
  funext x
  apply Fin.ext
  show cc0_transform_1 (grid0.coords t) x * S512x1536.size x + 1 * (ix2 a n x).val = _
  rw [hi]
  match x with
  | 0 => show (t.val) * 512 + 1 * a.val = R.val; omega
  | 1 => show 2 * 1536 + 1 * n.val = 3072 + n.val; omega
theorem x2_apply (t : Fin grid0.N) (a : Fin 16) (n : Fin 1536) (R : Fin 16384) (hR : R.val = (32 * t.val - 1) * 16 + a.val) : X0_2 m c t (ix2 a n) = aMain m c (ix2 R (⟨3072 + n.val, by omega⟩ : Fin 5632)) := by
  unfold X0_2 Pipeline.Window.fill
  rw [dif_pos (moved0_2 t _)]
  refine Eq.trans (congrArg (V m c main_arg0) ?_) (congrFun (V_main_arg0 m c) _)
  have hi := at2 t
  funext x
  apply Fin.ext
  show cc0_transform_2 (grid0.coords t) x * S16x1536.size x + 1 * (ix2 a n x).val = _
  rw [hi]
  match x with
  | 0 => show (32 * t.val - 1) * 16 + 1 * a.val = R.val; omega
  | 1 => show 2 * 1536 + 1 * n.val = 3072 + n.val; omega
theorem x3_apply (t : Fin grid0.N) (a : Fin 512) (n : Fin 512) (R : Fin 16384) (hR : R.val = (t.val) * 512 + a.val) : X0_3 m c t (ix2 a n) = aTail m c (ix2 R (⟨0 + n.val, by omega⟩ : Fin 1280)) := by
  unfold X0_3 Pipeline.Window.fill
  rw [dif_pos (moved0_3 t _)]
  refine Eq.trans (congrArg (V m c main_arg1) ?_) (congrFun (V_main_arg1 m c) _)
  have hi := at3 t
  funext x
  apply Fin.ext
  show cc0_transform_3 (grid0.coords t) x * S512x512.size x + 1 * (ix2 a n x).val = _
  rw [hi]
  match x with
  | 0 => show (t.val) * 512 + 1 * a.val = R.val; omega
  | 1 => show 0 * 512 + 1 * n.val = 0 + n.val; omega
theorem x4_apply (t : Fin grid0.N) (a : Fin 512) (n : Fin 512) (R : Fin 16384) (hR : R.val = (t.val) * 512 + a.val) : X0_4 m c t (ix2 a n) = aTail m c (ix2 R (⟨512 + n.val, by omega⟩ : Fin 1280)) := by
  unfold X0_4 Pipeline.Window.fill
  rw [dif_pos (moved0_4 t _)]
  refine Eq.trans (congrArg (V m c main_arg1) ?_) (congrFun (V_main_arg1 m c) _)
  have hi := at4 t
  funext x
  apply Fin.ext
  show cc0_transform_4 (grid0.coords t) x * S512x512.size x + 1 * (ix2 a n x).val = _
  rw [hi]
  match x with
  | 0 => show (t.val) * 512 + 1 * a.val = R.val; omega
  | 1 => show 1 * 512 + 1 * n.val = 512 + n.val; omega
theorem x5_apply (t : Fin grid0.N) (a : Fin 32) (n : Fin 512) (R : Fin 16384) (hR : R.val = (16 * t.val - 1) * 32 + a.val) : X0_5 m c t (ix2 a n) = aTail m c (ix2 R (⟨0 + n.val, by omega⟩ : Fin 1280)) := by
  unfold X0_5 Pipeline.Window.fill
  rw [dif_pos (moved0_5 t _)]
  refine Eq.trans (congrArg (V m c main_arg1) ?_) (congrFun (V_main_arg1 m c) _)
  have hi := at5 t
  funext x
  apply Fin.ext
  show cc0_transform_5 (grid0.coords t) x * S32x512.size x + 1 * (ix2 a n x).val = _
  rw [hi]
  match x with
  | 0 => show (16 * t.val - 1) * 32 + 1 * a.val = R.val; omega
  | 1 => show 0 * 512 + 1 * n.val = 0 + n.val; omega
theorem x6_apply (t : Fin grid0.N) (a : Fin 32) (n : Fin 512) (R : Fin 16384) (hR : R.val = (16 * t.val - 1) * 32 + a.val) : X0_6 m c t (ix2 a n) = aTail m c (ix2 R (⟨512 + n.val, by omega⟩ : Fin 1280)) := by
  unfold X0_6 Pipeline.Window.fill
  rw [dif_pos (moved0_6 t _)]
  refine Eq.trans (congrArg (V m c main_arg1) ?_) (congrFun (V_main_arg1 m c) _)
  have hi := at6 t
  funext x
  apply Fin.ext
  show cc0_transform_6 (grid0.coords t) x * S32x512.size x + 1 * (ix2 a n x).val = _
  rw [hi]
  match x with
  | 0 => show (16 * t.val - 1) * 32 + 1 * a.val = R.val; omega
  | 1 => show 1 * 512 + 1 * n.val = 512 + n.val; omega
theorem b7_apply (t : Fin grid0.N) (a : Fin 512) (n : Fin 512) : (iblk m c 7 t : Vec Ideal S512x512 .bf16) (ix2 a n) = aAtt m c (ix2 (rowAt t a) n) := by
  have e : (iblk m c 7 t : Vec Ideal S512x512 .bf16) (ix2 a n) = (V m c main_arg2 : FVec Ideal S16384x512 .bf16) (ix2 (rowAt t a) n) := by
    refine congrArg (V m c main_arg2) ?_
    have hi := at7 t
    funext x
    apply Fin.ext
    show cc0_transform_7 (grid0.coords t) x * S512x512.size x + 1 * (ix2 a n x).val = _
    rw [hi]
    match x with
    | 0 => show t.val * 512 + 1 * a.val = 512 * t.val + a.val; omega
    | 1 => show 0 * 512 + 1 * n.val = n.val; omega
  rw [e, V_main_arg2]
theorem b8_apply (t : Fin grid0.N) (a : Fin 512) (n : Fin 1024) : (iblk m c 8 t : Vec Ideal S512x1024 .f32) (ix2 a n) = InReference.row (aX m c) (rowAt t a) n := by
  have e : (iblk m c 8 t : Vec Ideal S512x1024 .f32) (ix2 a n) = (V m c main_v0 : FVec Ideal S16384x1024 .f32) (ix2 (rowAt t a) n) := by
    refine congrArg (V m c main_v0) ?_
    have hi := at8 t
    funext x
    apply Fin.ext
    show cc0_transform_8 (grid0.coords t) x * S512x1024.size x + 1 * (ix2 a n x).val = _
    rw [hi]
    match x with
    | 0 => show t.val * 512 + 1 * a.val = 512 * t.val + a.val; omega
    | 1 => show 0 * 1024 + 1 * n.val = n.val; omega
  rw [e, V_v0]
  unfold InReference.row
  generalize aX m c = X
  pointwise
theorem b9_apply (t : Fin grid0.N) (a : Fin 3) (n : Fin 512) : (iblk m c 9 t : Vec Ideal S3x512 .f32) (ix2 a n) = aAw m c (ix2 a n) := by
  have e : (iblk m c 9 t : Vec Ideal S3x512 .f32) (ix2 a n) = (V m c main_arg4 : FVec Ideal S3x512 .f32) (ix2 a n) := by
    refine congrArg (V m c main_arg4) ?_
    have hi := at9 t
    funext x
    apply Fin.ext
    show cc0_transform_9 (grid0.coords t) x * S3x512.size x + 1 * (ix2 a n x).val = _
    rw [hi]
    match x with
    | 0 => show 0 * 3 + 1 * a.val = a.val; omega
    | 1 => show 0 * 512 + 1 * n.val = n.val; omega
  rw [e, V_main_arg4]
theorem b10_apply (t : Fin grid0.N) (a : Fin 512) (n : Fin 1024) : (iblk m c 10 t : Vec Ideal S512x1024 .bf16) (ix2 a n) = aWa m c (ix2 a n) := by
  have e : (iblk m c 10 t : Vec Ideal S512x1024 .bf16) (ix2 a n) = (V m c main_v1 : FVec Ideal S512x1024 .bf16) (ix2 a n) := by
    refine congrArg (V m c main_v1) ?_
    have hi := at10 t
    funext x
    apply Fin.ext
    show cc0_transform_10 (grid0.coords t) x * S512x1024.size x + 1 * (ix2 a n x).val = _
    rw [hi]
    match x with
    | 0 => show 0 * 512 + 1 * a.val = a.val; omega
    | 1 => show 0 * 1024 + 1 * n.val = n.val; omega
  rw [e, V_v1]
  rfl
theorem b11_apply (t : Fin grid0.N) (a : Fin 31) (n : Fin 512) : (iblk m c 11 t : Vec Ideal S31x512 .f32) (ix2 a n) = aCw m c (ix2 a n) := by
  have e : (iblk m c 11 t : Vec Ideal S31x512 .f32) (ix2 a n) = (V m c main_arg7 : FVec Ideal S31x512 .f32) (ix2 a n) := by
    refine congrArg (V m c main_arg7) ?_
    have hi := at11 t
    funext x
    apply Fin.ext
    show cc0_transform_11 (grid0.coords t) x * S31x512.size x + 1 * (ix2 a n x).val = _
    rw [hi]
    match x with
    | 0 => show 0 * 31 + 1 * a.val = a.val; omega
    | 1 => show 0 * 512 + 1 * n.val = n.val; omega
  rw [e, V_main_arg7]
theorem b12_apply (t : Fin grid0.N) (a : Fin 1) (n : Fin 512) : (iblk m c 12 t : Vec Ideal S1x512 .f32) (ix2 a n) = aG m c (ix1 n) := by
  have e : (iblk m c 12 t : Vec Ideal S1x512 .f32) (ix2 a n) = (V m c main_v2 : FVec Ideal S1x512 .f32) (ix2 a n) := by
    refine congrArg (V m c main_v2) ?_
    have hi := at12 t
    funext x
    apply Fin.ext
    show cc0_transform_12 (grid0.coords t) x * S1x512.size x + 1 * (ix2 a n x).val = _
    rw [hi]
    match x with
    | 0 => show 0 * 1 + 1 * a.val = a.val; omega
    | 1 => show 0 * 512 + 1 * n.val = n.val; omega
  rw [e, V_v2]
  generalize aG m c = X
  pointwise
theorem b13_apply (t : Fin grid0.N) (a : Fin 1) (n : Fin 512) : (iblk m c 13 t : Vec Ideal S1x512 .f32) (ix2 a n) = aB m c (ix1 n) := by
  have e : (iblk m c 13 t : Vec Ideal S1x512 .f32) (ix2 a n) = (V m c main_v3 : FVec Ideal S1x512 .f32) (ix2 a n) := by
    refine congrArg (V m c main_v3) ?_
    have hi := at13 t
    funext x
    apply Fin.ext
    show cc0_transform_13 (grid0.coords t) x * S1x512.size x + 1 * (ix2 a n x).val = _
    rw [hi]
    match x with
    | 0 => show 0 * 1 + 1 * a.val = a.val; omega
    | 1 => show 0 * 512 + 1 * n.val = n.val; omega
  rw [e, V_v3]
  generalize aB m c = X
  pointwise
theorem b14_apply (t : Fin grid0.N) (a : Fin 512) (n : Fin 1024) : (iblk m c 14 t : Vec Ideal S512x1024 .bf16) (ix2 a n) = aWc m c (ix2 a n) := by
  have e : (iblk m c 14 t : Vec Ideal S512x1024 .bf16) (ix2 a n) = (V m c main_v4 : FVec Ideal S512x1024 .bf16) (ix2 a n) := by
    refine congrArg (V m c main_v4) ?_
    have hi := at14 t
    funext x
    apply Fin.ext
    show cc0_transform_14 (grid0.coords t) x * S512x1024.size x + 1 * (ix2 a n x).val = _
    rw [hi]
    match x with
    | 0 => show 0 * 512 + 1 * a.val = a.val; omega
    | 1 => show 0 * 1024 + 1 * n.val = n.val; omega
  rw [e, V_v4]
  rfl
theorem b15_apply (t : Fin grid0.N) (a : Fin 512) (n : Fin 1024) : (iblk m c 15 t : Vec Ideal S512x1024 .bf16) (ix2 a n) = aWb m c (ix2 a n) := by
  have e : (iblk m c 15 t : Vec Ideal S512x1024 .bf16) (ix2 a n) = (V m c main_v5 : FVec Ideal S512x1024 .bf16) (ix2 a n) := by
    refine congrArg (V m c main_v5) ?_
    have hi := at15 t
    funext x
    apply Fin.ext
    show cc0_transform_15 (grid0.coords t) x * S512x1024.size x + 1 * (ix2 a n x).val = _
    rw [hi]
    match x with
    | 0 => show 0 * 512 + 1 * a.val = a.val; omega
    | 1 => show 0 * 1024 + 1 * n.val = n.val; omega
  rw [e, V_v5]
  rfl
theorem b16_apply (t : Fin grid0.N) (a : Fin 1024) (n : Fin 1024) : (iblk m c 16 t : Vec Ideal S1024x1024 .bf16) (ix2 a n) = aWo m c (ix2 a n) := by
  have e : (iblk m c 16 t : Vec Ideal S1024x1024 .bf16) (ix2 a n) = (V m c main_v6 : FVec Ideal S1024x1024 .bf16) (ix2 a n) := by
    refine congrArg (V m c main_v6) ?_
    have hi := at16 t
    funext x
    apply Fin.ext
    show cc0_transform_16 (grid0.coords t) x * S1024x1024.size x + 1 * (ix2 a n x).val = _
    rw [hi]
    match x with
    | 0 => show 0 * 1024 + 1 * a.val = a.val; omega
    | 1 => show 0 * 1024 + 1 * n.val = n.val; omega
  rw [e, V_v6]
  rfl

end Cert.Proof.Tail

end
-- ==== Proof.TailArray.lean ====
/-
  The mixer tail's kernel over the reals ends with the formula's array.
-/
module

public import proofs.«01_k».proof.Proof.TailValue

@[expose] public section

set_option maxRecDepth 16384

noncomputable section

namespace Cert.Proof.Tail

open Cert.Kernel3Ideal Cert.Kernel3Ideal.Gen

open Idealize.ShloMosaic
open Idealize.ShloMosaic.TcCoe Idealize.ShloMosaic.Tactic
open Idealize.ShloMosaic.Pipeline (Dat Cfg Window)

variable (m : (ℓ : Loc nD τ sig) → Buf (Elt Ideal) ℓ) (c : Dev nD)

theorem past_true (t : Fin grid0.N) (h : t.val % 4 ≠ 0) : kernelRun0_A.sl.v10 (grid0.coords t) = 1#1 := (past_at t).trans (if_neg h)
theorem past_false (t : Fin grid0.N) (h : t.val % 4 = 0) : ¬ kernelRun0_A.sl.v10 (grid0.coords t) = 1#1 := by
  rw [past_at t, if_pos h]
  decide

/-- The rows the third branch convolves, before the block and in it, are the whole's earlier rows. -/
theorem Uat_back (t : Fin grid0.N) (j e : Fin 512) (s : Fin 31) :
    Uat (kernelRun0_A.sl.v10 (grid0.coords t)) (X0_3 m c t) (X0_4 m c t) (X0_5 m c t) (X0_6 m c t) (⟨j.val + (s.val + 2), by omega⟩ : Fin 544) e
      = back (glu (aTail m c) e) (rowAt t j) (30 - s.val) := by
  have ht := t_lt t
  by_cases hk : j.val + s.val < 30
  · rw [Uat_lt _ _ _ _ _ _ e (⟨j.val + (s.val + 2), by omega⟩ : Fin 32) rfl]
    by_cases h4 : t.val % 4 = 0
    · rw [if_neg (past_false t h4), back_out _ _ _ (by dsimp only; omega)]
    · rw [if_pos (past_true t h4), back_in _ _ _ (by dsimp only; omega) (⟨512 * t.val + j.val + s.val - 30, by omega⟩ : Fin 16384) (by dsimp only; omega)]
      unfold glu
      exact congrArg₂ (fun a b => a * sg b) ((x5_apply m c t _ e (⟨512 * t.val + j.val + s.val - 30, by omega⟩ : Fin 16384) (by dsimp only; omega)).trans (congrArg (fun n => aTail m c (ix2 _ n)) (Fin.ext (Nat.zero_add _)))) ((x6_apply m c t _ e (⟨512 * t.val + j.val + s.val - 30, by omega⟩ : Fin 16384) (by dsimp only; omega)).trans rfl)
  · rw [Uat_ge _ _ _ _ _ _ e (⟨j.val + s.val - 30, by omega⟩ : Fin 512) (by dsimp only; omega),
      back_in _ _ _ (by dsimp only; omega) (⟨512 * t.val + j.val + s.val - 30, by omega⟩ : Fin 16384) (by dsimp only; omega)]
    unfold glu
    exact congrArg₂ (fun a b => a * sg b) ((x3_apply m c t _ e (⟨512 * t.val + j.val + s.val - 30, by omega⟩ : Fin 16384) (by dsimp only; omega)).trans (congrArg (fun n => aTail m c (ix2 _ n)) (Fin.ext (by (try dsimp only); omega)))) (x4_apply m c t _ e (⟨512 * t.val + j.val + s.val - 30, by omega⟩ : Fin 16384) (by dsimp only; omega))

/-- The rows the first branch convolves likewise. -/
theorem Cat_back (t : Fin grid0.N) (j e : Fin 512) (u : Fin 3) (k : Fin 520) (hk : k.val = j.val + 6 + u.val) :
    Cat (kernelRun0_A.sl.v10 (grid0.coords t)) (X0_1 m c t) (X0_2 m c t) k e = back (pair (aMain m c) e) (rowAt t j) (2 - u.val) := by
  have ht := t_lt t
  by_cases hj : j.val + u.val < 2
  · rw [Cat_lt _ _ _ k e (⟨k.val, by omega⟩ : Fin 8) rfl]
    by_cases h4 : t.val % 4 = 0
    · rw [if_neg (past_false t h4), back_out _ _ _ (by dsimp only; omega)]
    · rw [if_pos (past_true t h4), back_in _ _ _ (by dsimp only; omega) (⟨512 * t.val + j.val + u.val - 2, by omega⟩ : Fin 16384) (by dsimp only; omega)]
      unfold pair
      exact congrArg₂ (fun a b => a * b)
        ((x2_apply m c t _ _ (⟨512 * t.val + j.val + u.val - 2, by omega⟩ : Fin 16384) (by dsimp only; omega)).trans (congrArg (fun n => aMain m c (ix2 _ n)) (Fin.ext (by (try dsimp only); omega))))
        ((x2_apply m c t _ _ (⟨512 * t.val + j.val + u.val - 2, by omega⟩ : Fin 16384) (by dsimp only; omega)).trans (congrArg (fun n => aMain m c (ix2 _ n)) (Fin.ext (by (try dsimp only); omega))))
  · rw [Cat_ge _ _ _ k e (⟨j.val + u.val - 2, by omega⟩ : Fin 512) (by dsimp only; omega),
      back_in _ _ _ (by dsimp only; omega) (⟨512 * t.val + j.val + u.val - 2, by omega⟩ : Fin 16384) (by dsimp only; omega)]
    unfold pair
    exact congrArg₂ (fun a b => a * b)
      ((x1_apply m c t _ _ (⟨512 * t.val + j.val + u.val - 2, by omega⟩ : Fin 16384) (by dsimp only; omega)).trans (congrArg (fun n => aMain m c (ix2 _ n)) (Fin.ext (by (try dsimp only); omega))))
      ((x1_apply m c t _ _ (⟨512 * t.val + j.val + u.val - 2, by omega⟩ : Fin 16384) (by dsimp only; omega)).trans (congrArg (fun n => aMain m c (ix2 _ n)) (Fin.ext (by (try dsimp only); omega))))

theorem rowA_eq (t : Fin grid0.N) (j k : Fin 512) :
    rowA (kernelRun0_A.sl.v10 (grid0.coords t)) (X0_1 m c t) (X0_2 m c t) (iblk m c 9 t) j k = branchA (aMain m c) (aAw m c) (rowAt t j) k := by
  unfold rowA branchA
  refine congrArg₂ (fun a b => a * b) ((x1_apply m c t _ _ (rowAt t j) (by dsimp only; omega)).trans rfl) ?_
  refine congrArg₂ (fun a b => a + b) (congrArg₂ (fun a b => a + b) ?_ ?_) ?_
  · exact congrArg₂ (fun a b => a * b) (b9_apply m c t _ _) (Cat_back m c t j k 0 ⟨j.val + 6, by omega⟩ rfl)
  · exact congrArg₂ (fun a b => a * b) (b9_apply m c t _ _) (Cat_back m c t j k 1 ⟨j.val + 7, by omega⟩ rfl)
  · exact congrArg₂ (fun a b => a * b) (b9_apply m c t _ _) (Cat_back m c t j k 2 ⟨j.val + 8, by omega⟩ rfl)

theorem rowC_eq (t : Fin grid0.N) (j k : Fin 512) :
    rowC (kernelRun0_A.sl.v10 (grid0.coords t)) (X0_3 m c t) (X0_4 m c t) (X0_5 m c t) (X0_6 m c t) (iblk m c 11 t) (iblk m c 12 t) (iblk m c 13 t) j k
      = branchC (aTail m c) (aCw m c) (aG m c) (aB m c) (rowAt t j) k := by
  unfold rowC branchC
  have h1 : convC (kernelRun0_A.sl.v10 (grid0.coords t)) (X0_3 m c t) (X0_4 m c t) (X0_5 m c t) (X0_6 m c t) (iblk m c 11 t) j
      = fun e => ∑ s : Fin 31, aCw m c (ix2 s e) * back (glu (aTail m c) e) (rowAt t j) (30 - s.val) := by
    funext e
    unfold convC
    exact Finset.sum_congr rfl fun s _ => congrArg₂ (fun a b => a * b) (b11_apply m c t s e) (Uat_back m c t j e s)
  rw [show (convC (kernelRun0_A.sl.v10 (grid0.coords t)) (X0_3 m c t) (X0_4 m c t) (X0_5 m c t) (X0_6 m c t) (iblk m c 11 t) j) = _ from h1,
    show (fun e => (iblk m c 12 t : Vec Ideal S1x512 .f32) (ix2 (0 : Fin 1) e)) = _ from funext fun e => b12_apply m c t 0 e,
    show (fun e => (iblk m c 13 t : Vec Ideal S1x512 .f32) (ix2 (0 : Fin 1) e)) = _ from funext fun e => b13_apply m c t 0 e]

/-- What the body leaves at a point, entry by entry. -/
theorem outs_apply (t : Fin cfg0.N) (j : Fin 512) (d : Fin 1024) :
    outsAt0 m c t (ix2 j d) = entry (aMain m c) (aTail m c) (aAtt m c) (aX m c) (aAw m c) (aWa m c) (aWb m c) (aCw m c) (aG m c) (aB m c) (aWc m c) (aWo m c) (rowAt t j) d := by
  unfold outsAt0
  refine (out_apply c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ j d).trans ?_
  unfold entry
  refine congrArg₂ (fun a b => a + b) (b8_apply m c t j d) (Finset.sum_congr rfl fun e _ => congrArg₂ (fun a b => a * b) ?_ (b16_apply m c t e d))
  refine congrFun (congr (congr (congr (congrArg merged (funext fun n => ?_)) (funext fun e => ?_)) (funext fun e => ?_)) (funext fun e => ?_)) e
  · exact (x0_apply m c t j n (rowAt t j) (by dsimp only; omega)).trans (congrArg (fun n => aMain m c (ix2 _ n)) (Fin.ext (by dsimp only; omega)))
  · exact Finset.sum_congr rfl fun k _ => congrArg₂ (fun a b => a * b) (rowA_eq m c t j k) (b10_apply m c t k e)
  · exact Finset.sum_congr rfl fun k _ => congrArg₂ (fun a b => a * b) (b7_apply m c t j k) (b15_apply m c t k e)
  · exact Finset.sum_congr rfl fun k _ => congrArg₂ (fun a b => a * b) (rowC_eq m c t j k) (b14_apply m c t k e)

theorem covers17 : (cfg0.win 17).Covers := by decide +kernel

/-- The result. -/
theorem arr17 (r : Fin 16384) (n : Fin 1024) :
    ((dats m 0 c).arrAt 17 cfg0.N : FVec Ideal S16384x1024 .f32) (ix2 r n)
      = entry (aMain m c) (aTail m c) (aAtt m c) (aX m c) (aAw m c) (aWa m c) (aWb m c) (aCw m c) (aG m c) (aB m c) (aWc m c) (aWo m c) r n := by
  let G : S16384x1024.Idx → EReal := fun y => entry (aMain m c) (aTail m c) (aAtt m c) (aX m c) (aAw m c) (aWa m c) (aWb m c) (aCw m c) (aG m c) (aB m c) (aWc m c) (aWo m c)
    (⟨(y 0).val, (y 0).isLt⟩ : Fin 16384) (⟨(y 1).val, (y 1).isLt⟩ : Fin 1024)
  have key : (dats m 0 c).arrAt 17 cfg0.N = G := by
    refine (dats m 0 c).arrAt_eq_of_covers 17 G covers17 fun t hf y => ?_
    have key : ∀ y : S512x1024.Idx, outsAt0 m c t y = G (((cfg0.win 17).blk t).view.emb y) := by
      intro y
      obtain ⟨j, d, rfl⟩ : ∃ (a : Fin 512) (b : Fin 1024), y = ix2 a b := ⟨y 0, y 1, eq_ix2 y⟩
      have he : ((cfg0.win 17).blk t).view.emb (ix2 j d) = ix2 (rowAt t j) d := by
        have hi := at17 t
        funext x
        apply Fin.ext
        show cc0_transform_17 (grid0.coords t) x * S512x1024.size x + 1 * (ix2 j d x).val = _
        rw [hi]
        match x with
        | 0 => show t.val * 512 + 1 * j.val = 512 * t.val + j.val; omega
        | 1 => show 0 * 1024 + 1 * d.val = d.val; omega
      rw [he]
      exact outs_apply m c t j d
    exact (congrFun (Cert.Kernel3Ideal.Value.flushed17 m c t) y).trans (key y)
  exact congrFun key (ix2 r n)

end Cert.Proof.Tail

end
-- ==== Proof.TailReference.lean ====
/-
  The mixer tail's reference over the reals, entry by entry: the same formula.
-/
module

public import proofs.«01_k».proof.Proof.TailSpec
public import proofs.«01_k».proof.Proof.Gen.Reference3Ideal.Run

@[expose] public section

set_option maxRecDepth 8192

noncomputable section

namespace Cert.Proof.TailReference

open Cert.Reference3Ideal Cert.Reference3Ideal.Gen Cert.Reference3Ideal.Value Cert.Proof.Decode
open Cert.Proof.Tail (sg mean lnorm act merged back back_in back_out glu pair branchA branchC entry sum31)

open Idealize.ShloMosaic
open Idealize.ShloMosaic.TcCoe Idealize.ShloMosaic.Tactic

variable (V : Valuation τ sig (Elt Ideal))

abbrev vMain : FVec Ideal S16384x5632 .bf16 := V (Proc.devRef .tc main_arg0)
abbrev vTail : FVec Ideal S16384x1280 .bf16 := V (Proc.devRef .tc main_arg1)
abbrev vAtt : FVec Ideal S16384x512 .bf16 := V (Proc.devRef .tc main_arg2)
abbrev vX : FVec Ideal S8x2048x1024 .f32 := V (Proc.devRef .tc main_arg3)
abbrev vAw : FVec Ideal S3x512 .f32 := V (Proc.devRef .tc main_arg4)
abbrev vWa : FVec Ideal S512x1024 .f32 := V (Proc.devRef .tc main_arg5)
abbrev vWb : FVec Ideal S512x1024 .f32 := V (Proc.devRef .tc main_arg6)
abbrev vCw : FVec Ideal S31x512 .f32 := V (Proc.devRef .tc main_arg7)
abbrev vG : FVec Ideal S512 .f32 := V (Proc.devRef .tc main_arg8)
abbrev vB : FVec Ideal S512 .f32 := V (Proc.devRef .tc main_arg9)
abbrev vWc : FVec Ideal S512x1024 .f32 := V (Proc.devRef .tc main_arg10)
abbrev vWo : FVec Ideal S1024x1024 .f32 := V (Proc.devRef .tc main_arg11)

abbrev u1 : FVec Ideal S8x2048x5632 .f32 := res_main_v1 V
abbrev u4 : FVec Ideal S8x2048x1024 .f32 := res_main_v4 V
abbrev u5 : FVec Ideal S8x2048x3072 .f32 := res_main_v5 V
abbrev u6 : FVec Ideal S8x2048x1536 .f32 := res_main_v6 V
abbrev u16 : FVec Ideal S8x2050x512 .f32 := res_main_v16 V
abbrev u51 : FVec Ideal S8x2078x512 .f32 := res_main_v51 V
abbrev u129 : FVec Ideal S8x2048x512 .f32 := res_main_v129 V
abbrev u206 : FVec Ideal S8x2048x512 .f32 := res_main_v206 V
abbrev u269 : FVec Ideal S8x2048x512 .f32 := res_main_v269 V
abbrev u275 : FVec Ideal S8x2048x512 .f32 := res_main_v275 V
abbrev u291 : FVec Ideal S8x2048x512 .f32 := res_main_v291 V

/-- Row `s` of batch `b`, as a row of the whole. -/
abbrev rowOf (b : Fin 8) (s : Fin 2048) : Fin 16384 := ⟨b.val * 2048 + s.val, by omega⟩

theorem u1_apply (b : Fin 8) (s : Fin 2048) (n : Fin 5632) : u1 V (ix3 b s n) = vMain V (ix2 (rowOf b s) n) := by
  unfold u1 res_main_v1 vMain
  generalize (V (Proc.devRef .tc main_arg0) : FVec Ideal S16384x5632 .bf16) = W
  pointwise
theorem u4_apply (b : Fin 8) (s : Fin 2048) (n : Fin 1024) : u4 V (ix3 b s n) = vTail V (ix2 (rowOf b s) (⟨n.val, by omega⟩ : Fin 1280)) := by
  unfold u4 res_main_v4 vTail
  generalize (V (Proc.devRef .tc main_arg1) : FVec Ideal S16384x1280 .bf16) = W
  pointwise
theorem u5_apply (b : Fin 8) (s : Fin 2048) (n : Fin 3072) : u5 V (ix3 b s n) = vMain V (ix2 (rowOf b s) (⟨n.val, by omega⟩ : Fin 5632)) := by
  refine Eq.trans ?_ (u1_apply V b s (⟨n.val, by omega⟩ : Fin 5632))
  unfold u5 res_main_v5 u1
  generalize (res_main_v1 V : FVec Ideal S8x2048x5632 .f32) = W
  pointwise
theorem u6_apply (b : Fin 8) (s : Fin 2048) (n : Fin 1536) : u6 V (ix3 b s n) = vMain V (ix2 (rowOf b s) (⟨3072 + n.val, by omega⟩ : Fin 5632)) := by
  refine Eq.trans ?_ (u1_apply V b s (⟨3072 + n.val, by omega⟩ : Fin 5632))
  unfold u6 res_main_v6 u1
  generalize (res_main_v1 V : FVec Ideal S8x2048x5632 .f32) = W
  pointwise

/-- The padded products of the first branch. -/
theorem u16_apply (b : Fin 8) (k : Fin 2050) (e : Fin 512) : u16 V (ix3 b k e)
    = if h : 2 ≤ k.val then u6 V (ix3 b (⟨k.val - 2, by omega⟩ : Fin 2048) (⟨512 + e.val, by omega⟩ : Fin 1536)) * u6 V (ix3 b (⟨k.val - 2, by omega⟩ : Fin 2048) (⟨1024 + e.val, by omega⟩ : Fin 1536)) else 0 := by
  unfold u16 res_main_v16 u6
  generalize (res_main_v6 V : FVec Ideal S8x2048x1536 .f32) = W
  pointwise
  by_cases h : 2 ≤ k.val
  · rw [dif_pos h, dif_pos ⟨h, by omega⟩]
  · rw [dif_neg h, dif_neg (fun q => h q.1)]
    exact InReference.zero_word

/-- The padded gated values of the third branch. -/
theorem u51_apply (b : Fin 8) (k : Fin 2078) (e : Fin 512) : u51 V (ix3 b k e)
    = if h : 30 ≤ k.val then u4 V (ix3 b (⟨k.val - 30, by omega⟩ : Fin 2048) (⟨e.val, by omega⟩ : Fin 1024)) * sg (u4 V (ix3 b (⟨k.val - 30, by omega⟩ : Fin 2048) (⟨512 + e.val, by omega⟩ : Fin 1024))) else 0 := by
  unfold u51 res_main_v51 sg u4
  generalize (res_main_v4 V : FVec Ideal S8x2048x1024 .f32) = W
  pointwise
  by_cases h : 30 ≤ k.val
  · rw [dif_pos h, dif_pos ⟨h, by omega⟩]
  · rw [dif_neg h, dif_neg (fun q => h q.1)]
    exact InReference.zero_word

/-- Row `s + u` of the padded products is the row `2 - u` before `s`. -/
theorem u16_back (b : Fin 8) (s : Fin 2048) (e : Fin 512) (u : Fin 3) (k : Fin 2050) (hk : k.val = u.val + s.val) : u16 V (ix3 b k e) = back (pair (vMain V) e) (rowOf b s) (2 - u.val) := by
  rw [u16_apply]
  by_cases h : 2 ≤ k.val
  · rw [dif_pos h, u6_apply, u6_apply, back_in _ _ _ (by dsimp only; omega) (rowOf b (⟨k.val - 2, by omega⟩ : Fin 2048)) (by dsimp only; omega)]
    unfold pair
    exact congrArg₂ (fun x y => x * y) (congrArg (fun n => vMain V (ix2 _ n)) (Fin.ext (by dsimp only; omega))) (congrArg (fun n => vMain V (ix2 _ n)) (Fin.ext (by dsimp only; omega)))
  · rw [dif_neg h, back_out _ _ _ (by dsimp only; omega)]

/-- Row `s + u` of the padded gated values is the row `30 - u` before `s`. -/
theorem u51_back (b : Fin 8) (s : Fin 2048) (e : Fin 512) (u : Fin 31) (k : Fin 2078) (hk : k.val = u.val + s.val) : u51 V (ix3 b k e) = back (glu (vTail V) e) (rowOf b s) (30 - u.val) := by
  rw [u51_apply]
  by_cases h : 30 ≤ k.val
  · rw [dif_pos h, u4_apply, u4_apply, back_in _ _ _ (by dsimp only; omega) (rowOf b (⟨k.val - 30, by omega⟩ : Fin 2048)) (by dsimp only; omega)]
    unfold glu
    exact congrArg₂ (fun x y => x * sg y) rfl rfl
  · rw [dif_neg h, back_out _ _ _ (by dsimp only; omega)]

theorem u129_apply (b : Fin 8) (s : Fin 2048) (e : Fin 512) (Q : FVec Ideal S8x2078x512 .f32) (hQ : u51 V = Q) :
    u129 V (ix3 b s e) = vCw V (ix2 (0 : Fin 31) e) * Q (ix3 b (⟨s.val, by omega⟩ : Fin 2078) e) + vCw V (ix2 (1 : Fin 31) e) * Q (ix3 b (⟨1 + s.val, by omega⟩ : Fin 2078) e) + vCw V (ix2 (2 : Fin 31) e) * Q (ix3 b (⟨2 + s.val, by omega⟩ : Fin 2078) e) + vCw V (ix2 (3 : Fin 31) e) * Q (ix3 b (⟨3 + s.val, by omega⟩ : Fin 2078) e) + vCw V (ix2 (4 : Fin 31) e) * Q (ix3 b (⟨4 + s.val, by omega⟩ : Fin 2078) e) + vCw V (ix2 (5 : Fin 31) e) * Q (ix3 b (⟨5 + s.val, by omega⟩ : Fin 2078) e) + vCw V (ix2 (6 : Fin 31) e) * Q (ix3 b (⟨6 + s.val, by omega⟩ : Fin 2078) e) + vCw V (ix2 (7 : Fin 31) e) * Q (ix3 b (⟨7 + s.val, by omega⟩ : Fin 2078) e) + vCw V (ix2 (8 : Fin 31) e) * Q (ix3 b (⟨8 + s.val, by omega⟩ : Fin 2078) e) + vCw V (ix2 (9 : Fin 31) e) * Q (ix3 b (⟨9 + s.val, by omega⟩ : Fin 2078) e) + vCw V (ix2 (10 : Fin 31) e) * Q (ix3 b (⟨10 + s.val, by omega⟩ : Fin 2078) e) := by
  unfold u129 res_main_v129 vCw
  rw [show (res_main_v51 V : FVec Ideal S8x2078x512 .f32) = Q from hQ]
  generalize (V (Proc.devRef .tc main_arg7) : FVec Ideal S31x512 .f32) = W
  pointwise
theorem u206_apply (b : Fin 8) (s : Fin 2048) (e : Fin 512) (Q : FVec Ideal S8x2078x512 .f32) (hQ : u51 V = Q) :
    u206 V (ix3 b s e) = u129 V (ix3 b s e) + vCw V (ix2 (11 : Fin 31) e) * Q (ix3 b (⟨11 + s.val, by omega⟩ : Fin 2078) e) + vCw V (ix2 (12 : Fin 31) e) * Q (ix3 b (⟨12 + s.val, by omega⟩ : Fin 2078) e) + vCw V (ix2 (13 : Fin 31) e) * Q (ix3 b (⟨13 + s.val, by omega⟩ : Fin 2078) e) + vCw V (ix2 (14 : Fin 31) e) * Q (ix3 b (⟨14 + s.val, by omega⟩ : Fin 2078) e) + vCw V (ix2 (15 : Fin 31) e) * Q (ix3 b (⟨15 + s.val, by omega⟩ : Fin 2078) e) + vCw V (ix2 (16 : Fin 31) e) * Q (ix3 b (⟨16 + s.val, by omega⟩ : Fin 2078) e) + vCw V (ix2 (17 : Fin 31) e) * Q (ix3 b (⟨17 + s.val, by omega⟩ : Fin 2078) e) + vCw V (ix2 (18 : Fin 31) e) * Q (ix3 b (⟨18 + s.val, by omega⟩ : Fin 2078) e) + vCw V (ix2 (19 : Fin 31) e) * Q (ix3 b (⟨19 + s.val, by omega⟩ : Fin 2078) e) + vCw V (ix2 (20 : Fin 31) e) * Q (ix3 b (⟨20 + s.val, by omega⟩ : Fin 2078) e) + vCw V (ix2 (21 : Fin 31) e) * Q (ix3 b (⟨21 + s.val, by omega⟩ : Fin 2078) e) := by
  unfold u206 res_main_v206 vCw u129
  generalize (res_main_v129 V : FVec Ideal S8x2048x512 .f32) = P
  rw [show (res_main_v51 V : FVec Ideal S8x2078x512 .f32) = Q from hQ]
  generalize (V (Proc.devRef .tc main_arg7) : FVec Ideal S31x512 .f32) = W
  pointwise
theorem u269_apply (b : Fin 8) (s : Fin 2048) (e : Fin 512) (Q : FVec Ideal S8x2078x512 .f32) (hQ : u51 V = Q) :
    u269 V (ix3 b s e) = u206 V (ix3 b s e) + vCw V (ix2 (22 : Fin 31) e) * Q (ix3 b (⟨22 + s.val, by omega⟩ : Fin 2078) e) + vCw V (ix2 (23 : Fin 31) e) * Q (ix3 b (⟨23 + s.val, by omega⟩ : Fin 2078) e) + vCw V (ix2 (24 : Fin 31) e) * Q (ix3 b (⟨24 + s.val, by omega⟩ : Fin 2078) e) + vCw V (ix2 (25 : Fin 31) e) * Q (ix3 b (⟨25 + s.val, by omega⟩ : Fin 2078) e) + vCw V (ix2 (26 : Fin 31) e) * Q (ix3 b (⟨26 + s.val, by omega⟩ : Fin 2078) e) + vCw V (ix2 (27 : Fin 31) e) * Q (ix3 b (⟨27 + s.val, by omega⟩ : Fin 2078) e) + vCw V (ix2 (28 : Fin 31) e) * Q (ix3 b (⟨28 + s.val, by omega⟩ : Fin 2078) e) + vCw V (ix2 (29 : Fin 31) e) * Q (ix3 b (⟨29 + s.val, by omega⟩ : Fin 2078) e) + vCw V (ix2 (30 : Fin 31) e) * Q (ix3 b (⟨30 + s.val, by omega⟩ : Fin 2078) e) := by
  unfold u269 res_main_v269 vCw u206
  generalize (res_main_v206 V : FVec Ideal S8x2048x512 .f32) = P
  rw [show (res_main_v51 V : FVec Ideal S8x2078x512 .f32) = Q from hQ]
  generalize (V (Proc.devRef .tc main_arg7) : FVec Ideal S31x512 .f32) = W
  pointwise

/-- The third branch's convolution. -/
theorem conv_eq (b : Fin 8) (s : Fin 2048) (e : Fin 512) : u269 V (ix3 b s e) = ∑ t : Fin 31, vCw V (ix2 t e) * back (glu (vTail V) e) (rowOf b s) (30 - t.val) := by
  have q := u51_back V b s e
  rw [u269_apply V b s e _ rfl, u206_apply V b s e _ rfl, u129_apply V b s e _ rfl, sum31]
  rw [q 0 ⟨s.val, by omega⟩ (Nat.zero_add _).symm, q 1 ⟨1 + s.val, by omega⟩ rfl, q 2 ⟨2 + s.val, by omega⟩ rfl, q 3 ⟨3 + s.val, by omega⟩ rfl, q 4 ⟨4 + s.val, by omega⟩ rfl, q 5 ⟨5 + s.val, by omega⟩ rfl, q 6 ⟨6 + s.val, by omega⟩ rfl, q 7 ⟨7 + s.val, by omega⟩ rfl, q 8 ⟨8 + s.val, by omega⟩ rfl, q 9 ⟨9 + s.val, by omega⟩ rfl, q 10 ⟨10 + s.val, by omega⟩ rfl, q 11 ⟨11 + s.val, by omega⟩ rfl, q 12 ⟨12 + s.val, by omega⟩ rfl, q 13 ⟨13 + s.val, by omega⟩ rfl, q 14 ⟨14 + s.val, by omega⟩ rfl, q 15 ⟨15 + s.val, by omega⟩ rfl, q 16 ⟨16 + s.val, by omega⟩ rfl, q 17 ⟨17 + s.val, by omega⟩ rfl, q 18 ⟨18 + s.val, by omega⟩ rfl, q 19 ⟨19 + s.val, by omega⟩ rfl, q 20 ⟨20 + s.val, by omega⟩ rfl, q 21 ⟨21 + s.val, by omega⟩ rfl, q 22 ⟨22 + s.val, by omega⟩ rfl, q 23 ⟨23 + s.val, by omega⟩ rfl, q 24 ⟨24 + s.val, by omega⟩ rfl, q 25 ⟨25 + s.val, by omega⟩ rfl, q 26 ⟨26 + s.val, by omega⟩ rfl, q 27 ⟨27 + s.val, by omega⟩ rfl, q 28 ⟨28 + s.val, by omega⟩ rfl, q 29 ⟨29 + s.val, by omega⟩ rfl, q 30 ⟨30 + s.val, by omega⟩ rfl]

/-- The centred convolution. -/
theorem centred_apply (b : Fin 8) (s : Fin 2048) (e : Fin 512) : u275 V (ix3 b s e) = u269 V (ix3 b s e) - mean (fun e => u269 V (ix3 b s e)) := by
  unfold u275 res_main_v275 mean u269
  generalize (res_main_v269 V : FVec Ideal S8x2048x512 .f32) = W
  pointwise

/-- The normed convolution. -/
theorem normed_apply (b : Fin 8) (s : Fin 2048) (e : Fin 512) : u291 V (ix3 b s e)
    = u275 V (ix3 b s e) * FloatOps.rsqrt (F := Ideal) (φ := .f32) (mean (fun e => u275 V (ix3 b s e) * u275 V (ix3 b s e)) + Ideal.ofBits .f32 0x358637BD#32) * vG V (ix1 e) + vB V (ix1 e) := by
  unfold u291 res_main_v291 mean u275 vG vB
  generalize (res_main_v275 V : FVec Ideal S8x2048x512 .f32) = W
  generalize (V (Proc.devRef .tc main_arg8) : FVec Ideal S512 .f32) = G
  generalize (V (Proc.devRef .tc main_arg9) : FVec Ideal S512 .f32) = B
  pointwise

theorem lnorm_eq (b : Fin 8) (s : Fin 2048) (e : Fin 512) : u291 V (ix3 b s e)
    = lnorm (fun e => ∑ t : Fin 31, vCw V (ix2 t e) * back (glu (vTail V) e) (rowOf b s) (30 - t.val)) (fun e => vG V (ix1 e)) (fun e => vB V (ix1 e)) e := by
  rw [normed_apply]
  unfold lnorm
  simp only [centred_apply, conv_eq]

/-- The first branch's rows. -/
def aPart : FVec Ideal S8x2048x512 .f32 := mulf (extractStridedSlice S8x2048x512 ![0, 0, 0] (u6 V) slices_S8x2048x1536_S8x2048x512_0_0_0) (addf (addf (addf (broadcastInDim S8x2048x512 ![] bcast_S_S8x2048x512 (constant S_ .f32 0x00000000#32)) (mulf (broadcastInDim S8x2048x512 ![0, 1, 2] bcast_S1x1x512_S8x2048x512_0_1_2 (broadcastInDim S1x1x512 ![2] bcast_S512_S1x1x512_2 (shapeCast _ (extractStridedSlice S1x512 ![0, 0] (vAw V) slices_S3x512_S1x512_0_0) shapeCasts_S1x512_S512))) (extractStridedSlice S8x2048x512 ![0, 0, 0] (u16 V) slices_S8x2050x512_S8x2048x512_0_0_0))) (mulf (broadcastInDim S8x2048x512 ![0, 1, 2] bcast_S1x1x512_S8x2048x512_0_1_2 (broadcastInDim S1x1x512 ![2] bcast_S512_S1x1x512_2 (shapeCast _ (extractStridedSlice S1x512 ![1, 0] (vAw V) slices_S3x512_S1x512_1_0) shapeCasts_S1x512_S512))) (extractStridedSlice S8x2048x512 ![0, 1, 0] (u16 V) slices_S8x2050x512_S8x2048x512_0_1_0))) (mulf (broadcastInDim S8x2048x512 ![0, 1, 2] bcast_S1x1x512_S8x2048x512_0_1_2 (broadcastInDim S1x1x512 ![2] bcast_S512_S1x1x512_2 (shapeCast _ (extractStridedSlice S1x512 ![2, 0] (vAw V) slices_S3x512_S1x512_2_0) shapeCasts_S1x512_S512))) (extractStridedSlice S8x2048x512 ![0, 2, 0] (u16 V) slices_S8x2050x512_S8x2048x512_0_2_0)))

/-- The second branch's rows. -/
def tPart : FVec Ideal S8x2048x512 .f32 := shapeCast _ (extf .f32 (vAtt V) bitsLt_bf16_f32) shapeCasts_S16384x512_S8x2048x512

/-- The third branch's rows. -/
def cPart : FVec Ideal S8x2048x512 .f32 := mulf (u291 V) (Host.divf (broadcastInDim S8x2048x512 ![] bcast_S_S8x2048x512 (constant S_ .f32 0x3F800000#32)) (addf (broadcastInDim S8x2048x512 ![] bcast_S_S8x2048x512 (constant S_ .f32 0x3F800000#32)) (Host.exp (Host.negf (u291 V)))))

/-- The three branches gated, summed, mapped out and added to the input. -/
def mixed (g : FVec Ideal S8x2048x3072 .f32) (a t c : FVec Ideal S8x2048x512 .f32) (x : FVec Ideal S8x2048x1024 .f32) (wa wb wc : FVec Ideal S512x1024 .f32) (wo : FVec Ideal S1024x1024 .f32) : FVec Ideal S16384x1024 .f32 :=
  shapeCast _ (addf x (Host.dotGeneral dot_S8x2048x1024_S1024x1024_S8x2048x1024_2_0_01_1_n_n none (addf (addf (mulf (Host.divf (broadcastInDim S8x2048x1024 ![] bcast_S_S8x2048x1024 (constant S_ .f32 0x3F800000#32)) (addf (broadcastInDim S8x2048x1024 ![] bcast_S_S8x2048x1024 (constant S_ .f32 0x3F800000#32)) (Host.exp (Host.negf (extractStridedSlice S8x2048x1024 ![0, 0, 0] g slices_S8x2048x3072_S8x2048x1024_0_0_0))))) (Host.dotGeneral dot_S8x2048x512_S512x1024_S8x2048x1024_2_0_01_1_n_n none a wa)) (mulf (Host.divf (broadcastInDim S8x2048x1024 ![] bcast_S_S8x2048x1024 (constant S_ .f32 0x3F800000#32)) (addf (broadcastInDim S8x2048x1024 ![] bcast_S_S8x2048x1024 (constant S_ .f32 0x3F800000#32)) (Host.exp (Host.negf (extractStridedSlice S8x2048x1024 ![0, 0, 1024] g slices_S8x2048x3072_S8x2048x1024_0_0_1024))))) (Host.dotGeneral dot_S8x2048x512_S512x1024_S8x2048x1024_2_0_01_1_n_n none t wb))) (mulf (Host.divf (broadcastInDim S8x2048x1024 ![] bcast_S_S8x2048x1024 (constant S_ .f32 0x3F800000#32)) (addf (broadcastInDim S8x2048x1024 ![] bcast_S_S8x2048x1024 (constant S_ .f32 0x3F800000#32)) (Host.exp (Host.negf (extractStridedSlice S8x2048x1024 ![0, 0, 2048] g slices_S8x2048x3072_S8x2048x1024_0_0_2048))))) (Host.dotGeneral dot_S8x2048x512_S512x1024_S8x2048x1024_2_0_01_1_n_n none c wc))) wo)) shapeCasts_S8x2048x1024_S16384x1024

theorem aPart_apply (b : Fin 8) (s : Fin 2048) (e : Fin 512) : aPart V (ix3 b s e) = branchA (vMain V) (vAw V) (rowOf b s) e := by
  have h : aPart V (ix3 b s e) = u6 V (ix3 b s (⟨e.val, by omega⟩ : Fin 1536)) * (vAw V (ix2 (0 : Fin 3) e) * u16 V (ix3 b (⟨s.val, by omega⟩ : Fin 2050) e) + vAw V (ix2 (1 : Fin 3) e) * u16 V (ix3 b (⟨1 + s.val, by omega⟩ : Fin 2050) e) + vAw V (ix2 (2 : Fin 3) e) * u16 V (ix3 b (⟨2 + s.val, by omega⟩ : Fin 2050) e)) := by
    unfold aPart
    generalize u6 V = U
    generalize u16 V = P
    generalize vAw V = W
    pointwise
  have q := u16_back V b s e
  rw [h, u6_apply, q 0 ⟨s.val, by omega⟩ (Nat.zero_add _).symm, q 1 ⟨1 + s.val, by omega⟩ rfl, q 2 ⟨2 + s.val, by omega⟩ rfl]
  rfl

theorem tPart_apply (b : Fin 8) (s : Fin 2048) (e : Fin 512) : tPart V (ix3 b s e) = vAtt V (ix2 (rowOf b s) e) := by
  unfold tPart
  generalize vAtt V = W
  pointwise

theorem cPart_apply (b : Fin 8) (s : Fin 2048) (e : Fin 512) : cPart V (ix3 b s e) = branchC (vTail V) (vCw V) (vG V) (vB V) (rowOf b s) e := by
  have h : cPart V (ix3 b s e) = u291 V (ix3 b s e) * sg (u291 V (ix3 b s e)) := by
    unfold cPart sg
    generalize u291 V = U
    pointwise
  rw [h, lnorm_eq]
  rfl

theorem mixed_apply (g : FVec Ideal S8x2048x3072 .f32) (a t c : FVec Ideal S8x2048x512 .f32) (x : FVec Ideal S8x2048x1024 .f32) (wa wb wc : FVec Ideal S512x1024 .f32) (wo : FVec Ideal S1024x1024 .f32) (r : Fin 16384) (d : Fin 1024)
    (b : Fin 8) (s : Fin 2048) (hb : b.val = r.val / 2048) (hs : s.val = r.val % 2048) :
    mixed g a t c x wa wb wc wo (ix2 r d) = x (ix3 b s d) + ∑ e : Fin 1024, merged (fun n => g (ix3 b s n)) (fun e => ∑ k : Fin 512, a (ix3 b s k) * wa (ix2 k e)) (fun e => ∑ k : Fin 512, t (ix3 b s k) * wb (ix2 k e)) (fun e => ∑ k : Fin 512, c (ix3 b s k) * wc (ix2 k e)) e * wo (ix2 e d) := by
  obtain ⟨b, hb'⟩ := b
  obtain ⟨s, hs'⟩ := s
  obtain rfl : b = r.val / 2048 := hb
  obtain rfl : s = r.val % 2048 := hs
  unfold mixed merged sg
  pointwise

/-- The reference's result. -/
abbrev result : FVec Ideal S16384x1024 .f32 := mixed (u5 V) (aPart V) (tPart V) (cPart V) (vX V) (vWa V) (vWb V) (vWc V) (vWo V)

theorem result_apply (r : Fin 16384) (d : Fin 1024) : result V (ix2 r d)
    = entry (vMain V) (vTail V) (vAtt V) (vX V) (vAw V) (vWa V) (vWb V) (vCw V) (vG V) (vB V) (vWc V) (vWo V) r d := by
  refine (mixed_apply _ _ _ _ _ _ _ _ _ r d (⟨r.val / 2048, by omega⟩ : Fin 8) (⟨r.val % 2048, by omega⟩ : Fin 2048) rfl rfl).trans ?_
  have hr : rowOf (⟨r.val / 2048, by omega⟩ : Fin 8) (⟨r.val % 2048, by omega⟩ : Fin 2048) = r := Fin.ext (by dsimp only; omega)
  simp only [u5_apply, aPart_apply, tPart_apply, cPart_apply, hr]
  rfl

end Cert.Proof.TailReference

end
-- ==== Proof.TailAlgebraic.lean ====
/-
  Over the reals the idealized mixer tail and its reference end with the same result.
-/
module

public import proofs.«01_k».proof.Defs
public import proofs.«01_k».proof.Proof.Gen.Reference3Ideal
public import proofs.«01_k».proof.Proof.TailArray
public import proofs.«01_k».proof.Proof.TailReference

@[expose] public section

noncomputable section

namespace Cert.Proof.TailAlgebraic

open Idealize.ShloMosaic Idealize.ShloMosaic.TcCoe Idealize.SL.Sem
open Cert.Proof.Tail (aMain aTail aAtt aX aAw aWa aWb aCw aG aB aWc aWo entry arr17)
open Cert.Proof.TailReference (vMain vTail vAtt vX vAw vWa vWb vCw vG vB vWc vWo result result_apply)
open Cert.Kernel3Ideal.Gen (dats)

variable (m : (ℓ : Loc Cert.Kernel3Ideal.nD Cert.Kernel3Ideal.τ Cert.Kernel3Ideal.sig) → Buf (Elt Ideal) ℓ) (c : Dev Cert.Kernel3Ideal.nD)

/-- The reference's result at the kernel's arguments is the kernel's. -/
theorem result_eq (V : Valuation Cert.Reference3Ideal.τ Cert.Reference3Ideal.sig (Elt Ideal)) (h0 : vMain V = aMain m c) (h1 : vTail V = aTail m c) (h2 : vAtt V = aAtt m c) (h3 : vX V = aX m c)
    (h4 : vAw V = aAw m c) (h5 : vWa V = aWa m c) (h6 : vWb V = aWb m c) (h7 : vCw V = aCw m c) (h8 : vG V = aG m c) (h9 : vB V = aB m c) (h10 : vWc V = aWc m c) (h11 : vWo V = aWo m c) :
    result V = (dats m 0 c).arrAt 17 Cert.Kernel3Ideal.cfg0.N := by
  have key : ∀ (r : Fin 16384) (n : Fin 1024), result V (ix2 r n) = ((dats m 0 c).arrAt 17 Cert.Kernel3Ideal.cfg0.N : FVec Ideal Cert.Kernel3Ideal.S16384x1024 .f32) (ix2 r n) := fun r n => by
    refine (result_apply V r n).trans (Eq.trans ?_ (arr17 m c r n).symm)
    rw [h0, h1, h2, h3, h4, h5, h6, h7, h8, h9, h10, h11]
  funext y
  obtain ⟨r, n, rfl⟩ : ∃ (r : Fin 16384) (n : Fin 1024), y = ix2 r n := ⟨y 0, y 1, eq_ix2 y⟩
  exact key r n

/-- The value claim of the mixer tail. -/
theorem value : Cert.algebraic_Kernel3Ideal_Reference3Ideal := fun m g m' g' hpre hm =>
  ⟨fun c => (dats m 0 c).arrAt 17 Cert.Kernel3Ideal.cfg0.N,
    Cert.Kernel3Ideal.Value.run_blocks (F := Ideal) m g,
    (θ_run Cert.Reference3Ideal.defs _ _).mono (fun r h c => by
      obtain ⟨h0, h1, h2, h3, h4, h5, h6, h7, h8, h9, h10, h11⟩ := hm c
      exact ⟨(h c).1.trans (result_eq m c (StableHlo.launchContents m' c) h0 h1 h2 h3 h4 h5 h6 h7 h8 h9 h10 h11), (h c).2⟩)
      (Cert.Reference3Ideal.Value.run (F := Ideal) m' g')⟩

end Cert.Proof.TailAlgebraic

end
-- ==== Proof.QkvFrames.lean ====
/-
  The frame claims of the queries, keys and values: the kernel as printed, its ideal reading and the reference.
-/
module

public import proofs.«01_k».proof.Defs
public import proofs.«01_k».proof.Proof.Gen.Kernel4
public import proofs.«01_k».proof.Proof.Gen.Kernel4Ideal.Value
public import proofs.«01_k».proof.Proof.Gen.Reference4Ideal
public import proofs.«01_k».proof.Proof.Gen.Reference4Ideal.Run

@[expose] public section

noncomputable section

namespace Cert.Proof.Qkv

open Idealize.ShloMosaic Idealize.ShloMosaic.TcCoe Idealize.SL.Sem

/-- The kernel over the reals. -/
theorem frame_pi4 : Cert.quiescent_Kernel4Ideal := fun m ρ _ => Cert.Kernel4Ideal.Gen.frame (F := Ideal) m ρ

set_option maxHeartbeats 8000000 in
/-- The kernel as printed is the same text. -/
theorem body_same : @Cert.Kernel4.defs₀ Bits _ _ = @Cert.Kernel4Ideal.defs₀ Bits _ _ := by
  unfold Cert.Kernel4.defs₀ Cert.Kernel4Ideal.defs₀
  refine congrArg (Defs.onTc (nD := Cert.Kernel4Ideal.nD) (τ := Cert.Kernel4Ideal.τ) (sig := Cert.Kernel4Ideal.sig) (Val := Elt Bits) (Λ := Cert.Kernel4Ideal.Λ₀)) ?_
  funext l x
  match l, x with
  | 0, (t, s) => rfl
set_option maxHeartbeats 8000000 in
theorem defs_same : @Cert.Kernel4.defs Bits _ _ = @Cert.Kernel4Ideal.defs Bits _ _ :=
  congrArg (Pipeline.defs (Cert.Kernel4Ideal.pcfgs (F := Bits))) body_same

set_option maxHeartbeats 8000000 in
/-- The host code around it is the same too. -/
theorem main_same : @Cert.Kernel4.main Bits _ _ = @Cert.Kernel4Ideal.main Bits _ _ := by
  unfold Cert.Kernel4.main Cert.Kernel4Ideal.main Cert.Kernel4.fn_remainder.body Cert.Kernel4Ideal.fn_remainder.body
    Cert.Kernel4.fn_where.body Cert.Kernel4Ideal.fn_where.body Cert.Kernel4.fn_where_0.body Cert.Kernel4Ideal.fn_where_0.body
  dsimp only
  rfl

set_option maxHeartbeats 4000000 in
/-- So it runs the same. -/
theorem frame_p4 : Cert.quiescent_Kernel4 := fun m ρ _ => by
  rw [defs_same, main_same]
  exact Cert.Kernel4Ideal.Gen.frame (F := Bits) m ρ

/-- The reference, which has no semaphore. -/
theorem frame_ri4 : Cert.quiescent_Reference4Ideal := fun m ρ _ =>
  (θ_run Cert.Reference4Ideal.defs _ _).mono (fun r h => ⟨fun c => (h c).2.2.2, sem_eq_zero_of_no_sems (by decide) r.2⟩)
    (Cert.Reference4Ideal.Value.run (F := Ideal) m ρ)

end Cert.Proof.Qkv

end
-- ==== Proof.QkvSpec.lean ====
/-
  The queries, keys and values as formulas over the reals.
-/
module

public import proofs.«01_k».proof.Proof.Decode

@[expose] public section

noncomputable section

namespace Cert.Proof.Qkv

open Idealize.ShloMosaic
open Idealize.ShloMosaic.TcCoe Idealize.ShloMosaic.Tactic

/-- An entry of a normed row, whose length is the number of the word `w`. -/
def normed {n : ℕ} (w : BitVec 32) (x g : Fin n → EReal) (k : Fin n) : EReal :=
  x k * FloatOps.rsqrt (F := Ideal) (φ := .f32) (Ideal.div (∑ i : Fin n, x i * x i) (Ideal.ofBits .f32 w) + Ideal.ofBits .f32 0x358637BD#32) * g k

/-- A normed row's product with one column. -/
def dotCol {n : ℕ} (w : BitVec 32) (x g u : Fin n → EReal) : EReal := ∑ k : Fin n, normed w x g k * u k

/-- The factor of the queries. -/
def factor : EReal := Ideal.ofBits .f32 0x3E16C740#32

/-- It is a real that is not negative. -/
theorem factor_real : ∃ r : ℝ, 0 ≤ r ∧ factor = ((r : ℝ) : EReal) := by
  refine ⟨(9881408 : ℝ) * (2 : ℝ) ^ (-26 : ℤ), by positivity, ?_⟩
  unfold factor
  simp [Ideal.ofBits, Ideal.ieee, -EReal.coe_mul]

/-- So it moves into and out of a sum. -/
theorem sum_factor {n : ℕ} (f : Fin n → EReal) : (∑ k, f k * factor) = (∑ k, f k) * factor := by
  obtain ⟨r, hr, e⟩ := factor_real
  have h0 : (0 : EReal) ≤ factor := by rw [e]; exact_mod_cast hr
  have h1 : factor ≠ ⊤ := by rw [e]; exact EReal.coe_ne_top r
  have key : ∀ s : Finset (Fin n), (∑ k ∈ s, f k * factor) = (∑ k ∈ s, f k) * factor := by
    intro s
    induction s using Finset.induction_on with
    | empty => simp
    | insert a s ha ih => rw [Finset.sum_insert ha, Finset.sum_insert ha, ih, EReal.right_distrib_of_nonneg_of_ne_top h0 h1]
  exact key _

/-- A query, from the products `f` of a row, and the row's cosines and sines: a head's 64 plain lanes, its 32 rotary ones and 32 zeros. -/
def query (f : Fin 768 → EReal) (co si : Fin 16 → EReal) (n : Fin 1024) : EReal :=
  if h : n.val % 128 < 64 then f ⟨96 * (n.val / 128) + n.val % 128, by omega⟩
  else if h1 : n.val % 128 < 80 then
    f ⟨96 * (n.val / 128) + n.val % 128, by omega⟩ * co ⟨n.val % 128 - 64, by omega⟩
      - f ⟨96 * (n.val / 128) + n.val % 128 + 16, by omega⟩ * si ⟨n.val % 128 - 64, by omega⟩
  else if h2 : n.val % 128 < 96 then
    f ⟨96 * (n.val / 128) + n.val % 128 - 16, by omega⟩ * si ⟨n.val % 128 - 80, by omega⟩
      + f ⟨96 * (n.val / 128) + n.val % 128, by omega⟩ * co ⟨n.val % 128 - 80, by omega⟩
  else 0

/-- A key likewise; the rotary lanes are the same for all heads. -/
def keyOf (f : Fin 1024 → EReal) (kr : Fin 32 → EReal) (co si : Fin 16 → EReal) (n : Fin 1024) : EReal :=
  if h : n.val % 128 < 64 then f n
  else if h1 : n.val % 128 < 80 then
    kr ⟨n.val % 128 - 64, by omega⟩ * co ⟨n.val % 128 - 64, by omega⟩ - kr ⟨n.val % 128 - 48, by omega⟩ * si ⟨n.val % 128 - 64, by omega⟩
  else if h2 : n.val % 128 < 96 then
    kr ⟨n.val % 128 - 80, by omega⟩ * si ⟨n.val % 128 - 80, by omega⟩ + kr ⟨n.val % 128 - 64, by omega⟩ * co ⟨n.val % 128 - 80, by omega⟩
  else 0

/-- A value: an even head has it in its first 64 lanes, an odd one in its last. -/
def valueOf (f : Fin 1024 → EReal) (n : Fin 1024) : EReal :=
  if h : n.val % 256 < 64 then f ⟨n.val + 64, by omega⟩
  else if h1 : n.val % 256 < 192 then 0
  else f n

section Lanes

variable (f : Fin 768 → EReal) (g : Fin 1024 → EReal) (kr : Fin 32 → EReal) (co si : Fin 16 → EReal) (n : Fin 1024)

theorem query_plain (h : n.val % 128 < 64) (a : Fin 768) (ea : a.val = 96 * (n.val / 128) + n.val % 128) : query f co si n = f a := by
  unfold query
  rw [dif_pos h]
  exact congrArg f (Fin.ext (by dsimp only; omega))
theorem query_low (h : 64 ≤ n.val % 128 ∧ n.val % 128 < 80) (a b : Fin 768) (i : Fin 16) (ea : a.val = 96 * (n.val / 128) + n.val % 128)
    (eb : b.val = a.val + 16) (ei : i.val + 64 = n.val % 128) : query f co si n = f a * co i - f b * si i := by
  unfold query
  rw [dif_neg (by omega), dif_pos h.2]
  refine congrArg₂ (fun a b => a - b) (congrArg₂ (fun a b => a * b) (congrArg f (Fin.ext ?_)) (congrArg co (Fin.ext ?_))) (congrArg₂ (fun a b => a * b) (congrArg f (Fin.ext ?_)) (congrArg si (Fin.ext ?_))) <;> dsimp only <;> omega
theorem query_high (h : 80 ≤ n.val % 128 ∧ n.val % 128 < 96) (a b : Fin 768) (i : Fin 16) (eb : b.val = 96 * (n.val / 128) + n.val % 128)
    (ea : b.val = a.val + 16) (ei : i.val + 80 = n.val % 128) : query f co si n = f a * si i + f b * co i := by
  unfold query
  rw [dif_neg (by omega), dif_neg (by omega), dif_pos h.2]
  refine congrArg₂ (fun a b => a + b) (congrArg₂ (fun a b => a * b) (congrArg f (Fin.ext ?_)) (congrArg si (Fin.ext ?_))) (congrArg₂ (fun a b => a * b) (congrArg f (Fin.ext ?_)) (congrArg co (Fin.ext ?_))) <;> dsimp only <;> omega
theorem query_none (h : 96 ≤ n.val % 128) : query f co si n = 0 := by
  unfold query
  rw [dif_neg (by omega), dif_neg (by omega), dif_neg (by omega)]

theorem key_plain (h : n.val % 128 < 64) : keyOf g kr co si n = g n := by
  unfold keyOf
  rw [dif_pos h]
theorem key_low (h : 64 ≤ n.val % 128 ∧ n.val % 128 < 80) (a b : Fin 32) (i : Fin 16) (ea : a.val + 64 = n.val % 128)
    (eb : b.val = a.val + 16) (ei : i.val + 64 = n.val % 128) : keyOf g kr co si n = kr a * co i - kr b * si i := by
  unfold keyOf
  rw [dif_neg (by omega), dif_pos h.2]
  refine congrArg₂ (fun a b => a - b) (congrArg₂ (fun a b => a * b) (congrArg kr (Fin.ext ?_)) (congrArg co (Fin.ext ?_))) (congrArg₂ (fun a b => a * b) (congrArg kr (Fin.ext ?_)) (congrArg si (Fin.ext ?_))) <;> dsimp only <;> omega
theorem key_high (h : 80 ≤ n.val % 128 ∧ n.val % 128 < 96) (a b : Fin 32) (i : Fin 16) (eb : b.val + 64 = n.val % 128)
    (ea : b.val = a.val + 16) (ei : i.val + 80 = n.val % 128) : keyOf g kr co si n = kr a * si i + kr b * co i := by
  unfold keyOf
  rw [dif_neg (by omega), dif_neg (by omega), dif_pos h.2]
  refine congrArg₂ (fun a b => a + b) (congrArg₂ (fun a b => a * b) (congrArg kr (Fin.ext ?_)) (congrArg si (Fin.ext ?_))) (congrArg₂ (fun a b => a * b) (congrArg kr (Fin.ext ?_)) (congrArg co (Fin.ext ?_))) <;> dsimp only <;> omega
theorem key_none (h : 96 ≤ n.val % 128) : keyOf g kr co si n = 0 := by
  unfold keyOf
  rw [dif_neg (by omega), dif_neg (by omega), dif_neg (by omega)]

theorem value_even (h : n.val % 256 < 64) (a : Fin 1024) (ea : a.val = n.val + 64) : valueOf g n = g a := by
  unfold valueOf
  rw [dif_pos h]
  exact congrArg g (Fin.ext (by dsimp only; omega))
theorem value_none (h : 64 ≤ n.val % 256 ∧ n.val % 256 < 192) : valueOf g n = 0 := by
  unfold valueOf
  rw [dif_neg (by omega), dif_pos h.2]
theorem value_odd (h : 192 ≤ n.val % 256) (a : Fin 1024) (ea : a.val = n.val) : valueOf g n = g a := by
  unfold valueOf
  rw [dif_neg (by omega), dif_neg (by omega)]
  exact congrArg g (Fin.ext (by omega))

end Lanes

end Cert.Proof.Qkv

end
-- ==== Proof.QkvBody.lean ====
/-
  The body of the queries, keys and values over the reals, entry by entry.
-/
module

public import proofs.«01_k».proof.Proof.QkvSpec
public import proofs.«01_k».proof.Proof.Reference
public import proofs.«01_k».proof.Proof.Gen.Kernel4Ideal.Value
public import Idealize.ShloMosaic.Lib.VecWindow

@[expose] public section

set_option maxRecDepth 16384

noncomputable section

namespace Cert.Proof.Qkv

open Cert.Kernel4Ideal Cert.Kernel4Ideal.Gen

open Idealize.ShloMosaic
open Idealize.ShloMosaic.TcCoe Idealize.ShloMosaic.Tactic

/-- Reading a whole buffer back gives what it holds. -/
theorem read_full {sp : Space} {S : Shape} {e : EltTy} {M : Memref sig .tc sp S e} (h : M.IsWhole) (x : S.Idx → Elt Ideal e) (off : Fin S.rank → ℕ) (H : _)
    (h0 : ∀ a, off a = 0) :
    View.readAt (Elt Ideal) M.view (Rect.unit off S.size H).toLoadRect (h.unread x) = x := by
  obtain rfl : off = fun _ => 0 := funext h0
  exact (View.readAt_full (Val := Elt Ideal) M.view _ _).trans (h.read_unread x)

/-- The products of the normed query latents. -/
theorem pay8_apply (v7 : Vec Ideal S512x768 .bf16) (v9 : Vec Ideal S1x768 .f32) (v24 : Vec Ideal S768x1024 .bf16) (j : Fin 512) (n : Fin 1024) :
    k0_pay8 v7 v9 v24 (ix2 j n) = dotCol 0x44400000#32 (fun k : Fin 768 => v7 (ix2 j k)) (fun k => v9 (ix2 (0 : Fin 1) k)) (fun k => v24 (ix2 k n)) := by
  unfold k0_pay8 dotCol normed
  pointwise

/-- The products of the normed key latents. -/
theorem pay23_apply (v107 : Vec Ideal S512x256 .bf16) (v109 : Vec Ideal S1x256 .f32) (v124 : Vec Ideal S256x2048 .bf16) (j : Fin 512) (n : Fin 2048) :
    k0_pay23 (k0_pay19 v107) (k0_pay20 v109) (k0_pay21 v107) (k0_pay22 (F := Ideal)) v124 (ix2 j n)
      = dotCol 0x43800000#32 (fun k : Fin 256 => v107 (ix2 j k)) (fun k => v109 (ix2 (0 : Fin 1) k)) (fun k => v124 (ix2 k n)) := by
  unfold k0_pay23 k0_pay21 k0_pay22 k0_pay20 k0_pay19 dotCol normed
  pointwise

/-- A rotary key. -/
theorem pay24_apply (v0 v2 : Vec Ideal S512x128 .f32) (v127 v131 : Vec Ideal S512x128 .bf16) (j : Fin 512) (l : Fin 128) :
    k0_pay24 (k0_pay5 v0) (k0_pay6 v2) v127 v131 (ix2 j l) = v127 (ix2 j l) * v0 (ix2 j l) + v131 (ix2 j l) * v2 (ix2 j l) := by
  unfold k0_pay24 k0_pay5 k0_pay6
  pointwise

theorem mask_at : ∀ l : Fin 128, IntOp.cmpi .slt (BitVec.ofNat 32 l.val) 80#32 = if l.val < 80 then 1#1 else 0#1 := by decide +kernel

/-- The lanes below 80 take the one, the others the other. -/
theorem pick (l : Fin 128) (a b : EReal) : Scalar.select (IntOp.cmpi .slt (BitVec.ofNat 32 l.val) 80#32) a b = if l.val < 80 then a else b := by
  rw [mask_at]
  by_cases h : l.val < 80
  · rw [if_pos h, if_pos h]; rfl
  · rw [if_neg h, if_neg h]; rfl

/-- A head's products with the cosines, and its exchanged lanes' with the sines. -/
def rot (Q : FVec Ideal S512x1024 .f32) (x4 x5 : Vec Ideal S512x128 .f32) (o : ℕ) (ho : o + 128 ≤ 1024) (j : Fin 512) (l : Fin 128) : EReal :=
  Q (ix2 j (⟨o + l.val, by omega⟩ : Fin 1024)) * x4 (ix2 j l)
    + (if l.val < 80 then Q (ix2 j (⟨o + (l.val + 128 - 112) % 128, by omega⟩ : Fin 1024)) else Q (ix2 j (⟨o + (l.val + 128 - 16) % 128, by omega⟩ : Fin 1024))) * x5 (ix2 j l)

/-- A row of the queries' block. -/
def queryB (Q : FVec Ideal S512x1024 .f32) (x4 x5 : Vec Ideal S512x128 .f32) (j : Fin 512) (n : Fin 1024) : EReal :=
  rot Q x4 x5 (128 * (n.val / 128)) (by omega) j ⟨n.val % 128, by omega⟩

/-- A row of the keys' block. -/
def keyB (K : FVec Ideal S512x2048 .f32) (R : FVec Ideal S512x128 .f32) (j : Fin 512) (n : Fin 1024) : EReal :=
  K (ix2 j (⟨n.val, by omega⟩ : Fin 2048)) + R (ix2 j (⟨n.val % 128, by omega⟩ : Fin 128))

theorem queryB_at (Q : FVec Ideal S512x1024 .f32) (x4 x5 : Vec Ideal S512x128 .f32) (j : Fin 512) (o : ℕ) (ho : o + 128 ≤ 1024) (l : Fin 128) (h8 : o % 128 = 0)
    (j' : Fin 512) (n : Fin 1024) (ej : j'.val = j.val) (en : n.val = o + l.val) : rot Q x4 x5 o ho j l = queryB Q x4 x5 j' n := by
  obtain rfl : j' = j := Fin.ext ej
  obtain ⟨q, rfl⟩ : ∃ q, o = 128 * q := ⟨o / 128, by omega⟩
  have e1 : n.val / 128 = q := by omega
  have e2 : (⟨n.val % 128, by omega⟩ : Fin 128) = l := Fin.ext (by dsimp only; omega)
  unfold queryB
  rw [e2]
  subst e1
  rfl
theorem keyB_at (K : FVec Ideal S512x2048 .f32) (R : FVec Ideal S512x128 .f32) (j : Fin 512) (o : ℕ) (ho : o + 128 ≤ 1024) (l : Fin 128) (h8 : o % 128 = 0)
    (j' : Fin 512) (n : Fin 1024) (ej : j'.val = j.val) (en : n.val = o + l.val) : K (ix2 j (⟨o + l.val, by omega⟩ : Fin 2048)) + R (ix2 j l) = keyB K R j' n := by
  obtain rfl : j' = j := Fin.ext ej
  unfold keyB
  exact congrArg₂ (fun a b => K (ix2 j' a) + R (ix2 j' b)) (Fin.ext en.symm) (Fin.ext (by dsimp only; omega))

theorem pay12_apply (Q : FVec Ideal S512x1024 .f32) (x4 x5 : Vec Ideal S512x128 .f32) (j : Fin 512) (l : Fin 128) :
    k0_pay12 (k0_pay5 x4) (k0_pay6 x5) k0_pay7 Q (ix2 j l) = rot Q x4 x5 256 (by omega) j l := by
  unfold k0_pay12 k0_pay5 k0_pay6 k0_pay7 rot
  pointwise
  rw [pick]
theorem pay13_apply (Q : FVec Ideal S512x1024 .f32) (x4 x5 : Vec Ideal S512x128 .f32) (j : Fin 512) (l : Fin 128) :
    k0_pay13 (k0_pay5 x4) (k0_pay6 x5) k0_pay7 Q (ix2 j l) = rot Q x4 x5 384 (by omega) j l := by
  unfold k0_pay13 k0_pay5 k0_pay6 k0_pay7 rot
  pointwise
  rw [pick]
theorem pay14_apply (Q : FVec Ideal S512x1024 .f32) (x4 x5 : Vec Ideal S512x128 .f32) (j : Fin 512) (l : Fin 128) :
    k0_pay14 (k0_pay5 x4) (k0_pay6 x5) k0_pay7 Q (ix2 j l) = rot Q x4 x5 512 (by omega) j l := by
  unfold k0_pay14 k0_pay5 k0_pay6 k0_pay7 rot
  pointwise
  rw [pick]
theorem pay17_apply (Q : FVec Ideal S512x1024 .f32) (x4 x5 : Vec Ideal S512x128 .f32) (j : Fin 512) (l : Fin 128) :
    k0_pay17 (k0_pay5 x4) (k0_pay6 x5) k0_pay7 Q (ix2 j l) = rot Q x4 x5 768 (by omega) j l := by
  unfold k0_pay17 k0_pay5 k0_pay6 k0_pay7 rot
  pointwise
  rw [pick]
theorem pay18_apply (Q : FVec Ideal S512x1024 .f32) (x4 x5 : Vec Ideal S512x128 .f32) (j : Fin 512) (l : Fin 128) :
    k0_pay18 (k0_pay5 x4) (k0_pay6 x5) k0_pay7 Q (ix2 j l) = rot Q x4 x5 896 (by omega) j l := by
  unfold k0_pay18 k0_pay5 k0_pay6 k0_pay7 rot
  pointwise
  rw [pick]
theorem pay16_apply (Q : FVec Ideal S512x1024 .f32) (x4 x5 : Vec Ideal S512x128 .f32) (j : Fin 512) (l : Fin 128) :
    k0_pay16 (k0_pay6 x5) k0_pay7 Q (k0_pay15 (k0_pay5 x4) Q) (ix2 j l) = rot Q x4 x5 640 (by omega) j l := by
  unfold k0_pay16 k0_pay15 k0_pay5 k0_pay6 k0_pay7 rot
  pointwise
  rw [pick]
theorem pay11_apply (v7 : Vec Ideal S512x768 .bf16) (v9 : Vec Ideal S1x768 .f32) (v24 : Vec Ideal S768x1024 .bf16) (x4 x5 : Vec Ideal S512x128 .f32) (j : Fin 512) (l : Fin 128) :
    k0_pay11 (k0_pay6 x5) k0_pay7 (k0_pay8 v7 v9 v24) (k0_pay10 x4 v7 v9 v24) (ix2 j l) = rot (k0_pay8 v7 v9 v24) x4 x5 128 (by omega) j l := by
  unfold k0_pay11 k0_pay10
  generalize k0_pay8 v7 v9 v24 = Q
  unfold k0_pay5 k0_pay6 k0_pay7 rot
  pointwise
  rw [pick]
theorem pay9_apply (v7 : Vec Ideal S512x768 .bf16) (v9 : Vec Ideal S1x768 .f32) (v24 : Vec Ideal S768x1024 .bf16) (x4 x5 : Vec Ideal S512x128 .f32) (j : Fin 512) (l : Fin 128) :
    k0_pay9 x4 x5 v7 v9 v24 (ix2 j l) = rot (k0_pay8 v7 v9 v24) x4 x5 0 (by omega) j l := by
  unfold k0_pay9
  generalize k0_pay8 v7 v9 v24 = Q
  unfold k0_pay5 k0_pay6 k0_pay7 rot
  pointwise
  rw [pick]
theorem pay1_apply (K : FVec Ideal S512x2048 .f32) (R : FVec Ideal S512x128 .f32) (j : Fin 512) (l : Fin 128) :
    k0_pay1 K R (ix2 j l) = K (ix2 j (⟨640 + l.val, by omega⟩ : Fin 2048)) + R (ix2 j l) := by
  unfold k0_pay1
  pointwise
theorem pay2_apply (K : FVec Ideal S512x2048 .f32) (R : FVec Ideal S512x128 .f32) (j : Fin 512) (l : Fin 128) :
    k0_pay2 K R (ix2 j l) = K (ix2 j (⟨768 + l.val, by omega⟩ : Fin 2048)) + R (ix2 j l) := by
  unfold k0_pay2
  pointwise
theorem pay3_apply (K : FVec Ideal S512x2048 .f32) (R : FVec Ideal S512x128 .f32) (j : Fin 512) (l : Fin 128) :
    k0_pay3 K R (ix2 j l) = K (ix2 j (⟨896 + l.val, by omega⟩ : Fin 2048)) + R (ix2 j l) := by
  unfold k0_pay3
  pointwise
theorem pay25_apply (v1 v3 : FVec Ideal S512x128 .f32) (v108 : FVec Ideal S512x256 .f32) (v110 : FVec Ideal S1x256 .f32) (v115 v116 : FVec Ideal S512x1 .f32) (v124 : Vec Ideal S256x2048 .bf16) (v127 v131 : Vec Ideal S512x128 .bf16) (j : Fin 512) (l : Fin 128) :
    k0_pay25 v1 v3 v108 v110 v115 v116 v124 v127 v131 (ix2 j l) = k0_pay23 v108 v110 v115 v116 v124 (ix2 j (⟨0 + l.val, by omega⟩ : Fin 2048)) + k0_pay24 v1 v3 v127 v131 (ix2 j l) := by
  unfold k0_pay25
  generalize k0_pay23 v108 v110 v115 v116 v124 = K
  generalize k0_pay24 v1 v3 v127 v131 = R
  pointwise
theorem pay26_apply (v1 v3 : FVec Ideal S512x128 .f32) (v108 : FVec Ideal S512x256 .f32) (v110 : FVec Ideal S1x256 .f32) (v115 v116 : FVec Ideal S512x1 .f32) (v124 : Vec Ideal S256x2048 .bf16) (v127 v131 : Vec Ideal S512x128 .bf16) (j : Fin 512) (l : Fin 128) :
    k0_pay26 v1 v3 v108 v110 v115 v116 v124 v127 v131 (ix2 j l) = k0_pay23 v108 v110 v115 v116 v124 (ix2 j (⟨128 + l.val, by omega⟩ : Fin 2048)) + k0_pay24 v1 v3 v127 v131 (ix2 j l) := by
  unfold k0_pay26
  generalize k0_pay23 v108 v110 v115 v116 v124 = K
  generalize k0_pay24 v1 v3 v127 v131 = R
  pointwise
theorem pay27_apply (v1 v3 : FVec Ideal S512x128 .f32) (v108 : FVec Ideal S512x256 .f32) (v110 : FVec Ideal S1x256 .f32) (v115 v116 : FVec Ideal S512x1 .f32) (v124 : Vec Ideal S256x2048 .bf16) (v127 v131 : Vec Ideal S512x128 .bf16) (j : Fin 512) (l : Fin 128) :
    k0_pay27 v1 v3 v108 v110 v115 v116 v124 v127 v131 (ix2 j l) = k0_pay23 v108 v110 v115 v116 v124 (ix2 j (⟨256 + l.val, by omega⟩ : Fin 2048)) + k0_pay24 v1 v3 v127 v131 (ix2 j l) := by
  unfold k0_pay27
  generalize k0_pay23 v108 v110 v115 v116 v124 = K
  generalize k0_pay24 v1 v3 v127 v131 = R
  pointwise
theorem pay28_apply (v1 v3 : FVec Ideal S512x128 .f32) (v108 : FVec Ideal S512x256 .f32) (v110 : FVec Ideal S1x256 .f32) (v115 v116 : FVec Ideal S512x1 .f32) (v124 : Vec Ideal S256x2048 .bf16) (v127 v131 : Vec Ideal S512x128 .bf16) (j : Fin 512) (l : Fin 128) :
    k0_pay28 v1 v3 v108 v110 v115 v116 v124 v127 v131 (ix2 j l) = k0_pay23 v108 v110 v115 v116 v124 (ix2 j (⟨384 + l.val, by omega⟩ : Fin 2048)) + k0_pay24 v1 v3 v127 v131 (ix2 j l) := by
  unfold k0_pay28
  generalize k0_pay23 v108 v110 v115 v116 v124 = K
  generalize k0_pay24 v1 v3 v127 v131 = R
  pointwise
theorem pay29_apply (v1 v3 : FVec Ideal S512x128 .f32) (v108 : FVec Ideal S512x256 .f32) (v110 : FVec Ideal S1x256 .f32) (v115 v116 : FVec Ideal S512x1 .f32) (v124 : Vec Ideal S256x2048 .bf16) (v127 v131 : Vec Ideal S512x128 .bf16) (j : Fin 512) (l : Fin 128) :
    k0_pay29 v1 v3 v108 v110 v115 v116 v124 v127 v131 (ix2 j l) = k0_pay23 v108 v110 v115 v116 v124 (ix2 j (⟨512 + l.val, by omega⟩ : Fin 2048)) + k0_pay24 v1 v3 v127 v131 (ix2 j l) := by
  unfold k0_pay29
  generalize k0_pay23 v108 v110 v115 v116 v124 = K
  generalize k0_pay24 v1 v3 v127 v131 = R
  pointwise
theorem pay4_apply (K : FVec Ideal S512x2048 .f32) (j : Fin 512) (n : Fin 1024) :
    k0_pay4 K (ix2 j n) = K (ix2 j (⟨1024 + n.val, by omega⟩ : Fin 2048)) := by
  unfold k0_pay4
  pointwise

/-- An entry lies in the columns of a piece. -/
theorem in_cols (o : ℕ) (H : ∀ a, (![0, o] : Fin 2 → ℕ) a + (![512, 128] : Fin 2 → ℕ) a ≤ S512x1024.size a) (j : Fin 512) (n : Fin 1024)
    (h1 : o ≤ n.val) (h2 : n.val < o + 128) :
    (ix2 j n : S512x1024.Idx) ∈ (Rect.unit (s := S512x1024) ![0, o] ![512, 128] H).set := by
  rw [LoadRect.mem_set]
  intro a
  match a with
  | ⟨0, _⟩ => exact ⟨j.val, j.isLt, show j.val = 0 + 1 * j.val by omega⟩
  | ⟨1, _⟩ => exact ⟨n.val - o, show _ < 128 by omega, show n.val = o + 1 * (n.val - o) by omega⟩

/-- Pieces that all hold the entries of one function hold it together. -/
theorem pieces_apply (G : S512x1024.Idx → EReal) (L : List (View.Piece (Elt Ideal) S512x1024 .bf16)) (hp : View.PiecesOf (Val := Elt Ideal) (e := .bf16) G L) (y : S512x1024.Idx)
    (hc : ∃ p ∈ L, y ∈ p.1.set) : View.canon (Val := Elt Ideal) L y = G y := by
  have key := View.canon_append_of_piecesOf (Val := Elt Ideal) (e := .bf16) G [] L hp y hc
  rw [List.append_nil] at key
  exact key

section

variable (c : Dev nD) (i : grid0.Coords) (arg1 : Memref sig .tc .vmem S512x768 .bf16) (harg1 : arg1.IsWhole) (arg2 : Memref sig .tc .vmem S512x256 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S1x768 .f32) (harg7 : arg7.IsWhole) (arg8 : Memref sig .tc .vmem S1x256 .f32) (harg8 : arg8.IsWhole) (arg9 : Memref sig .tc .vmem S768x1024 .bf16) (harg9 : arg9.IsWhole) (arg10 : Memref sig .tc .vmem S256x2048 .bf16) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S512x1024 .bf16) (harg13 : arg13.IsWhole)
    (x0 : Vec Ideal S512x768 .bf16) (x1 : Vec Ideal S512x256 .bf16) (x2 : Vec Ideal S512x128 .bf16) (x3 : Vec Ideal S512x128 .bf16) (x4 : Vec Ideal S512x128 .f32) (x5 : Vec Ideal S512x128 .f32) (x6 : Vec Ideal S1x768 .f32) (x7 : Vec Ideal S1x256 .f32) (x8 : Vec Ideal S768x1024 .bf16) (x9 : Vec Ideal S256x2048 .bf16)

theorem out10_apply (j : Fin 512) (n : Fin 1024) :
    out0_A_10 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 (ix2 j n)
      = queryB (k0_pay8 x0 x6 x8) x4 x5 j n := by
  let G : S512x1024.Idx → EReal := fun y => queryB (k0_pay8 x0 x6 x8) x4 x5 (⟨(y 0).val, (y 0).isLt⟩ : Fin 512) (⟨(y 1).val, (y 1).isLt⟩ : Fin 1024)
  unfold out0_A_10
  dsimp only [kernelRun0_A]
  rw [View.read_writes_junk_eq_canon]
  unfold kernelRun0_A.sl.r_4 kernelRun0_A.sl.r_3 kernelRun0_A.sl.r_2 kernelRun0_A.sl.r_1 kernelRun0_A.sl.r
  repeat rw [read_full harg1 x0 _ _ (by decide), read_full harg7 x6 _ _ (by decide), read_full harg9 x8 _ _ (by decide), read_full harg5 x4 _ _ (by decide), read_full harg6 x5 _ _ (by decide)]
  refine pieces_apply G _ ?_ (ix2 j n) ?_
  · refine ⟨fun y => ?_, fun y => ?_, fun y => ?_, fun y => ?_, fun y => ?_, fun y => ?_, fun y => ?_, fun y => ?_, trivial⟩
    · obtain ⟨a, b, rfl⟩ : ∃ (a : Fin 512) (b : Fin 128), y = ix2 a b := ⟨y 0, y 1, eq_ix2 y⟩
      exact (pay18_apply _ _ _ a b).trans (queryB_at _ _ _ _ 896 (by omega) b (by omega) _ _ (show 0 + 1 * a.val = a.val by omega) (show 896 + 1 * b.val = 896 + b.val by omega))
    · obtain ⟨a, b, rfl⟩ : ∃ (a : Fin 512) (b : Fin 128), y = ix2 a b := ⟨y 0, y 1, eq_ix2 y⟩
      exact (pay17_apply _ _ _ a b).trans (queryB_at _ _ _ _ 768 (by omega) b (by omega) _ _ (show 0 + 1 * a.val = a.val by omega) (show 768 + 1 * b.val = 768 + b.val by omega))
    · obtain ⟨a, b, rfl⟩ : ∃ (a : Fin 512) (b : Fin 128), y = ix2 a b := ⟨y 0, y 1, eq_ix2 y⟩
      exact (pay16_apply _ _ _ a b).trans (queryB_at _ _ _ _ 640 (by omega) b (by omega) _ _ (show 0 + 1 * a.val = a.val by omega) (show 640 + 1 * b.val = 640 + b.val by omega))
    · obtain ⟨a, b, rfl⟩ : ∃ (a : Fin 512) (b : Fin 128), y = ix2 a b := ⟨y 0, y 1, eq_ix2 y⟩
      exact (pay14_apply _ _ _ a b).trans (queryB_at _ _ _ _ 512 (by omega) b (by omega) _ _ (show 0 + 1 * a.val = a.val by omega) (show 512 + 1 * b.val = 512 + b.val by omega))
    · obtain ⟨a, b, rfl⟩ : ∃ (a : Fin 512) (b : Fin 128), y = ix2 a b := ⟨y 0, y 1, eq_ix2 y⟩
      exact (pay13_apply _ _ _ a b).trans (queryB_at _ _ _ _ 384 (by omega) b (by omega) _ _ (show 0 + 1 * a.val = a.val by omega) (show 384 + 1 * b.val = 384 + b.val by omega))
    · obtain ⟨a, b, rfl⟩ : ∃ (a : Fin 512) (b : Fin 128), y = ix2 a b := ⟨y 0, y 1, eq_ix2 y⟩
      exact (pay12_apply _ _ _ a b).trans (queryB_at _ _ _ _ 256 (by omega) b (by omega) _ _ (show 0 + 1 * a.val = a.val by omega) (show 256 + 1 * b.val = 256 + b.val by omega))
    · obtain ⟨a, b, rfl⟩ : ∃ (a : Fin 512) (b : Fin 128), y = ix2 a b := ⟨y 0, y 1, eq_ix2 y⟩
      exact (pay11_apply _ _ _ _ _ a b).trans (queryB_at _ _ _ _ 128 (by omega) b (by omega) _ _ (show 0 + 1 * a.val = a.val by omega) (show 128 + 1 * b.val = 128 + b.val by omega))
    · obtain ⟨a, b, rfl⟩ : ∃ (a : Fin 512) (b : Fin 128), y = ix2 a b := ⟨y 0, y 1, eq_ix2 y⟩
      exact (pay9_apply _ _ _ _ _ a b).trans (queryB_at _ _ _ _ 0 (by omega) b (by omega) _ _ (show 0 + 1 * a.val = a.val by omega) (show 0 + 1 * b.val = 0 + b.val by omega))
  · have hn := n.isLt
    rcases (by omega : n.val < 128 ∨ (128 ≤ n.val ∧ n.val < 256) ∨ (256 ≤ n.val ∧ n.val < 384) ∨ (384 ≤ n.val ∧ n.val < 512) ∨ (512 ≤ n.val ∧ n.val < 640)
      ∨ (640 ≤ n.val ∧ n.val < 768) ∨ (768 ≤ n.val ∧ n.val < 896) ∨ (896 ≤ n.val ∧ n.val < 1024)) with h | h | h | h | h | h | h | h
    · exact ⟨_, .tail _ (.tail _ (.tail _ (.tail _ (.tail _ (.tail _ (.tail _ (.head _))))))), in_cols 0 (by decide) j n (by omega) (by omega)⟩
    · exact ⟨_, .tail _ (.tail _ (.tail _ (.tail _ (.tail _ (.tail _ (.head _)))))), in_cols 128 (by decide) j n (by omega) (by omega)⟩
    · exact ⟨_, .tail _ (.tail _ (.tail _ (.tail _ (.tail _ (.head _))))), in_cols 256 (by decide) j n (by omega) (by omega)⟩
    · exact ⟨_, .tail _ (.tail _ (.tail _ (.tail _ (.head _)))), in_cols 384 (by decide) j n (by omega) (by omega)⟩
    · exact ⟨_, .tail _ (.tail _ (.tail _ (.head _))), in_cols 512 (by decide) j n (by omega) (by omega)⟩
    · exact ⟨_, .tail _ (.tail _ (.head _)), in_cols 640 (by decide) j n (by omega) (by omega)⟩
    · exact ⟨_, .tail _ (.head _), in_cols 768 (by decide) j n (by omega) (by omega)⟩
    · exact ⟨_, .head _, in_cols 896 (by decide) j n (by omega) (by omega)⟩

theorem out11_apply (j : Fin 512) (n : Fin 1024) :
    out0_A_11 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 (ix2 j n)
      = keyB (k0_pay23 (k0_pay19 x1) (k0_pay20 x7) (k0_pay21 x1) (k0_pay22 (F := Ideal)) x9) (k0_pay24 (k0_pay5 x4) (k0_pay6 x5) x2 x3) j n := by
  let G : S512x1024.Idx → EReal := fun y => keyB (k0_pay23 (k0_pay19 x1) (k0_pay20 x7) (k0_pay21 x1) (k0_pay22 (F := Ideal)) x9) (k0_pay24 (k0_pay5 x4) (k0_pay6 x5) x2 x3) (⟨(y 0).val, (y 0).isLt⟩ : Fin 512) (⟨(y 1).val, (y 1).isLt⟩ : Fin 1024)
  unfold out0_A_11
  dsimp only [kernelRun0_A]
  rw [View.read_writes_junk_eq_canon]
  unfold kernelRun0_A.sl.r_10 kernelRun0_A.sl.r_9 kernelRun0_A.sl.r_8 kernelRun0_A.sl.r_7 kernelRun0_A.sl.r_6 kernelRun0_A.sl.r_5 kernelRun0_A.sl.r_1 kernelRun0_A.sl.r
  repeat rw [read_full harg2 x1 _ _ (by decide), read_full harg8 x7 _ _ (by decide), read_full harg10 x9 _ _ (by decide), read_full harg5 x4 _ _ (by decide), read_full harg6 x5 _ _ (by decide), read_full harg3 x2 _ _ (by decide), read_full harg4 x3 _ _ (by decide)]
  refine pieces_apply G _ ?_ (ix2 j n) ?_
  · refine ⟨fun y => ?_, fun y => ?_, fun y => ?_, fun y => ?_, fun y => ?_, fun y => ?_, fun y => ?_, fun y => ?_, trivial⟩
    · obtain ⟨a, b, rfl⟩ : ∃ (a : Fin 512) (b : Fin 128), y = ix2 a b := ⟨y 0, y 1, eq_ix2 y⟩
      exact (pay3_apply _ _ a b).trans (keyB_at _ _ _ 896 (by omega) b (by omega) _ _ (show 0 + 1 * a.val = a.val by omega) (show 896 + 1 * b.val = 896 + b.val by omega))
    · obtain ⟨a, b, rfl⟩ : ∃ (a : Fin 512) (b : Fin 128), y = ix2 a b := ⟨y 0, y 1, eq_ix2 y⟩
      exact (pay2_apply _ _ a b).trans (keyB_at _ _ _ 768 (by omega) b (by omega) _ _ (show 0 + 1 * a.val = a.val by omega) (show 768 + 1 * b.val = 768 + b.val by omega))
    · obtain ⟨a, b, rfl⟩ : ∃ (a : Fin 512) (b : Fin 128), y = ix2 a b := ⟨y 0, y 1, eq_ix2 y⟩
      exact (pay1_apply _ _ a b).trans (keyB_at _ _ _ 640 (by omega) b (by omega) _ _ (show 0 + 1 * a.val = a.val by omega) (show 640 + 1 * b.val = 640 + b.val by omega))
    · obtain ⟨a, b, rfl⟩ : ∃ (a : Fin 512) (b : Fin 128), y = ix2 a b := ⟨y 0, y 1, eq_ix2 y⟩
      exact (pay29_apply _ _ _ _ _ _ _ _ _ a b).trans (keyB_at _ _ _ 512 (by omega) b (by omega) _ _ (show 0 + 1 * a.val = a.val by omega) (show 512 + 1 * b.val = 512 + b.val by omega))
    · obtain ⟨a, b, rfl⟩ : ∃ (a : Fin 512) (b : Fin 128), y = ix2 a b := ⟨y 0, y 1, eq_ix2 y⟩
      exact (pay28_apply _ _ _ _ _ _ _ _ _ a b).trans (keyB_at _ _ _ 384 (by omega) b (by omega) _ _ (show 0 + 1 * a.val = a.val by omega) (show 384 + 1 * b.val = 384 + b.val by omega))
    · obtain ⟨a, b, rfl⟩ : ∃ (a : Fin 512) (b : Fin 128), y = ix2 a b := ⟨y 0, y 1, eq_ix2 y⟩
      exact (pay27_apply _ _ _ _ _ _ _ _ _ a b).trans (keyB_at _ _ _ 256 (by omega) b (by omega) _ _ (show 0 + 1 * a.val = a.val by omega) (show 256 + 1 * b.val = 256 + b.val by omega))
    · obtain ⟨a, b, rfl⟩ : ∃ (a : Fin 512) (b : Fin 128), y = ix2 a b := ⟨y 0, y 1, eq_ix2 y⟩
      exact (pay26_apply _ _ _ _ _ _ _ _ _ a b).trans (keyB_at _ _ _ 128 (by omega) b (by omega) _ _ (show 0 + 1 * a.val = a.val by omega) (show 128 + 1 * b.val = 128 + b.val by omega))
    · obtain ⟨a, b, rfl⟩ : ∃ (a : Fin 512) (b : Fin 128), y = ix2 a b := ⟨y 0, y 1, eq_ix2 y⟩
      exact (pay25_apply _ _ _ _ _ _ _ _ _ a b).trans (keyB_at _ _ _ 0 (by omega) b (by omega) _ _ (show 0 + 1 * a.val = a.val by omega) (show 0 + 1 * b.val = 0 + b.val by omega))
  · have hn := n.isLt
    rcases (by omega : n.val < 128 ∨ (128 ≤ n.val ∧ n.val < 256) ∨ (256 ≤ n.val ∧ n.val < 384) ∨ (384 ≤ n.val ∧ n.val < 512) ∨ (512 ≤ n.val ∧ n.val < 640)
      ∨ (640 ≤ n.val ∧ n.val < 768) ∨ (768 ≤ n.val ∧ n.val < 896) ∨ (896 ≤ n.val ∧ n.val < 1024)) with h | h | h | h | h | h | h | h
    · exact ⟨_, .tail _ (.tail _ (.tail _ (.tail _ (.tail _ (.tail _ (.tail _ (.head _))))))), in_cols 0 (by decide) j n (by omega) (by omega)⟩
    · exact ⟨_, .tail _ (.tail _ (.tail _ (.tail _ (.tail _ (.tail _ (.head _)))))), in_cols 128 (by decide) j n (by omega) (by omega)⟩
    · exact ⟨_, .tail _ (.tail _ (.tail _ (.tail _ (.tail _ (.head _))))), in_cols 256 (by decide) j n (by omega) (by omega)⟩
    · exact ⟨_, .tail _ (.tail _ (.tail _ (.tail _ (.head _)))), in_cols 384 (by decide) j n (by omega) (by omega)⟩
    · exact ⟨_, .tail _ (.tail _ (.tail _ (.head _))), in_cols 512 (by decide) j n (by omega) (by omega)⟩
    · exact ⟨_, .tail _ (.tail _ (.head _)), in_cols 640 (by decide) j n (by omega) (by omega)⟩
    · exact ⟨_, .tail _ (.head _), in_cols 768 (by decide) j n (by omega) (by omega)⟩
    · exact ⟨_, .head _, in_cols 896 (by decide) j n (by omega) (by omega)⟩

theorem out12_apply (j : Fin 512) (n : Fin 1024) :
    out0_A_12 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 (ix2 j n)
      = (k0_pay23 (k0_pay19 x1) (k0_pay20 x7) (k0_pay21 x1) (k0_pay22 (F := Ideal)) x9) (ix2 j (⟨1024 + n.val, by omega⟩ : Fin 2048)) := by
  unfold out0_A_12
  dsimp only [kernelRun0_A]
  rw [View.read_writes_junk_eq_canon]
  refine (congrFun (View.canon_cons_unit_lit (S := S512x1024) inb_S512x1024_S512x1024_0_0 _ [] (by decide)) (ix2 j n)).trans ?_
  refine (pay4_apply _ j n).trans ?_
  unfold kernelRun0_A.sl.r_8 kernelRun0_A.sl.r_7 kernelRun0_A.sl.r_6 kernelRun0_A.sl.r_5
  repeat rw [read_full harg2 x1 _ _ (by decide), read_full harg8 x7 _ _ (by decide), read_full harg10 x9 _ _ (by decide)]

end

end Cert.Proof.Qkv

end
-- ==== Proof.QkvReference.lean ====
/-
  The reference of the queries, keys and values over the reals, entry by entry: the formulas.
-/
module

public import proofs.«01_k».proof.Proof.QkvSpec
public import proofs.«01_k».proof.Proof.Reference
public import proofs.«01_k».proof.Proof.Gen.Reference4Ideal.Run

@[expose] public section

set_option maxRecDepth 8192

noncomputable section

namespace Cert.Proof.QkvReference

open Cert.Reference4Ideal Cert.Reference4Ideal.Gen
open Cert.Proof.Qkv (normed dotCol factor query keyOf valueOf query_plain query_low query_high query_none key_plain key_low key_high key_none value_even value_none value_odd)

open Idealize.ShloMosaic
open Idealize.ShloMosaic.TcCoe Idealize.ShloMosaic.Tactic

/-- The products of the normed query latents, with the factor. -/
def qProd (xM : FVec Ideal S16384x5632 .bf16) (gQ : FVec Ideal S768 .f32) (wQ : FVec Ideal S768x768 .f32) : FVec Ideal S16384x8x96 .f32 :=
  (mulf (shapeCast _ (Host.dotGeneral dot_S16384x768_S768x768_S16384x768_1_0_0_1_n_n none (mulf (mulf (extractStridedSlice S16384x768 ![0, 4608] (extf .f32 xM bitsLt_bf16_f32) slices_S16384x5632_S16384x768_0_4608) (broadcastInDim S16384x768 ![0, 1] bcast_S16384x1_S16384x768_0_1 (Host.rsqrt (addf (Host.divf (broadcastInDim S16384x1 ![0] bcast_S16384_S16384x1_0 (Host.reduceAdd (mulf (extractStridedSlice S16384x768 ![0, 4608] (extf .f32 xM bitsLt_bf16_f32) slices_S16384x5632_S16384x768_0_4608) (extractStridedSlice S16384x768 ![0, 4608] (extf .f32 xM bitsLt_bf16_f32) slices_S16384x5632_S16384x768_0_4608)) (constant S_ .f32 0x00000000#32) reducesTo_S16384x768_S16384_d1 h_S_)) (broadcastInDim S16384x1 ![] bcast_S_S16384x1 (constant S_ .f32 0x44400000#32))) (broadcastInDim S16384x1 ![] bcast_S_S16384x1 (constant S_ .f32 0x358637BD#32)))))) (broadcastInDim S16384x768 ![0, 1] bcast_S1x768_S16384x768_0_1 (broadcastInDim S1x768 ![1] bcast_S768_S1x768_1 gQ))) wQ) shapeCasts_S16384x768_S16384x8x96) (broadcastInDim S16384x8x96 ![] bcast_S_S16384x8x96 (constant S_ .f32 0x3E16C740#32)))

/-- The products of the normed key latents. -/
def kvProd (xM : FVec Ideal S16384x5632 .bf16) (gK : FVec Ideal S256 .f32) (wK : FVec Ideal S256x1024 .f32) : FVec Ideal S16384x8x128 .f32 :=
  (shapeCast _ (Host.dotGeneral dot_S16384x256_S256x1024_S16384x1024_1_0_0_1_n_n none (mulf (mulf (extractStridedSlice S16384x256 ![0, 5376] (extf .f32 xM bitsLt_bf16_f32) slices_S16384x5632_S16384x256_0_5376) (broadcastInDim S16384x256 ![0, 1] bcast_S16384x1_S16384x256_0_1 (Host.rsqrt (addf (Host.divf (broadcastInDim S16384x1 ![0] bcast_S16384_S16384x1_0 (Host.reduceAdd (mulf (extractStridedSlice S16384x256 ![0, 5376] (extf .f32 xM bitsLt_bf16_f32) slices_S16384x5632_S16384x256_0_5376) (extractStridedSlice S16384x256 ![0, 5376] (extf .f32 xM bitsLt_bf16_f32) slices_S16384x5632_S16384x256_0_5376)) (constant S_ .f32 0x00000000#32) reducesTo_S16384x256_S16384_d1 h_S_)) (broadcastInDim S16384x1 ![] bcast_S_S16384x1 (constant S_ .f32 0x43800000#32))) (broadcastInDim S16384x1 ![] bcast_S_S16384x1 (constant S_ .f32 0x358637BD#32)))))) (broadcastInDim S16384x256 ![0, 1] bcast_S1x256_S16384x256_0_1 (broadcastInDim S1x256 ![1] bcast_S256_S1x256_1 gK))) wK) shapeCasts_S16384x1024_S16384x8x128)

/-- The queries from the products. -/
def queries (Q : FVec Ideal S16384x8x96 .f32) (xC xS : FVec Ideal S8x2048x16 .f32) : FVec Ideal S16384x1024 .bf16 :=
  truncf .bf16 (shapeCast _ ((concatenate S16384x8x128 2 [⟨S16384x8x64, ((extractStridedSlice S16384x8x64 ![0, 0, 0] Q slices_S16384x8x96_S16384x8x64_0_0_0) : FVec Ideal S16384x8x64 .f32)⟩, ⟨S16384x8x32, ((concatenate S16384x8x32 2 [⟨S16384x8x16, (subf (mulf (extractStridedSlice S16384x8x16 ![0, 0, 0] (extractStridedSlice S16384x8x32 ![0, 0, 64] Q slices_S16384x8x96_S16384x8x32_0_0_64) slices_S16384x8x32_S16384x8x16_0_0_0) (broadcastInDim S16384x8x16 ![0, 1, 2] bcast_S16384x1x16_S16384x8x16_0_1_2 (broadcastInDim S16384x1x16 ![0, 2] bcast_S16384x16_S16384x1x16_0_2 (shapeCast _ xC shapeCasts_S8x2048x16_S16384x16)))) (mulf (extractStridedSlice S16384x8x16 ![0, 0, 16] (extractStridedSlice S16384x8x32 ![0, 0, 64] Q slices_S16384x8x96_S16384x8x32_0_0_64) slices_S16384x8x32_S16384x8x16_0_0_16) (broadcastInDim S16384x8x16 ![0, 1, 2] bcast_S16384x1x16_S16384x8x16_0_1_2 (broadcastInDim S16384x1x16 ![0, 2] bcast_S16384x16_S16384x1x16_0_2 (shapeCast _ xS shapeCasts_S8x2048x16_S16384x16)))))⟩, ⟨S16384x8x16, (addf (mulf (extractStridedSlice S16384x8x16 ![0, 0, 0] (extractStridedSlice S16384x8x32 ![0, 0, 64] Q slices_S16384x8x96_S16384x8x32_0_0_64) slices_S16384x8x32_S16384x8x16_0_0_0) (broadcastInDim S16384x8x16 ![0, 1, 2] bcast_S16384x1x16_S16384x8x16_0_1_2 (broadcastInDim S16384x1x16 ![0, 2] bcast_S16384x16_S16384x1x16_0_2 (shapeCast _ xS shapeCasts_S8x2048x16_S16384x16)))) (mulf (extractStridedSlice S16384x8x16 ![0, 0, 16] (extractStridedSlice S16384x8x32 ![0, 0, 64] Q slices_S16384x8x96_S16384x8x32_0_0_64) slices_S16384x8x32_S16384x8x16_0_0_16) (broadcastInDim S16384x8x16 ![0, 1, 2] bcast_S16384x1x16_S16384x8x16_0_1_2 (broadcastInDim S16384x1x16 ![0, 2] bcast_S16384x16_S16384x1x16_0_2 (shapeCast _ xC shapeCasts_S8x2048x16_S16384x16)))))⟩] concatenates_S16384x8x16_S16384x8x16_S16384x8x32_d2) : FVec Ideal S16384x8x32 .f32)⟩, ⟨S16384x8x32, ((broadcastInDim S16384x8x32 ![] bcast_S_S16384x8x32 (constant S_ .f32 0x00000000#32)) : FVec Ideal S16384x8x32 .f32)⟩] concatenates_S16384x8x64_S16384x8x32_S16384x8x32_S16384x8x128_d2 : FVec Ideal S16384x8x128 .f32)) shapeCasts_S16384x8x128_S16384x1024) bitsLt_bf16_f32

/-- The keys from the products. -/
def keys (P : FVec Ideal S16384x8x128 .f32) (xK : FVec Ideal S16384x32 .bf16) (xC xS : FVec Ideal S8x2048x16 .f32) : FVec Ideal S16384x1024 .bf16 :=
  truncf .bf16 (shapeCast _ ((concatenate S16384x8x128 2 [⟨S16384x8x64, ((extractStridedSlice S16384x8x64 ![0, 0, 0] P slices_S16384x8x128_S16384x8x64_0_0_0) : FVec Ideal S16384x8x64 .f32)⟩, ⟨S16384x8x32, ((broadcastInDim S16384x8x32 ![0, 1, 2] bcast_S16384x1x32_S16384x8x32_0_1_2 (broadcastInDim S16384x1x32 ![0, 2] bcast_S16384x32_S16384x1x32_0_2 (concatenate S16384x32 1 [⟨S16384x16, (subf (mulf (extractStridedSlice S16384x16 ![0, 0] (extf .f32 xK bitsLt_bf16_f32) slices_S16384x32_S16384x16_0_0) (shapeCast _ xC shapeCasts_S8x2048x16_S16384x16)) (mulf (extractStridedSlice S16384x16 ![0, 16] (extf .f32 xK bitsLt_bf16_f32) slices_S16384x32_S16384x16_0_16) (shapeCast _ xS shapeCasts_S8x2048x16_S16384x16)))⟩, ⟨S16384x16, (addf (mulf (extractStridedSlice S16384x16 ![0, 0] (extf .f32 xK bitsLt_bf16_f32) slices_S16384x32_S16384x16_0_0) (shapeCast _ xS shapeCasts_S8x2048x16_S16384x16)) (mulf (extractStridedSlice S16384x16 ![0, 16] (extf .f32 xK bitsLt_bf16_f32) slices_S16384x32_S16384x16_0_16) (shapeCast _ xC shapeCasts_S8x2048x16_S16384x16)))⟩] concatenates_S16384x16_S16384x16_S16384x32_d1))) : FVec Ideal S16384x8x32 .f32)⟩, ⟨S16384x8x32, ((broadcastInDim S16384x8x32 ![] bcast_S_S16384x8x32 (constant S_ .f32 0x00000000#32)) : FVec Ideal S16384x8x32 .f32)⟩] concatenates_S16384x8x64_S16384x8x32_S16384x8x32_S16384x8x128_d2 : FVec Ideal S16384x8x128 .f32)) shapeCasts_S16384x8x128_S16384x1024) bitsLt_bf16_f32

/-- The values from the products. -/
def values (P : FVec Ideal S16384x8x128 .f32) : FVec Ideal S16384x1024 .bf16 :=
  truncf .bf16 (shapeCast _ ((concatenate S16384x4x256 2 [⟨S16384x4x64, ((shapeCast _ (extractStridedSlice S16384x4x1x64 ![0, 0, 0, 0] (shapeCast _ (extractStridedSlice S16384x8x64 ![0, 0, 64] P slices_S16384x8x128_S16384x8x64_0_0_64) shapeCasts_S16384x8x64_S16384x4x2x64) slices_S16384x4x2x64_S16384x4x1x64_0_0_0_0) shapeCasts_S16384x4x1x64_S16384x4x64) : FVec Ideal S16384x4x64 .f32)⟩, ⟨S16384x4x128, ((broadcastInDim S16384x4x128 ![] bcast_S_S16384x4x128 (constant S_ .f32 0x00000000#32)) : FVec Ideal S16384x4x128 .f32)⟩, ⟨S16384x4x64, ((shapeCast _ (extractStridedSlice S16384x4x1x64 ![0, 0, 1, 0] (shapeCast _ (extractStridedSlice S16384x8x64 ![0, 0, 64] P slices_S16384x8x128_S16384x8x64_0_0_64) shapeCasts_S16384x8x64_S16384x4x2x64) slices_S16384x4x2x64_S16384x4x1x64_0_0_1_0) shapeCasts_S16384x4x1x64_S16384x4x64) : FVec Ideal S16384x4x64 .f32)⟩] concatenates_S16384x4x64_S16384x4x128_S16384x4x64_S16384x4x256_d2 : FVec Ideal S16384x4x256 .f32)) shapeCasts_S16384x4x256_S16384x1024) bitsLt_bf16_f32

/-- A row of the cosines or sines. -/
def turn (x : FVec Ideal S8x2048x16 .f32) (r : Fin 16384) (i : Fin 16) : EReal := x (ix3 (⟨r.val / 2048, by omega⟩ : Fin 8) (⟨r.val % 2048, by omega⟩ : Fin 2048) i)

theorem qProd_apply (xM : FVec Ideal S16384x5632 .bf16) (gQ : FVec Ideal S768 .f32) (wQ : FVec Ideal S768x768 .f32) (r : Fin 16384) (h : Fin 8) (d : Fin 96) :
    qProd xM gQ wQ (ix3 r h d) = dotCol 0x44400000#32 (fun k : Fin 768 => xM (ix2 r (⟨4608 + k.val, by omega⟩ : Fin 5632))) (fun k => gQ (ix1 k))
      (fun k => wQ (ix2 k (⟨h.val * 96 + d.val, by omega⟩ : Fin 768))) * factor := by
  unfold qProd dotCol normed factor
  pointwise

theorem kvProd_apply (xM : FVec Ideal S16384x5632 .bf16) (gK : FVec Ideal S256 .f32) (wK : FVec Ideal S256x1024 .f32) (r : Fin 16384) (h : Fin 8) (d : Fin 128) :
    kvProd xM gK wK (ix3 r h d) = dotCol 0x43800000#32 (fun k : Fin 256 => xM (ix2 r (⟨5376 + k.val, by omega⟩ : Fin 5632))) (fun k => gK (ix1 k))
      (fun k => wK (ix2 k (⟨h.val * 128 + d.val, by omega⟩ : Fin 1024))) := by
  unfold kvProd dotCol normed
  pointwise

theorem queries_apply (Q : FVec Ideal S16384x8x96 .f32) (xC xS : FVec Ideal S8x2048x16 .f32) (r : Fin 16384) (f : Fin 768 → EReal)
    (hQ : ∀ (h : Fin 8) (d : Fin 96), Q (ix3 r h d) = f ⟨h.val * 96 + d.val, by omega⟩) (n : Fin 1024) :
    queries Q xC xS (ix2 r n) = query f (turn xC r) (turn xS r) n := by
  have hn := n.isLt
  have hz : Ideal.ofBits .f32 0x00000000#32 = 0 := by simp
  unfold queries
  pointwise
  simp only [hQ]
  split_ifs
  all_goals first
    | exact Eq.symm (query_none f _ _ n (by omega))
    | exact Eq.symm (query_plain f _ _ n (by omega) _ (by (try dsimp only); omega))
    | exact Eq.symm (query_low f _ _ n (by omega) _ _ _ (by (try dsimp only); omega) (by (try dsimp only); omega) (by (try dsimp only); omega))
    | exact Eq.symm (query_high f _ _ n (by omega) _ _ _ (by (try dsimp only); omega) (by (try dsimp only); omega) (by (try dsimp only); omega))

theorem keys_apply (P : FVec Ideal S16384x8x128 .f32) (xK : FVec Ideal S16384x32 .bf16) (xC xS : FVec Ideal S8x2048x16 .f32) (r : Fin 16384) (f : Fin 1024 → EReal)
    (hP : ∀ (h : Fin 8) (d : Fin 128), P (ix3 r h d) = f ⟨h.val * 128 + d.val, by omega⟩) (n : Fin 1024) :
    keys P xK xC xS (ix2 r n) = keyOf f (fun i => xK (ix2 r i)) (turn xC r) (turn xS r) n := by
  have hn := n.isLt
  have hz : Ideal.ofBits .f32 0x00000000#32 = 0 := by simp
  unfold keys
  pointwise
  simp only [hP]
  split_ifs
  all_goals first
    | exact Eq.symm (key_none f _ _ _ n (by omega))
    | exact Eq.symm ((key_plain f _ _ _ n (by omega)).trans (congrArg f (Fin.ext (by (try dsimp only); omega))))
    | exact Eq.symm (key_low f _ _ _ n (by omega) _ _ _ (by (try dsimp only); omega) (by (try dsimp only); omega) (by (try dsimp only); omega))
    | exact Eq.symm (key_high f _ _ _ n (by omega) _ _ _ (by (try dsimp only); omega) (by (try dsimp only); omega) (by (try dsimp only); omega))

theorem values_apply (P : FVec Ideal S16384x8x128 .f32) (r : Fin 16384) (f : Fin 1024 → EReal)
    (hP : ∀ (h : Fin 8) (d : Fin 128), P (ix3 r h d) = f ⟨h.val * 128 + d.val, by omega⟩) (n : Fin 1024) :
    values P (ix2 r n) = valueOf f n := by
  have hn := n.isLt
  have hz : Ideal.ofBits .f32 0x00000000#32 = 0 := by simp
  unfold values
  pointwise
  simp only [hP]
  split_ifs
  all_goals first
    | exact Eq.symm (value_none f n (by omega))
    | exact Eq.symm (value_even f n (by omega) _ (by (try dsimp only); omega))
    | exact Eq.symm (value_odd f n (by omega) _ (by (try dsimp only); omega))

end Cert.Proof.QkvReference

end
-- ==== Proof.QkvHost.lean ====
/-
  What the queries' call is handed: the rotary key and the tables in their lanes, and the two weights by heads.
-/
module

public import proofs.«01_k».proof.Proof.QkvBody
public import proofs.«01_k».proof.Proof.QkvReference

@[expose] public section

set_option maxRecDepth 16384

noncomputable section

namespace Cert.Proof.Qkv

open Cert.Kernel4Ideal Cert.Kernel4Ideal.Gen
open Cert.Proof.QkvReference (turn)

open Idealize.ShloMosaic
open Idealize.ShloMosaic.TcCoe Idealize.ShloMosaic.Tactic

variable (m : (ℓ : Loc nD τ sig) → Buf (Elt Ideal) ℓ) (c : Dev nD)

abbrev aMain : FVec Ideal S16384x5632 .bf16 := m ((c.tc : Thread nD τ).loc main_arg0)
abbrev aKey : FVec Ideal S16384x32 .bf16 := m ((c.tc : Thread nD τ).loc main_arg1)
abbrev aCos : FVec Ideal S8x2048x16 .f32 := m ((c.tc : Thread nD τ).loc main_arg2)
abbrev aSin : FVec Ideal S8x2048x16 .f32 := m ((c.tc : Thread nD τ).loc main_arg3)
abbrev aGq : FVec Ideal S768 .f32 := m ((c.tc : Thread nD τ).loc main_arg4)
abbrev aWq : FVec Ideal S768x768 .f32 := m ((c.tc : Thread nD τ).loc main_arg5)
abbrev aGk : FVec Ideal S256 .f32 := m ((c.tc : Thread nD τ).loc main_arg6)
abbrev aWk : FVec Ideal S256x1024 .f32 := m ((c.tc : Thread nD τ).loc main_arg7)

/-! ## The arrays -/

/-- The rotary key and its exchanged halves in their lanes. -/
def layKey (x : FVec Ideal S16384x32 .bf16) : FVec Ideal S16384x1280 .bf16 :=
  truncf .bf16 (concatenate S16384x1280 1
    [⟨S16384x1088, (broadcastInDim S16384x1088 ![] bcast_S_S16384x1088 (constant S_ .f32 0x00000000#32) : FVec Ideal S16384x1088 .f32)⟩,
      ⟨S16384x32, (extf .f32 x bitsLt_bf16_f32 : FVec Ideal S16384x32 .f32)⟩,
      ⟨S16384x96, (broadcastInDim S16384x96 ![] bcast_S_S16384x96 (constant S_ .f32 0x00000000#32) : FVec Ideal S16384x96 .f32)⟩,
      ⟨S16384x16, (extractStridedSlice S16384x16 ![0, 16] (extf .f32 x bitsLt_bf16_f32) slices_S16384x32_S16384x16_0_16 : FVec Ideal S16384x16 .f32)⟩,
      ⟨S16384x16, (extractStridedSlice S16384x16 ![0, 0] (extf .f32 x bitsLt_bf16_f32) slices_S16384x32_S16384x16_0_0 : FVec Ideal S16384x16 .f32)⟩,
      ⟨S16384x32, (broadcastInDim S16384x32 ![] bcast_S_S16384x32 (constant S_ .f32 0x00000000#32) : FVec Ideal S16384x32 .f32)⟩]
    concatenates_S16384x1088_S16384x32_S16384x96_S16384x16_S16384x16_S16384x32_S16384x1280_d1 : FVec Ideal S16384x1280 .f32) bitsLt_bf16_f32

/-- The cosines in their lanes. -/
def layCos (x : FVec Ideal S8x2048x16 .f32) : FVec Ideal S16384x128 .f32 :=
  concatenate S16384x128 1
    [⟨S16384x64, (broadcastInDim S16384x64 ![] bcast_S_S16384x64 (constant S_ .f32 0x3F800000#32) : FVec Ideal S16384x64 .f32)⟩,
      ⟨S16384x16, (shapeCast S16384x16 x shapeCasts_S8x2048x16_S16384x16 : FVec Ideal S16384x16 .f32)⟩,
      ⟨S16384x16, (shapeCast S16384x16 x shapeCasts_S8x2048x16_S16384x16 : FVec Ideal S16384x16 .f32)⟩,
      ⟨S16384x32, (broadcastInDim S16384x32 ![] bcast_S_S16384x32 (constant S_ .f32 0x00000000#32) : FVec Ideal S16384x32 .f32)⟩]
    concatenates_S16384x64_S16384x16_S16384x16_S16384x32_S16384x128_d1

/-- The sines in theirs. -/
def laySin (x : FVec Ideal S8x2048x16 .f32) : FVec Ideal S16384x128 .f32 :=
  concatenate S16384x128 1
    [⟨S16384x64, (broadcastInDim S16384x64 ![] bcast_S_S16384x64 (constant S_ .f32 0x00000000#32) : FVec Ideal S16384x64 .f32)⟩,
      ⟨S16384x16, (Host.negf (shapeCast S16384x16 x shapeCasts_S8x2048x16_S16384x16 : FVec Ideal S16384x16 .f32) : FVec Ideal S16384x16 .f32)⟩,
      ⟨S16384x16, (shapeCast S16384x16 x shapeCasts_S8x2048x16_S16384x16 : FVec Ideal S16384x16 .f32)⟩,
      ⟨S16384x32, (broadcastInDim S16384x32 ![] bcast_S_S16384x32 (constant S_ .f32 0x00000000#32) : FVec Ideal S16384x32 .f32)⟩]
    concatenates_S16384x64_S16384x16_S16384x16_S16384x32_S16384x128_d1

/-- The queries' weight by heads. -/
def layQ (w : FVec Ideal S768x768 .f32) : FVec Ideal S768x1024 .bf16 :=
  truncf .bf16 (shapeCast S768x1024 (concatenate S768x8x128 2
    [⟨S768x8x96, (shapeCast S768x8x96 (mulf w (broadcastInDim S768x768 ![] bcast_S_S768x768 (constant S_ .f32 0x3E16C740#32)) : FVec Ideal S768x768 .f32) shapeCasts_S768x768_S768x8x96 : FVec Ideal S768x8x96 .f32)⟩,
      ⟨S768x8x32, (broadcastInDim S768x8x32 ![] bcast_S_S768x8x32 (constant S_ .f32 0x00000000#32) : FVec Ideal S768x8x32 .f32)⟩]
    concatenates_S768x8x96_S768x8x32_S768x8x128_d2 : FVec Ideal S768x8x128 .f32) shapeCasts_S768x8x128_S768x1024 : FVec Ideal S768x1024 .f32) bitsLt_bf16_f32

/-- The divisor two, as the remainder reads it. -/
def two : IVec S_ 32 := select (cmpi .eq (id (constantI S_ 32 2#32) : IVec S_ 32) (constantI S_ 32 0#32)) (constantI S_ 32 1#32) (id (constantI S_ 32 2#32) : IVec S_ 32)
/-- The heads' numbers' remainders before their sign is mended. -/
def rem0 : IVec S8 32 := Host.remsi (iotaInDim S8 32 0) (broadcastInDim S8 ![] bcast_S_S8 two)
/-- The heads' numbers' remainders. -/
def rem1 : IVec S8 32 :=
  select (andi (cmpi .ne (cmpi .slt rem0 (broadcastInDim S8 ![] bcast_S_S8 (constantI S_ 32 0#32))) (broadcastInDim S8 ![] bcast_S_S8 (cmpi .slt two (constantI S_ 32 0#32))))
    (cmpi .ne rem0 (broadcastInDim S8 ![] bcast_S_S8 (constantI S_ 32 0#32)))) (addi rem0 (broadcastInDim S8 ![] bcast_S_S8 two)) rem0
/-- The odd heads. -/
def odd : IVec S8 1 := cmpi .eq rem1 (broadcastInDim S8 ![] bcast_S_S8 (constantI S_ 32 1#32))

theorem odd_at : ∀ h : Fin 8, odd (ix1 h) = if h.val % 2 = 1 then 1#1 else 0#1 := by decide +kernel

/-- The odd heads' lanes. -/
def oddLanes : IVec S256x8x64 1 := broadcastInDim S256x8x64 ![0, 1, 2] bcast_S1x8x1_S256x8x64_0_1_2 (broadcastInDim S1x8x1 ![1] bcast_S8_S1x8x1_1 odd)
/-- A zero per lane. -/
def zeroLanes : FVec Ideal S256x8x64 .f32 := broadcastInDim S256x8x64 ![] bcast_S_S256x8x64 (constant S_ .f32 0x00000000#32)
/-- The values' columns. -/
def valueLanes (w : FVec Ideal S256x1024 .f32) : FVec Ideal S256x8x64 .f32 :=
  extractStridedSlice S256x8x64 ![0, 0, 64] (shapeCast S256x8x128 w shapeCasts_S256x1024_S256x8x128 : FVec Ideal S256x8x128 .f32) slices_S256x8x128_S256x8x64_0_0_64

/-- The keys' weight by heads. -/
def layK1 (w : FVec Ideal S256x1024 .f32) : FVec Ideal S256x1024 .f32 :=
  shapeCast S256x1024 (concatenate S256x8x128 2
      [⟨S256x8x64, (extractStridedSlice S256x8x64 ![0, 0, 0] (shapeCast S256x8x128 w shapeCasts_S256x1024_S256x8x128 : FVec Ideal S256x8x128 .f32) slices_S256x8x128_S256x8x64_0_0_0 : FVec Ideal S256x8x64 .f32)⟩,
        ⟨S256x8x64, zeroLanes⟩] concatenates_S256x8x64_S256x8x64_S256x8x128_d2 : FVec Ideal S256x8x128 .f32) shapeCasts_S256x8x128_S256x1024
/-- The values' weight by heads. -/
def layV (w : FVec Ideal S256x1024 .f32) : FVec Ideal S256x1024 .f32 :=
  shapeCast S256x1024 (concatenate S256x8x128 2
      [⟨S256x8x64, (select oddLanes zeroLanes (valueLanes w) : FVec Ideal S256x8x64 .f32)⟩,
        ⟨S256x8x64, (select oddLanes (valueLanes w) zeroLanes : FVec Ideal S256x8x64 .f32)⟩] concatenates_S256x8x64_S256x8x64_S256x8x128_d2 : FVec Ideal S256x8x128 .f32) shapeCasts_S256x8x128_S256x1024
/-- The two side by side. -/
def layKV (w : FVec Ideal S256x1024 .f32) : FVec Ideal S256x2048 .bf16 :=
  truncf .bf16 (concatenate S256x2048 1 [⟨S256x1024, layK1 w⟩, ⟨S256x1024, layV w⟩] concatenates_S256x1024_S256x1024_S256x2048_d1 : FVec Ideal S256x2048 .f32) bitsLt_bf16_f32

theorem V_v16 : V m c main_v16 = layKey (aKey m c) := by
  unfold V
  simp only [hostOps0, hostOps0_1, hostOps0_2, hostOps0_3, hostOps0_4, hostOps0_5, List.flatten_cons, List.flatten_nil, List.append_nil, List.cons_append, List.nil_append]
  after_results_simp <;> (try dsimp only [Matrix.cons_val]) <;> (try after_results_simp) <;> rfl
theorem V_v11 : V m c main_v11 = layCos (aCos m c) := by
  unfold V
  simp only [hostOps0, hostOps0_1, hostOps0_2, hostOps0_3, hostOps0_4, hostOps0_5, List.flatten_cons, List.flatten_nil, List.append_nil, List.cons_append, List.nil_append]
  after_results_simp <;> (try dsimp only [Matrix.cons_val]) <;> (try after_results_simp) <;> rfl
theorem V_v15 : V m c main_v15 = laySin (aSin m c) := by
  unfold V
  simp only [hostOps0, hostOps0_1, hostOps0_2, hostOps0_3, hostOps0_4, hostOps0_5, List.flatten_cons, List.flatten_nil, List.append_nil, List.cons_append, List.nil_append]
  after_results_simp <;> (try dsimp only [Matrix.cons_val]) <;> (try after_results_simp) <;> rfl
theorem V_v17 : V m c main_v17 = (shapeCast S1x768 (aGq m c) shapeCasts_S768_S1x768 : FVec Ideal S1x768 .f32) := by
  unfold V
  simp only [hostOps0, hostOps0_1, hostOps0_2, hostOps0_3, hostOps0_4, hostOps0_5, List.flatten_cons, List.flatten_nil, List.append_nil, List.cons_append, List.nil_append]
  after_results_simp <;> (try dsimp only [Matrix.cons_val]) <;> (try after_results_simp) <;> rfl
theorem V_v18 : V m c main_v18 = (shapeCast S1x256 (aGk m c) shapeCasts_S256_S1x256 : FVec Ideal S1x256 .f32) := by
  unfold V
  simp only [hostOps0, hostOps0_1, hostOps0_2, hostOps0_3, hostOps0_4, hostOps0_5, List.flatten_cons, List.flatten_nil, List.append_nil, List.cons_append, List.nil_append]
  after_results_simp <;> (try dsimp only [Matrix.cons_val]) <;> (try after_results_simp) <;> rfl
theorem V_v25 : V m c main_v25 = layQ (aWq m c) := by
  unfold V
  simp only [hostOps0, hostOps0_1, hostOps0_2, hostOps0_3, hostOps0_4, hostOps0_5, List.flatten_cons, List.flatten_nil, List.append_nil, List.cons_append, List.nil_append]
  after_results_simp <;> (try dsimp only [Matrix.cons_val]) <;> (try after_results_simp) <;> rfl

/-- The last host operations, from what those before leave. -/
theorem last_ops (W : Valuation τ sig (Elt Ideal)) :
    StableHlo.after hostOps0_5 W (Proc.devRef .tc main_v43)
      = (truncf .bf16 (concatenate S256x2048 1 [⟨S256x1024, (W (Proc.devRef .tc main_v32) : FVec Ideal S256x1024 .f32)⟩, ⟨S256x1024, (shapeCast S256x1024 (concatenate S256x8x128 2
          [⟨S256x8x64, (W (Proc.devRef .tc main_v38) : FVec Ideal S256x8x64 .f32)⟩, ⟨S256x8x64, (W (Proc.devRef .tc main_v39) : FVec Ideal S256x8x64 .f32)⟩] concatenates_S256x8x64_S256x8x64_S256x8x128_d2 : FVec Ideal S256x8x128 .f32)
            shapeCasts_S256x8x128_S256x1024 : FVec Ideal S256x1024 .f32)⟩] concatenates_S256x1024_S256x1024_S256x2048_d1 : FVec Ideal S256x2048 .f32) bitsLt_bf16_f32 : FVec Ideal S256x2048 .bf16) := by
  simp only [hostOps0_5]
  after_results_simp <;> rfl

section

variable (W : Valuation τ sig (Elt Ideal))

theorem mid_v32 : StableHlo.after (List.flatten [hostOps0_1 (F := Ideal), hostOps0_2, hostOps0_3, hostOps0_4]) W (Proc.devRef .tc main_v32) = W (Proc.devRef .tc main_v32) := by
  simp only [hostOps0_1, hostOps0_2, hostOps0_3, hostOps0_4, List.flatten_cons, List.flatten_nil, List.append_nil, List.cons_append, List.nil_append]
  after_results_simp

variable (h33 : W (Proc.devRef .tc main_v33) = (iotaInDim S8 32 0 : IVec S8 32)) (hc : W (Proc.devRef .tc main_c) = (constantI S_ 32 2#32 : IVec S_ 32))
include h33 hc

theorem mid_v38 : StableHlo.after (List.flatten [hostOps0_1 (F := Ideal), hostOps0_2, hostOps0_3, hostOps0_4]) W (Proc.devRef .tc main_v38)
    = (select oddLanes (W (Proc.devRef .tc main_v29)) (W (Proc.devRef .tc main_v28)) : FVec Ideal S256x8x64 .f32) := by
  simp only [hostOps0_1, hostOps0_2, hostOps0_3, hostOps0_4, List.flatten_cons, List.flatten_nil, List.append_nil, List.cons_append, List.nil_append]
  after_results_simp
  simp -implicitDefEqProofs only [StableHlo.TRef.toBuf, StableHlo.TRef.ofBuf, cast_cast, cast_eq]
  rw [h33, hc]
  rfl
theorem mid_v39 : StableHlo.after (List.flatten [hostOps0_1 (F := Ideal), hostOps0_2, hostOps0_3, hostOps0_4]) W (Proc.devRef .tc main_v39)
    = (select oddLanes (W (Proc.devRef .tc main_v28)) (W (Proc.devRef .tc main_v29)) : FVec Ideal S256x8x64 .f32) := by
  simp only [hostOps0_1, hostOps0_2, hostOps0_3, hostOps0_4, List.flatten_cons, List.flatten_nil, List.append_nil, List.cons_append, List.nil_append]
  after_results_simp
  simp -implicitDefEqProofs only [StableHlo.TRef.toBuf, StableHlo.TRef.ofBuf, cast_cast, cast_eq]
  rw [h33, hc]
  rfl

end

/-- What the first host operations leave. -/
theorem first_ops :
    StableHlo.after (hostOps0 (F := Ideal)) (fun b => m (c, b)) (Proc.devRef .tc main_v33) = (iotaInDim S8 32 0 : IVec S8 32)
      ∧ StableHlo.after (hostOps0 (F := Ideal)) (fun b => m (c, b)) (Proc.devRef .tc main_c) = (constantI S_ 32 2#32 : IVec S_ 32)
      ∧ StableHlo.after (hostOps0 (F := Ideal)) (fun b => m (c, b)) (Proc.devRef .tc main_v28) = valueLanes (aWk m c)
      ∧ StableHlo.after (hostOps0 (F := Ideal)) (fun b => m (c, b)) (Proc.devRef .tc main_v29) = zeroLanes
      ∧ StableHlo.after (hostOps0 (F := Ideal)) (fun b => m (c, b)) (Proc.devRef .tc main_v32) = layK1 (aWk m c) := by
  refine ⟨?_, ?_, ?_, ?_, ?_⟩ <;> simp only [hostOps0] <;> after_results_simp <;> (try dsimp only [Matrix.cons_val]) <;> (try after_results_simp) <;> rfl

theorem V_v43 : V m c main_v43 = layKV (aWk m c) := by
  have e : V m c main_v43 = StableHlo.after hostOps0_5 (StableHlo.after (List.flatten [hostOps0_1 (F := Ideal), hostOps0_2, hostOps0_3, hostOps0_4]) (StableHlo.after hostOps0 (fun b => m (c, b)))) (Proc.devRef .tc main_v43) := rfl
  obtain ⟨h33, hc, h28, h29, h32⟩ := first_ops m c
  rw [e, last_ops, mid_v32, mid_v38 _ h33 hc, mid_v39 _ h33 hc, h28, h29, h32]
  rfl

/-! ## Their entries -/

/-- The two sides of the rotary key's array. -/
theorem layKey_key (x : FVec Ideal S16384x32 .bf16) (r : Fin 16384) (n : Fin 1280) (h : 1088 ≤ n.val ∧ n.val < 1120) (a : Fin 32) (ea : a.val + 1088 = n.val) :
    layKey x (ix2 r n) = x (ix2 r a) := by
  unfold layKey
  pointwise
  split_ifs <;> first | (exfalso; omega) | exact congrArg (fun b => x (ix2 r b)) (Fin.ext (by dsimp only; omega))
theorem layKey_high (x : FVec Ideal S16384x32 .bf16) (r : Fin 16384) (n : Fin 1280) (h : 1216 ≤ n.val ∧ n.val < 1232) (a : Fin 32) (ea : a.val + 1200 = n.val) :
    layKey x (ix2 r n) = x (ix2 r a) := by
  unfold layKey
  pointwise
  split_ifs <;> first | (exfalso; omega) | exact congrArg (fun b => x (ix2 r b)) (Fin.ext (by dsimp only; omega))
theorem layKey_low (x : FVec Ideal S16384x32 .bf16) (r : Fin 16384) (n : Fin 1280) (h : 1232 ≤ n.val ∧ n.val < 1248) (a : Fin 32) (ea : a.val + 1232 = n.val) :
    layKey x (ix2 r n) = x (ix2 r a) := by
  unfold layKey
  pointwise
  split_ifs <;> first | (exfalso; omega) | exact congrArg (fun b => x (ix2 r b)) (Fin.ext (by dsimp only; omega))
theorem layKey_none (x : FVec Ideal S16384x32 .bf16) (r : Fin 16384) (n : Fin 1280) (h : n.val < 1088 ∨ (1120 ≤ n.val ∧ n.val < 1216) ∨ 1248 ≤ n.val) :
    layKey x (ix2 r n) = 0 := by
  unfold layKey
  pointwise
  split_ifs <;> first | (exfalso; omega) | rfl

/-- The cosines' lanes. -/
theorem layCos_plain (x : FVec Ideal S8x2048x16 .f32) (r : Fin 16384) (n : Fin 128) (h : n.val < 64) : layCos x (ix2 r n) = 1 := by
  unfold layCos
  pointwise
  split_ifs <;> first | (exfalso; omega) | rfl
theorem layCos_low (x : FVec Ideal S8x2048x16 .f32) (r : Fin 16384) (n : Fin 128) (h : 64 ≤ n.val ∧ n.val < 80) (i : Fin 16) (ei : i.val + 64 = n.val) :
    layCos x (ix2 r n) = turn x r i := by
  unfold layCos turn
  pointwise
  split_ifs <;> first | (exfalso; omega) | exact congrArg (fun b => x (ix3 _ _ b)) (Fin.ext (by dsimp only; omega))
theorem layCos_high (x : FVec Ideal S8x2048x16 .f32) (r : Fin 16384) (n : Fin 128) (h : 80 ≤ n.val ∧ n.val < 96) (i : Fin 16) (ei : i.val + 80 = n.val) :
    layCos x (ix2 r n) = turn x r i := by
  unfold layCos turn
  pointwise
  split_ifs <;> first | (exfalso; omega) | exact congrArg (fun b => x (ix3 _ _ b)) (Fin.ext (by dsimp only; omega))
theorem layCos_none (x : FVec Ideal S8x2048x16 .f32) (r : Fin 16384) (n : Fin 128) (h : 96 ≤ n.val) : layCos x (ix2 r n) = 0 := by
  unfold layCos
  pointwise
  split_ifs <;> first | (exfalso; omega) | rfl

/-- The sines' lanes. -/
theorem laySin_none (x : FVec Ideal S8x2048x16 .f32) (r : Fin 16384) (n : Fin 128) (h : n.val < 64 ∨ 96 ≤ n.val) : laySin x (ix2 r n) = 0 := by
  unfold laySin
  pointwise
  split_ifs <;> first | (exfalso; omega) | rfl
theorem laySin_low (x : FVec Ideal S8x2048x16 .f32) (r : Fin 16384) (n : Fin 128) (h : 64 ≤ n.val ∧ n.val < 80) (i : Fin 16) (ei : i.val + 64 = n.val) :
    laySin x (ix2 r n) = -turn x r i := by
  unfold laySin turn
  pointwise
  split_ifs <;> first | (exfalso; omega) | exact congrArg (fun b => -x (ix3 _ _ b)) (Fin.ext (by dsimp only; omega))
theorem laySin_high (x : FVec Ideal S8x2048x16 .f32) (r : Fin 16384) (n : Fin 128) (h : 80 ≤ n.val ∧ n.val < 96) (i : Fin 16) (ei : i.val + 80 = n.val) :
    laySin x (ix2 r n) = turn x r i := by
  unfold laySin turn
  pointwise
  split_ifs <;> first | (exfalso; omega) | exact congrArg (fun b => x (ix3 _ _ b)) (Fin.ext (by dsimp only; omega))

/-- The queries' weight. -/
theorem layQ_in (w : FVec Ideal S768x768 .f32) (k : Fin 768) (n : Fin 1024) (h : n.val % 128 < 96) (a : Fin 768) (ea : a.val = 96 * (n.val / 128) + n.val % 128) :
    layQ w (ix2 k n) = w (ix2 k a) * factor := by
  unfold layQ factor
  pointwise
  rw [dif_pos h]
  exact congrArg (fun b => w (ix2 k b) * _) (Fin.ext (by dsimp only; omega))
theorem layQ_out (w : FVec Ideal S768x768 .f32) (k : Fin 768) (n : Fin 1024) (h : 96 ≤ n.val % 128) : layQ w (ix2 k n) = 0 := by
  unfold layQ
  pointwise
  rw [dif_neg (by omega)]

/-- The keys' weight. -/
theorem layK1_apply (w : FVec Ideal S256x1024 .f32) (k : Fin 256) (n : Fin 1024) : layK1 w (ix2 k n) = if n.val % 128 < 64 then w (ix2 k n) else 0 := by
  unfold layK1 zeroLanes
  pointwise
  split_ifs <;> rfl
/-- The values' weight. -/
theorem layV_even (w : FVec Ideal S256x1024 .f32) (k : Fin 256) (n : Fin 1024) (h : n.val % 256 < 64) (a : Fin 1024) (ea : a.val = n.val + 64) : layV w (ix2 k n) = w (ix2 k a) := by
  have hM : odd (ix1 (⟨n.val / 128, by omega⟩ : Fin 8)) = 0#1 := (odd_at _).trans (if_neg (by dsimp only; omega))
  unfold layV oddLanes zeroLanes valueLanes
  generalize odd = M at hM ⊢
  pointwise
  rw [dif_pos (by omega), hM]
  exact congrArg (fun b => w (ix2 k b)) (Fin.ext (by dsimp only; omega))
theorem layV_odd (w : FVec Ideal S256x1024 .f32) (k : Fin 256) (n : Fin 1024) (h : 192 ≤ n.val % 256) : layV w (ix2 k n) = w (ix2 k n) := by
  have hM : odd (ix1 (⟨n.val / 128, by omega⟩ : Fin 8)) = 1#1 := (odd_at _).trans (if_pos (by dsimp only; omega))
  unfold layV oddLanes zeroLanes valueLanes
  generalize odd = M at hM ⊢
  pointwise
  rw [dif_neg (by omega), hM]
  exact congrArg (fun b => w (ix2 k b)) (Fin.ext (by dsimp only; omega))
theorem layV_none (w : FVec Ideal S256x1024 .f32) (k : Fin 256) (n : Fin 1024) (h : 64 ≤ n.val % 256 ∧ n.val % 256 < 192) : layV w (ix2 k n) = 0 := by
  by_cases h1 : n.val % 256 < 128
  · have hM : odd (ix1 (⟨n.val / 128, by omega⟩ : Fin 8)) = 0#1 := (odd_at _).trans (if_neg (by dsimp only; omega))
    unfold layV oddLanes zeroLanes valueLanes
    generalize odd = M at hM ⊢
    pointwise
    rw [dif_neg (by omega), hM]
    rfl
  · have hM : odd (ix1 (⟨n.val / 128, by omega⟩ : Fin 8)) = 1#1 := (odd_at _).trans (if_pos (by dsimp only; omega))
    unfold layV oddLanes zeroLanes valueLanes
    generalize odd = M at hM ⊢
    pointwise
    rw [dif_pos (by omega), hM]
    rfl
theorem layKV_left (w : FVec Ideal S256x1024 .f32) (k : Fin 256) (n : Fin 2048) (a : Fin 1024) (ea : n.val = a.val) : layKV w (ix2 k n) = layK1 w (ix2 k a) := by
  unfold layKV
  generalize layK1 w = A
  generalize layV w = B
  pointwise
  rw [dif_pos (by omega)]
  exact congrArg (fun b => A (ix2 k b)) (Fin.ext (by dsimp only; omega))
theorem layKV_right (w : FVec Ideal S256x1024 .f32) (k : Fin 256) (n : Fin 2048) (a : Fin 1024) (ea : n.val = 1024 + a.val) : layKV w (ix2 k n) = layV w (ix2 k a) := by
  unfold layKV
  generalize layK1 w = A
  generalize layV w = B
  pointwise
  rw [dif_neg (by omega)]
  exact congrArg (fun b => B (ix2 k b)) (Fin.ext (by dsimp only; omega))

end Cert.Proof.Qkv

end
-- ==== Proof.QkvValue.lean ====
/-
  The queries, keys and values of the kernel over the reals, entry by entry.
-/
module

public import proofs.«01_k».proof.Proof.QkvHost

@[expose] public section

set_option maxRecDepth 16384

noncomputable section

namespace Cert.Proof.Qkv

open Cert.Kernel4Ideal Cert.Kernel4Ideal.Gen
open Cert.Proof.QkvReference (turn)

open Idealize.ShloMosaic
open Idealize.ShloMosaic.TcCoe Idealize.ShloMosaic.Tactic
open Idealize.ShloMosaic.Pipeline (Dat Cfg Window)

variable (m : (ℓ : Loc nD τ sig) → Buf (Elt Ideal) ℓ) (c : Dev nD)

/-! ## The blocks -/

theorem at0 : ∀ t : Fin grid0.N, cc0_transform_0 (grid0.coords t) = ![t.val, 6] := by decide +kernel
theorem at1 : ∀ t : Fin grid0.N, cc0_transform_1 (grid0.coords t) = ![t.val, 21] := by decide +kernel
theorem at2 : ∀ t : Fin grid0.N, cc0_transform_2 (grid0.coords t) = ![t.val, 8] := by decide +kernel
theorem at3 : ∀ t : Fin grid0.N, cc0_transform_3 (grid0.coords t) = ![t.val, 9] := by decide +kernel
theorem at4 : ∀ t : Fin grid0.N, cc0_transform_4 (grid0.coords t) = ![t.val, 0] := by decide +kernel
theorem at5 : ∀ t : Fin grid0.N, cc0_transform_5 (grid0.coords t) = ![t.val, 0] := by decide +kernel
theorem at6 : ∀ t : Fin grid0.N, cc0_transform_6 (grid0.coords t) = ![0, 0] := by decide +kernel
theorem at7 : ∀ t : Fin grid0.N, cc0_transform_7 (grid0.coords t) = ![0, 0] := by decide +kernel
theorem at8 : ∀ t : Fin grid0.N, cc0_transform_8 (grid0.coords t) = ![0, 0] := by decide +kernel
theorem at9 : ∀ t : Fin grid0.N, cc0_transform_9 (grid0.coords t) = ![0, 0] := by decide +kernel
theorem at10 : ∀ t : Fin grid0.N, cc0_transform_10 (grid0.coords t) = ![t.val, 0] := by decide +kernel
theorem at11 : ∀ t : Fin grid0.N, cc0_transform_11 (grid0.coords t) = ![t.val, 0] := by decide +kernel
theorem at12 : ∀ t : Fin grid0.N, cc0_transform_12 (grid0.coords t) = ![t.val, 0] := by decide +kernel

theorem t_lt (t : Fin grid0.N) : t.val < 32 := t.isLt

/-- Row `j` of row block `t`, as a row of the whole. -/
abbrev rowAt (t : Fin grid0.N) (j : Fin 512) : Fin 16384 := ⟨512 * t.val + j.val, by have := t_lt t; omega⟩

theorem x0_apply (t : Fin grid0.N) (a : Fin 512) (n : Fin 768) : X0_0 m c t (ix2 a n) = aMain m c (ix2 (rowAt t a) (⟨4608 + n.val, by omega⟩ : Fin 5632)) := by
  unfold X0_0 Pipeline.Window.fill
  rw [dif_pos (moved0_0 t _)]
  refine Eq.trans (congrArg (V m c main_arg0) ?_) (congrFun (V_main_arg0 m c) _)
  have hi := at0 t
  funext x
  apply Fin.ext
  show cc0_transform_0 (grid0.coords t) x * S512x768.size x + 1 * (ix2 a n x).val = _
  rw [hi]
  match x with
  | 0 => show t.val * 512 + 1 * a.val = 512 * t.val + a.val; omega
  | 1 => show 6 * 768 + 1 * n.val = 4608 + n.val; omega
theorem b1_apply (t : Fin grid0.N) (a : Fin 512) (n : Fin 256) : (iblk m c 1 t : Vec Ideal S512x256 .bf16) (ix2 a n) = aMain m c (ix2 (rowAt t a) (⟨5376 + n.val, by omega⟩ : Fin 5632)) := by
  have e : (iblk m c 1 t : Vec Ideal S512x256 .bf16) (ix2 a n) = (V m c main_arg0 : FVec Ideal S16384x5632 .bf16) (ix2 (rowAt t a) (⟨5376 + n.val, by omega⟩ : Fin 5632)) := by
    refine congrArg (V m c main_arg0) ?_
    have hi := at1 t
    funext x
    apply Fin.ext
    show cc0_transform_1 (grid0.coords t) x * S512x256.size x + 1 * (ix2 a n x).val = _
    rw [hi]
    match x with
    | 0 => show t.val * 512 + 1 * a.val = 512 * t.val + a.val; omega
    | 1 => show 21 * 256 + 1 * n.val = 5376 + n.val; omega
  rw [e, V_main_arg0]
theorem b2_apply (t : Fin grid0.N) (a : Fin 512) (n : Fin 128) : (iblk m c 2 t : Vec Ideal S512x128 .bf16) (ix2 a n) = layKey (aKey m c) (ix2 (rowAt t a) (⟨1024 + n.val, by omega⟩ : Fin 1280)) := by
  have e : (iblk m c 2 t : Vec Ideal S512x128 .bf16) (ix2 a n) = (V m c main_v16 : FVec Ideal S16384x1280 .bf16) (ix2 (rowAt t a) (⟨1024 + n.val, by omega⟩ : Fin 1280)) := by
    refine congrArg (V m c main_v16) ?_
    have hi := at2 t
    funext x
    apply Fin.ext
    show cc0_transform_2 (grid0.coords t) x * S512x128.size x + 1 * (ix2 a n x).val = _
    rw [hi]
    match x with
    | 0 => show t.val * 512 + 1 * a.val = 512 * t.val + a.val; omega
    | 1 => show 8 * 128 + 1 * n.val = 1024 + n.val; omega
  rw [e, V_v16]
theorem b3_apply (t : Fin grid0.N) (a : Fin 512) (n : Fin 128) : (iblk m c 3 t : Vec Ideal S512x128 .bf16) (ix2 a n) = layKey (aKey m c) (ix2 (rowAt t a) (⟨1152 + n.val, by omega⟩ : Fin 1280)) := by
  have e : (iblk m c 3 t : Vec Ideal S512x128 .bf16) (ix2 a n) = (V m c main_v16 : FVec Ideal S16384x1280 .bf16) (ix2 (rowAt t a) (⟨1152 + n.val, by omega⟩ : Fin 1280)) := by
    refine congrArg (V m c main_v16) ?_
    have hi := at3 t
    funext x
    apply Fin.ext
    show cc0_transform_3 (grid0.coords t) x * S512x128.size x + 1 * (ix2 a n x).val = _
    rw [hi]
    match x with
    | 0 => show t.val * 512 + 1 * a.val = 512 * t.val + a.val; omega
    | 1 => show 9 * 128 + 1 * n.val = 1152 + n.val; omega
  rw [e, V_v16]
theorem b4_apply (t : Fin grid0.N) (a : Fin 512) (n : Fin 128) : (iblk m c 4 t : Vec Ideal S512x128 .f32) (ix2 a n) = layCos (aCos m c) (ix2 (rowAt t a) n) := by
  have e : (iblk m c 4 t : Vec Ideal S512x128 .f32) (ix2 a n) = (V m c main_v11 : FVec Ideal S16384x128 .f32) (ix2 (rowAt t a) n) := by
    refine congrArg (V m c main_v11) ?_
    have hi := at4 t
    funext x
    apply Fin.ext
    show cc0_transform_4 (grid0.coords t) x * S512x128.size x + 1 * (ix2 a n x).val = _
    rw [hi]
    match x with
    | 0 => show t.val * 512 + 1 * a.val = 512 * t.val + a.val; omega
    | 1 => show 0 * 128 + 1 * n.val = n.val; omega
  rw [e, V_v11]
theorem b5_apply (t : Fin grid0.N) (a : Fin 512) (n : Fin 128) : (iblk m c 5 t : Vec Ideal S512x128 .f32) (ix2 a n) = laySin (aSin m c) (ix2 (rowAt t a) n) := by
  have e : (iblk m c 5 t : Vec Ideal S512x128 .f32) (ix2 a n) = (V m c main_v15 : FVec Ideal S16384x128 .f32) (ix2 (rowAt t a) n) := by
    refine congrArg (V m c main_v15) ?_
    have hi := at5 t
    funext x
    apply Fin.ext
    show cc0_transform_5 (grid0.coords t) x * S512x128.size x + 1 * (ix2 a n x).val = _
    rw [hi]
    match x with
    | 0 => show t.val * 512 + 1 * a.val = 512 * t.val + a.val; omega
    | 1 => show 0 * 128 + 1 * n.val = n.val; omega
  rw [e, V_v15]
theorem b6_apply (t : Fin grid0.N) (a : Fin 1) (n : Fin 768) : (iblk m c 6 t : Vec Ideal S1x768 .f32) (ix2 a n) = aGq m c (ix1 n) := by
  have e : (iblk m c 6 t : Vec Ideal S1x768 .f32) (ix2 a n) = (V m c main_v17 : FVec Ideal S1x768 .f32) (ix2 a n) := by
    refine congrArg (V m c main_v17) ?_
    have hi := at6 t
    funext x
    apply Fin.ext
    show cc0_transform_6 (grid0.coords t) x * S1x768.size x + 1 * (ix2 a n x).val = _
    rw [hi]
    match x with
    | 0 => show 0 * 1 + 1 * a.val = a.val; omega
    | 1 => show 0 * 768 + 1 * n.val = n.val; omega
  rw [e, V_v17]
  obtain rfl : a = 0 := Subsingleton.elim _ _
  generalize aGq m c = g
  pointwise
theorem b7_apply (t : Fin grid0.N) (a : Fin 1) (n : Fin 256) : (iblk m c 7 t : Vec Ideal S1x256 .f32) (ix2 a n) = aGk m c (ix1 n) := by
  have e : (iblk m c 7 t : Vec Ideal S1x256 .f32) (ix2 a n) = (V m c main_v18 : FVec Ideal S1x256 .f32) (ix2 a n) := by
    refine congrArg (V m c main_v18) ?_
    have hi := at7 t
    funext x
    apply Fin.ext
    show cc0_transform_7 (grid0.coords t) x * S1x256.size x + 1 * (ix2 a n x).val = _
    rw [hi]
    match x with
    | 0 => show 0 * 1 + 1 * a.val = a.val; omega
    | 1 => show 0 * 256 + 1 * n.val = n.val; omega
  rw [e, V_v18]
  obtain rfl : a = 0 := Subsingleton.elim _ _
  generalize aGk m c = g
  pointwise
theorem b8_apply (t : Fin grid0.N) (a : Fin 768) (n : Fin 1024) : (iblk m c 8 t : Vec Ideal S768x1024 .bf16) (ix2 a n) = layQ (aWq m c) (ix2 a n) := by
  have e : (iblk m c 8 t : Vec Ideal S768x1024 .bf16) (ix2 a n) = (V m c main_v25 : FVec Ideal S768x1024 .bf16) (ix2 a n) := by
    refine congrArg (V m c main_v25) ?_
    have hi := at8 t
    funext x
    apply Fin.ext
    show cc0_transform_8 (grid0.coords t) x * S768x1024.size x + 1 * (ix2 a n x).val = _
    rw [hi]
    match x with
    | 0 => show 0 * 768 + 1 * a.val = a.val; omega
    | 1 => show 0 * 1024 + 1 * n.val = n.val; omega
  rw [e, V_v25]
theorem b9_apply (t : Fin grid0.N) (a : Fin 256) (n : Fin 2048) : (iblk m c 9 t : Vec Ideal S256x2048 .bf16) (ix2 a n) = layKV (aWk m c) (ix2 a n) := by
  have e : (iblk m c 9 t : Vec Ideal S256x2048 .bf16) (ix2 a n) = (V m c main_v43 : FVec Ideal S256x2048 .bf16) (ix2 a n) := by
    refine congrArg (V m c main_v43) ?_
    have hi := at9 t
    funext x
    apply Fin.ext
    show cc0_transform_9 (grid0.coords t) x * S256x2048.size x + 1 * (ix2 a n x).val = _
    rw [hi]
    match x with
    | 0 => show 0 * 256 + 1 * a.val = a.val; omega
    | 1 => show 0 * 2048 + 1 * n.val = n.val; omega
  rw [e, V_v43]

/-! ## The products -/

/-- A row's products for the queries. -/
def fQ (r : Fin 16384) (a : Fin 768) : EReal :=
  dotCol 0x44400000#32 (fun k : Fin 768 => aMain m c (ix2 r (⟨4608 + k.val, by omega⟩ : Fin 5632))) (fun k => aGq m c (ix1 k)) (fun k => aWq m c (ix2 k a)) * factor
/-- A row's products for the keys and values. -/
def fK (r : Fin 16384) (a : Fin 1024) : EReal :=
  dotCol 0x43800000#32 (fun k : Fin 256 => aMain m c (ix2 r (⟨5376 + k.val, by omega⟩ : Fin 5632))) (fun k => aGk m c (ix1 k)) (fun k => aWk m c (ix2 k a))

theorem dotCol_factor {n : ℕ} (w : BitVec 32) (x g u : Fin n → EReal) : dotCol w x g (fun k => u k * factor) = dotCol w x g u * factor := by
  unfold dotCol
  rw [← sum_factor]
  exact Finset.sum_congr rfl fun k _ => (mul_assoc _ _ _).symm
theorem dotCol_none {n : ℕ} (w : BitVec 32) (x g : Fin n → EReal) : dotCol w x g (fun _ => 0) = 0 := by
  unfold dotCol
  exact Finset.sum_eq_zero fun k _ => mul_zero _

/-- The queries' products of a block. -/
abbrev Qb (t : Fin grid0.N) : FVec Ideal S512x1024 .f32 := k0_pay8 (X0_0 m c t) (iblk m c 6 t) (iblk m c 8 t)
/-- The keys' and values' products of a block. -/
abbrev Kb (t : Fin grid0.N) : FVec Ideal S512x2048 .f32 :=
  k0_pay23 (k0_pay19 (iblk m c 1 t)) (k0_pay20 (iblk m c 7 t)) (k0_pay21 (iblk m c 1 t)) (k0_pay22 (F := Ideal)) (iblk m c 9 t)

theorem Qb_apply (t : Fin grid0.N) (j : Fin 512) (n : Fin 1024) (h : n.val % 128 < 96) (a : Fin 768) (ea : a.val = 96 * (n.val / 128) + n.val % 128) :
    Qb m c t (ix2 j n) = fQ m c (rowAt t j) a := by
  refine (pay8_apply _ _ _ j n).trans ?_
  unfold fQ
  rw [← dotCol_factor]
  refine congr (congr (congrArg (dotCol 0x44400000#32) (funext fun k => ?_)) (funext fun k => ?_)) (funext fun k => ?_)
  · exact x0_apply m c t j k
  · exact b6_apply m c t 0 k
  · exact (b8_apply m c t k n).trans (layQ_in _ k n h a ea)

theorem Kb_eq (t : Fin grid0.N) (j : Fin 512) (n : Fin 2048) (u : Fin 256 → EReal) (hu : ∀ k, layKV (aWk m c) (ix2 k n) = u k) :
    Kb m c t (ix2 j n) = dotCol 0x43800000#32 (fun k : Fin 256 => aMain m c (ix2 (rowAt t j) (⟨5376 + k.val, by omega⟩ : Fin 5632))) (fun k => aGk m c (ix1 k)) u := by
  refine (pay23_apply _ _ _ j n).trans ?_
  refine congr (congr (congrArg (dotCol 0x43800000#32) (funext fun k => ?_)) (funext fun k => ?_)) (funext fun k => ?_)
  · exact b1_apply m c t j k
  · exact b7_apply m c t 0 k
  · exact (b9_apply m c t k n).trans (hu k)

theorem Kb_key (t : Fin grid0.N) (j : Fin 512) (n : Fin 1024) :
    Kb m c t (ix2 j (⟨n.val, by omega⟩ : Fin 2048)) = if n.val % 128 < 64 then fK m c (rowAt t j) n else 0 := by
  by_cases h : n.val % 128 < 64
  · rw [if_pos h]
    exact Kb_eq m c t j _ _ fun k => (layKV_left _ k _ n rfl).trans ((layK1_apply _ k n).trans (if_pos h))
  · rw [if_neg h]
    exact (Kb_eq m c t j _ (fun _ => 0) fun k => (layKV_left _ k _ n rfl).trans ((layK1_apply _ k n).trans (if_neg h))).trans (dotCol_none _ _ _)

/-! ## The blocks' entries -/

/-- A block of the queries. -/
theorem query_block (t : Fin grid0.N) (j : Fin 512) (n : Fin 1024) :
    queryB (Qb m c t) (iblk m c 4 t) (iblk m c 5 t) j n = query (fQ m c (rowAt t j)) (turn (aCos m c) (rowAt t j)) (turn (aSin m c) (rowAt t j)) n := by
  have hn := n.isLt
  unfold queryB rot
  rw [show (iblk m c 4 t : Vec Ideal S512x128 .f32) (ix2 j (⟨n.val % 128, by omega⟩ : Fin 128)) = _ from b4_apply m c t j _,
    show (iblk m c 5 t : Vec Ideal S512x128 .f32) (ix2 j (⟨n.val % 128, by omega⟩ : Fin 128)) = _ from b5_apply m c t j _]
  rcases (by omega : n.val % 128 < 64 ∨ (64 ≤ n.val % 128 ∧ n.val % 128 < 80) ∨ (80 ≤ n.val % 128 ∧ n.val % 128 < 96) ∨ 96 ≤ n.val % 128) with h | h | h | h
  · rw [layCos_plain _ _ _ (by dsimp only; omega), laySin_none _ _ _ (by dsimp only; omega), mul_one, mul_zero, add_zero,
      query_plain _ _ _ n h (⟨96 * (n.val / 128) + n.val % 128, by omega⟩ : Fin 768) rfl]
    exact Qb_apply m c t j _ (by dsimp only; omega) _ (by dsimp only; omega)
  · rw [layCos_low _ _ _ (by dsimp only; omega) (⟨n.val % 128 - 64, by omega⟩ : Fin 16) (by dsimp only; omega),
      laySin_low _ _ _ (by dsimp only; omega) (⟨n.val % 128 - 64, by omega⟩ : Fin 16) (by dsimp only; omega), if_pos (by dsimp only; omega),
      query_low _ _ _ n h (⟨96 * (n.val / 128) + n.val % 128, by omega⟩ : Fin 768) (⟨96 * (n.val / 128) + n.val % 128 + 16, by omega⟩ : Fin 768)
        (⟨n.val % 128 - 64, by omega⟩ : Fin 16) rfl rfl (by dsimp only; omega), mul_neg, ← sub_eq_add_neg]
    exact congrArg₂ (fun a b => a * _ - b * _) (Qb_apply m c t j _ (by dsimp only; omega) _ (by dsimp only; omega)) (Qb_apply m c t j _ (by dsimp only; omega) _ (by dsimp only; omega))
  · rw [layCos_high _ _ _ (by dsimp only; omega) (⟨n.val % 128 - 80, by omega⟩ : Fin 16) (by dsimp only; omega),
      laySin_high _ _ _ (by dsimp only; omega) (⟨n.val % 128 - 80, by omega⟩ : Fin 16) (by dsimp only; omega), if_neg (by dsimp only; omega),
      query_high _ _ _ n h (⟨96 * (n.val / 128) + n.val % 128 - 16, by omega⟩ : Fin 768) (⟨96 * (n.val / 128) + n.val % 128, by omega⟩ : Fin 768)
        (⟨n.val % 128 - 80, by omega⟩ : Fin 16) rfl (by dsimp only; omega) (by dsimp only; omega), add_comm]
    exact congrArg₂ (fun a b => a * _ + b * _) (Qb_apply m c t j _ (by dsimp only; omega) _ (by dsimp only; omega)) (Qb_apply m c t j _ (by dsimp only; omega) _ (by dsimp only; omega))
  · rw [layCos_none _ _ _ (by dsimp only; omega), laySin_none _ _ _ (by dsimp only; omega), mul_zero, mul_zero, add_zero, query_none _ _ _ n h]

/-- A block of the keys. -/
theorem key_block (t : Fin grid0.N) (j : Fin 512) (n : Fin 1024) :
    keyB (Kb m c t) (k0_pay24 (k0_pay5 (iblk m c 4 t)) (k0_pay6 (iblk m c 5 t)) (iblk m c 2 t) (iblk m c 3 t)) j n
      = keyOf (fK m c (rowAt t j)) (fun i => aKey m c (ix2 (rowAt t j) i)) (turn (aCos m c) (rowAt t j)) (turn (aSin m c) (rowAt t j)) n := by
  have hn := n.isLt
  unfold keyB
  refine (congrArg₂ (fun a b => a + b) (Kb_key m c t j n) (pay24_apply _ _ _ _ j _)).trans ?_
  rw [show (iblk m c 4 t : Vec Ideal S512x128 .f32) (ix2 j (⟨n.val % 128, by omega⟩ : Fin 128)) = _ from b4_apply m c t j _,
    show (iblk m c 5 t : Vec Ideal S512x128 .f32) (ix2 j (⟨n.val % 128, by omega⟩ : Fin 128)) = _ from b5_apply m c t j _,
    show (iblk m c 2 t : Vec Ideal S512x128 .bf16) (ix2 j (⟨n.val % 128, by omega⟩ : Fin 128)) = _ from b2_apply m c t j _,
    show (iblk m c 3 t : Vec Ideal S512x128 .bf16) (ix2 j (⟨n.val % 128, by omega⟩ : Fin 128)) = _ from b3_apply m c t j _]
  rcases (by omega : n.val % 128 < 64 ∨ (64 ≤ n.val % 128 ∧ n.val % 128 < 80) ∨ (80 ≤ n.val % 128 ∧ n.val % 128 < 96) ∨ 96 ≤ n.val % 128) with h | h | h | h
  · rw [if_pos h, laySin_none _ _ _ (by dsimp only; omega), layKey_none _ _ (⟨1024 + (n.val % 128), by omega⟩ : Fin 1280) (by dsimp only; omega), mul_zero, zero_mul, add_zero, key_plain _ _ _ _ n h]
    exact add_zero _
  · rw [if_neg (by omega), layCos_low _ _ _ (by dsimp only; omega) (⟨n.val % 128 - 64, by omega⟩ : Fin 16) (by dsimp only; omega),
      laySin_low _ _ _ (by dsimp only; omega) (⟨n.val % 128 - 64, by omega⟩ : Fin 16) (by dsimp only; omega),
      layKey_key _ _ (⟨1024 + (n.val % 128), by omega⟩ : Fin 1280) (by dsimp only; omega) (⟨n.val % 128 - 64, by omega⟩ : Fin 32) (by dsimp only; omega),
      layKey_high _ _ (⟨1152 + (n.val % 128), by omega⟩ : Fin 1280) (by dsimp only; omega) (⟨n.val % 128 - 48, by omega⟩ : Fin 32) (by dsimp only; omega),
      key_low _ _ _ _ n h (⟨n.val % 128 - 64, by omega⟩ : Fin 32) (⟨n.val % 128 - 48, by omega⟩ : Fin 32) (⟨n.val % 128 - 64, by omega⟩ : Fin 16)
        (by dsimp only; omega) (by dsimp only; omega) (by dsimp only; omega), mul_neg, ← sub_eq_add_neg]
    exact zero_add _
  · rw [if_neg (by omega), layCos_high _ _ _ (by dsimp only; omega) (⟨n.val % 128 - 80, by omega⟩ : Fin 16) (by dsimp only; omega),
      laySin_high _ _ _ (by dsimp only; omega) (⟨n.val % 128 - 80, by omega⟩ : Fin 16) (by dsimp only; omega),
      layKey_key _ _ (⟨1024 + (n.val % 128), by omega⟩ : Fin 1280) (by dsimp only; omega) (⟨n.val % 128 - 64, by omega⟩ : Fin 32) (by dsimp only; omega),
      layKey_low _ _ (⟨1152 + (n.val % 128), by omega⟩ : Fin 1280) (by dsimp only; omega) (⟨n.val % 128 - 80, by omega⟩ : Fin 32) (by dsimp only; omega),
      key_high _ _ _ _ n h (⟨n.val % 128 - 80, by omega⟩ : Fin 32) (⟨n.val % 128 - 64, by omega⟩ : Fin 32) (⟨n.val % 128 - 80, by omega⟩ : Fin 16)
        (by dsimp only; omega) (by dsimp only; omega) (by dsimp only; omega)]
    exact (zero_add _).trans (add_comm _ _)
  · rw [if_neg (by omega), layCos_none _ _ _ (by dsimp only; omega), laySin_none _ _ _ (by dsimp only; omega), mul_zero, mul_zero, add_zero, key_none _ _ _ _ n h]
    exact add_zero _

/-- A block of the values. -/
theorem value_block (t : Fin grid0.N) (j : Fin 512) (n : Fin 1024) :
    Kb m c t (ix2 j (⟨1024 + n.val, by omega⟩ : Fin 2048)) = valueOf (fK m c (rowAt t j)) n := by
  have hn := n.isLt
  rcases (by omega : n.val % 256 < 64 ∨ (64 ≤ n.val % 256 ∧ n.val % 256 < 192) ∨ 192 ≤ n.val % 256) with h | h | h
  · rw [value_even _ n h (⟨n.val + 64, by omega⟩ : Fin 1024) rfl]
    exact Kb_eq m c t j _ _ fun k => (layKV_right _ k _ n rfl).trans (layV_even _ k n h _ rfl)
  · rw [value_none _ n h]
    exact (Kb_eq m c t j _ (fun _ => 0) fun k => (layKV_right _ k _ n rfl).trans (layV_none _ k n h)).trans (dotCol_none _ _ _)
  · rw [value_odd _ n h n rfl]
    exact Kb_eq m c t j _ _ fun k => (layKV_right _ k _ n rfl).trans (layV_odd _ k n h)

/-! ## The results -/

theorem outs10_apply (t : Fin grid0.N) (j : Fin 512) (n : Fin 1024) : (outsAt0 m c t).1 (ix2 j n) = query (fQ m c (rowAt t j)) (turn (aCos m c) (rowAt t j)) (turn (aSin m c) (rowAt t j)) n := by
  unfold outsAt0
  dsimp only
  refine (out10_apply c _ _ _ _ _ _ _ _ _ _ _ _ _ _ _ _ _ _ _ _ _ _ _ _ _ _ _ _ _ _ _ _ _ _ _ _ _ j n).trans ?_
  exact query_block m c t j n
theorem covers10 : (cfg0.win 10).Covers := by decide +kernel
theorem outs11_apply (t : Fin grid0.N) (j : Fin 512) (n : Fin 1024) : (outsAt0 m c t).2.1 (ix2 j n) = keyOf (fK m c (rowAt t j)) (fun i => aKey m c (ix2 (rowAt t j) i)) (turn (aCos m c) (rowAt t j)) (turn (aSin m c) (rowAt t j)) n := by
  unfold outsAt0
  dsimp only
  refine (out11_apply c _ _ _ _ _ _ _ _ _ _ _ _ _ _ _ _ _ _ _ _ _ _ _ _ _ _ _ _ _ _ _ _ _ _ _ _ _ j n).trans ?_
  exact key_block m c t j n
theorem covers11 : (cfg0.win 11).Covers := by decide +kernel
theorem outs12_apply (t : Fin grid0.N) (j : Fin 512) (n : Fin 1024) : (outsAt0 m c t).2.2 (ix2 j n) = valueOf (fK m c (rowAt t j)) n := by
  unfold outsAt0
  dsimp only
  refine (out12_apply c _ _ _ _ _ _ _ _ _ _ _ _ _ _ _ _ _ _ _ _ _ _ _ _ _ _ _ _ _ _ _ _ _ _ _ _ _ j n).trans ?_
  exact value_block m c t j n
theorem covers12 : (cfg0.win 12).Covers := by decide +kernel

attribute [local irreducible] query keyOf valueOf fQ fK outsAt0

/-- The queries. -/
theorem arr10 (r : Fin 16384) (n : Fin 1024) : ((dats m 0 c).arrAt 10 cfg0.N : FVec Ideal S16384x1024 .bf16) (ix2 r n) = query (fQ m c r) (turn (aCos m c) r) (turn (aSin m c) r) n := by
  let G : S16384x1024.Idx → EReal := fun y => query (fQ m c (⟨(y 0).val, (y 0).isLt⟩ : Fin 16384)) (turn (aCos m c) (⟨(y 0).val, (y 0).isLt⟩ : Fin 16384)) (turn (aSin m c) (⟨(y 0).val, (y 0).isLt⟩ : Fin 16384)) (⟨(y 1).val, (y 1).isLt⟩ : Fin 1024)
  have key : (dats m 0 c).arrAt 10 cfg0.N = G := by
    refine (dats m 0 c).arrAt_eq_of_covers 10 G covers10 fun t hf y => ?_
    have key : ∀ y : S512x1024.Idx, (outsAt0 m c t).1 y = G (((cfg0.win 10).blk t).view.emb y) := by
      intro y
      obtain ⟨j, d, rfl⟩ : ∃ (a : Fin 512) (b : Fin 1024), y = ix2 a b := ⟨y 0, y 1, eq_ix2 y⟩
      have he : ((cfg0.win 10).blk t).view.emb (ix2 j d) = ix2 (rowAt t j) d := by
        have hi := at10 t
        funext x
        apply Fin.ext
        show cc0_transform_10 (grid0.coords t) x * S512x1024.size x + 1 * (ix2 j d x).val = _
        rw [hi]
        match x with
        | 0 => show t.val * 512 + 1 * j.val = 512 * t.val + j.val; omega
        | 1 => show 0 * 1024 + 1 * d.val = d.val; omega
      rw [he]
      exact outs10_apply m c t j d
    exact (congrFun (Cert.Kernel4Ideal.Value.flushed10 m c t) y).trans (key y)
  exact congrFun key (ix2 r n)

/-- The keys. -/
theorem arr11 (r : Fin 16384) (n : Fin 1024) : ((dats m 0 c).arrAt 11 cfg0.N : FVec Ideal S16384x1024 .bf16) (ix2 r n) = keyOf (fK m c r) (fun i => aKey m c (ix2 r i)) (turn (aCos m c) r) (turn (aSin m c) r) n := by
  let G : S16384x1024.Idx → EReal := fun y => keyOf (fK m c (⟨(y 0).val, (y 0).isLt⟩ : Fin 16384)) (fun i => aKey m c (ix2 (⟨(y 0).val, (y 0).isLt⟩ : Fin 16384) i)) (turn (aCos m c) (⟨(y 0).val, (y 0).isLt⟩ : Fin 16384)) (turn (aSin m c) (⟨(y 0).val, (y 0).isLt⟩ : Fin 16384)) (⟨(y 1).val, (y 1).isLt⟩ : Fin 1024)
  have key : (dats m 0 c).arrAt 11 cfg0.N = G := by
    refine (dats m 0 c).arrAt_eq_of_covers 11 G covers11 fun t hf y => ?_
    have key : ∀ y : S512x1024.Idx, (outsAt0 m c t).2.1 y = G (((cfg0.win 11).blk t).view.emb y) := by
      intro y
      obtain ⟨j, d, rfl⟩ : ∃ (a : Fin 512) (b : Fin 1024), y = ix2 a b := ⟨y 0, y 1, eq_ix2 y⟩
      have he : ((cfg0.win 11).blk t).view.emb (ix2 j d) = ix2 (rowAt t j) d := by
        have hi := at11 t
        funext x
        apply Fin.ext
        show cc0_transform_11 (grid0.coords t) x * S512x1024.size x + 1 * (ix2 j d x).val = _
        rw [hi]
        match x with
        | 0 => show t.val * 512 + 1 * j.val = 512 * t.val + j.val; omega
        | 1 => show 0 * 1024 + 1 * d.val = d.val; omega
      rw [he]
      exact outs11_apply m c t j d
    exact (congrFun (Cert.Kernel4Ideal.Value.flushed11 m c t) y).trans (key y)
  exact congrFun key (ix2 r n)

/-- The values. -/
theorem arr12 (r : Fin 16384) (n : Fin 1024) : ((dats m 0 c).arrAt 12 cfg0.N : FVec Ideal S16384x1024 .bf16) (ix2 r n) = valueOf (fK m c r) n := by
  let G : S16384x1024.Idx → EReal := fun y => valueOf (fK m c (⟨(y 0).val, (y 0).isLt⟩ : Fin 16384)) (⟨(y 1).val, (y 1).isLt⟩ : Fin 1024)
  have key : (dats m 0 c).arrAt 12 cfg0.N = G := by
    refine (dats m 0 c).arrAt_eq_of_covers 12 G covers12 fun t hf y => ?_
    have key : ∀ y : S512x1024.Idx, (outsAt0 m c t).2.2 y = G (((cfg0.win 12).blk t).view.emb y) := by
      intro y
      obtain ⟨j, d, rfl⟩ : ∃ (a : Fin 512) (b : Fin 1024), y = ix2 a b := ⟨y 0, y 1, eq_ix2 y⟩
      have he : ((cfg0.win 12).blk t).view.emb (ix2 j d) = ix2 (rowAt t j) d := by
        have hi := at12 t
        funext x
        apply Fin.ext
        show cc0_transform_12 (grid0.coords t) x * S512x1024.size x + 1 * (ix2 j d x).val = _
        rw [hi]
        match x with
        | 0 => show t.val * 512 + 1 * j.val = 512 * t.val + j.val; omega
        | 1 => show 0 * 1024 + 1 * d.val = d.val; omega
      rw [he]
      exact outs12_apply m c t j d
    exact (congrFun (Cert.Kernel4Ideal.Value.flushed12 m c t) y).trans (key y)
  exact congrFun key (ix2 r n)

end Cert.Proof.Qkv

end
-- ==== Proof.QkvAlgebraic.lean ====
/-
  Over the reals the kernel of the queries, keys and values and its reference end with the same three results.
-/
module

public import proofs.«01_k».proof.Proof.QkvFrames
public import proofs.«01_k».proof.Proof.QkvValue

@[expose] public section

noncomputable section

namespace Cert.Proof.QkvAlgebraic

open Idealize.ShloMosaic Idealize.ShloMosaic.TcCoe Idealize.SL.Sem
open Cert.Proof.Qkv (aMain aKey aCos aSin aGq aWq aGk aWk fQ fK arr10 arr11 arr12)
open Cert.Proof.QkvReference (qProd kvProd queries keys values queries_apply keys_apply values_apply qProd_apply kvProd_apply)
open Cert.Kernel4Ideal.Gen (dats)

variable (m : (ℓ : Loc Cert.Kernel4Ideal.nD Cert.Kernel4Ideal.τ Cert.Kernel4Ideal.sig) → Buf (Elt Ideal) ℓ) (c : Dev Cert.Kernel4Ideal.nD)

/-- The reference's products for the queries at the kernel's arguments. -/
theorem q_row (r : Fin 16384) (h : Fin 8) (d : Fin 96) : qProd (aMain m c) (aGq m c) (aWq m c) (ix3 r h d) = fQ m c r ⟨h.val * 96 + d.val, by omega⟩ :=
  qProd_apply _ _ _ r h d
/-- And for the keys and values. -/
theorem kv_row (r : Fin 16384) (h : Fin 8) (d : Fin 128) : kvProd (aMain m c) (aGk m c) (aWk m c) (ix3 r h d) = fK m c r ⟨h.val * 128 + d.val, by omega⟩ :=
  kvProd_apply _ _ _ r h d

/-- The reference's queries at the kernel's arguments are the kernel's. -/
theorem queries_eq : queries (qProd (aMain m c) (aGq m c) (aWq m c)) (aCos m c) (aSin m c) = (dats m 0 c).arrAt 10 Cert.Kernel4Ideal.cfg0.N := by
  have key : ∀ (r : Fin 16384) (n : Fin 1024), queries (qProd (aMain m c) (aGq m c) (aWq m c)) (aCos m c) (aSin m c) (ix2 r n)
      = ((dats m 0 c).arrAt 10 Cert.Kernel4Ideal.cfg0.N : FVec Ideal Cert.Kernel4Ideal.S16384x1024 .bf16) (ix2 r n) := fun r n =>
    (queries_apply _ _ _ r (fQ m c r) (q_row m c r) n).trans (arr10 m c r n).symm
  funext y
  obtain ⟨r, n, rfl⟩ : ∃ (r : Fin 16384) (n : Fin 1024), y = ix2 r n := ⟨y 0, y 1, eq_ix2 y⟩
  exact key r n

/-- The keys likewise. -/
theorem keys_eq : keys (kvProd (aMain m c) (aGk m c) (aWk m c)) (aKey m c) (aCos m c) (aSin m c) = (dats m 0 c).arrAt 11 Cert.Kernel4Ideal.cfg0.N := by
  have key : ∀ (r : Fin 16384) (n : Fin 1024), keys (kvProd (aMain m c) (aGk m c) (aWk m c)) (aKey m c) (aCos m c) (aSin m c) (ix2 r n)
      = ((dats m 0 c).arrAt 11 Cert.Kernel4Ideal.cfg0.N : FVec Ideal Cert.Kernel4Ideal.S16384x1024 .bf16) (ix2 r n) := fun r n =>
    (keys_apply _ _ _ _ r (fK m c r) (kv_row m c r) n).trans (arr11 m c r n).symm
  funext y
  obtain ⟨r, n, rfl⟩ : ∃ (r : Fin 16384) (n : Fin 1024), y = ix2 r n := ⟨y 0, y 1, eq_ix2 y⟩
  exact key r n

/-- And the values. -/
theorem values_eq : values (kvProd (aMain m c) (aGk m c) (aWk m c)) = (dats m 0 c).arrAt 12 Cert.Kernel4Ideal.cfg0.N := by
  have key : ∀ (r : Fin 16384) (n : Fin 1024), values (kvProd (aMain m c) (aGk m c) (aWk m c)) (ix2 r n)
      = ((dats m 0 c).arrAt 12 Cert.Kernel4Ideal.cfg0.N : FVec Ideal Cert.Kernel4Ideal.S16384x1024 .bf16) (ix2 r n) := fun r n =>
    (values_apply _ r (fK m c r) (kv_row m c r) n).trans (arr12 m c r n).symm
  funext y
  obtain ⟨r, n, rfl⟩ : ∃ (r : Fin 16384) (n : Fin 1024), y = ix2 r n := ⟨y 0, y 1, eq_ix2 y⟩
  exact key r n

/-- The value claim of the queries, keys and values. -/
theorem value : Cert.algebraic_Kernel4Ideal_Reference4Ideal := fun m g m' g' hpre hm =>
  ⟨fun c => (dats m 0 c).arrAt 10 Cert.Kernel4Ideal.cfg0.N, fun c => (dats m 0 c).arrAt 11 Cert.Kernel4Ideal.cfg0.N, fun c => (dats m 0 c).arrAt 12 Cert.Kernel4Ideal.cfg0.N,
    Cert.Kernel4Ideal.Value.run_blocks (F := Ideal) m g,
    (θ_run Cert.Reference4Ideal.defs _ _).mono (fun r h c => by
      obtain ⟨h0, h1, h2, h3, h4, h5, h6, h7⟩ := hm c
      refine ⟨(h c).1.trans ?_, (h c).2.1.trans ?_, (h c).2.2.1.trans ?_, (h c).2.2.2⟩
      · unfold Cert.Reference4Ideal.Value.res_main_v79
        rw [h0, h2, h3, h4, h5]
        exact queries_eq m c
      · rw [h0, h1, h2, h3, h6, h7]
        exact keys_eq m c
      · rw [h0, h6, h7]
        exact values_eq m c)
      (Cert.Reference4Ideal.Value.run (F := Ideal) m' g')⟩

end Cert.Proof.QkvAlgebraic

end
-- ==== Proof.lean ====
/-
  The certificate of `kernel`, the experts' feed-forward of a mixture-of-experts layer, of `kernel2`, its input projection, of
  `kernel3`, its mixers' tail, and of `kernel4`, its queries, keys and values: the frames of each kernel as printed, of its idealization and of its reference, the rewrites between
  the first two, and the equality of the last two's results over the reals.
-/
module

public import proofs.«01_k».proof.Defs
public import proofs.«01_k».proof.Proof.Frames
public import proofs.«01_k».proof.Proof.Algebraic
public import proofs.«01_k».proof.Proof.InAlgebraic
public import proofs.«01_k».proof.Proof.TailFrames
public import proofs.«01_k».proof.Proof.TailAlgebraic
public import proofs.«01_k».proof.Proof.QkvFrames
public import proofs.«01_k».proof.Proof.QkvAlgebraic

@[expose] public section

noncomputable section

namespace Cert.Proof

open Idealize.ShloMosaic Idealize.SL.Sem Cert.Kernel

/-- All the claims. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Pre_in_range.Gen.facts,
  Frames.frame_p, Frames.frame_pi, Frames.frame_ri, Frames.frame_ri_pre, InProj.frame_p2, InProj.frame_pi2, InProj.frame_ri2,
  Tail.frame_p3, Tail.frame_pi3, Tail.frame_ri3, Qkv.frame_p4, Qkv.frame_pi4, Qkv.frame_ri4,
  Frames.preserves, Algebraic.value, trivial, InAlgebraic.value, Tail.preserves, TailAlgebraic.value, trivial, QkvAlgebraic.value⟩

end Cert.Proof

end
